-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_gain_and_weights [hPre_finite_gain_and_weights : Cert.Pre_finite_gain_and_weights.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_gain_and_weights.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_gain_and_weights [hPre_finite_gain_and_weights : Cert.Pre_finite_gain_and_weights.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_gain_and_weights.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite_gain_and_weights [hKernel3Ideal : Cert.Kernel3Ideal.Facts] [hPre_finite_gain_and_weights : Cert.Pre_finite_gain_and_weights.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_gain_and_weights m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite_gain_and_weights [hReference3Ideal : Cert.Reference3Ideal.Facts] [hPre_finite_gain_and_weights : Cert.Pre_finite_gain_and_weights.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_gain_and_weights m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v274) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite_gain_and_weights [hKernel3Ideal : Cert.Kernel3Ideal.Facts] [hReference3Ideal : Cert.Reference3Ideal.Facts] [hPre_finite_gain_and_weights : Cert.Pre_finite_gain_and_weights.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_gain_and_weights m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v59)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v59) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v115) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_queries_and_keys : Cert.Pre_finite_queries_and_keys.Facts) (hPre_finite_gain_and_weights : Cert.Pre_finite_gain_and_weights.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_gain_and_weights (hKernel3Ideal := hKernel3Ideal) (hPre_finite_gain_and_weights := hPre_finite_gain_and_weights)
    ∧ quiescent_Reference3Ideal (hReference3Ideal := hReference3Ideal)
    ∧ quiescent_Reference3Ideal_pre_finite_gain_and_weights (hReference3Ideal := hReference3Ideal) (hPre_finite_gain_and_weights := hPre_finite_gain_and_weights)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_gain_and_weights (hKernel3Ideal := hKernel3Ideal) (hReference3Ideal := hReference3Ideal) (hPre_finite_gain_and_weights := hPre_finite_gain_and_weights)
    ∧ preserves_Kernel4_Kernel4Ideal
    ∧ algebraic_Kernel4Ideal_Reference4Ideal (hKernel4Ideal := hKernel4Ideal) (hReference4Ideal := hReference4Ideal)
-- ==== Pre_finite_gain_and_weights.lean ====
abbrev S32768x1024 : Shape := ⟨2, ![32768, 1024]⟩
abbrev S1x1024 : Shape := ⟨2, ![1, 1024]⟩
abbrev S1024x9216 : Shape := ⟨2, ![1024, 9216]⟩
abbrev S3x64 : Shape := ⟨2, ![3, 64]⟩
abbrev S1024 : Shape := ⟨1, ![1024]⟩
abbrev S1024x1 : Shape := ⟨2, ![1024, 1]⟩
abbrev S_ : Shape := ⟨0, ![]⟩
abbrev S1024x6144 : Shape := ⟨2, ![1024, 6144]⟩

class Facts : Prop where
  shapeCasts_S1x1024_S1024 : S1x1024.ShapeCasts S1024
  bcast_S1024_S1024x1_0 : S1024.BroadcastsInDim S1024x1 (![0] : Fin 1 → Fin S1024x1.rank)
  bcast_S_S1024x1 : S_.BroadcastsInDim S1024x1 (![] : Fin 0 → Fin S1024x1.rank)
  slices_S1024x9216_S1024x6144_0_0 : S1024x9216.Slices ![0, 0] S1024x6144
  bcast_S_S1024x6144 : S_.BroadcastsInDim S1024x6144 (![] : Fin 0 → Fin S1024x6144.rank)
  bcast_S1024x1_S1024x6144_0_1 : S1024x1.BroadcastsInDim S1024x6144 (![0, 1] : Fin 2 → Fin S1024x6144.rank)

variable [Facts]

def fn {F : FTy → Type} [FloatOps F] (main_arg0 : FVec F S32768x1024 .f32) (main_arg1 : FVec F S1x1024 .f32) (main_arg2 : FVec F S1024x9216 .f32) (main_arg3 : FVec F S3x64 .f32) (main_arg4 : FVec F S3x64 .f32) : IVec S1024x6144 1 :=
  let main_v0 : FVec F S1024 .f32 := shapeCast S1024 main_arg1 shapeCasts_S1x1024_S1024
  let main_v1 : FVec F S1024 .f32 := Host.absf main_v0
  let main_v2 : FVec F S1024x1 .f32 := broadcastInDim S1024x1 ![0] bcast_S1024_S1024x1_0 main_v1
  let main_cst : FVec F S_ .f32 := constant S_ .f32 0x7F800000#32
  let main_v3 : FVec F S1024x1 .f32 := broadcastInDim S1024x1 ![] bcast_S_S1024x1 main_cst
  let main_v4 : IVec S1024x1 1 := cmpf .olt main_v2 main_v3
  let main_v5 : FVec F S1024x6144 .f32 := (extractStridedSlice S1024x6144 ![0, 0] · slices_S1024x9216_S1024x6144_0_0) main_arg2
  let main_v6 : FVec F S1024x6144 .f32 := Host.absf main_v5
  let main_cst_0 : FVec F S_ .f32 := constant S_ .f32 0x7F800000#32
  let main_v7 : FVec F S1024x6144 .f32 := broadcastInDim S1024x6144 ![] bcast_S_S1024x6144 main_cst_0
  let main_v8 : IVec S1024x6144 1 := cmpf .olt main_v6 main_v7
  let main_v9 : IVec S1024x6144 1 := broadcastInDim S1024x6144 ![0, 1] bcast_S1024x1_S1024x6144_0_1 main_v4
  let main_v10 : IVec S1024x6144 1 := andi main_v9 main_v8
  main_v10
-- ==== Pre_finite_queries_and_keys.lean ====
abbrev S8x4096x9216 : Shape := ⟨3, ![8, 4096, 9216]⟩
abbrev S8x4096x6144 : Shape := ⟨3, ![8, 4096, 6144]⟩
abbrev S_ : Shape := ⟨0, ![]⟩

class Facts : Prop where
  slices_S8x4096x9216_S8x4096x6144_0_0_0 : S8x4096x9216.Slices ![0, 0, 0] S8x4096x6144
  bcast_S_S8x4096x6144 : S_.BroadcastsInDim S8x4096x6144 (![] : Fin 0 → Fin S8x4096x6144.rank)

variable [Facts]

def fn {F : FTy → Type} [FloatOps F] (main_arg0 : FVec F S8x4096x9216 .f32) : IVec S8x4096x6144 1 :=
  let main_v0 : FVec F S8x4096x6144 .f32 := (extractStridedSlice S8x4096x6144 ![0, 0, 0] · slices_S8x4096x9216_S8x4096x6144_0_0_0) main_arg0
  let main_v1 : FVec F S8x4096x6144 .f32 := Host.absf main_v0
  let main_cst : FVec F S_ .f32 := constant S_ .f32 0x7F800000#32
  let main_v2 : FVec F S8x4096x6144 .f32 := broadcastInDim S8x4096x6144 ![] bcast_S_S8x4096x6144 main_cst
  let main_v3 : IVec S8x4096x6144 1 := cmpf .olt main_v1 main_v2
  main_v3
-- ==== Kernel.lean ====
abbrev S8x4096x9216 : Shape := ⟨3, ![8, 4096, 9216]⟩
abbrev S8x4096x1024 : Shape := ⟨3, ![8, 4096, 1024]⟩
abbrev S1x2048x128 : Shape := ⟨3, ![1, 2048, 128]⟩
abbrev S1x4096x128 : Shape := ⟨3, ![1, 4096, 128]⟩
abbrev S3x2048x128 : Shape := ⟨3, ![3, 2048, 128]⟩
abbrev S128x128 : Shape := ⟨2, ![128, 128]⟩
abbrev S256x256 : Shape := ⟨2, ![256, 256]⟩
abbrev S256x128 : Shape := ⟨2, ![256, 128]⟩
abbrev S1x128x128 : Shape := ⟨3, ![1, 128, 128]⟩
abbrev S256 : Shape := ⟨1, ![256]⟩
abbrev S256x1 : Shape := ⟨2, ![256, 1]⟩
abbrev S1x256x128 : Shape := ⟨3, ![1, 256, 128]⟩

abbrev nBuf : Space → Nat
  | .hbm => 2
  | .vmem => 22
  | .smem => 0
  | _ => 0

abbrev bufTy : (tb : Table) → Fin (tcTables nBuf tb) → BufTy
  | .hbm, ⟨0, _⟩ => ⟨S8x4096x9216, .f32⟩
  | .hbm, ⟨1, _⟩ => ⟨S8x4096x1024, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x4096x128, .f32⟩
  | .local _ .vmem, ⟨7, _⟩ => ⟨S1x4096x128, .f32⟩
  | .local _ .vmem, ⟨8, _⟩ => ⟨S1x4096x128, .f32⟩
  | .local _ .vmem, ⟨9, _⟩ => ⟨S1x4096x128, .f32⟩
  | .local _ .vmem, ⟨10, _⟩ => ⟨S1x4096x128, .f32⟩
  | .local _ .vmem, ⟨11, _⟩ => ⟨S1x4096x128, .f32⟩
  | .local _ .vmem, ⟨12, _⟩ => ⟨S1x4096x128, .f32⟩
  | .local _ .vmem, ⟨13, _⟩ => ⟨S1x4096x128, .f32⟩
  | .local _ .vmem, ⟨14, _⟩ => ⟨S1x4096x128, .f32⟩
  | .local _ .vmem, ⟨15, _⟩ => ⟨S1x4096x128, .f32⟩
  | .local _ .vmem, ⟨16, _⟩ => ⟨S1x4096x128, .f32⟩
  | .local _ .vmem, ⟨17, _⟩ => ⟨S1x4096x128, .f32⟩
  | .local _ .vmem, ⟨18, _⟩ => ⟨S1x2048x128, .bf16⟩
  | .local _ .vmem, ⟨19, _⟩ => ⟨S1x2048x128, .bf16⟩
  | .local _ .vmem, ⟨20, _⟩ => ⟨S3x2048x128, .f32⟩
  | .local _ .vmem, ⟨21, _⟩ => ⟨S3x2048x128, .f32⟩
  | _, _ => ⟨S8x4096x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![8, 8, 2], ![false, false, false]⟩

@[reducible] def k0_t1_loop : Scf.Loop 32 :=
  let c0_i32_6 : BitVec 32 := 0#32
  let c16_i32 : BitVec 32 := 16#32
  let v30 : BitVec 32 := Scalar.addi c0_i32_6 c16_i32
  let c1_i32_7 : BitVec 32 := 1#32
  ⟨c0_i32_6, v30, c1_i32_7⟩
def k0_mult1 (k0_t1 : Fin k0_t1_loop.trips) : BitVec 32 :=
  let c0_i32_6 : BitVec 32 := 0#32
  let c1_i32_7 : BitVec 32 := 1#32
  let arg15 : BitVec 32 := Scf.iv c0_i32_6 c1_i32_7 k0_t1
  let c0_i32_26 : BitVec 32 := 0#32
  let v50 : BitVec 32 := Scalar.shrui arg15 c0_i32_26
  let c128_i32_28 : BitVec 32 := 128#32
  let v52 : BitVec 32 := Scalar.muli v50 c128_i32_28
  let c0_i32_27 : BitVec 32 := 0#32
  let v51 : BitVec 32 := Scalar.andi arg15 c0_i32_27
  let v53 : BitVec 32 := Scalar.addi v52 v51
  v53
def k0_mult2 (i : grid0.Coords) (k0_t1 : Fin k0_t1_loop.trips) : BitVec 32 :=
  let arg2 : BitVec 32 := BitVec.ofNat 32 (i 2).val
  let c2048_i32 : BitVec 32 := 2048#32
  let v54 : BitVec 32 := Scalar.muli arg2 c2048_i32
  let c0_i32_6 : BitVec 32 := 0#32
  let c1_i32_7 : BitVec 32 := 1#32
  let arg15 : BitVec 32 := Scf.iv c0_i32_6 c1_i32_7 k0_t1
  let c0_i32_26 : BitVec 32 := 0#32
  let v50 : BitVec 32 := Scalar.shrui arg15 c0_i32_26
  let c128_i32_28 : BitVec 32 := 128#32
  let v52 : BitVec 32 := Scalar.muli v50 c128_i32_28
  let c0_i32_27 : BitVec 32 := 0#32
  let v51 : BitVec 32 := Scalar.andi arg15 c0_i32_27
  let v53 : BitVec 32 := Scalar.addi v52 v51
  let v55 : BitVec 32 := Scalar.addi v54 v53
  v55
def k0_mult3 (i : grid0.Coords) (k0_t1 : Fin k0_t1_loop.trips) : BitVec 32 :=
  let arg2 : BitVec 32 := BitVec.ofNat 32 (i 2).val
  let c2048_i32 : BitVec 32 := 2048#32
  let v54 : BitVec 32 := Scalar.muli arg2 c2048_i32
  let c0_i32_6 : BitVec 32 := 0#32
  let c1_i32_7 : BitVec 32 := 1#32
  let arg15 : BitVec 32 := Scf.iv c0_i32_6 c1_i32_7 k0_t1
  let c0_i32_26 : BitVec 32 := 0#32
  let v50 : BitVec 32 := Scalar.shrui arg15 c0_i32_26
  let c128_i32_28 : BitVec 32 := 128#32
  let v52 : BitVec 32 := Scalar.muli v50 c128_i32_28
  let c0_i32_27 : BitVec 32 := 0#32
  let v51 : BitVec 32 := Scalar.andi arg15 c0_i32_27
  let v53 : BitVec 32 := Scalar.addi v52 v51
  let v55 : BitVec 32 := Scalar.addi v54 v53
  let c128_i32_29 : BitVec 32 := 128#32
  let v56 : BitVec 32 := Scalar.subi v55 c128_i32_29
  let c0_i32_33 : BitVec 32 := 0#32
  let v59 : BitVec 32 := Scalar.maxsi v56 c0_i32_33
  v59
def k0_off1 (k0_t1 : Fin k0_t1_loop.trips) : Fin 3 → Nat :=
  let c0 : Index := 0#32
  let c0_i32_6 : BitVec 32 := 0#32
  let c1_i32_7 : BitVec 32 := 1#32
  let arg15 : BitVec 32 := Scf.iv c0_i32_6 c1_i32_7 k0_t1
  let c0_i32_26 : BitVec 32 := 0#32
  let v50 : BitVec 32 := Scalar.shrui arg15 c0_i32_26
  let c128_i32_28 : BitVec 32 := 128#32
  let v52 : BitVec 32 := Scalar.muli v50 c128_i32_28
  let c0_i32_27 : BitVec 32 := 0#32
  let v51 : BitVec 32 := Scalar.andi arg15 c0_i32_27
  let v53 : BitVec 32 := Scalar.addi v52 v51
  let v60 : BitVec 32 := v53
  let v63 : Index := Scalar.indexCast v60
  let c0_34 : Index := 0#32
  ![0, v63.toNat, 0]
def k0_off2 (i : grid0.Coords) (k0_t1 : Fin k0_t1_loop.trips) : Fin 3 → Nat :=
  let c0_35 : Index := 0#32
  let arg2 : BitVec 32 := BitVec.ofNat 32 (i 2).val
  let c2048_i32 : BitVec 32 := 2048#32
  let v54 : BitVec 32 := Scalar.muli arg2 c2048_i32
  let c0_i32_6 : BitVec 32 := 0#32
  let c1_i32_7 : BitVec 32 := 1#32
  let arg15 : BitVec 32 := Scf.iv c0_i32_6 c1_i32_7 k0_t1
  let c0_i32_26 : BitVec 32 := 0#32
  let v50 : BitVec 32 := Scalar.shrui arg15 c0_i32_26
  let c128_i32_28 : BitVec 32 := 128#32
  let v52 : BitVec 32 := Scalar.muli v50 c128_i32_28
  let c0_i32_27 : BitVec 32 := 0#32
  let v51 : BitVec 32 := Scalar.andi arg15 c0_i32_27
  let v53 : BitVec 32 := Scalar.addi v52 v51
  let v55 : BitVec 32 := Scalar.addi v54 v53
  let v61 : BitVec 32 := v55
  let v66 : Index := Scalar.indexCast v61
  let c0_36 : Index := 0#32
  ![0, v66.toNat, 0]
def k0_off3 (i : grid0.Coords) (k0_t1 : Fin k0_t1_loop.trips) : Fin 3 → Nat :=
  let c0_39 : Index := 0#32
  let arg2 : BitVec 32 := BitVec.ofNat 32 (i 2).val
  let c2048_i32 : BitVec 32 := 2048#32
  let v54 : BitVec 32 := Scalar.muli arg2 c2048_i32
  let c0_i32_6 : BitVec 32 := 0#32
  let c1_i32_7 : BitVec 32 := 1#32
  let arg15 : BitVec 32 := Scf.iv c0_i32_6 c1_i32_7 k0_t1
  let c0_i32_26 : BitVec 32 := 0#32
  let v50 : BitVec 32 := Scalar.shrui arg15 c0_i32_26
  let c128_i32_28 : BitVec 32 := 128#32
  let v52 : BitVec 32 := Scalar.muli v50 c128_i32_28
  let c0_i32_27 : BitVec 32 := 0#32
  let v51 : BitVec 32 := Scalar.andi arg15 c0_i32_27
  let v53 : BitVec 32 := Scalar.addi v52 v51
  let v55 : BitVec 32 := Scalar.addi v54 v53
  let c128_i32_29 : BitVec 32 := 128#32
  let v56 : BitVec 32 := Scalar.subi v55 c128_i32_29
  let c0_i32_33 : BitVec 32 := 0#32
  let v59 : BitVec 32 := Scalar.maxsi v56 c0_i32_33
  let v62 : BitVec 32 := v59
  let v72 : Index := Scalar.indexCast v62
  let c0_40 : Index := 0#32
  ![0, v72.toNat, 0]
def k0_off4 (k0_t1 : Fin k0_t1_loop.trips) : Fin 3 → Nat :=
  let c0_48 : Index := 0#32
  let c0_i32_6 : BitVec 32 := 0#32
  let c1_i32_7 : BitVec 32 := 1#32
  let arg15 : BitVec 32 := Scf.iv c0_i32_6 c1_i32_7 k0_t1
  let c0_i32_26 : BitVec 32 := 0#32
  let v50 : BitVec 32 := Scalar.shrui arg15 c0_i32_26
  let c128_i32_28 : BitVec 32 := 128#32
  let v52 : BitVec 32 := Scalar.muli v50 c128_i32_28
  let c0_i32_27 : BitVec 32 := 0#32
  let v51 : BitVec 32 := Scalar.andi arg15 c0_i32_27
  let v53 : BitVec 32 := Scalar.addi v52 v51
  let v60 : BitVec 32 := v53
  let v113 : Index := Scalar.indexCast v60
  let c0_49 : Index := 0#32
  ![0, v113.toNat, 0]
@[reducible] def k0_t2_loop : Scf.Loop 32 :=
  let c0_i32_12 : BitVec 32 := 0#32
  let c16_i32_13 : BitVec 32 := 16#32
  let v39 : BitVec 32 := Scalar.addi c0_i32_12 c16_i32_13
  let c1_i32_14 : BitVec 32 := 1#32
  ⟨c0_i32_12, v39, c1_i32_14⟩
def k0_off5 (k0_t2 : Fin k0_t2_loop.trips) : Fin 3 → Nat :=
  let c0 : Index := 0#32
  let c0_i32_12 : BitVec 32 := 0#32
  let c1_i32_14 : BitVec 32 := 1#32
  let arg15 : BitVec 32 := Scf.iv c0_i32_12 c1_i32_14 k0_t2
  let c2_i32 : BitVec 32 := 2#32
  let v50 : BitVec 32 := Scalar.shrui arg15 c2_i32
  let c512_i32 : BitVec 32 := 512#32
  let v52 : BitVec 32 := Scalar.muli v50 c512_i32
  let c3_i32 : BitVec 32 := 3#32
  let v51 : BitVec 32 := Scalar.andi arg15 c3_i32
  let v53 : BitVec 32 := Scalar.addi v52 v51
  let v60 : Index := Scalar.indexCast v53
  let c0_31 : Index := 0#32
  ![0, v60.toNat, 0]
def k0_off6 (i : grid0.Coords) (k0_t2 : Fin k0_t2_loop.trips) : Fin 3 → Nat :=
  let c0_32 : Index := 0#32
  let arg2 : BitVec 32 := BitVec.ofNat 32 (i 2).val
  let c2048_i32 : BitVec 32 := 2048#32
  let v54 : BitVec 32 := Scalar.muli arg2 c2048_i32
  let c0_i32_12 : BitVec 32 := 0#32
  let c1_i32_14 : BitVec 32 := 1#32
  let arg15 : BitVec 32 := Scf.iv c0_i32_12 c1_i32_14 k0_t2
  let c2_i32 : BitVec 32 := 2#32
  let v50 : BitVec 32 := Scalar.shrui arg15 c2_i32
  let c512_i32 : BitVec 32 := 512#32
  let v52 : BitVec 32 := Scalar.muli v50 c512_i32
  let c3_i32 : BitVec 32 := 3#32
  let v51 : BitVec 32 := Scalar.andi arg15 c3_i32
  let v53 : BitVec 32 := Scalar.addi v52 v51
  let v55 : BitVec 32 := Scalar.addi v54 v53
  let v63 : Index := Scalar.indexCast v55
  let c0_33 : Index := 0#32
  ![0, v63.toNat, 0]
def k0_off7 (i : grid0.Coords) (k0_t2 : Fin k0_t2_loop.trips) : Fin 3 → Nat :=
  let c0_36 : Index := 0#32
  let arg2 : BitVec 32 := BitVec.ofNat 32 (i 2).val
  let c2048_i32 : BitVec 32 := 2048#32
  let v54 : BitVec 32 := Scalar.muli arg2 c2048_i32
  let c0_i32_12 : BitVec 32 := 0#32
  let c1_i32_14 : BitVec 32 := 1#32
  let arg15 : BitVec 32 := Scf.iv c0_i32_12 c1_i32_14 k0_t2
  let c2_i32 : BitVec 32 := 2#32
  let v50 : BitVec 32 := Scalar.shrui arg15 c2_i32
  let c512_i32 : BitVec 32 := 512#32
  let v52 : BitVec 32 := Scalar.muli v50 c512_i32
  let c3_i32 : BitVec 32 := 3#32
  let v51 : BitVec 32 := Scalar.andi arg15 c3_i32
  let v53 : BitVec 32 := Scalar.addi v52 v51
  let v55 : BitVec 32 := Scalar.addi v54 v53
  let c512_i32_26 : BitVec 32 := 512#32
  let v56 : BitVec 32 := Scalar.subi v55 c512_i32_26
  let c0_i32_30 : BitVec 32 := 0#32
  let v59 : BitVec 32 := Scalar.maxsi v56 c0_i32_30
  let v69 : Index := Scalar.indexCast v59
  let c0_37 : Index := 0#32
  ![0, v69.toNat, 0]
def k0_off8 (k0_t2 : Fin k0_t2_loop.trips) : Fin 3 → Nat :=
  let c1 : Index := 1#32
  let c0_i32_12 : BitVec 32 := 0#32
  let c1_i32_14 : BitVec 32 := 1#32
  let arg15 : BitVec 32 := Scf.iv c0_i32_12 c1_i32_14 k0_t2
  let c2_i32 : BitVec 32 := 2#32
  let v50 : BitVec 32 := Scalar.shrui arg15 c2_i32
  let c512_i32 : BitVec 32 := 512#32
  let v52 : BitVec 32 := Scalar.muli v50 c512_i32
  let c3_i32 : BitVec 32 := 3#32
  let v51 : BitVec 32 := Scalar.andi arg15 c3_i32
  let v53 : BitVec 32 := Scalar.addi v52 v51
  let v110 : Index := Scalar.indexCast v53
  let c0_45 : Index := 0#32
  ![1, v110.toNat, 0]
@[reducible] def k0_t3_loop : Scf.Loop 32 :=
  let c0_i32_19 : BitVec 32 := 0#32
  let c16_i32_20 : BitVec 32 := 16#32
  let v48 : BitVec 32 := Scalar.addi c0_i32_19 c16_i32_20
  let c1_i32_21 : BitVec 32 := 1#32
  ⟨c0_i32_19, v48, c1_i32_21⟩
def k0_off9 (k0_t3 : Fin k0_t3_loop.trips) : Fin 3 → Nat :=
  let c0 : Index := 0#32
  let c0_i32_19 : BitVec 32 := 0#32
  let c1_i32_21 : BitVec 32 := 1#32
  let arg15 : BitVec 32 := Scf.iv c0_i32_19 c1_i32_21 k0_t3
  let c4_i32 : BitVec 32 := 4#32
  let v50 : BitVec 32 := Scalar.shrui arg15 c4_i32
  let c2048_i32 : BitVec 32 := 2048#32
  let v52 : BitVec 32 := Scalar.muli v50 c2048_i32
  let c15_i32 : BitVec 32 := 15#32
  let v51 : BitVec 32 := Scalar.andi arg15 c15_i32
  let v53 : BitVec 32 := Scalar.addi v52 v51
  let v60 : Index := Scalar.indexCast v53
  let c0_32 : Index := 0#32
  ![0, v60.toNat, 0]
def k0_off10 (i : grid0.Coords) (k0_t3 : Fin k0_t3_loop.trips) : Fin 3 → Nat :=
  let c0_33 : Index := 0#32
  let arg2 : BitVec 32 := BitVec.ofNat 32 (i 2).val
  let c2048_i32_26 : BitVec 32 := 2048#32
  let v54 : BitVec 32 := Scalar.muli arg2 c2048_i32_26
  let c0_i32_19 : BitVec 32 := 0#32
  let c1_i32_21 : BitVec 32 := 1#32
  let arg15 : BitVec 32 := Scf.iv c0_i32_19 c1_i32_21 k0_t3
  let c4_i32 : BitVec 32 := 4#32
  let v50 : BitVec 32 := Scalar.shrui arg15 c4_i32
  let c2048_i32 : BitVec 32 := 2048#32
  let v52 : BitVec 32 := Scalar.muli v50 c2048_i32
  let c15_i32 : BitVec 32 := 15#32
  let v51 : BitVec 32 := Scalar.andi arg15 c15_i32
  let v53 : BitVec 32 := Scalar.addi v52 v51
  let v55 : BitVec 32 := Scalar.addi v54 v53
  let v63 : Index := Scalar.indexCast v55
  let c0_34 : Index := 0#32
  ![0, v63.toNat, 0]
def k0_off11 (i : grid0.Coords) (k0_t3 : Fin k0_t3_loop.trips) : Fin 3 → Nat :=
  let c0_37 : Index := 0#32
  let arg2 : BitVec 32 := BitVec.ofNat 32 (i 2).val
  let c2048_i32_26 : BitVec 32 := 2048#32
  let v54 : BitVec 32 := Scalar.muli arg2 c2048_i32_26
  let c0_i32_19 : BitVec 32 := 0#32
  let c1_i32_21 : BitVec 32 := 1#32
  let arg15 : BitVec 32 := Scf.iv c0_i32_19 c1_i32_21 k0_t3
  let c4_i32 : BitVec 32 := 4#32
  let v50 : BitVec 32 := Scalar.shrui arg15 c4_i32
  let c2048_i32 : BitVec 32 := 2048#32
  let v52 : BitVec 32 := Scalar.muli v50 c2048_i32
  let c15_i32 : BitVec 32 := 15#32
  let v51 : BitVec 32 := Scalar.andi arg15 c15_i32
  let v53 : BitVec 32 := Scalar.addi v52 v51
  let v55 : BitVec 32 := Scalar.addi v54 v53
  let c2048_i32_27 : BitVec 32 := 2048#32
  let v56 : BitVec 32 := Scalar.subi v55 c2048_i32_27
  let c0_i32_31 : BitVec 32 := 0#32
  let v59 : BitVec 32 := Scalar.maxsi v56 c0_i32_31
  let v69 : Index := Scalar.indexCast v59
  let c0_38 : Index := 0#32
  ![0, v69.toNat, 0]
def k0_off12 (k0_t3 : Fin k0_t3_loop.trips) : Fin 3 → Nat :=
  let c2 : Index := 2#32
  let c0_i32_19 : BitVec 32 := 0#32
  let c1_i32_21 : BitVec 32 := 1#32
  let arg15 : BitVec 32 := Scf.iv c0_i32_19 c1_i32_21 k0_t3
  let c4_i32 : BitVec 32 := 4#32
  let v50 : BitVec 32 := Scalar.shrui arg15 c4_i32
  let c2048_i32 : BitVec 32 := 2048#32
  let v52 : BitVec 32 := Scalar.muli v50 c2048_i32
  let c15_i32 : BitVec 32 := 15#32
  let v51 : BitVec 32 := Scalar.andi arg15 c15_i32
  let v53 : BitVec 32 := Scalar.addi v52 v51
  let v110 : Index := Scalar.indexCast v53
  let c0_46 : Index := 0#32
  ![2, v110.toNat, 0]
@[reducible] def k0_t4_loop : Scf.Loop 32 :=
  let c0_i32_23 : BitVec 32 := 0#32
  let c8_i32 : BitVec 32 := 8#32
  let v49 : BitVec 32 := Scalar.addi c0_i32_23 c8_i32
  let c1_i32_24 : BitVec 32 := 1#32
  ⟨c0_i32_23, v49, c1_i32_24⟩
def k0_mult4 (k0_t4 : Fin k0_t4_loop.trips) : BitVec 32 :=
  let c0_i32_23 : BitVec 32 := 0#32
  let c1_i32_24 : BitVec 32 := 1#32
  let arg15 : BitVec 32 := Scf.iv c0_i32_23 c1_i32_24 k0_t4
  let c256_i32 : BitVec 32 := 256#32
  let v50 : BitVec 32 := Scalar.muli arg15 c256_i32
  v50
def k0_off13 (k0_t4 : Fin k0_t4_loop.trips) : Fin 3 → Nat :=
  let c0 : Index := 0#32
  let c0_i32_23 : BitVec 32 := 0#32
  let c1_i32_24 : BitVec 32 := 1#32
  let arg15 : BitVec 32 := Scf.iv c0_i32_23 c1_i32_24 k0_t4
  let c256_i32 : BitVec 32 := 256#32
  let v50 : BitVec 32 := Scalar.muli arg15 c256_i32
  let v51 : BitVec 32 := v50
  let v52 : Index := Scalar.indexCast v51
  let c0_26 : Index := 0#32
  ![0, v52.toNat, 0]
def k0_off14 (k0_t4 : Fin k0_t4_loop.trips) : Fin 3 → Nat :=
  let c1 : Index := 1#32
  let c0_i32_23 : BitVec 32 := 0#32
  let c1_i32_24 : BitVec 32 := 1#32
  let arg15 : BitVec 32 := Scf.iv c0_i32_23 c1_i32_24 k0_t4
  let c256_i32 : BitVec 32 := 256#32
  let v50 : BitVec 32 := Scalar.muli arg15 c256_i32
  let v51 : BitVec 32 := v50
  let v55 : Index := Scalar.indexCast v51
  let c0_27 : Index := 0#32
  ![1, v55.toNat, 0]
def k0_off15 (k0_t4 : Fin k0_t4_loop.trips) : Fin 3 → Nat :=
  let c2 : Index := 2#32
  let c0_i32_23 : BitVec 32 := 0#32
  let c1_i32_24 : BitVec 32 := 1#32
  let arg15 : BitVec 32 := Scf.iv c0_i32_23 c1_i32_24 k0_t4
  let c256_i32 : BitVec 32 := 256#32
  let v50 : BitVec 32 := Scalar.muli arg15 c256_i32
  let v51 : BitVec 32 := v50
  let v58 : Index := Scalar.indexCast v51
  let c0_28 : Index := 0#32
  ![2, v58.toNat, 0]
def k0_off16 (k0_t4 : Fin k0_t4_loop.trips) : Fin 3 → Nat :=
  let c0_37 : Index := 0#32
  let c0_i32_23 : BitVec 32 := 0#32
  let c1_i32_24 : BitVec 32 := 1#32
  let arg15 : BitVec 32 := Scf.iv c0_i32_23 c1_i32_24 k0_t4
  let c256_i32 : BitVec 32 := 256#32
  let v50 : BitVec 32 := Scalar.muli arg15 c256_i32
  let v51 : BitVec 32 := v50
  let v91 : Index := Scalar.indexCast v51
  let c0_38 : Index := 0#32
  ![0, v91.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.addi c48_i32 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c56_i32 : BitVec 32 := 56#32
  let v0 : BitVec 32 := Scalar.addi c56_i32 arg1
  let c0_i32 : BitVec 32 := 0#32
  let c0_i32_0 : BitVec 32 := 0#32
  ![arg0.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg1
  let c0_i32 : BitVec 32 := 0#32
  let c0_i32_0 : BitVec 32 := 0#32
  ![arg0.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x4096x9216 : Shape := ⟨3, ![8, 4096, 9216]⟩
abbrev S8x4096x3x3x16x64 : Shape := ⟨6, ![8, 4096, 3, 3, 16, 64]⟩
abbrev S8x4096x1x3x16x64 : Shape := ⟨6, ![8, 4096, 1, 3, 16, 64]⟩
abbrev S8x4096x3x16x64 : Shape := ⟨5, ![8, 4096, 3, 16, 64]⟩
abbrev S8x4096x1x16x64 : Shape := ⟨5, ![8, 4096, 1, 16, 64]⟩
abbrev S8x4096x16x64 : Shape := ⟨4, ![8, 4096, 16, 64]⟩
abbrev S8x1x4096x16x64 : Shape := ⟨5, ![8, 1, 4096, 16, 64]⟩
abbrev S8x1x32x128x16x64 : Shape := ⟨6, ![8, 1, 32, 128, 16, 64]⟩
abbrev S8x1x1x128x16x64 : Shape := ⟨6, ![8, 1, 1, 128, 16, 64]⟩
abbrev S_ : Shape := ⟨0, ![]⟩
abbrev S8x1x31x128x16x64 : Shape := ⟨6, ![8, 1, 31, 128, 16, 64]⟩
abbrev S8x1x32x256x16x64 : Shape := ⟨6, ![8, 1, 32, 256, 16, 64]⟩
abbrev S8x1x32x16x128x256 : Shape := ⟨6, ![8, 1, 32, 16, 128, 256]⟩
abbrev S128 : Shape := ⟨1, ![128]⟩
abbrev S256 : Shape := ⟨1, ![256]⟩
abbrev S128x1 : Shape := ⟨2, ![128, 1]⟩
abbrev S1x256 : Shape := ⟨2, ![1, 256]⟩
abbrev S128x256 : Shape := ⟨2, ![128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S1x1x32x1x128x256 : Shape := ⟨6, ![1, 1, 32, 1, 128, 256]⟩
abbrev S8x1x32x16x128 : Shape := ⟨5, ![8, 1, 32, 16, 128]⟩
abbrev S8x1x32x16x128x1 : Shape := ⟨6, ![8, 1, 32, 16, 128, 1]⟩
abbrev S8x1x32x16x64x128 : Shape := ⟨6, ![8, 1, 32, 16, 64, 128]⟩
abbrev S8x1x32x128x16 : Shape := ⟨5, ![8, 1, 32, 128, 16]⟩
abbrev S8x1x32x128x16x1 : Shape := ⟨6, ![8, 1, 32, 128, 16, 1]⟩
abbrev S8x1x4096x16 : Shape := ⟨4, ![8, 1, 4096, 16]⟩
abbrev S8x4096x1x16 : Shape := ⟨4, ![8, 4096, 1, 16]⟩
abbrev S8x4096x16 : Shape := ⟨3, ![8, 4096, 16]⟩
abbrev S8x1024x4x16x64 : Shape := ⟨5, ![8, 1024, 4, 16, 64]⟩
abbrev S8x4x1024x16x64 : Shape := ⟨5, ![8, 4, 1024, 16, 64]⟩
abbrev S8x4x8x128x16x64 : Shape := ⟨6, ![8, 4, 8, 128, 16, 64]⟩
abbrev S8x4x1x128x16x64 : Shape := ⟨6, ![8, 4, 1, 128, 16, 64]⟩
abbrev S8x4x7x128x16x64 : Shape := ⟨6, ![8, 4, 7, 128, 16, 64]⟩
abbrev S8x4x8x256x16x64 : Shape := ⟨6, ![8, 4, 8, 256, 16, 64]⟩
abbrev S8x4x8x16x128x256 : Shape := ⟨6, ![8, 4, 8, 16, 128, 256]⟩
abbrev S8 : Shape := ⟨1, ![8]⟩
abbrev S8x1 : Shape := ⟨2, ![8, 1]⟩
abbrev S8x256 : Shape := ⟨2, ![8, 256]⟩
abbrev S8x1x256 : Shape := ⟨3, ![8, 1, 256]⟩
abbrev S8x128x256 : Shape := ⟨3, ![8, 128, 256]⟩
abbrev S1x1x8x1x128x256 : Shape := ⟨6, ![1, 1, 8, 1, 128, 256]⟩
abbrev S8x4x8x16x128 : Shape := ⟨5, ![8, 4, 8, 16, 128]⟩
abbrev S8x4x8x16x128x1 : Shape := ⟨6, ![8, 4, 8, 16, 128, 1]⟩
abbrev S8x4x8x16x64x128 : Shape := ⟨6, ![8, 4, 8, 16, 64, 128]⟩
abbrev S8x4x8x128x16 : Shape := ⟨5, ![8, 4, 8, 128, 16]⟩
abbrev S8x4x8x128x16x1 : Shape := ⟨6, ![8, 4, 8, 128, 16, 1]⟩
abbrev S8x4x1024x16 : Shape := ⟨4, ![8, 4, 1024, 16]⟩
abbrev S8x1024x4x16 : Shape := ⟨4, ![8, 1024, 4, 16]⟩
abbrev S8x256x16x16x64 : Shape := ⟨5, ![8, 256, 16, 16, 64]⟩
abbrev S8x16x256x16x64 : Shape := ⟨5, ![8, 16, 256, 16, 64]⟩
abbrev S8x16x2x128x16x64 : Shape := ⟨6, ![8, 16, 2, 128, 16, 64]⟩
abbrev S8x16x1x128x16x64 : Shape := ⟨6, ![8, 16, 1, 128, 16, 64]⟩
abbrev S8x16x2x256x16x64 : Shape := ⟨6, ![8, 16, 2, 256, 16, 64]⟩
abbrev S8x16x2x16x128x256 : Shape := ⟨6, ![8, 16, 2, 16, 128, 256]⟩
abbrev S2 : Shape := ⟨1, ![2]⟩
abbrev S2x1 : Shape := ⟨2, ![2, 1]⟩
abbrev S2x256 : Shape := ⟨2, ![2, 256]⟩
abbrev S2x1x256 : Shape := ⟨3, ![2, 1, 256]⟩
abbrev S2x128x256 : Shape := ⟨3, ![2, 128, 256]⟩
abbrev S1x1x2x1x128x256 : Shape := ⟨6, ![1, 1, 2, 1, 128, 256]⟩
abbrev S8x16x2x16x128 : Shape := ⟨5, ![8, 16, 2, 16, 128]⟩
abbrev S8x16x2x16x128x1 : Shape := ⟨6, ![8, 16, 2, 16, 128, 1]⟩
abbrev S8x16x2x16x64x128 : Shape := ⟨6, ![8, 16, 2, 16, 64, 128]⟩
abbrev S8x16x2x128x16 : Shape := ⟨5, ![8, 16, 2, 128, 16]⟩
abbrev S8x16x2x128x16x1 : Shape := ⟨6, ![8, 16, 2, 128, 16, 1]⟩
abbrev S8x16x256x16 : Shape := ⟨4, ![8, 16, 256, 16]⟩
abbrev S8x256x16x16 : Shape := ⟨4, ![8, 256, 16, 16]⟩
abbrev S1x8x4096x16x64 : Shape := ⟨5, ![1, 8, 4096, 16, 64]⟩
abbrev S3x8x4096x16x64 : Shape := ⟨5, ![3, 8, 4096, 16, 64]⟩
abbrev S1x8x4096x16 : Shape := ⟨4, ![1, 8, 4096, 16]⟩
abbrev S3x8x4096x16 : Shape := ⟨4, ![3, 8, 4096, 16]⟩
abbrev S8x4096x1024 : Shape := ⟨3, ![8, 4096, 1024]⟩

abbrev nBuf : Space → Nat
  | .hbm => 320
  | .vmem => 0
  | .smem => 0
  | _ => 0

abbrev hbmTy0_0 (i : Nat) : BufTy := match i % 128 with
  | 0 => ⟨S8x4096x9216, .f32⟩
  | 1 => ⟨S8x4096x3x3x16x64, .f32⟩
  | 2 => ⟨S8x4096x1x3x16x64, .f32⟩
  | 3 => ⟨S8x4096x3x16x64, .f32⟩
  | 4 => ⟨S8x4096x1x3x16x64, .f32⟩
  | 5 => ⟨S8x4096x3x16x64, .f32⟩
  | 6 => ⟨S8x4096x1x3x16x64, .f32⟩
  | 7 => ⟨S8x4096x3x16x64, .f32⟩
  | 8 => ⟨S8x4096x1x16x64, .f32⟩
  | 9 => ⟨S8x4096x16x64, .f32⟩
  | 10 => ⟨S8x4096x1x16x64, .f32⟩
  | 11 => ⟨S8x4096x16x64, .f32⟩
  | 12 => ⟨S8x4096x1x16x64, .f32⟩
  | 13 => ⟨S8x4096x16x64, .f32⟩
  | 14 => ⟨S8x4096x1x16x64, .f32⟩
  | 15 => ⟨S8x1x4096x16x64, .f32⟩
  | 16 => ⟨S8x1x32x128x16x64, .f32⟩
  | 17 => ⟨S8x4096x1x16x64, .f32⟩
  | 18 => ⟨S8x1x4096x16x64, .f32⟩
  | 19 => ⟨S8x1x32x128x16x64, .f32⟩
  | 20 => ⟨S8x4096x1x16x64, .f32⟩
  | 21 => ⟨S8x1x4096x16x64, .f32⟩
  | 22 => ⟨S8x1x32x128x16x64, .f32⟩
  | 23 => ⟨S8x1x1x128x16x64, .f32⟩
  | 24 => ⟨S_, .f32⟩
  | 25 => ⟨S8x1x1x128x16x64, .f32⟩
  | 26 => ⟨S8x1x31x128x16x64, .f32⟩
  | 27 => ⟨S8x1x32x128x16x64, .f32⟩
  | 28 => ⟨S8x1x32x256x16x64, .f32⟩
  | 29 => ⟨S8x1x1x128x16x64, .f32⟩
  | 30 => ⟨S_, .f32⟩
  | 31 => ⟨S8x1x1x128x16x64, .f32⟩
  | 32 => ⟨S8x1x31x128x16x64, .f32⟩
  | 33 => ⟨S8x1x32x128x16x64, .f32⟩
  | 34 => ⟨S8x1x32x256x16x64, .f32⟩
  | 35 => ⟨S8x1x32x16x128x256, .f32⟩
  | 36 => ⟨S128, .i32⟩
  | 37 => ⟨S256, .i32⟩
  | 38 => ⟨S128x1, .i32⟩
  | 39 => ⟨S_, .i32⟩
  | 40 => ⟨S128x1, .i32⟩
  | 41 => ⟨S128x1, .i32⟩
  | 42 => ⟨S1x256, .i32⟩
  | 43 => ⟨S128x256, .i32⟩
  | 44 => ⟨S128x256, .i32⟩
  | 45 => ⟨S128x256, .i32⟩
  | 46 => ⟨S32, .i32⟩
  | 47 => ⟨S32x1, .i32⟩
  | 48 => ⟨S_, .i32⟩
  | 49 => ⟨S32x1, .i32⟩
  | 50 => ⟨S32x1, .i32⟩
  | 51 => ⟨S_, .i32⟩
  | 52 => ⟨S32x1, .i32⟩
  | 53 => ⟨S32x1, .i32⟩
  | 54 => ⟨S1x256, .i32⟩
  | 55 => ⟨S32x256, .i32⟩
  | 56 => ⟨S32x256, .i32⟩
  | 57 => ⟨S32x256, .i32⟩
  | 58 => ⟨S_, .i32⟩
  | 59 => ⟨S128x256, .i32⟩
  | 60 => ⟨S128x256, .i1⟩
  | 61 => ⟨S_, .i32⟩
  | 62 => ⟨S128x256, .i32⟩
  | 63 => ⟨S128x256, .i1⟩
  | 64 => ⟨S128x256, .i1⟩
  | 65 => ⟨S1x128x256, .i1⟩
  | 66 => ⟨S_, .i32⟩
  | 67 => ⟨S32x256, .i32⟩
  | 68 => ⟨S32x256, .i1⟩
  | 69 => ⟨S32x1x256, .i1⟩
  | 70 => ⟨S32x128x256, .i1⟩
  | 71 => ⟨S32x128x256, .i1⟩
  | 72 => ⟨S32x128x256, .i1⟩
  | 73 => ⟨S1x1x32x1x128x256, .i1⟩
  | 74 => ⟨S_, .f32⟩
  | 75 => ⟨S_, .f32⟩
  | 76 => ⟨S8x1x32x16x128x256, .i1⟩
  | 77 => ⟨S8x1x32x16x128x256, .f32⟩
  | 78 => ⟨S8x1x32x16x128x256, .f32⟩
  | 79 => ⟨S_, .f32⟩
  | 80 => ⟨S8x1x32x16x128, .f32⟩
  | 81 => ⟨S8x1x32x16x128x1, .f32⟩
  | 82 => ⟨S8x1x32x16x128x256, .f32⟩
  | 83 => ⟨S8x1x32x16x128x256, .f32⟩
  | 84 => ⟨S8x1x32x16x128x256, .f32⟩
  | 85 => ⟨S_, .f32⟩
  | 86 => ⟨S8x1x32x16x128, .f32⟩
  | 87 => ⟨S8x1x32x16x64x128, .f32⟩
  | 88 => ⟨S8x1x32x128x16x64, .f32⟩
  | 89 => ⟨S8x1x32x128x16, .f32⟩
  | 90 => ⟨S8x1x32x128x16, .f32⟩
  | 91 => ⟨S8x1x32x128x16x1, .f32⟩
  | 92 => ⟨S8x1x32x128x16x64, .f32⟩
  | 93 => ⟨S8x1x32x128x16x64, .f32⟩
  | 94 => ⟨S8x1x4096x16x64, .f32⟩
  | 95 => ⟨S8x4096x1x16x64, .f32⟩
  | 96 => ⟨S8x4096x16x64, .f32⟩
  | 97 => ⟨S8x1x4096x16, .f32⟩
  | 98 => ⟨S8x4096x1x16, .f32⟩
  | 99 => ⟨S8x4096x16, .f32⟩
  | 100 => ⟨S8x1x4096x16, .f32⟩
  | 101 => ⟨S8x4096x1x16, .f32⟩
  | 102 => ⟨S8x4096x16, .f32⟩
  | 103 => ⟨S8x4096x1x16x64, .f32⟩
  | 104 => ⟨S8x4096x16x64, .f32⟩
  | 105 => ⟨S8x4096x1x16x64, .f32⟩
  | 106 => ⟨S8x4096x16x64, .f32⟩
  | 107 => ⟨S8x4096x1x16x64, .f32⟩
  | 108 => ⟨S8x4096x16x64, .f32⟩
  | 109 => ⟨S8x1024x4x16x64, .f32⟩
  | 110 => ⟨S8x4x1024x16x64, .f32⟩
  | 111 => ⟨S8x4x8x128x16x64, .f32⟩
  | 112 => ⟨S8x1024x4x16x64, .f32⟩
  | 113 => ⟨S8x4x1024x16x64, .f32⟩
  | 114 => ⟨S8x4x8x128x16x64, .f32⟩
  | 115 => ⟨S8x1024x4x16x64, .f32⟩
  | 116 => ⟨S8x4x1024x16x64, .f32⟩
  | 117 => ⟨S8x4x8x128x16x64, .f32⟩
  | 118 => ⟨S8x4x1x128x16x64, .f32⟩
  | 119 => ⟨S_, .f32⟩
  | 120 => ⟨S8x4x1x128x16x64, .f32⟩
  | 121 => ⟨S8x4x7x128x16x64, .f32⟩
  | 122 => ⟨S8x4x8x128x16x64, .f32⟩
  | 123 => ⟨S8x4x8x256x16x64, .f32⟩
  | 124 => ⟨S8x4x1x128x16x64, .f32⟩
  | 125 => ⟨S_, .f32⟩
  | 126 => ⟨S8x4x1x128x16x64, .f32⟩
  | 127 => ⟨S8x4x7x128x16x64, .f32⟩
  | _ => ⟨S8x4096x9216, .f32⟩

abbrev hbmTy0_1 (i : Nat) : BufTy := match i % 128 with
  | 0 => ⟨S8x4x8x128x16x64, .f32⟩
  | 1 => ⟨S8x4x8x256x16x64, .f32⟩
  | 2 => ⟨S8x4x8x16x128x256, .f32⟩
  | 3 => ⟨S128, .i32⟩
  | 4 => ⟨S256, .i32⟩
  | 5 => ⟨S128x1, .i32⟩
  | 6 => ⟨S_, .i32⟩
  | 7 => ⟨S128x1, .i32⟩
  | 8 => ⟨S128x1, .i32⟩
  | 9 => ⟨S1x256, .i32⟩
  | 10 => ⟨S128x256, .i32⟩
  | 11 => ⟨S128x256, .i32⟩
  | 12 => ⟨S128x256, .i32⟩
  | 13 => ⟨S8, .i32⟩
  | 14 => ⟨S8x1, .i32⟩
  | 15 => ⟨S_, .i32⟩
  | 16 => ⟨S8x1, .i32⟩
  | 17 => ⟨S8x1, .i32⟩
  | 18 => ⟨S_, .i32⟩
  | 19 => ⟨S8x1, .i32⟩
  | 20 => ⟨S8x1, .i32⟩
  | 21 => ⟨S1x256, .i32⟩
  | 22 => ⟨S8x256, .i32⟩
  | 23 => ⟨S8x256, .i32⟩
  | 24 => ⟨S8x256, .i32⟩
  | 25 => ⟨S_, .i32⟩
  | 26 => ⟨S128x256, .i32⟩
  | 27 => ⟨S128x256, .i1⟩
  | 28 => ⟨S_, .i32⟩
  | 29 => ⟨S128x256, .i32⟩
  | 30 => ⟨S128x256, .i1⟩
  | 31 => ⟨S128x256, .i1⟩
  | 32 => ⟨S1x128x256, .i1⟩
  | 33 => ⟨S_, .i32⟩
  | 34 => ⟨S8x256, .i32⟩
  | 35 => ⟨S8x256, .i1⟩
  | 36 => ⟨S8x1x256, .i1⟩
  | 37 => ⟨S8x128x256, .i1⟩
  | 38 => ⟨S8x128x256, .i1⟩
  | 39 => ⟨S8x128x256, .i1⟩
  | 40 => ⟨S1x1x8x1x128x256, .i1⟩
  | 41 => ⟨S_, .f32⟩
  | 42 => ⟨S_, .f32⟩
  | 43 => ⟨S8x4x8x16x128x256, .i1⟩
  | 44 => ⟨S8x4x8x16x128x256, .f32⟩
  | 45 => ⟨S8x4x8x16x128x256, .f32⟩
  | 46 => ⟨S_, .f32⟩
  | 47 => ⟨S8x4x8x16x128, .f32⟩
  | 48 => ⟨S8x4x8x16x128x1, .f32⟩
  | 49 => ⟨S8x4x8x16x128x256, .f32⟩
  | 50 => ⟨S8x4x8x16x128x256, .f32⟩
  | 51 => ⟨S8x4x8x16x128x256, .f32⟩
  | 52 => ⟨S_, .f32⟩
  | 53 => ⟨S8x4x8x16x128, .f32⟩
  | 54 => ⟨S8x4x8x16x64x128, .f32⟩
  | 55 => ⟨S8x4x8x128x16x64, .f32⟩
  | 56 => ⟨S8x4x8x128x16, .f32⟩
  | 57 => ⟨S8x4x8x128x16, .f32⟩
  | 58 => ⟨S8x4x8x128x16x1, .f32⟩
  | 59 => ⟨S8x4x8x128x16x64, .f32⟩
  | 60 => ⟨S8x4x8x128x16x64, .f32⟩
  | 61 => ⟨S8x4x1024x16x64, .f32⟩
  | 62 => ⟨S8x1024x4x16x64, .f32⟩
  | 63 => ⟨S8x4096x16x64, .f32⟩
  | 64 => ⟨S8x4x1024x16, .f32⟩
  | 65 => ⟨S8x1024x4x16, .f32⟩
  | 66 => ⟨S8x4096x16, .f32⟩
  | 67 => ⟨S8x4x1024x16, .f32⟩
  | 68 => ⟨S8x1024x4x16, .f32⟩
  | 69 => ⟨S8x4096x16, .f32⟩
  | 70 => ⟨S8x4096x1x16x64, .f32⟩
  | 71 => ⟨S8x4096x16x64, .f32⟩
  | 72 => ⟨S8x4096x1x16x64, .f32⟩
  | 73 => ⟨S8x4096x16x64, .f32⟩
  | 74 => ⟨S8x4096x1x16x64, .f32⟩
  | 75 => ⟨S8x4096x16x64, .f32⟩
  | 76 => ⟨S8x256x16x16x64, .f32⟩
  | 77 => ⟨S8x16x256x16x64, .f32⟩
  | 78 => ⟨S8x16x2x128x16x64, .f32⟩
  | 79 => ⟨S8x256x16x16x64, .f32⟩
  | 80 => ⟨S8x16x256x16x64, .f32⟩
  | 81 => ⟨S8x16x2x128x16x64, .f32⟩
  | 82 => ⟨S8x256x16x16x64, .f32⟩
  | 83 => ⟨S8x16x256x16x64, .f32⟩
  | 84 => ⟨S8x16x2x128x16x64, .f32⟩
  | 85 => ⟨S8x16x1x128x16x64, .f32⟩
  | 86 => ⟨S_, .f32⟩
  | 87 => ⟨S8x16x1x128x16x64, .f32⟩
  | 88 => ⟨S8x16x1x128x16x64, .f32⟩
  | 89 => ⟨S8x16x2x128x16x64, .f32⟩
  | 90 => ⟨S8x16x2x256x16x64, .f32⟩
  | 91 => ⟨S8x16x1x128x16x64, .f32⟩
  | 92 => ⟨S_, .f32⟩
  | 93 => ⟨S8x16x1x128x16x64, .f32⟩
  | 94 => ⟨S8x16x1x128x16x64, .f32⟩
  | 95 => ⟨S8x16x2x128x16x64, .f32⟩
  | 96 => ⟨S8x16x2x256x16x64, .f32⟩
  | 97 => ⟨S8x16x2x16x128x256, .f32⟩
  | 98 => ⟨S128, .i32⟩
  | 99 => ⟨S256, .i32⟩
  | 100 => ⟨S128x1, .i32⟩
  | 101 => ⟨S_, .i32⟩
  | 102 => ⟨S128x1, .i32⟩
  | 103 => ⟨S128x1, .i32⟩
  | 104 => ⟨S1x256, .i32⟩
  | 105 => ⟨S128x256, .i32⟩
  | 106 => ⟨S128x256, .i32⟩
  | 107 => ⟨S128x256, .i32⟩
  | 108 => ⟨S2, .i32⟩
  | 109 => ⟨S2x1, .i32⟩
  | 110 => ⟨S_, .i32⟩
  | 111 => ⟨S2x1, .i32⟩
  | 112 => ⟨S2x1, .i32⟩
  | 113 => ⟨S_, .i32⟩
  | 114 => ⟨S2x1, .i32⟩
  | 115 => ⟨S2x1, .i32⟩
  | 116 => ⟨S1x256, .i32⟩
  | 117 => ⟨S2x256, .i32⟩
  | 118 => ⟨S2x256, .i32⟩
  | 119 => ⟨S2x256, .i32⟩
  | 120 => ⟨S_, .i32⟩
  | 121 => ⟨S128x256, .i32⟩
  | 122 => ⟨S128x256, .i1⟩
  | 123 => ⟨S_, .i32⟩
  | 124 => ⟨S128x256, .i32⟩
  | 125 => ⟨S128x256, .i1⟩
  | 126 => ⟨S128x256, .i1⟩
  | 127 => ⟨S1x128x256, .i1⟩
  | _ => ⟨S8x4096x9216, .f32⟩

abbrev hbmTy0_2 (i : Nat) : BufTy := match i % 128 with
  | 0 => ⟨S_, .i32⟩
  | 1 => ⟨S2x256, .i32⟩
  | 2 => ⟨S2x256, .i1⟩
  | 3 => ⟨S2x1x256, .i1⟩
  | 4 => ⟨S2x128x256, .i1⟩
  | 5 => ⟨S2x128x256, .i1⟩
  | 6 => ⟨S2x128x256, .i1⟩
  | 7 => ⟨S1x1x2x1x128x256, .i1⟩
  | 8 => ⟨S_, .f32⟩
  | 9 => ⟨S_, .f32⟩
  | 10 => ⟨S8x16x2x16x128x256, .i1⟩
  | 11 => ⟨S8x16x2x16x128x256, .f32⟩
  | 12 => ⟨S8x16x2x16x128x256, .f32⟩
  | 13 => ⟨S_, .f32⟩
  | 14 => ⟨S8x16x2x16x128, .f32⟩
  | 15 => ⟨S8x16x2x16x128x1, .f32⟩
  | 16 => ⟨S8x16x2x16x128x256, .f32⟩
  | 17 => ⟨S8x16x2x16x128x256, .f32⟩
  | 18 => ⟨S8x16x2x16x128x256, .f32⟩
  | 19 => ⟨S_, .f32⟩
  | 20 => ⟨S8x16x2x16x128, .f32⟩
  | 21 => ⟨S8x16x2x16x64x128, .f32⟩
  | 22 => ⟨S8x16x2x128x16x64, .f32⟩
  | 23 => ⟨S8x16x2x128x16, .f32⟩
  | 24 => ⟨S8x16x2x128x16, .f32⟩
  | 25 => ⟨S8x16x2x128x16x1, .f32⟩
  | 26 => ⟨S8x16x2x128x16x64, .f32⟩
  | 27 => ⟨S8x16x2x128x16x64, .f32⟩
  | 28 => ⟨S8x16x256x16x64, .f32⟩
  | 29 => ⟨S8x256x16x16x64, .f32⟩
  | 30 => ⟨S8x4096x16x64, .f32⟩
  | 31 => ⟨S8x16x256x16, .f32⟩
  | 32 => ⟨S8x256x16x16, .f32⟩
  | 33 => ⟨S8x4096x16, .f32⟩
  | 34 => ⟨S8x16x256x16, .f32⟩
  | 35 => ⟨S8x256x16x16, .f32⟩
  | 36 => ⟨S8x4096x16, .f32⟩
  | 37 => ⟨S1x8x4096x16x64, .f32⟩
  | 38 => ⟨S1x8x4096x16x64, .f32⟩
  | 39 => ⟨S1x8x4096x16x64, .f32⟩
  | 40 => ⟨S3x8x4096x16x64, .f32⟩
  | 41 => ⟨S1x8x4096x16, .f32⟩
  | 42 => ⟨S1x8x4096x16, .f32⟩
  | 43 => ⟨S1x8x4096x16, .f32⟩
  | 44 => ⟨S3x8x4096x16, .f32⟩
  | 45 => ⟨S1x8x4096x16, .f32⟩
  | 46 => ⟨S1x8x4096x16, .f32⟩
  | 47 => ⟨S1x8x4096x16, .f32⟩
  | 48 => ⟨S3x8x4096x16, .f32⟩
  | 49 => ⟨S_, .f32⟩
  | 50 => ⟨S8x4096x16, .f32⟩
  | 51 => ⟨S1x8x4096x16, .f32⟩
  | 52 => ⟨S3x8x4096x16, .f32⟩
  | 53 => ⟨S3x8x4096x16, .f32⟩
  | 54 => ⟨S3x8x4096x16, .f32⟩
  | 55 => ⟨S3x8x4096x16, .f32⟩
  | 56 => ⟨S_, .f32⟩
  | 57 => ⟨S8x4096x16, .f32⟩
  | 58 => ⟨S1x8x4096x16, .f32⟩
  | 59 => ⟨S3x8x4096x16, .f32⟩
  | 60 => ⟨S3x8x4096x16, .f32⟩
  | 61 => ⟨S8x4096x16x64, .f32⟩
  | 62 => ⟨S8x4096x1024, .f32⟩
  | 63 => ⟨S8x4096x1024, .bf16⟩
  | _ => ⟨S8x4096x9216, .f32⟩

abbrev hbmTy (i : Nat) : BufTy := match i / 128 with
  | 0 => hbmTy0_0 i
  | 1 => hbmTy0_1 i
  | 2 => hbmTy0_2 i
  | _ => ⟨S8x4096x9216, .f32⟩

abbrev bufTy : (tb : Table) → Fin (tcTables nBuf tb) → BufTy
  | .hbm, ⟨i, _⟩ => hbmTy i
  | _, _ => ⟨S8x4096x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_cst : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_cst_0 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_c : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_c_1 : Ref sig .tc := ⟨.hbm, 48, rfl⟩
abbrev main_v44 : Ref sig .tc := ⟨.hbm, 49, rfl⟩
abbrev main_v45 : Ref sig .tc := ⟨.hbm, 50, rfl⟩
abbrev main_c_2 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_c_3 : Ref sig .tc := ⟨.hbm, 58, rfl⟩
abbrev main_v52 : Ref sig .tc := ⟨.hbm, 59, rfl⟩
abbrev main_v53 : Ref sig .tc := ⟨.hbm, 60, rfl⟩
abbrev main_c_4 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_c_5 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_cst_6 : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_v65 : Ref sig .tc := ⟨.hbm, 78, rfl⟩
abbrev main_cst_7 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_cst_8 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_cst_9 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_cst_10 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_c_11 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_c_12 : Ref sig .tc := ⟨.hbm, 143, rfl⟩
abbrev main_v125 : Ref sig .tc := ⟨.hbm, 144, rfl⟩
abbrev main_v126 : Ref sig .tc := ⟨.hbm, 145, rfl⟩
abbrev main_c_13 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_c_14 : Ref sig .tc := ⟨.hbm, 153, rfl⟩
abbrev main_v133 : Ref sig .tc := ⟨.hbm, 154, rfl⟩
abbrev main_v134 : Ref sig .tc := ⟨.hbm, 155, rfl⟩
abbrev main_c_15 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_c_16 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_cst_17 : Ref sig .tc := ⟨.hbm, 169, rfl⟩
abbrev main_call1_v0 : Ref sig .tc := ⟨.hbm, 170, rfl⟩
abbrev main_call1_v1 : Ref sig .tc := ⟨.hbm, 171, rfl⟩
abbrev main_call1_v2 : Ref sig .tc := ⟨.hbm, 172, rfl⟩
abbrev main_v146 : Ref sig .tc := ⟨.hbm, 173, rfl⟩
abbrev main_cst_18 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_cst_19 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_cst_20 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_cst_21 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_c_22 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_c_23 : Ref sig .tc := ⟨.hbm, 238, rfl⟩
abbrev main_v206 : Ref sig .tc := ⟨.hbm, 239, rfl⟩
abbrev main_v207 : Ref sig .tc := ⟨.hbm, 240, rfl⟩
abbrev main_c_24 : Ref sig .tc := ⟨.hbm, 241, rfl⟩
abbrev main_v208 : Ref sig .tc := ⟨.hbm, 242, rfl⟩
abbrev main_v209 : Ref sig .tc := ⟨.hbm, 243, rfl⟩
abbrev main_v210 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_c_25 : Ref sig .tc := ⟨.hbm, 248, rfl⟩
abbrev main_v214 : Ref sig .tc := ⟨.hbm, 249, rfl⟩
abbrev main_v215 : Ref sig .tc := ⟨.hbm, 250, rfl⟩
abbrev main_c_26 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_c_27 : Ref sig .tc := ⟨.hbm, 256, rfl⟩
abbrev main_v220 : Ref sig .tc := ⟨.hbm, 257, rfl⟩
abbrev main_v221 : Ref sig .tc := ⟨.hbm, 258, rfl⟩
abbrev main_v222 : Ref sig .tc := ⟨.hbm, 259, rfl⟩
abbrev main_v223 : Ref sig .tc := ⟨.hbm, 260, rfl⟩
abbrev main_v224 : Ref sig .tc := ⟨.hbm, 261, rfl⟩
abbrev main_v225 : Ref sig .tc := ⟨.hbm, 262, rfl⟩
abbrev main_v226 : Ref sig .tc := ⟨.hbm, 263, rfl⟩
abbrev main_cst_28 : Ref sig .tc := ⟨.hbm, 264, rfl⟩
abbrev main_call2_v0 : Ref sig .tc := ⟨.hbm, 265, rfl⟩
abbrev main_call2_v1 : Ref sig .tc := ⟨.hbm, 266, rfl⟩
abbrev main_call2_v2 : Ref sig .tc := ⟨.hbm, 267, rfl⟩
abbrev main_v227 : Ref sig .tc := ⟨.hbm, 268, rfl⟩
abbrev main_cst_29 : Ref sig .tc := ⟨.hbm, 269, rfl⟩
abbrev main_v228 : Ref sig .tc := ⟨.hbm, 270, rfl⟩
abbrev main_v229 : Ref sig .tc := ⟨.hbm, 271, rfl⟩
abbrev main_v230 : Ref sig .tc := ⟨.hbm, 272, rfl⟩
abbrev main_v231 : Ref sig .tc := ⟨.hbm, 273, rfl⟩
abbrev main_v232 : Ref sig .tc := ⟨.hbm, 274, rfl⟩
abbrev main_cst_30 : Ref sig .tc := ⟨.hbm, 275, rfl⟩
abbrev main_v233 : Ref sig .tc := ⟨.hbm, 276, rfl⟩
abbrev main_v234 : Ref sig .tc := ⟨.hbm, 277, rfl⟩
abbrev main_v235 : Ref sig .tc := ⟨.hbm, 278, rfl⟩
abbrev main_v236 : Ref sig .tc := ⟨.hbm, 279, rfl⟩
abbrev main_v237 : Ref sig .tc := ⟨.hbm, 280, rfl⟩
abbrev main_v238 : Ref sig .tc := ⟨.hbm, 281, rfl⟩
abbrev main_v239 : Ref sig .tc := ⟨.hbm, 282, rfl⟩
abbrev main_v240 : Ref sig .tc := ⟨.hbm, 283, rfl⟩
abbrev main_v241 : Ref sig .tc := ⟨.hbm, 284, rfl⟩
abbrev main_v242 : Ref sig .tc := ⟨.hbm, 285, rfl⟩
abbrev main_v243 : Ref sig .tc := ⟨.hbm, 286, rfl⟩
abbrev main_v244 : Ref sig .tc := ⟨.hbm, 287, rfl⟩
abbrev main_v245 : Ref sig .tc := ⟨.hbm, 288, rfl⟩
abbrev main_v246 : Ref sig .tc := ⟨.hbm, 289, rfl⟩
abbrev main_v247 : Ref sig .tc := ⟨.hbm, 290, rfl⟩
abbrev main_v248 : Ref sig .tc := ⟨.hbm, 291, rfl⟩
abbrev main_v249 : Ref sig .tc := ⟨.hbm, 292, rfl⟩
abbrev main_v250 : Ref sig .tc := ⟨.hbm, 293, rfl⟩
abbrev main_v251 : Ref sig .tc := ⟨.hbm, 294, rfl⟩
abbrev main_v252 : Ref sig .tc := ⟨.hbm, 295, rfl⟩
abbrev main_v253 : Ref sig .tc := ⟨.hbm, 296, rfl⟩
abbrev main_v254 : Ref sig .tc := ⟨.hbm, 297, rfl⟩
abbrev main_v255 : Ref sig .tc := ⟨.hbm, 298, rfl⟩
abbrev main_v256 : Ref sig .tc := ⟨.hbm, 299, rfl⟩
abbrev main_v257 : Ref sig .tc := ⟨.hbm, 300, rfl⟩
abbrev main_v258 : Ref sig .tc := ⟨.hbm, 301, rfl⟩
abbrev main_v259 : Ref sig .tc := ⟨.hbm, 302, rfl⟩
abbrev main_v260 : Ref sig .tc := ⟨.hbm, 303, rfl⟩
abbrev main_v261 : Ref sig .tc := ⟨.hbm, 304, rfl⟩
abbrev main_cst_31 : Ref sig .tc := ⟨.hbm, 305, rfl⟩
abbrev main_v262 : Ref sig .tc := ⟨.hbm, 306, rfl⟩
abbrev main_v263 : Ref sig .tc := ⟨.hbm, 307, rfl⟩
abbrev main_v264 : Ref sig .tc := ⟨.hbm, 308, rfl⟩
abbrev main_v265 : Ref sig .tc := ⟨.hbm, 309, rfl⟩
abbrev main_v266 : Ref sig .tc := ⟨.hbm, 310, rfl⟩
abbrev main_v267 : Ref sig .tc := ⟨.hbm, 311, rfl⟩
abbrev main_cst_32 : Ref sig .tc := ⟨.hbm, 312, rfl⟩
abbrev main_v268 : Ref sig .tc := ⟨.hbm, 313, rfl⟩
abbrev main_v269 : Ref sig .tc := ⟨.hbm, 314, rfl⟩
abbrev main_v270 : Ref sig .tc := ⟨.hbm, 315, rfl⟩
abbrev main_v271 : Ref sig .tc := ⟨.hbm, 316, rfl⟩
abbrev main_v272 : Ref sig .tc := ⟨.hbm, 317, rfl⟩
abbrev main_v273 : Ref sig .tc := ⟨.hbm, 318, rfl⟩
abbrev main_v274 : Ref sig .tc := ⟨.hbm, 319, rfl⟩

abbrev nD : Nat := 1
abbrev τ : Topo := Topo.v7x

variable {F : FTy → Type} [FloatOps F]
-- ==== Kernel2.lean ====
abbrev S32768x1024 : Shape := ⟨2, ![32768, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S512x1024 : Shape := ⟨2, ![512, 1024]⟩
abbrev S8x1024 : Shape := ⟨2, ![8, 1024]⟩
abbrev S1024x256 : Shape := ⟨2, ![1024, 256]⟩
abbrev S3x256 : Shape := ⟨2, ![3, 256]⟩
abbrev S1x256 : Shape := ⟨2, ![1, 256]⟩
abbrev S256x1024 : Shape := ⟨2, ![256, 1024]⟩
abbrev S520x1024 : Shape := ⟨2, ![520, 1024]⟩
abbrev S8 : Shape := ⟨1, ![8]⟩
abbrev S8x1 : Shape := ⟨2, ![8, 1]⟩
abbrev S512 : Shape := ⟨1, ![512]⟩
abbrev S512x1 : Shape := ⟨2, ![512, 1]⟩
abbrev S520x256 : Shape := ⟨2, ![520, 256]⟩
abbrev S512x256 : Shape := ⟨2, ![512, 256]⟩

abbrev nBuf : Space → Nat
  | .hbm => 7
  | .vmem => 23
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x5632, .bf16⟩
  | .hbm, ⟨3, _⟩ => ⟨S3x5632, .f32⟩
  | .hbm, ⟨4, _⟩ => ⟨S1x5632, .f32⟩
  | .hbm, ⟨5, _⟩ => ⟨S2816x1024, .bf16⟩
  | .hbm, ⟨6, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S1x1024, .f32⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S3x256, .f32⟩
  | .local _ .vmem, ⟨10, _⟩ => ⟨S3x256, .f32⟩
  | .local _ .vmem, ⟨11, _⟩ => ⟨S3x256, .f32⟩
  | .local _ .vmem, ⟨12, _⟩ => ⟨S3x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S256x1024, .bf16⟩
  | .local _ .vmem, ⟨18, _⟩ => ⟨S256x1024, .bf16⟩
  | .local _ .vmem, ⟨19, _⟩ => ⟨S512x1024, .f32⟩
  | .local _ .vmem, ⟨20, _⟩ => ⟨S512x1024, .f32⟩
  | .local _ .vmem, ⟨21, _⟩ => ⟨S520x1024, .bf16⟩
  | .local _ .vmem, ⟨22, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c10_i32 : BitVec 32 := 10#32
  let v59 : BitVec 1 := Scalar.cmpi .eq arg1 c10_i32
  let v60 : BitVec 32 := Scalar.extui v59
  let c0_i32_24 : BitVec 32 := 0#32
  let v61 : BitVec 1 := Scalar.cmpi .ne v60 c0_i32_24
  v61

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference2Ideal.lean ====
abbrev S32768x1024 : Shape := ⟨2, ![32768, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S8x4096x1024 : Shape := ⟨3, ![8, 4096, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4098x5632 : Shape := ⟨3, ![8, 4098, 5632]⟩
abbrev S5632 : Shape := ⟨1, ![5632]⟩
abbrev S1x1x5632 : Shape := ⟨3, ![1, 1, 5632]⟩
abbrev S8x4096x2816 : Shape := ⟨3, ![8, 4096, 2816]⟩

abbrev nBuf : Space → Nat
  | .hbm => 72
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x5632, .bf16⟩
  | .hbm, ⟨3, _⟩ => ⟨S3x5632, .f32⟩
  | .hbm, ⟨4, _⟩ => ⟨S1x5632, .f32⟩
  | .hbm, ⟨5, _⟩ => ⟨S2816x1024, .bf16⟩
  | .hbm, ⟨6, _⟩ => ⟨S8x4096x1024, .f32⟩
  | .hbm, ⟨7, _⟩ => ⟨S1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S1024x5632, .f32⟩
  | .hbm, ⟨25, _⟩ => ⟨S8x4096x5632, .f32⟩
  | .hbm, ⟨26, _⟩ => ⟨S_, .i32⟩
  | .hbm, ⟨27, _⟩ => ⟨S_, .f32⟩
  | .hbm, ⟨28, _⟩ => ⟨S8x4098x5632, .f32⟩
  | .hbm, ⟨29, _⟩ => ⟨S5632, .f32⟩
  | .hbm, ⟨30, _⟩ => ⟨S1x5632, .f32⟩
  | .hbm, ⟨31, _⟩ => ⟨S5632, .f32⟩
  | .hbm, ⟨32, _⟩ => ⟨S8x4096x5632, .f32⟩
  | .hbm, ⟨33, _⟩ => ⟨S1x1x5632, .f32⟩
  | .hbm, ⟨34, _⟩ => ⟨S8x4096x5632, .f32⟩
  | .hbm, ⟨35, _⟩ => ⟨S8x4096x5632, .f32⟩
  | .hbm, ⟨36, _⟩ => ⟨S_, .f32⟩
  | .hbm, ⟨37, _⟩ => ⟨S8x4096x5632, .f32⟩
  | .hbm, ⟨38, _⟩ => ⟨S8x4096x5632, .f32⟩
  | .hbm, ⟨39, _⟩ => ⟨S1x5632, .f32⟩
  | .hbm, ⟨40, _⟩ => ⟨S5632, .f32⟩
  | .hbm, ⟨41, _⟩ => ⟨S8x4096x5632, .f32⟩
  | .hbm, ⟨42, _⟩ => ⟨S1x1x5632, .f32⟩
  | .hbm, ⟨43, _⟩ => ⟨S8x4096x5632, .f32⟩
  | .hbm, ⟨44, _⟩ => ⟨S8x4096x5632, .f32⟩
  | .hbm, ⟨45, _⟩ => ⟨S8x4096x5632, .f32⟩
  | .hbm, ⟨46, _⟩ => ⟨S1x5632, .f32⟩
  | .hbm, ⟨47, _⟩ => ⟨S5632, .f32⟩
  | .hbm, ⟨48, _⟩ => ⟨S8x4096x5632, .f32⟩
  | .hbm, ⟨49, _⟩ => ⟨S1x1x5632, .f32⟩
  | .hbm, ⟨50, _⟩ => ⟨S8x4096x5632, .f32⟩
  | .hbm, ⟨51, _⟩ => ⟨S8x4096x5632, .f32⟩
  | .hbm, ⟨52, _⟩ => ⟨S8x4096x5632, .f32⟩
  | .hbm, ⟨53, _⟩ => ⟨S1x1x5632, .f32⟩
  | .hbm, ⟨54, _⟩ => ⟨S8x4096x5632, .f32⟩
  | .hbm, ⟨55, _⟩ => ⟨S8x4096x5632, .f32⟩
  | .hbm, ⟨56, _⟩ => ⟨S8x4096x2816, .f32⟩
  | .hbm, ⟨57, _⟩ => ⟨S8x4096x2816, .f32⟩
  | .hbm, ⟨58, _⟩ => ⟨S8x4096x2816, .f32⟩
  | .hbm, ⟨59, _⟩ => ⟨S8x4096x2816, .f32⟩
  | .hbm, ⟨60, _⟩ => ⟨S_, .f32⟩
  | .hbm, ⟨61, _⟩ => ⟨S8x4096x2816, .f32⟩
  | .hbm, ⟨62, _⟩ => ⟨S8x4096x2816, .f32⟩
  | .hbm, ⟨63, _⟩ => ⟨S_, .f32⟩
  | .hbm, ⟨64, _⟩ => ⟨S8x4096x2816, .f32⟩
  | .hbm, ⟨65, _⟩ => ⟨S8x4096x2816, .f32⟩
  | .hbm, ⟨66, _⟩ => ⟨S8x4096x2816, .f32⟩
  | .hbm, ⟨67, _⟩ => ⟨S8x4096x2816, .f32⟩
  | .hbm, ⟨68, _⟩ => ⟨S2816x1024, .f32⟩
  | .hbm, ⟨69, _⟩ => ⟨S8x4096x1024, .f32⟩
  | .hbm, ⟨70, _⟩ => ⟨S8x4096x1024, .f32⟩
  | .hbm, ⟨71, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Kernel3.lean ====
abbrev S32768x1024 : Shape := ⟨2, ![32768, 1024]⟩
abbrev S1x1024 : Shape := ⟨2, ![1, 1024]⟩
abbrev S1024x9216 : Shape := ⟨2, ![1024, 9216]⟩
abbrev S3x64 : Shape := ⟨2, ![3, 64]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S3x1x64 : Shape := ⟨3, ![3, 1, 64]⟩
abbrev S1x3x1x1x1x64 : Shape := ⟨6, ![1, 3, 1, 1, 1, 64]⟩
abbrev S1x3x16x1x1x64 : Shape := ⟨6, ![1, 3, 16, 1, 1, 64]⟩
abbrev S3x16x64 : Shape := ⟨3, ![3, 16, 64]⟩
abbrev S3072 : Shape := ⟨1, ![3072]⟩
abbrev S9216 : Shape := ⟨1, ![9216]⟩
abbrev S1x9216 : Shape := ⟨2, ![1, 9216]⟩
abbrev S32768x9216 : Shape := ⟨2, ![32768, 9216]⟩
abbrev S512x1024 : Shape := ⟨2, ![512, 1024]⟩
abbrev S1024x512 : Shape := ⟨2, ![1024, 512]⟩
abbrev S1x512 : Shape := ⟨2, ![1, 512]⟩
abbrev S512x128 : Shape := ⟨2, ![512, 128]⟩
abbrev S512x512 : Shape := ⟨2, ![512, 512]⟩
abbrev S512 : Shape := ⟨1, ![512]⟩
abbrev S512x1 : Shape := ⟨2, ![512, 1]⟩

abbrev nBuf : Space → Nat
  | .hbm => 91
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x9216, .f32⟩
  | .hbm, ⟨3, _⟩ => ⟨S3x64, .f32⟩
  | .hbm, ⟨4, _⟩ => ⟨S3x64, .f32⟩
  | .hbm, ⟨5, _⟩ => ⟨S4096, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S4096x1, .f32⟩
  | .hbm, ⟨21, _⟩ => ⟨S1x8, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S4096x8, .f32⟩
  | .hbm, ⟨26, _⟩ => ⟨S4096x8, .f32⟩
  | .hbm, ⟨27, _⟩ => ⟨S_, .f32⟩
  | .hbm, ⟨28, _⟩ => ⟨S4096x48, .f32⟩
  | .hbm, ⟨29, _⟩ => ⟨S_, .f32⟩
  | .hbm, ⟨30, _⟩ => ⟨S4096x8, .f32⟩
  | .hbm, ⟨31, _⟩ => ⟨S_, .f32⟩
  | .hbm, ⟨32, _⟩ => ⟨S4096x48, .f32⟩
  | .hbm, ⟨33, _⟩ => ⟨S4096x48, .f32⟩
  | .hbm, ⟨34, _⟩ => ⟨S4096x64, .f32⟩
  | .hbm, ⟨35, _⟩ => ⟨S4096x64, .f32⟩
  | .hbm, ⟨36, _⟩ => ⟨S4096x8, .f32⟩
  | .hbm, ⟨37, _⟩ => ⟨S4096x64, .f32⟩
  | .hbm, ⟨38, _⟩ => ⟨S1x4096x1x64, .f32⟩
  | .hbm, ⟨39, _⟩ => ⟨S1x4096x2x64, .f32⟩
  | .hbm, ⟨40, _⟩ => ⟨S4096x128, .f32⟩
  | .hbm, ⟨41, _⟩ => ⟨S1x4096x1x64, .f32⟩
  | .hbm, ⟨42, _⟩ => ⟨S1x4096x2x64, .f32⟩
  | .hbm, ⟨43, _⟩ => ⟨S4096x128, .f32⟩
  | .hbm, ⟨44, _⟩ => ⟨S1x4096x1x64, .f32⟩
  | .hbm, ⟨45, _⟩ => ⟨S1x4096x2x64, .f32⟩
  | .hbm, ⟨46, _⟩ => ⟨S4096x128, .f32⟩
  | .hbm, ⟨47, _⟩ => ⟨S128, .i32⟩
  | .hbm, ⟨48, _⟩ => ⟨S_, .i32⟩
  | .hbm, ⟨49, _⟩ => ⟨S_, .i32⟩
  | .hbm, ⟨50, _⟩ => ⟨S128, .i32⟩
  | .hbm, ⟨51, _⟩ => ⟨S128, .i32⟩
  | .hbm, ⟨52, _⟩ => ⟨S128, .i32⟩
  | .hbm, ⟨53, _⟩ => ⟨S_, .i32⟩
  | .hbm, ⟨54, _⟩ => ⟨S128, .i32⟩
  | .hbm, ⟨55, _⟩ => ⟨S128, .i1⟩
  | .hbm, ⟨56, _⟩ => ⟨S128, .i32⟩
  | .hbm, ⟨57, _⟩ => ⟨S128, .i32⟩
  | .hbm, ⟨58, _⟩ => ⟨S_, .i32⟩
  | .hbm, ⟨59, _⟩ => ⟨S128, .i32⟩
  | .hbm, ⟨60, _⟩ => ⟨S128, .i1⟩
  | .hbm, ⟨61, _⟩ => ⟨S128, .i1⟩
  | .hbm, ⟨62, _⟩ => ⟨S_, .i32⟩
  | .hbm, ⟨63, _⟩ => ⟨S128, .i32⟩
  | .hbm, ⟨64, _⟩ => ⟨S128, .i32⟩
  | .hbm, ⟨65, _⟩ => ⟨S128, .i32⟩
  | .hbm, ⟨66, _⟩ => ⟨S128x1, .i32⟩
  | .hbm, ⟨67, _⟩ => ⟨S1x128, .i32⟩
  | .hbm, ⟨68, _⟩ => ⟨S128x128, .i32⟩
  | .hbm, ⟨69, _⟩ => ⟨S128x128, .i32⟩
  | .hbm, ⟨70, _⟩ => ⟨S128x128, .i1⟩
  | .hbm, ⟨71, _⟩ => ⟨S128x128, .bf16⟩
  | .hbm, ⟨72, _⟩ => ⟨S3x1x64, .f32⟩
  | .hbm, ⟨73, _⟩ => ⟨S1x3x1x1x1x64, .f32⟩
  | .hbm, ⟨74, _⟩ => ⟨S1x3x16x1x1x64, .f32⟩
  | .hbm, ⟨75, _⟩ => ⟨S3x16x64, .f32⟩
  | .hbm, ⟨76, _⟩ => ⟨S3072, .f32⟩
  | .hbm, ⟨77, _⟩ => ⟨S_, .f32⟩
  | .hbm, ⟨78, _⟩ => ⟨S3072, .f32⟩
  | .hbm, ⟨79, _⟩ => ⟨S3072, .f32⟩
  | .hbm, ⟨80, _⟩ => ⟨S3x1x64, .f32⟩
  | .hbm, ⟨81, _⟩ => ⟨S1x3x1x1x1x64, .f32⟩
  | .hbm, ⟨82, _⟩ => ⟨S1x3x16x1x1x64, .f32⟩
  | .hbm, ⟨83, _⟩ => ⟨S3x16x64, .f32⟩
  | .hbm, ⟨84, _⟩ => ⟨S3072, .f32⟩
  | .hbm, ⟨85, _⟩ => ⟨S_, .f32⟩
  | .hbm, ⟨86, _⟩ => ⟨S3072, .f32⟩
  | .hbm, ⟨87, _⟩ => ⟨S9216, .f32⟩
  | .hbm, ⟨88, _⟩ => ⟨S1x9216, .f32⟩
  | .hbm, ⟨89, _⟩ => ⟨S1024x9216, .bf16⟩
  | .hbm, ⟨90, _⟩ => ⟨S32768x9216, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1x512, .f32⟩
  | .local _ .vmem, ⟨6, _⟩ => ⟨S1x512, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S128x128, .bf16⟩
  | .local _ .vmem, ⟨14, _⟩ => ⟨S512x512, .f32⟩
  | .local _ .vmem, ⟨15, _⟩ => ⟨S512x512, .f32⟩
  | .local _ .vmem, ⟨16, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_c : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_c_0 : Ref sig .tc := ⟨.hbm, 62, rfl⟩
abbrev main_call0_v12 : Ref sig .tc := ⟨.hbm, 63, rfl⟩
abbrev main_call0_v13 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_6 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_7 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![64, 18], ![false, false]⟩

def k0_cond2 (i : grid0.Coords) : BitVec 1 :=
  let arg1 : BitVec 32 := BitVec.ofNat 32 (i 1).val
  let c12_i32 : BitVec 32 := 12#32
  let v7 : BitVec 1 := Scalar.cmpi .slt arg1 c12_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c12_i32_5 : BitVec 32 := 12#32
  let v10 : BitVec 1 := Scalar.cmpi .sge arg1 c12_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S32768x1024 : Shape := ⟨2, ![32768, 1024]⟩
abbrev S1x1024 : Shape := ⟨2, ![1, 1024]⟩
abbrev S1024x9216 : Shape := ⟨2, ![1024, 9216]⟩
abbrev S3x64 : Shape := ⟨2, ![3, 64]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S8x4096x1024 : Shape := ⟨3, ![8, 4096, 1024]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩
abbrev S8x4096x9216 : Shape := ⟨3, ![8, 4096, 9216]⟩
abbrev S8x4096x3x3x16x64 : Shape := ⟨6, ![8, 4096, 3, 3, 16, 64]⟩
abbrev S8x4096x1x3x16x64 : Shape := ⟨6, ![8, 4096, 1, 3, 16, 64]⟩
abbrev S8x4096x3x16x64 : Shape := ⟨5, ![8, 4096, 3, 16, 64]⟩
abbrev S3x1x64 : Shape := ⟨3, ![3, 1, 64]⟩
abbrev S8x4096x3x16 : Shape := ⟨4, ![8, 4096, 3, 16]⟩
abbrev S8x4096x3x16x1 : Shape := ⟨5, ![8, 4096, 3, 16, 1]⟩
abbrev S1x1x3x1x64 : Shape := ⟨5, ![1, 1, 3, 1, 64]⟩
abbrev S4096x1x1x8 : Shape := ⟨4, ![4096, 1, 1, 8]⟩
abbrev S8x4096x3x16x8 : Shape := ⟨5, ![8, 4096, 3, 16, 8]⟩
abbrev S8x4096x3x16x48 : Shape := ⟨5, ![8, 4096, 3, 16, 48]⟩
abbrev S1x4096x1x1x8 : Shape := ⟨5, ![1, 4096, 1, 1, 8]⟩
abbrev S32768x9216 : Shape := ⟨2, ![32768, 9216]⟩

abbrev nBuf : Space → Nat
  | .hbm => 135
  | .vmem => 0
  | .smem => 0
  | _ => 0

abbrev hbmTy0_0 (i : Nat) : BufTy := match i % 128 with
  | 0 => ⟨S32768x1024, .f32⟩
  | 1 => ⟨S1x1024, .f32⟩
  | 2 => ⟨S1024x9216, .f32⟩
  | 3 => ⟨S3x64, .f32⟩
  | 4 => ⟨S3x64, .f32⟩
  | 5 => ⟨S4096, .f32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S4096x1, .f32⟩
  | 21 => ⟨S1x8, .f32⟩
  | 22 => ⟨S4096x8, .f32⟩
  | 23 => ⟨S4096x8, .f32⟩
  | 24 => ⟨S4096x8, .f32⟩
  | 25 => ⟨S4096x8, .f32⟩
  | 26 => ⟨S4096x8, .f32⟩
  | 27 => ⟨S8x4096x1024, .f32⟩
  | 28 => ⟨S1024, .f32⟩
  | 29 => ⟨S8x4096x1024, .f32⟩
  | 30 => ⟨S_, .f32⟩
  | 31 => ⟨S8x4096, .f32⟩
  | 32 => ⟨S8x4096x1, .f32⟩
  | 33 => ⟨S_, .f32⟩
  | 34 => ⟨S8x4096x1, .f32⟩
  | 35 => ⟨S8x4096x1, .f32⟩
  | 36 => ⟨S_, .f32⟩
  | 37 => ⟨S8x4096x1, .f32⟩
  | 38 => ⟨S8x4096x1, .f32⟩
  | 39 => ⟨S8x4096x1, .f32⟩
  | 40 => ⟨S8x4096x1024, .f32⟩
  | 41 => ⟨S8x4096x1024, .f32⟩
  | 42 => ⟨S1x1x1024, .f32⟩
  | 43 => ⟨S8x4096x1024, .f32⟩
  | 44 => ⟨S8x4096x1024, .f32⟩
  | 45 => ⟨S8x4096x9216, .f32⟩
  | 46 => ⟨S8x4096x3x3x16x64, .f32⟩
  | 47 => ⟨S8x4096x1x3x16x64, .f32⟩
  | 48 => ⟨S8x4096x3x16x64, .f32⟩
  | 49 => ⟨S3x1x64, .f32⟩
  | 50 => ⟨S8x4096x3x16x64, .f32⟩
  | 51 => ⟨S_, .f32⟩
  | 52 => ⟨S8x4096x3x16, .f32⟩
  | 53 => ⟨S8x4096x3x16x1, .f32⟩
  | 54 => ⟨S_, .f32⟩
  | 55 => ⟨S8x4096x3x16x1, .f32⟩
  | 56 => ⟨S8x4096x3x16x1, .f32⟩
  | 57 => ⟨S_, .f32⟩
  | 58 => ⟨S8x4096x3x16x1, .f32⟩
  | 59 => ⟨S8x4096x3x16x1, .f32⟩
  | 60 => ⟨S8x4096x3x16x1, .f32⟩
  | 61 => ⟨S8x4096x3x16x64, .f32⟩
  | 62 => ⟨S8x4096x3x16x64, .f32⟩
  | 63 => ⟨S1x1x3x1x64, .f32⟩
  | 64 => ⟨S8x4096x3x16x64, .f32⟩
  | 65 => ⟨S8x4096x3x16x64, .f32⟩
  | 66 => ⟨S4096x1x1x8, .f32⟩
  | 67 => ⟨S4096x1x1x8, .f32⟩
  | 68 => ⟨S8x4096x3x16x8, .f32⟩
  | 69 => ⟨S8x4096x3x16x8, .f32⟩
  | 70 => ⟨S8x4096x3x16x48, .f32⟩
  | 71 => ⟨S1x4096x1x1x8, .f32⟩
  | 72 => ⟨S8x4096x3x16x8, .f32⟩
  | 73 => ⟨S8x4096x3x16x8, .f32⟩
  | 74 => ⟨S1x4096x1x1x8, .f32⟩
  | 75 => ⟨S8x4096x3x16x8, .f32⟩
  | 76 => ⟨S8x4096x3x16x8, .f32⟩
  | 77 => ⟨S8x4096x3x16x8, .f32⟩
  | 78 => ⟨S1x4096x1x1x8, .f32⟩
  | 79 => ⟨S8x4096x3x16x8, .f32⟩
  | 80 => ⟨S8x4096x3x16x8, .f32⟩
  | 81 => ⟨S1x4096x1x1x8, .f32⟩
  | 82 => ⟨S8x4096x3x16x8, .f32⟩
  | 83 => ⟨S8x4096x3x16x8, .f32⟩
  | 84 => ⟨S8x4096x3x16x8, .f32⟩
  | 85 => ⟨S8x4096x3x16x64, .f32⟩
  | 86 => ⟨S_, .f32⟩
  | 87 => ⟨S8x4096x3x16x64, .f32⟩
  | 88 => ⟨S8x4096x3x16x64, .f32⟩
  | 89 => ⟨S8x4096x1x3x16x64, .f32⟩
  | 90 => ⟨S8x4096x3x16x64, .f32⟩
  | 91 => ⟨S3x1x64, .f32⟩
  | 92 => ⟨S8x4096x3x16x64, .f32⟩
  | 93 => ⟨S_, .f32⟩
  | 94 => ⟨S8x4096x3x16, .f32⟩
  | 95 => ⟨S8x4096x3x16x1, .f32⟩
  | 96 => ⟨S_, .f32⟩
  | 97 => ⟨S8x4096x3x16x1, .f32⟩
  | 98 => ⟨S8x4096x3x16x1, .f32⟩
  | 99 => ⟨S_, .f32⟩
  | 100 => ⟨S8x4096x3x16x1, .f32⟩
  | 101 => ⟨S8x4096x3x16x1, .f32⟩
  | 102 => ⟨S8x4096x3x16x1, .f32⟩
  | 103 => ⟨S8x4096x3x16x64, .f32⟩
  | 104 => ⟨S8x4096x3x16x64, .f32⟩
  | 105 => ⟨S1x1x3x1x64, .f32⟩
  | 106 => ⟨S8x4096x3x16x64, .f32⟩
  | 107 => ⟨S8x4096x3x16x64, .f32⟩
  | 108 => ⟨S4096x1x1x8, .f32⟩
  | 109 => ⟨S4096x1x1x8, .f32⟩
  | 110 => ⟨S8x4096x3x16x8, .f32⟩
  | 111 => ⟨S8x4096x3x16x8, .f32⟩
  | 112 => ⟨S8x4096x3x16x48, .f32⟩
  | 113 => ⟨S1x4096x1x1x8, .f32⟩
  | 114 => ⟨S8x4096x3x16x8, .f32⟩
  | 115 => ⟨S8x4096x3x16x8, .f32⟩
  | 116 => ⟨S1x4096x1x1x8, .f32⟩
  | 117 => ⟨S8x4096x3x16x8, .f32⟩
  | 118 => ⟨S8x4096x3x16x8, .f32⟩
  | 119 => ⟨S8x4096x3x16x8, .f32⟩
  | 120 => ⟨S1x4096x1x1x8, .f32⟩
  | 121 => ⟨S8x4096x3x16x8, .f32⟩
  | 122 => ⟨S8x4096x3x16x8, .f32⟩
  | 123 => ⟨S1x4096x1x1x8, .f32⟩
  | 124 => ⟨S8x4096x3x16x8, .f32⟩
  | 125 => ⟨S8x4096x3x16x8, .f32⟩
  | 126 => ⟨S8x4096x3x16x8, .f32⟩
  | 127 => ⟨S8x4096x3x16x64, .f32⟩
  | _ => ⟨S32768x1024, .f32⟩

abbrev hbmTy0_1 (i : Nat) : BufTy := match i % 128 with
  | 0 => ⟨S8x4096x1x3x16x64, .f32⟩
  | 1 => ⟨S8x4096x3x16x64, .f32⟩
  | 2 => ⟨S8x4096x1x3x16x64, .f32⟩
  | 3 => ⟨S8x4096x1x3x16x64, .f32⟩
  | 4 => ⟨S8x4096x1x3x16x64, .f32⟩
  | 5 => ⟨S8x4096x3x3x16x64, .f32⟩
  | 6 => ⟨S32768x9216, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_9 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_10 : Ref sig .tc := ⟨.hbm, 93, rfl⟩
abbrev main_v77 : Ref sig .tc := ⟨.hbm, 94, rfl⟩
abbrev main_v78 : Ref sig .tc := ⟨.hbm, 95, rfl⟩
abbrev main_cst_11 : Ref sig .tc := ⟨.hbm, 96, rfl⟩
abbrev main_v79 : Ref sig .tc := ⟨.hbm, 97, rfl⟩
abbrev main_v80 : Ref sig .tc := ⟨.hbm, 98, rfl⟩
abbrev main_cst_12 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩

abbrev nD : Nat := 1
abbrev τ : Topo := Topo.v7x

variable {F : FTy → Type} [FloatOps F]
-- ==== Kernel4.lean ====
abbrev S32768x1024 : Shape := ⟨2, ![32768, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x1024, .f32⟩
  | .hbm, ⟨3, _⟩ => ⟨S1024x1024, .bf16⟩
  | .hbm, ⟨4, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S32768x1024 : Shape := ⟨2, ![32768, 1024]⟩
abbrev S1024x1024 : Shape := ⟨2, ![1024, 1024]⟩
abbrev S8x4096x1024 : Shape := ⟨3, ![8, 4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x1024, .f32⟩
  | .hbm, ⟨3, _⟩ => ⟨S8x4096x1024, .f32⟩
  | .hbm, ⟨4, _⟩ => ⟨S8x4096x1024, .bf16⟩
  | .hbm, ⟨5, _⟩ => ⟨S8x4096x1024, .f32⟩
  | .hbm, ⟨6, _⟩ => ⟨S8x4096x1024, .f32⟩
  | .hbm, ⟨7, _⟩ => ⟨S8x4096x1024, .f32⟩
  | .hbm, ⟨8, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Attn.Loops.lean ====
module

public import proofs.«01_k».proof.Proof.Gen.KernelIdeal.Loops
public import proofs.«01_k».proof.Proof.Gen.KernelIdeal.Frame

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The pieces of the trips before the `k`-th, the latest first. -/
def upto {n : ℕ} {α : Type} (f : Fin n → α) : ℕ → List α
  | 0 => []
  | k + 1 => if h : k < n then f ⟨k, h⟩ :: upto f k else upto f k

/-- One more trip puts its piece in front. -/
theorem upto_succ {n : ℕ} {α : Type} (f : Fin n → α) (k : Fin n) : upto f (k.val + 1) = f k :: upto f k.val := by
  rw [upto.eq_2, dif_pos k.isLt]

/-- A piece among the first `k` trips' is some trip's. -/
theorem mem_upto {n : ℕ} {α : Type} (f : Fin n → α) (p : α) : ∀ k : ℕ, p ∈ upto f k → ∃ j : Fin n, j.val < k ∧ p = f j
  | 0, h => absurd h List.not_mem_nil
  | k + 1, h => by
    rw [upto.eq_2] at h
    split at h
    · rename_i hk
      rcases List.mem_cons.mp h with h | h
      · exact ⟨⟨k, hk⟩, Nat.lt_succ_self k, h⟩
      · obtain ⟨j, hj, e⟩ := mem_upto f p k h
        exact ⟨j, by omega, e⟩
    · obtain ⟨j, hj, e⟩ := mem_upto f p k h
      exact ⟨j, by omega, e⟩

/-- What trip `k` of group 1's loop stores as the block's output, from the query block `v61`, the current
   keys `v64` and values `v67`, and the previous keys `v70` and values `v73`. -/
def oPay1 (arg2 : BitVec 32) (v2 : IVec S128x128 1) (v20 : IVec S256x256 32) (v21 : FVec F S256x128 .bf16) (v35 : IVec S256x256 1) (v37 : IVec S256x256 1) (k : Fin k0_t2_loop.trips) (v61 v64 v67 v70 v73 : Vec F S1x128x128 .f32) : Vec F S1x128x128 .f32 :=
  k0_pay5 v2 v35 v37 (k0_pay17 v21 v67 v73) (k0_pay18 v2 v61 v64 v70) (k0_pay19 arg2 v20 0#32 1#32 k)

/-- … as a piece written at the trip's rows of the group's slab. -/
def oPiece1 (i : grid0.Coords) (arg2 : BitVec 32) (v2 : IVec S128x128 1) (v20 : IVec S256x256 32) (v21 : FVec F S256x128 .bf16) (v35 : IVec S256x256 1) (v37 : IVec S256x256 1) (x : Vec F S1x2048x128 .f32) (y z : Vec F S1x4096x128 .f32) (k : Fin k0_t2_loop.trips) : View.Piece (Elt F) S3x2048x128 .f32 :=
  ⟨⟨(⟨k0_off8 k, S1x128x128.size, ![1, 4, 1], (k0_off8_inb k)⟩ : LoadRect S3x2048x128), spos_1_4_1⟩,
    oPay1 arg2 v2 v20 v21 v35 v37 k (fun j => x ((⟨k0_off5 k, S1x128x128.size, ![1, 4, 1], (k0_off5_inb k)⟩ : LoadRect S1x2048x128).idx j)) (fun j => y ((⟨k0_off6 i k, S1x128x128.size, ![1, 4, 1], (k0_off6_inb i k)⟩ : LoadRect S1x4096x128).idx j)) (fun j => z ((⟨k0_off6 i k, S1x128x128.size, ![1, 4, 1], (k0_off6_inb i k)⟩ : LoadRect S1x4096x128).idx j))
      (fun j => y ((⟨k0_off7 i k, S1x128x128.size, ![1, 4, 1], (k0_off7_inb i k)⟩ : LoadRect S1x4096x128).idx j)) (fun j => z ((⟨k0_off7 i k, S1x128x128.size, ![1, 4, 1], (k0_off7_inb i k)⟩ : LoadRect S1x4096x128).idx j))⟩

/-- What trip `k` of group 1's loop stores as the block's log-sum-exp, from the query block `v61`, the current
   keys `v64` and values `v67`, and the previous keys `v70` and values `v73`. -/
def lPay1 (arg2 : BitVec 32) (v2 : IVec S128x128 1) (v20 : IVec S256x256 32) (v21 : FVec F S256x128 .bf16) (v35 : IVec S256x256 1) (v37 : IVec S256x256 1) (k : Fin k0_t2_loop.trips) (v61 v64 v67 v70 v73 : Vec F S1x128x128 .f32) : Vec F S1x128x128 .f32 :=
  k0_pay6 v2 v35 v37 (k0_pay17 v21 v67 v73) (k0_pay18 v2 v61 v64 v70) (k0_pay19 arg2 v20 0#32 1#32 k)

/-- … as a piece written at the trip's rows of the group's slab. -/
def lPiece1 (i : grid0.Coords) (arg2 : BitVec 32) (v2 : IVec S128x128 1) (v20 : IVec S256x256 32) (v21 : FVec F S256x128 .bf16) (v35 : IVec S256x256 1) (v37 : IVec S256x256 1) (x : Vec F S1x2048x128 .f32) (y z : Vec F S1x4096x128 .f32) (k : Fin k0_t2_loop.trips) : View.Piece (Elt F) S3x2048x128 .f32 :=
  ⟨⟨(⟨k0_off8 k, S1x128x128.size, ![1, 4, 1], (k0_off8_inb k)⟩ : LoadRect S3x2048x128), spos_1_4_1⟩,
    lPay1 arg2 v2 v20 v21 v35 v37 k (fun j => x ((⟨k0_off5 k, S1x128x128.size, ![1, 4, 1], (k0_off5_inb k)⟩ : LoadRect S1x2048x128).idx j)) (fun j => y ((⟨k0_off6 i k, S1x128x128.size, ![1, 4, 1], (k0_off6_inb i k)⟩ : LoadRect S1x4096x128).idx j)) (fun j => z ((⟨k0_off6 i k, S1x128x128.size, ![1, 4, 1], (k0_off6_inb i k)⟩ : LoadRect S1x4096x128).idx j))
      (fun j => y ((⟨k0_off7 i k, S1x128x128.size, ![1, 4, 1], (k0_off7_inb i k)⟩ : LoadRect S1x4096x128).idx j)) (fun j => z ((⟨k0_off7 i k, S1x128x128.size, ![1, 4, 1], (k0_off7_inb i k)⟩ : LoadRect S1x4096x128).idx j))⟩

set_option maxHeartbeats 400000 in
/-- One trip of group 1's loop: it reads the three blocks and writes one piece into each scratch. -/
theorem trip1 (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S1x4096x128 .f32) (harg10 : arg10.IsWhole) (arg11 : Memref sig .tc .vmem S1x4096x128 .f32) (harg11 : arg11.IsWhole) (arg12 : Memref sig .tc .vmem S1x2048x128 .bf16) (harg12 : arg12.IsWhole) (arg13 : Memref sig .tc .vmem S3x2048x128 .f32) (harg13 : arg13.IsWhole) (arg14 : Memref sig .tc .vmem S3x2048x128 .f32) (harg14 : arg14.IsWhole) (arg2 : BitVec 32) (v2 : IVec S128x128 1) (v20 : IVec S256x256 32) (v21 : FVec F S256x128 .bf16) (v35 : IVec S256x256 1) (v37 : IVec S256x256 1) (X4 : BufTy.Contents (Elt F) arg4.view.ty) (X7 : BufTy.Contents (Elt F) arg7.view.ty) (X10 : BufTy.Contents (Elt F) arg10.view.ty) (f13 : BufTy.Contents (Elt F) arg13.view.ty) (f14 : BufTy.Contents (Elt F) arg14.view.ty) (k : Fin k0_t2_loop.trips) (E : Set ℕ) :
    (iprop((arg4.view.loc (c : Thread nD τ) ↦[arg4.view.set]{fullShare} X4) ∗ (arg7.view.loc (c : Thread nD τ) ↦[arg7.view.set]{fullShare} X7) ∗ (arg10.view.loc (c : Thread nD τ) ↦[arg10.view.set]{fullShare} X10) ∗ (arg13.view.loc (c : Thread nD τ) ↦[arg13.view.set]{fullShare} f13) ∗ (arg14.view.loc (c : Thread nD τ) ↦[arg14.view.set]{fullShare} f14)) : sProp 𝕄G)
      ⊢ wp frame (wpE (defs₀ (F := F)) Variants.none (c : Thread nD τ) none) E (k0_t2_body (F := F) i arg3 harg3 arg4 harg4 arg5 harg5 arg6 harg6 arg7 harg7 arg8 harg8 arg9 harg9 arg10 harg10 arg11 harg11 arg12 harg12 arg13 harg13 arg14 harg14 arg2 v2 v20 v21 v35 v37 k ())
        (fun _ => iprop((arg4.view.loc (c : Thread nD τ) ↦[arg4.view.set]{fullShare} X4) ∗ (arg7.view.loc (c : Thread nD τ) ↦[arg7.view.set]{fullShare} X7) ∗ (arg10.view.loc (c : Thread nD τ) ↦[arg10.view.set]{fullShare} X10) ∗ (arg13.view.loc (c : Thread nD τ) ↦[arg13.view.set]{fullShare} (arg13.view.writes (Elt F) f13 [oPiece1 i arg2 v2 v20 v21 v35 v37 (arg4.view.read (Elt F) X4) (arg7.view.read (Elt F) X7) (arg10.view.read (Elt F) X10) k])) ∗ (arg14.view.loc (c : Thread nD τ) ↦[arg14.view.set]{fullShare} (arg14.view.writes (Elt F) f14 [lPiece1 i arg2 v2 v20 v21 v35 v37 (arg4.view.read (Elt F) X4) (arg7.view.read (Elt F) X7) (arg10.view.read (Elt F) X10) k])))) := by
  unfold k0_t2_body
  iintro ⟨HQ, HK, HV, H13, H14⟩
  sl_exec
  sl_step
  isplitl [HQ]; · iexact HQ
  isplitl [HK]; · iexact HK
  isplitl [HV]; · iexact HV
  isplitl [H13]
  · iexact H13
  iexact H14

/-- What holds before trip `k` of group 1's loop: the blocks read, and the earlier trips' pieces written. -/
abbrev inv1 (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S1x4096x128 .f32) (harg10 : arg10.IsWhole) (arg11 : Memref sig .tc .vmem S1x4096x128 .f32) (harg11 : arg11.IsWhole) (arg12 : Memref sig .tc .vmem S1x2048x128 .bf16) (harg12 : arg12.IsWhole) (arg13 : Memref sig .tc .vmem S3x2048x128 .f32) (harg13 : arg13.IsWhole) (arg14 : Memref sig .tc .vmem S3x2048x128 .f32) (harg14 : arg14.IsWhole) (arg2 : BitVec 32) (v2 : IVec S128x128 1) (v20 : IVec S256x256 32) (v21 : FVec F S256x128 .bf16) (v35 : IVec S256x256 1) (v37 : IVec S256x256 1) (X4 : BufTy.Contents (Elt F) arg4.view.ty) (X7 : BufTy.Contents (Elt F) arg7.view.ty) (X10 : BufTy.Contents (Elt F) arg10.view.ty) (G13 : BufTy.Contents (Elt F) arg13.view.ty) (G14 : BufTy.Contents (Elt F) arg14.view.ty) (k : ℕ) (_u : PUnit) : sProp 𝕄G :=
  iprop((arg4.view.loc (c : Thread nD τ) ↦[arg4.view.set]{fullShare} X4) ∗ (arg7.view.loc (c : Thread nD τ) ↦[arg7.view.set]{fullShare} X7) ∗ (arg10.view.loc (c : Thread nD τ) ↦[arg10.view.set]{fullShare} X10) ∗ (∃ f, (arg13.view.loc (c : Thread nD τ) ↦[arg13.view.set]{fullShare} f) ∗ ⌜f = arg13.view.writes (Elt F) G13 (upto (oPiece1 i arg2 v2 v20 v21 v35 v37 (arg4.view.read (Elt F) X4) (arg7.view.read (Elt F) X7) (arg10.view.read (Elt F) X10)) k)⌝)
    ∗ (∃ f, (arg14.view.loc (c : Thread nD τ) ↦[arg14.view.set]{fullShare} f) ∗ ⌜f = arg14.view.writes (Elt F) G14 (upto (lPiece1 i arg2 v2 v20 v21 v35 v37 (arg4.view.read (Elt F) X4) (arg7.view.read (Elt F) X7) (arg10.view.read (Elt F) X10)) k)⌝))

set_option warn.classDefReducibility false in
/-- Group 1's loop by its invariant. -/
@[sl_loop] def loopInv1 (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S1x4096x128 .f32) (harg10 : arg10.IsWhole) (arg11 : Memref sig .tc .vmem S1x4096x128 .f32) (harg11 : arg11.IsWhole) (arg12 : Memref sig .tc .vmem S1x2048x128 .bf16) (harg12 : arg12.IsWhole) (arg13 : Memref sig .tc .vmem S3x2048x128 .f32) (harg13 : arg13.IsWhole) (arg14 : Memref sig .tc .vmem S3x2048x128 .f32) (harg14 : arg14.IsWhole) (arg2 : BitVec 32) (v2 : IVec S128x128 1) (v20 : IVec S256x256 32) (v21 : FVec F S256x128 .bf16) (v35 : IVec S256x256 1) (v37 : IVec S256x256 1) (X4 : BufTy.Contents (Elt F) arg4.view.ty) (X7 : BufTy.Contents (Elt F) arg7.view.ty) (X10 : BufTy.Contents (Elt F) arg10.view.ty) (G13 : BufTy.Contents (Elt F) arg13.view.ty) (G14 : BufTy.Contents (Elt F) arg14.view.ty) (E : Set ℕ) :
    LoopInvTy_k0_t2 (F := F) Unit ℕ (UR sig nD τ) ℕ Variants.none c none E i arg3 harg3 arg4 harg4 arg5 harg5 arg6 harg6 arg7 harg7 arg8 harg8 arg9 harg9 arg10 harg10 arg11 harg11 arg12 harg12 arg13 harg13 arg14 harg14 arg2 v2 v20 v21 v35 v37 where
  inv := inv1 (F := F) c i arg3 harg3 arg4 harg4 arg5 harg5 arg6 harg6 arg7 harg7 arg8 harg8 arg9 harg9 arg10 harg10 arg11 harg11 arg12 harg12 arg13 harg13 arg14 harg14 arg2 v2 v20 v21 v35 v37 X4 X7 X10 G13 G14
  step k acc := by
    iintro ⟨HQ, HK, HV, ⟨%f13, H13, %h13⟩, ⟨%f14, H14, %h14⟩⟩
    iapply (wp_wand_r Idealize.ShloMosaic.frame (wpE (defs₀ (F := F)) Variants.none (c : Thread nD τ) none) E)
    isplitl [HQ HK HV H13 H14]
    · iapply (trip1 c i arg3 harg3 arg4 harg4 arg5 harg5 arg6 harg6 arg7 harg7 arg8 harg8 arg9 harg9 arg10 harg10 arg11 harg11 arg12 harg12 arg13 harg13 arg14 harg14 arg2 v2 v20 v21 v35 v37 X4 X7 X10 f13 f14 k E)
      isplitl [HQ]; · iexact HQ
      isplitl [HK]; · iexact HK
      isplitl [HV]; · iexact HV
      isplitl [H13]; · iexact H13
      iexact H14
    · iintro %_ ⟨HQ, HK, HV, H13, H14⟩
      isplitl [HQ]; · iexact HQ
      isplitl [HK]; · iexact HK
      isplitl [HV]; · iexact HV
      rw [upto_succ, upto_succ]
      isplitl [H13]
      · iexists _; isplitl [H13]; · iexact H13
        ipureintro; rw [h13, ← View.writes_append]; rfl
      iexists _; isplitl [H14]; · iexact H14
      ipureintro; rw [h14, ← View.writes_append]; rfl

/-- What trip `k` of group 2's loop stores as the block's output, from the query block `v61`, the current
   keys `v64` and values `v67`, and the previous keys `v70` and values `v73`. -/
def oPay2 (arg2 : BitVec 32) (v2 : IVec S128x128 1) (v19 : IVec S256x256 32) (v20 : IVec S256x256 32) (v21 : FVec F S256x128 .bf16) (k : Fin k0_t3_loop.trips) (v61 v64 v67 v70 v73 : Vec F S1x128x128 .f32) : Vec F S1x128x128 .f32 :=
  k0_pay11 v2 v19 v20 (k0_pay20 v21 v67 v73) (k0_pay21 v2 v61 v64 v70) (cmpi .sge v20 (broadcast S256x256 (Scalar.select (Scalar.cmpi .sge (Scalar.subi (Scalar.addi (Scalar.muli arg2 2048#32) (Scalar.addi 0#32 (Scalar.andi (Scf.iv 0#32 1#32 k) 15#32))) 2048#32) 0#32) 0#32 128#32)))

/-- … as a piece written at the trip's rows of the group's slab. -/
def oPiece2 (i : grid0.Coords) (arg2 : BitVec 32) (v2 : IVec S128x128 1) (v19 : IVec S256x256 32) (v20 : IVec S256x256 32) (v21 : FVec F S256x128 .bf16) (x : Vec F S1x2048x128 .f32) (y z : Vec F S1x4096x128 .f32) (k : Fin k0_t3_loop.trips) : View.Piece (Elt F) S3x2048x128 .f32 :=
  ⟨⟨(⟨k0_off12 k, S1x128x128.size, ![1, 16, 1], (k0_off12_inb k)⟩ : LoadRect S3x2048x128), spos_1_16_1⟩,
    oPay2 arg2 v2 v19 v20 v21 k (fun j => x ((⟨k0_off9 k, S1x128x128.size, ![1, 16, 1], (k0_off9_inb k)⟩ : LoadRect S1x2048x128).idx j)) (fun j => y ((⟨k0_off10 i k, S1x128x128.size, ![1, 16, 1], (k0_off10_inb i k)⟩ : LoadRect S1x4096x128).idx j)) (fun j => z ((⟨k0_off10 i k, S1x128x128.size, ![1, 16, 1], (k0_off10_inb i k)⟩ : LoadRect S1x4096x128).idx j))
      (fun j => y ((⟨k0_off11 i k, S1x128x128.size, ![1, 16, 1], (k0_off11_inb i k)⟩ : LoadRect S1x4096x128).idx j)) (fun j => z ((⟨k0_off11 i k, S1x128x128.size, ![1, 16, 1], (k0_off11_inb i k)⟩ : LoadRect S1x4096x128).idx j))⟩

/-- What trip `k` of group 2's loop stores as the block's log-sum-exp, from the query block `v61`, the current
   keys `v64` and values `v67`, and the previous keys `v70` and values `v73`. -/
def lPay2 (arg2 : BitVec 32) (v2 : IVec S128x128 1) (v19 : IVec S256x256 32) (v20 : IVec S256x256 32) (v21 : FVec F S256x128 .bf16) (k : Fin k0_t3_loop.trips) (v61 v64 v67 v70 v73 : Vec F S1x128x128 .f32) : Vec F S1x128x128 .f32 :=
  k0_pay12 v2 v19 v20 (k0_pay20 v21 v67 v73) (k0_pay21 v2 v61 v64 v70) (cmpi .sge v20 (broadcast S256x256 (Scalar.select (Scalar.cmpi .sge (Scalar.subi (Scalar.addi (Scalar.muli arg2 2048#32) (Scalar.addi 0#32 (Scalar.andi (Scf.iv 0#32 1#32 k) 15#32))) 2048#32) 0#32) 0#32 128#32)))

/-- … as a piece written at the trip's rows of the group's slab. -/
def lPiece2 (i : grid0.Coords) (arg2 : BitVec 32) (v2 : IVec S128x128 1) (v19 : IVec S256x256 32) (v20 : IVec S256x256 32) (v21 : FVec F S256x128 .bf16) (x : Vec F S1x2048x128 .f32) (y z : Vec F S1x4096x128 .f32) (k : Fin k0_t3_loop.trips) : View.Piece (Elt F) S3x2048x128 .f32 :=
  ⟨⟨(⟨k0_off12 k, S1x128x128.size, ![1, 16, 1], (k0_off12_inb k)⟩ : LoadRect S3x2048x128), spos_1_16_1⟩,
    lPay2 arg2 v2 v19 v20 v21 k (fun j => x ((⟨k0_off9 k, S1x128x128.size, ![1, 16, 1], (k0_off9_inb k)⟩ : LoadRect S1x2048x128).idx j)) (fun j => y ((⟨k0_off10 i k, S1x128x128.size, ![1, 16, 1], (k0_off10_inb i k)⟩ : LoadRect S1x4096x128).idx j)) (fun j => z ((⟨k0_off10 i k, S1x128x128.size, ![1, 16, 1], (k0_off10_inb i k)⟩ : LoadRect S1x4096x128).idx j))
      (fun j => y ((⟨k0_off11 i k, S1x128x128.size, ![1, 16, 1], (k0_off11_inb i k)⟩ : LoadRect S1x4096x128).idx j)) (fun j => z ((⟨k0_off11 i k, S1x128x128.size, ![1, 16, 1], (k0_off11_inb i k)⟩ : LoadRect S1x4096x128).idx j))⟩

set_option maxHeartbeats 400000 in
/-- One trip of group 2's loop: it reads the three blocks and writes one piece into each scratch. -/
theorem trip2 (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S1x4096x128 .f32) (harg10 : arg10.IsWhole) (arg11 : Memref sig .tc .vmem S1x4096x128 .f32) (harg11 : arg11.IsWhole) (arg12 : Memref sig .tc .vmem S1x2048x128 .bf16) (harg12 : arg12.IsWhole) (arg13 : Memref sig .tc .vmem S3x2048x128 .f32) (harg13 : arg13.IsWhole) (arg14 : Memref sig .tc .vmem S3x2048x128 .f32) (harg14 : arg14.IsWhole) (arg2 : BitVec 32) (v2 : IVec S128x128 1) (v19 : IVec S256x256 32) (v20 : IVec S256x256 32) (v21 : FVec F S256x128 .bf16) (X5 : BufTy.Contents (Elt F) arg5.view.ty) (X8 : BufTy.Contents (Elt F) arg8.view.ty) (X11 : BufTy.Contents (Elt F) arg11.view.ty) (f13 : BufTy.Contents (Elt F) arg13.view.ty) (f14 : BufTy.Contents (Elt F) arg14.view.ty) (k : Fin k0_t3_loop.trips) (E : Set ℕ) :
    (iprop((arg5.view.loc (c : Thread nD τ) ↦[arg5.view.set]{fullShare} X5) ∗ (arg8.view.loc (c : Thread nD τ) ↦[arg8.view.set]{fullShare} X8) ∗ (arg11.view.loc (c : Thread nD τ) ↦[arg11.view.set]{fullShare} X11) ∗ (arg13.view.loc (c : Thread nD τ) ↦[arg13.view.set]{fullShare} f13) ∗ (arg14.view.loc (c : Thread nD τ) ↦[arg14.view.set]{fullShare} f14)) : sProp 𝕄G)
      ⊢ wp frame (wpE (defs₀ (F := F)) Variants.none (c : Thread nD τ) none) E (k0_t3_body (F := F) i arg3 harg3 arg4 harg4 arg5 harg5 arg6 harg6 arg7 harg7 arg8 harg8 arg9 harg9 arg10 harg10 arg11 harg11 arg12 harg12 arg13 harg13 arg14 harg14 arg2 v2 v19 v20 v21 k ())
        (fun _ => iprop((arg5.view.loc (c : Thread nD τ) ↦[arg5.view.set]{fullShare} X5) ∗ (arg8.view.loc (c : Thread nD τ) ↦[arg8.view.set]{fullShare} X8) ∗ (arg11.view.loc (c : Thread nD τ) ↦[arg11.view.set]{fullShare} X11) ∗ (arg13.view.loc (c : Thread nD τ) ↦[arg13.view.set]{fullShare} (arg13.view.writes (Elt F) f13 [oPiece2 i arg2 v2 v19 v20 v21 (arg5.view.read (Elt F) X5) (arg8.view.read (Elt F) X8) (arg11.view.read (Elt F) X11) k])) ∗ (arg14.view.loc (c : Thread nD τ) ↦[arg14.view.set]{fullShare} (arg14.view.writes (Elt F) f14 [lPiece2 i arg2 v2 v19 v20 v21 (arg5.view.read (Elt F) X5) (arg8.view.read (Elt F) X8) (arg11.view.read (Elt F) X11) k])))) := by
  unfold k0_t3_body
  iintro ⟨HQ, HK, HV, H13, H14⟩
  sl_exec
  sl_step
  isplitl [HQ]; · iexact HQ
  isplitl [HK]; · iexact HK
  isplitl [HV]; · iexact HV
  isplitl [H13]
  · iexact H13
  iexact H14

/-- What holds before trip `k` of group 2's loop: the blocks read, and the earlier trips' pieces written. -/
abbrev inv2 (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S1x4096x128 .f32) (harg10 : arg10.IsWhole) (arg11 : Memref sig .tc .vmem S1x4096x128 .f32) (harg11 : arg11.IsWhole) (arg12 : Memref sig .tc .vmem S1x2048x128 .bf16) (harg12 : arg12.IsWhole) (arg13 : Memref sig .tc .vmem S3x2048x128 .f32) (harg13 : arg13.IsWhole) (arg14 : Memref sig .tc .vmem S3x2048x128 .f32) (harg14 : arg14.IsWhole) (arg2 : BitVec 32) (v2 : IVec S128x128 1) (v19 : IVec S256x256 32) (v20 : IVec S256x256 32) (v21 : FVec F S256x128 .bf16) (X5 : BufTy.Contents (Elt F) arg5.view.ty) (X8 : BufTy.Contents (Elt F) arg8.view.ty) (X11 : BufTy.Contents (Elt F) arg11.view.ty) (G13 : BufTy.Contents (Elt F) arg13.view.ty) (G14 : BufTy.Contents (Elt F) arg14.view.ty) (k : ℕ) (_u : PUnit) : sProp 𝕄G :=
  iprop((arg5.view.loc (c : Thread nD τ) ↦[arg5.view.set]{fullShare} X5) ∗ (arg8.view.loc (c : Thread nD τ) ↦[arg8.view.set]{fullShare} X8) ∗ (arg11.view.loc (c : Thread nD τ) ↦[arg11.view.set]{fullShare} X11) ∗ (∃ f, (arg13.view.loc (c : Thread nD τ) ↦[arg13.view.set]{fullShare} f) ∗ ⌜f = arg13.view.writes (Elt F) G13 (upto (oPiece2 i arg2 v2 v19 v20 v21 (arg5.view.read (Elt F) X5) (arg8.view.read (Elt F) X8) (arg11.view.read (Elt F) X11)) k)⌝)
    ∗ (∃ f, (arg14.view.loc (c : Thread nD τ) ↦[arg14.view.set]{fullShare} f) ∗ ⌜f = arg14.view.writes (Elt F) G14 (upto (lPiece2 i arg2 v2 v19 v20 v21 (arg5.view.read (Elt F) X5) (arg8.view.read (Elt F) X8) (arg11.view.read (Elt F) X11)) k)⌝))

set_option warn.classDefReducibility false in
/-- Group 2's loop by its invariant. -/
@[sl_loop] def loopInv2 (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S1x4096x128 .f32) (harg10 : arg10.IsWhole) (arg11 : Memref sig .tc .vmem S1x4096x128 .f32) (harg11 : arg11.IsWhole) (arg12 : Memref sig .tc .vmem S1x2048x128 .bf16) (harg12 : arg12.IsWhole) (arg13 : Memref sig .tc .vmem S3x2048x128 .f32) (harg13 : arg13.IsWhole) (arg14 : Memref sig .tc .vmem S3x2048x128 .f32) (harg14 : arg14.IsWhole) (arg2 : BitVec 32) (v2 : IVec S128x128 1) (v19 : IVec S256x256 32) (v20 : IVec S256x256 32) (v21 : FVec F S256x128 .bf16) (X5 : BufTy.Contents (Elt F) arg5.view.ty) (X8 : BufTy.Contents (Elt F) arg8.view.ty) (X11 : BufTy.Contents (Elt F) arg11.view.ty) (G13 : BufTy.Contents (Elt F) arg13.view.ty) (G14 : BufTy.Contents (Elt F) arg14.view.ty) (E : Set ℕ) :
    LoopInvTy_k0_t3 (F := F) Unit ℕ (UR sig nD τ) ℕ Variants.none c none E i arg3 harg3 arg4 harg4 arg5 harg5 arg6 harg6 arg7 harg7 arg8 harg8 arg9 harg9 arg10 harg10 arg11 harg11 arg12 harg12 arg13 harg13 arg14 harg14 arg2 v2 v19 v20 v21 where
  inv := inv2 (F := F) c i arg3 harg3 arg4 harg4 arg5 harg5 arg6 harg6 arg7 harg7 arg8 harg8 arg9 harg9 arg10 harg10 arg11 harg11 arg12 harg12 arg13 harg13 arg14 harg14 arg2 v2 v19 v20 v21 X5 X8 X11 G13 G14
  step k acc := by
    iintro ⟨HQ, HK, HV, ⟨%f13, H13, %h13⟩, ⟨%f14, H14, %h14⟩⟩
    iapply (wp_wand_r Idealize.ShloMosaic.frame (wpE (defs₀ (F := F)) Variants.none (c : Thread nD τ) none) E)
    isplitl [HQ HK HV H13 H14]
    · iapply (trip2 c i arg3 harg3 arg4 harg4 arg5 harg5 arg6 harg6 arg7 harg7 arg8 harg8 arg9 harg9 arg10 harg10 arg11 harg11 arg12 harg12 arg13 harg13 arg14 harg14 arg2 v2 v19 v20 v21 X5 X8 X11 f13 f14 k E)
      isplitl [HQ]; · iexact HQ
      isplitl [HK]; · iexact HK
      isplitl [HV]; · iexact HV
      isplitl [H13]; · iexact H13
      iexact H14
    · iintro %_ ⟨HQ, HK, HV, H13, H14⟩
      isplitl [HQ]; · iexact HQ
      isplitl [HK]; · iexact HK
      isplitl [HV]; · iexact HV
      rw [upto_succ, upto_succ]
      isplitl [H13]
      · iexists _; isplitl [H13]; · iexact H13
        ipureintro; rw [h13, ← View.writes_append]; rfl
      iexists _; isplitl [H14]; · iexact H14
      ipureintro; rw [h14, ← View.writes_append]; rfl

end Cert.Proof.Attn

end
-- ==== Proof.Attn.Pieces.lean ====
module

public import proofs.«01_k».proof.Proof.Attn.Loops
public import Idealize.ShloMosaic.Lib.Pointwise

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## Reading an array after a run of pieces -/

section Reading

variable {sp : Space} {s : Shape} {e : EltTy} {n : ℕ}

/-- Pieces none of which holds the element leave it as it was. -/
theorem read_upto_miss (v : View sig .tc sp s e) (f : BufTy.Contents (Elt F) v.ty) (pc : Fin n → View.Piece (Elt F) s e) (y : s.Idx)
    (hne : ∀ k, y ∉ (pc k).1.set) (m : ℕ) : v.read (Elt F) (v.writes (Elt F) f (upto pc m)) y = v.read (Elt F) f y := by
  refine View.read_writes_apply_of_forall_not_mem v (Val := Elt F) f y (upto pc m) fun p hp => ?_
  obtain ⟨j, _, rfl⟩ := mem_upto pc p m hp
  exact hne j

/-- The element a trip wrote, and no other trip writes, holds what that trip stored there. -/
theorem read_upto_hit (v : View sig .tc sp s e) (f : BufTy.Contents (Elt F) v.ty) (pc : Fin n → View.Piece (Elt F) s e) (y : s.Idx)
    (k : Fin n) (x : (pc k).1.shape.Idx) (hx : (pc k).1.emb x = y) (hne : ∀ k', k' ≠ k → y ∉ (pc k').1.set) :
    ∀ m : ℕ, k.val < m → v.read (Elt F) (v.writes (Elt F) f (upto pc m)) y = (pc k).2 x
  | 0, h => absurd h (Nat.not_lt_zero _)
  | m + 1, h => by
    by_cases hm : m < n
    · rw [upto_succ pc ⟨m, hm⟩]
      by_cases hk : (⟨m, hm⟩ : Fin n) = k
      · subst hk
        rw [← hx]
        exact View.read_writes_cons_emb v _ _ _ _ _
      · rw [show pc ⟨m, hm⟩ :: upto pc m = [pc ⟨m, hm⟩] ++ upto pc m from rfl, View.writes_append,
          View.read_writes_apply_of_forall_not_mem v (Val := Elt F) _ y [pc ⟨m, hm⟩] fun p hp => by
            rw [List.mem_singleton.mp hp]; exact hne _ hk]
        exact read_upto_hit v f pc y k x hx hne m (by
          rcases Nat.lt_succ_iff_lt_or_eq.mp h with h | h
          · exact h
          · exact absurd (Fin.ext h.symm) hk)
    · rw [show upto pc (m + 1) = upto pc m by rw [upto.eq_2, dif_neg hm]]
      exact read_upto_hit v f pc y k x hx hne m (by have := k.isLt; omega)

end Reading

/-! ## The first group's trips and the merging trips -/

/-- What trip `k` of group 0's loop stores as the block's output. -/
def oPay0 (arg2 : BitVec 32) (k : Fin k0_t1_loop.trips) (v64 v67 v70 v73 v76 : Vec F S1x128x128 .f32) : Vec F S1x128x128 .f32 :=
  k0_pay31 (trip_k0_t1.sl.v58 arg2 k) (k0_pay14 k0_pay24 v64) (k0_pay15 v67 v73) (k0_pay16 k0_pay26 v70 v76) (constant S256x256 .f32 0x00000000#32)

/-- What trip `k` of group 0's loop stores as the block's log-sum-exp. -/
def lPay0 (arg2 : BitVec 32) (k : Fin k0_t1_loop.trips) (v64 v67 v70 v73 v76 : Vec F S1x128x128 .f32) : Vec F S1x128x128 .f32 :=
  k0_pay32 (trip_k0_t1.sl.v58 arg2 k) (k0_pay14 k0_pay24 v64) (k0_pay15 v67 v73) (k0_pay16 k0_pay26 v70 v76) (constant S256x256 .f32 0x00000000#32)

/-- The output of trip `k` of group 0 as a piece written at the trip's rows of the group's slab. -/
def oPiece0 (i : grid0.Coords) (arg2 : BitVec 32) (x : Vec F S1x2048x128 .f32) (y z : Vec F S1x4096x128 .f32) (k : Fin k0_t1_loop.trips) : View.Piece (Elt F) S3x2048x128 .f32 :=
  ⟨Rect.unit (k0_off4 k) S1x128x128.size (k0_off4_inb k),
    oPay0 arg2 k (fun j => x ((Rect.unit (s := S1x2048x128) (k0_off1 k) S1x128x128.size (k0_off1_inb k)).toLoadRect.idx j))
      (fun j => y ((Rect.unit (s := S1x4096x128) (k0_off2 i k) S1x128x128.size (k0_off2_inb i k)).toLoadRect.idx j))
      (fun j => z ((Rect.unit (s := S1x4096x128) (k0_off2 i k) S1x128x128.size (k0_off2_inb i k)).toLoadRect.idx j))
      (fun j => y ((Rect.unit (s := S1x4096x128) (k0_off3 i k) S1x128x128.size (k0_off3_inb i k)).toLoadRect.idx j))
      (fun j => z ((Rect.unit (s := S1x4096x128) (k0_off3 i k) S1x128x128.size (k0_off3_inb i k)).toLoadRect.idx j))⟩

/-- The log-sum-exp of trip `k` of group 0 as a piece written at the trip's rows of the group's slab. -/
def lPiece0 (i : grid0.Coords) (arg2 : BitVec 32) (x : Vec F S1x2048x128 .f32) (y z : Vec F S1x4096x128 .f32) (k : Fin k0_t1_loop.trips) : View.Piece (Elt F) S3x2048x128 .f32 :=
  ⟨Rect.unit (k0_off4 k) S1x128x128.size (k0_off4_inb k),
    lPay0 arg2 k (fun j => x ((Rect.unit (s := S1x2048x128) (k0_off1 k) S1x128x128.size (k0_off1_inb k)).toLoadRect.idx j))
      (fun j => y ((Rect.unit (s := S1x4096x128) (k0_off2 i k) S1x128x128.size (k0_off2_inb i k)).toLoadRect.idx j))
      (fun j => z ((Rect.unit (s := S1x4096x128) (k0_off2 i k) S1x128x128.size (k0_off2_inb i k)).toLoadRect.idx j))
      (fun j => y ((Rect.unit (s := S1x4096x128) (k0_off3 i k) S1x128x128.size (k0_off3_inb i k)).toLoadRect.idx j))
      (fun j => z ((Rect.unit (s := S1x4096x128) (k0_off3 i k) S1x128x128.size (k0_off3_inb i k)).toLoadRect.idx j))⟩

/-- The rows a merging trip reads of a scratch: slab `o`'s. -/
abbrev mRow (X : Vec F S3x2048x128 .f32) (o : Fin 3 → ℕ) (h : ∀ a, o a + S1x256x128.size a ≤ S3x2048x128.size a) : Vec F S1x256x128 .f32 :=
  fun j => X ((Rect.unit (s := S3x2048x128) o S1x256x128.size h).toLoadRect.idx j)

/-- What merging trip `k` stores, the three groups' outputs weighted by their log-sum-exps, as a piece
   written at the trip's 256 rows of the block's output. -/
def mPiece (O L : Vec F S3x2048x128 .f32) (k : Fin k0_t4_loop.trips) : View.Piece (Elt F) S1x2048x128 .bf16 :=
  ⟨Rect.unit (k0_off16 k) S1x256x128.size (k0_off16_inb k),
    k0_pay13 (k0_pay23 (mRow L (k0_off13 k) (k0_off13_inb k)) (mRow L (k0_off14 k) (k0_off14_inb k)) (mRow L (k0_off15 k) (k0_off15_inb k))
      (mRow O (k0_off13 k) (k0_off13_inb k)) (mRow O (k0_off14 k) (k0_off14_inb k)) (mRow O (k0_off15 k) (k0_off15_inb k)))⟩

section Opened

variable (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S1x4096x128 .f32) (harg10 : arg10.IsWhole) (arg11 : Memref sig .tc .vmem S1x4096x128 .f32) (harg11 : arg11.IsWhole) (arg12 : Memref sig .tc .vmem S1x2048x128 .bf16) (harg12 : arg12.IsWhole) (arg13 : Memref sig .tc .vmem S3x2048x128 .f32) (harg13 : arg13.IsWhole) (arg14 : Memref sig .tc .vmem S3x2048x128 .f32) (harg14 : arg14.IsWhole)

/-- The pieces group 0's loop leaves, opened. -/
theorem pb1_eq (arg2 : BitVec 32) (X3 : BufTy.Contents (Elt F) arg3.view.ty) (X6 : BufTy.Contents (Elt F) arg6.view.ty) (X9 : BufTy.Contents (Elt F) arg9.view.ty) : ∀ m : ℕ,
    pb_k0_t1 (F := F) Variants.none c none i arg3 harg3 arg4 harg4 arg5 harg5 arg6 harg6 arg7 harg7 arg8 harg8 arg9 harg9 arg10 harg10 arg11 harg11 arg12 harg12 arg13 harg13 arg14 harg14 arg2 X3 X6 X9 m
      = (upto (oPiece0 i arg2 (arg3.view.read (Elt F) X3) (arg6.view.read (Elt F) X6) (arg9.view.read (Elt F) X9)) m,
         upto (lPiece0 i arg2 (arg3.view.read (Elt F) X3) (arg6.view.read (Elt F) X6) (arg9.view.read (Elt F) X9)) m)
  | 0 => rfl
  | m + 1 => by
    by_cases hm : m < k0_t1_loop.trips
    · rw [pb_k0_t1_succ Variants.none c none i arg3 harg3 arg4 harg4 arg5 harg5 arg6 harg6 arg7 harg7 arg8 harg8 arg9 harg9 arg10 harg10 arg11 harg11 arg12 harg12 arg13 harg13 arg14 harg14 arg2 X3 X6 X9 ⟨m, hm⟩, pb1_eq arg2 X3 X6 X9 m,
        upto_succ _ ⟨m, hm⟩, upto_succ _ ⟨m, hm⟩]
      dsimp only [tripL_k0_t1]
      unfold trip_k0_t1
      rfl
    · rw [pb_k0_t1.eq_2]
      unfold pb_k0_t1Step
      rw [dif_neg hm, pb1_eq arg2 X3 X6 X9 m, upto.eq_2, dif_neg hm, upto.eq_2, dif_neg hm]

/-- The pieces the merging loop leaves, opened. -/
theorem pb4_eq (X13 : BufTy.Contents (Elt F) arg13.view.ty) (X14 : BufTy.Contents (Elt F) arg14.view.ty) : ∀ m : ℕ,
    pb_k0_t4 (F := F) Variants.none c none i arg3 harg3 arg4 harg4 arg5 harg5 arg6 harg6 arg7 harg7 arg8 harg8 arg9 harg9 arg10 harg10 arg11 harg11 arg12 harg12 arg13 harg13 arg14 harg14 X13 X14 m
      = upto (mPiece (arg13.view.read (Elt F) X13) (arg14.view.read (Elt F) X14)) m
  | 0 => rfl
  | m + 1 => by
    by_cases hm : m < k0_t4_loop.trips
    · rw [pb_k0_t4_succ Variants.none c none i arg3 harg3 arg4 harg4 arg5 harg5 arg6 harg6 arg7 harg7 arg8 harg8 arg9 harg9 arg10 harg10 arg11 harg11 arg12 harg12 arg13 harg13 arg14 harg14 X13 X14 ⟨m, hm⟩, pb4_eq X13 X14 m, upto_succ _ ⟨m, hm⟩]
      dsimp only [tripL_k0_t4]
      unfold trip_k0_t4
      rfl
    · rw [pb_k0_t4.eq_2]
      unfold pb_k0_t4Step
      rw [dif_neg hm, pb4_eq X13 X14 m, upto.eq_2, dif_neg hm]

end Opened

end Cert.Proof.Attn

end
-- ==== Proof.Attn.Body.lean ====
module

public import proofs.«01_k».proof.Proof.Attn.Pieces
public import Idealize.ShloMosaic.Lib.Pointwise

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-! ## What the two scratches hold after the three groups' loops -/

theorem off4_eq : ∀ k : Fin k0_t1_loop.trips, k0_off4 k = ![0, 128 * k.val, 0] := by decide +kernel
theorem off8_eq : ∀ k : Fin k0_t2_loop.trips, k0_off8 k = ![1, 512 * (k.val / 4) + k.val % 4, 0] := by decide +kernel
theorem off12_eq : ∀ k : Fin k0_t3_loop.trips, k0_off12 k = ![2, k.val, 0] := by decide +kernel
theorem off16_eq : ∀ k : Fin k0_t4_loop.trips, k0_off16 k = ![0, 256 * k.val, 0] := by decide +kernel
theorem trips1 : k0_t1_loop.trips = 16 := by decide +kernel
theorem trips2 : k0_t2_loop.trips = 16 := by decide +kernel
theorem trips3 : k0_t3_loop.trips = 16 := by decide +kernel
theorem trips4 : k0_t4_loop.trips = 8 := by decide +kernel

/-- The grid coordinate that says which half of the sequence the block is. -/
abbrev half (i : grid0.Coords) : BitVec 32 := BitVec.ofNat 32 (i 2).val

/-- The lane numbers the masks compare. -/
abbrev lanes : IVec S256x256 32 := iota .tc S256x256 32 [1]

/-- Group 0's trip of a row of the slab: 128 consecutive rows each. -/
def tr0 (r : Fin 2048) : Fin k0_t1_loop.trips := ⟨r.val / 128, by rw [trips1]; omega⟩
/-- Group 1's trip of a row of the slab: every fourth of 512 rows. -/
def tr1 (r : Fin 2048) : Fin k0_t2_loop.trips := ⟨(r.val / 512) * 4 + r.val % 4, by rw [trips2]; omega⟩
/-- Group 2's trip of a row of the slab: every sixteenth row. -/
def tr2 (r : Fin 2048) : Fin k0_t3_loop.trips := ⟨r.val % 16, by rw [trips3]; omega⟩
/-- The merging trip of a row of the block: 256 consecutive rows each. -/
def tr4 (r : Fin 2048) : Fin k0_t4_loop.trips := ⟨r.val / 256, by rw [trips4]; omega⟩

/-- The outputs of the three groups, one slab each. -/
def oScr (i : grid0.Coords) (x0 x1 x2 : Vec F S1x2048x128 .f32) (y0 y1 y2 z0 z1 z2 : Vec F S1x4096x128 .f32) : Vec F S3x2048x128 .f32 := fun y =>
  if (y 0).val = 0 then (oPiece0 i (half i) x0 y0 z0 (tr0 (y 1))).2 (ix3 (n0 := 1) (n1 := 128) (n2 := 128) 0 ⟨(y 1).val % 128, by omega⟩ (y 2))
  else if (y 0).val = 1 then (oPiece1 i (half i) k0_pay24 lanes k0_pay26 k0_pay34 k0_pay35 x1 y1 z1 (tr1 (y 1))).2 (ix3 (n0 := 1) (n1 := 128) (n2 := 128) 0 ⟨(y 1).val % 512 / 4, by omega⟩ (y 2))
  else (oPiece2 i (half i) k0_pay24 k0_pay25 lanes k0_pay26 x2 y2 z2 (tr2 (y 1))).2 (ix3 (n0 := 1) (n1 := 128) (n2 := 128) 0 ⟨(y 1).val / 16, by have : (y 1).val < 2048 := (y 1).isLt; omega⟩ (y 2))

/-- The log-sum-exps of the three groups, one slab each. -/
def lScr (i : grid0.Coords) (x0 x1 x2 : Vec F S1x2048x128 .f32) (y0 y1 y2 z0 z1 z2 : Vec F S1x4096x128 .f32) : Vec F S3x2048x128 .f32 := fun y =>
  if (y 0).val = 0 then (lPiece0 i (half i) x0 y0 z0 (tr0 (y 1))).2 (ix3 (n0 := 1) (n1 := 128) (n2 := 128) 0 ⟨(y 1).val % 128, by omega⟩ (y 2))
  else if (y 0).val = 1 then (lPiece1 i (half i) k0_pay24 lanes k0_pay26 k0_pay34 k0_pay35 x1 y1 z1 (tr1 (y 1))).2 (ix3 (n0 := 1) (n1 := 128) (n2 := 128) 0 ⟨(y 1).val % 512 / 4, by omega⟩ (y 2))
  else (lPiece2 i (half i) k0_pay24 k0_pay25 lanes k0_pay26 x2 y2 z2 (tr2 (y 1))).2 (ix3 (n0 := 1) (n1 := 128) (n2 := 128) 0 ⟨(y 1).val / 16, by have : (y 1).val < 2048 := (y 1).isLt; omega⟩ (y 2))

/-- The block the kernel stores: each row merged by the trip that holds it. -/
def outBlk (i : grid0.Coords) (x0 x1 x2 : Vec F S1x2048x128 .f32) (y0 y1 y2 z0 z1 z2 : Vec F S1x4096x128 .f32) : Vec F S1x2048x128 .bf16 := fun y =>
  (mPiece (oScr i x0 x1 x2 y0 y1 y2 z0 z1 z2) (lScr i x0 x1 x2 y0 y1 y2 z0 z1 z2) (tr4 (y 1))).2
    (ix3 (n0 := 1) (n1 := 256) (n2 := 128) 0 ⟨(y 1).val % 256, by omega⟩ (y 2))

/-! Which rows a trip's rectangle holds. -/

theorem mem0 (k : Fin k0_t1_loop.trips) (y : S3x2048x128.Idx) (h : y ∈ (Rect.unit (s := S3x2048x128) (k0_off4 k) S1x128x128.size (k0_off4_inb k)).set) :
    (y 0).val = 0 ∧ k = tr0 (y 1) := by
  have h' := (LoadRect.mem_set _).mp h
  obtain ⟨a, ha, e0⟩ := h' 0
  obtain ⟨b, hb, e1⟩ := h' 1
  simp only [Rect.unit, off4_eq] at e0 e1 ha hb
  have ha : a < 1 := ha
  have hb : b < 128 := hb
  have e0 : (y 0).val = 0 + 1 * a := e0
  have e1 : (y 1).val = 128 * k.val + 1 * b := e1
  exact ⟨by omega, Fin.ext (show k.val = (y 1).val / 128 by omega)⟩

theorem mem1 (k : Fin k0_t2_loop.trips) (y : S3x2048x128.Idx)
    (h : y ∈ (⟨(⟨k0_off8 k, S1x128x128.size, ![1, 4, 1], k0_off8_inb k⟩ : LoadRect S3x2048x128), spos_1_4_1⟩ : Rect S3x2048x128).set) :
    (y 0).val = 1 ∧ k = tr1 (y 1) := by
  have h' := (LoadRect.mem_set _).mp h
  obtain ⟨a, ha, e0⟩ := h' 0
  obtain ⟨b, hb, e1⟩ := h' 1
  simp only [off8_eq] at e0 e1 ha hb
  have ha : a < 1 := ha
  have hb : b < 128 := hb
  have e0 : (y 0).val = 1 + 1 * a := e0
  have e1 : (y 1).val = 512 * (k.val / 4) + k.val % 4 + 4 * b := e1
  exact ⟨by omega, Fin.ext (show k.val = (y 1).val / 512 * 4 + (y 1).val % 4 by omega)⟩

theorem mem2 (k : Fin k0_t3_loop.trips) (y : S3x2048x128.Idx)
    (h : y ∈ (⟨(⟨k0_off12 k, S1x128x128.size, ![1, 16, 1], k0_off12_inb k⟩ : LoadRect S3x2048x128), spos_1_16_1⟩ : Rect S3x2048x128).set) :
    (y 0).val = 2 ∧ k = tr2 (y 1) := by
  have h' := (LoadRect.mem_set _).mp h
  obtain ⟨a, ha, e0⟩ := h' 0
  obtain ⟨b, hb, e1⟩ := h' 1
  simp only [off12_eq] at e0 e1 ha hb
  have ha : a < 1 := ha
  have hb : b < 128 := hb
  have e0 : (y 0).val = 2 + 1 * a := e0
  have e1 : (y 1).val = k.val + 16 * b := e1
  have hk : k.val < 16 := Nat.lt_of_lt_of_eq k.isLt trips3
  exact ⟨by omega, Fin.ext (show k.val = (y 1).val % 16 by omega)⟩

theorem mem4 (k : Fin k0_t4_loop.trips) (y : S1x2048x128.Idx) (h : y ∈ (Rect.unit (s := S1x2048x128) (k0_off16 k) S1x256x128.size (k0_off16_inb k)).set) :
    k = tr4 (y 1) := by
  have h' := (LoadRect.mem_set _).mp h
  obtain ⟨b, hb, e1⟩ := h' 1
  simp only [Rect.unit, off16_eq] at e1 hb
  have hb : b < 256 := hb
  have e1 : (y 1).val = 256 * k.val + 1 * b := e1
  exact Fin.ext (show k.val = (y 1).val / 256 by omega)

/-! The row of a trip's rectangle that is a given row of the slab. -/

theorem at0 (y : S3x2048x128.Idx) (h0 : (y 0).val = 0) :
    (Rect.unit (s := S3x2048x128) (k0_off4 (tr0 (y 1))) S1x128x128.size (k0_off4_inb (tr0 (y 1)))).emb (ix3 (n0 := 1) (n1 := 128) (n2 := 128) 0 ⟨(y 1).val % 128, by omega⟩ (y 2)) = y := by
  funext a
  refine Fin.ext ?_
  rw [Rect.emb_apply]
  simp only [Rect.unit, off4_eq]
  fin_cases a
  · exact h0.symm
  · show 128 * ((y 1).val / 128) + 1 * ((y 1).val % 128) = (y 1).val
    omega
  · show 0 + 1 * (y 2).val = (y 2).val
    omega

theorem at1 (y : S3x2048x128.Idx) (h0 : (y 0).val = 1) :
    (⟨(⟨k0_off8 (tr1 (y 1)), S1x128x128.size, ![1, 4, 1], k0_off8_inb (tr1 (y 1))⟩ : LoadRect S3x2048x128), spos_1_4_1⟩ : Rect S3x2048x128).emb (ix3 (n0 := 1) (n1 := 128) (n2 := 128) 0 ⟨(y 1).val % 512 / 4, by omega⟩ (y 2)) = y := by
  funext a
  refine Fin.ext ?_
  rw [Rect.emb_apply]
  simp only [off8_eq]
  fin_cases a
  · exact h0.symm
  · show 512 * (((y 1).val / 512 * 4 + (y 1).val % 4) / 4) + ((y 1).val / 512 * 4 + (y 1).val % 4) % 4 + 4 * ((y 1).val % 512 / 4) = (y 1).val
    omega
  · show 0 + 1 * (y 2).val = (y 2).val
    omega

theorem at2 (y : S3x2048x128.Idx) (h0 : (y 0).val = 2) (hy : (y 1).val / 16 < 128) :
    (⟨(⟨k0_off12 (tr2 (y 1)), S1x128x128.size, ![1, 16, 1], k0_off12_inb (tr2 (y 1))⟩ : LoadRect S3x2048x128), spos_1_16_1⟩ : Rect S3x2048x128).emb (ix3 (n0 := 1) (n1 := 128) (n2 := 128) 0 ⟨(y 1).val / 16, hy⟩ (y 2)) = y := by
  funext a
  refine Fin.ext ?_
  rw [Rect.emb_apply]
  simp only [off12_eq]
  fin_cases a
  · exact h0.symm
  · show (y 1).val % 16 + 16 * ((y 1).val / 16) = (y 1).val
    omega
  · show 0 + 1 * (y 2).val = (y 2).val
    omega

theorem at4 (y : S1x2048x128.Idx) :
    (Rect.unit (s := S1x2048x128) (k0_off16 (tr4 (y 1))) S1x256x128.size (k0_off16_inb (tr4 (y 1)))).emb (ix3 (n0 := 1) (n1 := 256) (n2 := 128) 0 ⟨(y 1).val % 256, by omega⟩ (y 2)) = y := by
  funext a
  refine Fin.ext ?_
  rw [Rect.emb_apply]
  simp only [Rect.unit, off16_eq]
  fin_cases a
  · have : (y 0).val < 1 := (y 0).isLt
    show 0 + 1 * 0 = (y 0).val
    omega
  · show 256 * ((y 1).val / 256) + 1 * ((y 1).val % 256) = (y 1).val
    omega
  · show 0 + 1 * (y 2).val = (y 2).val
    omega

/-- The three groups' pieces, whatever they store. -/
def pc0 (p : Fin k0_t1_loop.trips → Vec F S1x128x128 .f32) (k : Fin k0_t1_loop.trips) : View.Piece (Elt F) S3x2048x128 .f32 :=
  ⟨Rect.unit (k0_off4 k) S1x128x128.size (k0_off4_inb k), p k⟩
@[inherit_doc pc0] def pc1 (p : Fin k0_t2_loop.trips → Vec F S1x128x128 .f32) (k : Fin k0_t2_loop.trips) : View.Piece (Elt F) S3x2048x128 .f32 :=
  ⟨⟨(⟨k0_off8 k, S1x128x128.size, ![1, 4, 1], k0_off8_inb k⟩ : LoadRect S3x2048x128), spos_1_4_1⟩, p k⟩
@[inherit_doc pc0] def pc2 (p : Fin k0_t3_loop.trips → Vec F S1x128x128 .f32) (k : Fin k0_t3_loop.trips) : View.Piece (Elt F) S3x2048x128 .f32 :=
  ⟨⟨(⟨k0_off12 k, S1x128x128.size, ![1, 16, 1], k0_off12_inb k⟩ : LoadRect S3x2048x128), spos_1_16_1⟩, p k⟩

/-- The first group's pieces read on their slab. -/
theorem hit0 (v : View sig .tc .vmem S3x2048x128 .f32) (f : BufTy.Contents (Elt F) v.ty) (p : Fin k0_t1_loop.trips → Vec F S1x128x128 .f32) (y : S3x2048x128.Idx)
    (h0 : (y 0).val = 0) (n : ℕ) (hn : (tr0 (y 1)).val < n) : v.read (Elt F) (v.writes (Elt F) f (upto (pc0 p) n)) y = p (tr0 (y 1)) (ix3 (n0 := 1) (n1 := 128) (n2 := 128) 0 ⟨(y 1).val % 128, by omega⟩ (y 2)) :=
  read_upto_hit v f (pc0 p) y (tr0 (y 1)) (ix3 (n0 := 1) (n1 := 128) (n2 := 128) 0 ⟨(y 1).val % 128, by omega⟩ (y 2)) (at0 y h0)
    (fun k' hk' hm => hk' (mem0 k' y hm).2) n hn

/-- The second group's pieces read on their slab. -/
theorem hit1 (v : View sig .tc .vmem S3x2048x128 .f32) (f : BufTy.Contents (Elt F) v.ty) (p : Fin k0_t2_loop.trips → Vec F S1x128x128 .f32) (y : S3x2048x128.Idx)
    (h0 : (y 0).val = 1) (n : ℕ) (hn : (tr1 (y 1)).val < n) : v.read (Elt F) (v.writes (Elt F) f (upto (pc1 p) n)) y = p (tr1 (y 1)) (ix3 (n0 := 1) (n1 := 128) (n2 := 128) 0 ⟨(y 1).val % 512 / 4, by omega⟩ (y 2)) :=
  read_upto_hit v f (pc1 p) y (tr1 (y 1)) (ix3 (n0 := 1) (n1 := 128) (n2 := 128) 0 ⟨(y 1).val % 512 / 4, by omega⟩ (y 2)) (at1 y h0)
    (fun k' hk' hm => hk' (mem1 k' y hm).2) n hn

/-- The third group's pieces read on their slab. -/
theorem hit2 (v : View sig .tc .vmem S3x2048x128 .f32) (f : BufTy.Contents (Elt F) v.ty) (p : Fin k0_t3_loop.trips → Vec F S1x128x128 .f32) (y : S3x2048x128.Idx)
    (h0 : (y 0).val = 2) (n : ℕ) (hn : (tr2 (y 1)).val < n) (hy : (y 1).val / 16 < 128) :
    v.read (Elt F) (v.writes (Elt F) f (upto (pc2 p) n)) y = p (tr2 (y 1)) (ix3 (n0 := 1) (n1 := 128) (n2 := 128) 0 ⟨(y 1).val / 16, hy⟩ (y 2)) :=
  read_upto_hit v f (pc2 p) y (tr2 (y 1)) (ix3 (n0 := 1) (n1 := 128) (n2 := 128) 0 ⟨(y 1).val / 16, hy⟩ (y 2)) (at2 y h0 hy)
    (fun k' hk' hm => hk' (mem2 k' y hm).2) n hn

/-- Three groups of pieces, each on its own slab, read as the function that picks the trip of a row. -/
theorem read_three (v : View sig .tc .vmem S3x2048x128 .f32) (f : BufTy.Contents (Elt F) v.ty)
    (p0 : Fin k0_t1_loop.trips → Vec F S1x128x128 .f32) (p1 : Fin k0_t2_loop.trips → Vec F S1x128x128 .f32) (p2 : Fin k0_t3_loop.trips → Vec F S1x128x128 .f32)
    (n0 n1 n2 : ℕ) (h0 : n0 = k0_t1_loop.trips) (h1 : n1 = k0_t2_loop.trips) (h2 : n2 = k0_t3_loop.trips) (y : S3x2048x128.Idx) :
    v.read (Elt F) (v.writes (Elt F) f (upto (pc2 p2) n2 ++ (upto (pc1 p1) n1 ++ upto (pc0 p0) n0))) y
      = if (y 0).val = 0 then p0 (tr0 (y 1)) (ix3 (n0 := 1) (n1 := 128) (n2 := 128) 0 ⟨(y 1).val % 128, by omega⟩ (y 2))
        else if (y 0).val = 1 then p1 (tr1 (y 1)) (ix3 (n0 := 1) (n1 := 128) (n2 := 128) 0 ⟨(y 1).val % 512 / 4, by omega⟩ (y 2))
        else p2 (tr2 (y 1)) (ix3 (n0 := 1) (n1 := 128) (n2 := 128) 0 ⟨(y 1).val / 16, by have : (y 1).val < 2048 := (y 1).isLt; omega⟩ (y 2)) := by
  have hy0 : (y 0).val < 3 := (y 0).isLt
  rw [View.writes_append, View.writes_append]
  split_ifs with e0 e1
  · rw [read_upto_miss v _ (pc2 p2) y (fun k hk => by have := (mem2 k y hk).1; omega),
      read_upto_miss v _ (pc1 p1) y (fun k hk => by have := (mem1 k y hk).1; omega)]
    exact hit0 v _ p0 y e0 n0 (h0 ▸ (tr0 (y 1)).isLt)
  · rw [read_upto_miss v _ (pc2 p2) y (fun k hk => by have := (mem2 k y hk).1; omega)]
    exact hit1 v _ p1 y e1 n1 (h1 ▸ (tr1 (y 1)).isLt)
  · exact hit2 v _ p2 y (by omega) n2 (h2 ▸ (tr2 (y 1)).isLt) _

/-- The outputs of the three groups' loops read as one function of the row. -/
theorem scrO (v : View sig .tc .vmem S3x2048x128 .f32) (f : BufTy.Contents (Elt F) v.ty) (i : grid0.Coords) (x0 x1 x2 : Vec F S1x2048x128 .f32) (y0 y1 y2 z0 z1 z2 : Vec F S1x4096x128 .f32)
    (n0 n1 n2 : ℕ) (h0 : n0 = k0_t1_loop.trips) (h1 : n1 = k0_t2_loop.trips) (h2 : n2 = k0_t3_loop.trips) :
    v.read (Elt F) (v.writes (Elt F) f
      (upto (oPiece2 i (half i) k0_pay24 k0_pay25 lanes k0_pay26 x2 y2 z2) n2
        ++ (upto (oPiece1 i (half i) k0_pay24 lanes k0_pay26 k0_pay34 k0_pay35 x1 y1 z1) n1 ++ upto (oPiece0 i (half i) x0 y0 z0) n0)))
      = oScr i x0 x1 x2 y0 y1 y2 z0 z1 z2 :=
  funext fun y => read_three v f (fun k => (oPiece0 i (half i) x0 y0 z0 k).2) (fun k => (oPiece1 i (half i) k0_pay24 lanes k0_pay26 k0_pay34 k0_pay35 x1 y1 z1 k).2)
    (fun k => (oPiece2 i (half i) k0_pay24 k0_pay25 lanes k0_pay26 x2 y2 z2 k).2) n0 n1 n2 h0 h1 h2 y

/-- The log-sum-exps of the three groups' loops read as one function of the row. -/
theorem scrL (v : View sig .tc .vmem S3x2048x128 .f32) (f : BufTy.Contents (Elt F) v.ty) (i : grid0.Coords) (x0 x1 x2 : Vec F S1x2048x128 .f32) (y0 y1 y2 z0 z1 z2 : Vec F S1x4096x128 .f32)
    (n0 n1 n2 : ℕ) (h0 : n0 = k0_t1_loop.trips) (h1 : n1 = k0_t2_loop.trips) (h2 : n2 = k0_t3_loop.trips) :
    v.read (Elt F) (v.writes (Elt F) f
      (upto (lPiece2 i (half i) k0_pay24 k0_pay25 lanes k0_pay26 x2 y2 z2) n2
        ++ (upto (lPiece1 i (half i) k0_pay24 lanes k0_pay26 k0_pay34 k0_pay35 x1 y1 z1) n1 ++ upto (lPiece0 i (half i) x0 y0 z0) n0)))
      = lScr i x0 x1 x2 y0 y1 y2 z0 z1 z2 :=
  funext fun y => read_three v f (fun k => (lPiece0 i (half i) x0 y0 z0 k).2) (fun k => (lPiece1 i (half i) k0_pay24 lanes k0_pay26 k0_pay34 k0_pay35 x1 y1 z1 k).2)
    (fun k => (lPiece2 i (half i) k0_pay24 k0_pay25 lanes k0_pay26 x2 y2 z2 k).2) n0 n1 n2 h0 h1 h2 y

/-- The merging trips' pieces, read. -/
theorem read_merge (v : View sig .tc .vmem S1x2048x128 .bf16) (f : BufTy.Contents (Elt F) v.ty) (O L : Vec F S3x2048x128 .f32) (n : ℕ) (hn : n = k0_t4_loop.trips) (y : S1x2048x128.Idx) :
    v.read (Elt F) (v.writes (Elt F) f (upto (mPiece O L) n)) y
      = (mPiece O L (tr4 (y 1))).2 (ix3 (n0 := 1) (n1 := 256) (n2 := 128) 0 ⟨(y 1).val % 256, by omega⟩ (y 2)) :=
  read_upto_hit v f (mPiece O L) y (tr4 (y 1)) (ix3 (n0 := 1) (n1 := 256) (n2 := 128) 0 ⟨(y 1).val % 256, by omega⟩ (y 2)) (at4 y)
    (fun k' hk' hm => hk' (mem4 k' y hm)) n (hn ▸ (tr4 (y 1)).isLt)

/-- The block the four loops leave, read. -/
theorem blk_read (v12 : View sig .tc .vmem S1x2048x128 .bf16) (f12 : BufTy.Contents (Elt F) v12.ty) (v13 v14 : View sig .tc .vmem S3x2048x128 .f32)
    (f13 : BufTy.Contents (Elt F) v13.ty) (f14 : BufTy.Contents (Elt F) v14.ty) (i : grid0.Coords) (x0 x1 x2 : Vec F S1x2048x128 .f32) (y0 y1 y2 z0 z1 z2 : Vec F S1x4096x128 .f32)
    (n0 n1 n2 n4 : ℕ) (h0 : n0 = k0_t1_loop.trips) (h1 : n1 = k0_t2_loop.trips) (h2 : n2 = k0_t3_loop.trips) (h4 : n4 = k0_t4_loop.trips) :
    v12.read (Elt F) (v12.writes (Elt F) f12 (upto (mPiece
      (v13.read (Elt F) (v13.writes (Elt F) f13 (upto (oPiece2 i (half i) k0_pay24 k0_pay25 lanes k0_pay26 x2 y2 z2) n2 ++ (upto (oPiece1 i (half i) k0_pay24 lanes k0_pay26 k0_pay34 k0_pay35 x1 y1 z1) n1 ++ upto (oPiece0 i (half i) x0 y0 z0) n0))))
      (v14.read (Elt F) (v14.writes (Elt F) f14 (upto (lPiece2 i (half i) k0_pay24 k0_pay25 lanes k0_pay26 x2 y2 z2) n2 ++ (upto (lPiece1 i (half i) k0_pay24 lanes k0_pay26 k0_pay34 k0_pay35 x1 y1 z1) n1 ++ upto (lPiece0 i (half i) x0 y0 z0) n0))))) n4))
      = outBlk i x0 x1 x2 y0 y1 y2 z0 z1 z2 := by
  rw [scrO v13 f13 i x0 x1 x2 y0 y1 y2 z0 z1 z2 n0 n1 n2 h0 h1 h2, scrL v14 f14 i x0 x1 x2 y0 y1 y2 z0 z1 z2 n0 n1 n2 h0 h1 h2]
  exact funext fun y => read_merge v12 f12 _ _ n4 h4 y

set_option maxHeartbeats 800000 in
/-- The whole body: the nine input blocks stay, the output block holds the merged attention of them, the two
   scratches hold something. -/
theorem body_run (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S1x4096x128 .f32) (harg10 : arg10.IsWhole) (arg11 : Memref sig .tc .vmem S1x4096x128 .f32) (harg11 : arg11.IsWhole) (arg12 : Memref sig .tc .vmem S1x2048x128 .bf16) (harg12 : arg12.IsWhole) (arg13 : Memref sig .tc .vmem S3x2048x128 .f32) (harg13 : arg13.IsWhole) (arg14 : Memref sig .tc .vmem S3x2048x128 .f32) (harg14 : arg14.IsWhole)  (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (f12 : BufTy.Contents (Elt F) arg12.view.ty) (f13 : BufTy.Contents (Elt F) arg13.view.ty) (f14 : BufTy.Contents (Elt F) arg14.view.ty) (E : Set ℕ) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄G)
      ⊢ wp frame (wpE (defs₀ (F := F)) Variants.none (c : Thread nD τ) none) E (cc0_dilated_attention (F := F) i arg3 harg3 arg4 harg4 arg5 harg5 arg6 harg6 arg7 harg7 arg8 harg8 arg9 harg9 arg10 harg10 arg11 harg11 arg12 harg12 arg13 harg13 arg14 harg14)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (∃ f, ⌜arg12.view.read (Elt F) f = outBlk i (arg3.view.read (Elt F) X3) (arg4.view.read (Elt F) X4) (arg5.view.read (Elt F) X5) (arg6.view.read (Elt F) X6) (arg7.view.read (Elt F) X7) (arg8.view.read (Elt F) X8) (arg9.view.read (Elt F) X9) (arg10.view.read (Elt F) X10) (arg11.view.read (Elt F) X11)⌝ ∗ (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)))) := by
  rw [cc0_dilated_attention_eq_skeleton]
  unfold cc0_dilated_attention_skel
  iintro ⟨H3, H4, H5, H6, H7, H8, H9, H10, H11, H12, H13, H14⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists _
    isplitr [H12]
    rotate_left
    · iexact H12
    ipureintro
    rw [pb4_eq, pb1_eq]
    exact blk_read _ _ _ _ _ _ i _ _ _ _ _ _ _ _ _ _ _ _ _ rfl rfl rfl rfl
  isplitl [H13]; · iexists _; iexact H13
  iexists _; iexact H14

end Cert.Proof.Attn

end
-- ==== Proof.Attn.Frame.lean ====
module

public import proofs.«01_k».proof.Proof.Attn.Body
public import Idealize.ShloMosaic.Lib.Claim

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-! ## The pipeline's proof data -/

/-- Window 0's staging memref at point `t`. -/
abbrev ms0 (t : Fin cfg0.N) : Memref sig .tc .vmem S1x2048x128 .f32 := win0_0.stage (cfg0.slots t 0)
/-- Window 1's staging memref at point `t`. -/
abbrev ms1 (t : Fin cfg0.N) : Memref sig .tc .vmem S1x2048x128 .f32 := win0_1.stage (cfg0.slots t 1)
/-- Window 2's staging memref at point `t`. -/
abbrev ms2 (t : Fin cfg0.N) : Memref sig .tc .vmem S1x2048x128 .f32 := win0_2.stage (cfg0.slots t 2)
/-- Window 3's staging memref at point `t`. -/
abbrev ms3 (t : Fin cfg0.N) : Memref sig .tc .vmem S1x4096x128 .f32 := win0_3.stage (cfg0.slots t 3)
/-- Window 4's staging memref at point `t`. -/
abbrev ms4 (t : Fin cfg0.N) : Memref sig .tc .vmem S1x4096x128 .f32 := win0_4.stage (cfg0.slots t 4)
/-- Window 5's staging memref at point `t`. -/
abbrev ms5 (t : Fin cfg0.N) : Memref sig .tc .vmem S1x4096x128 .f32 := win0_5.stage (cfg0.slots t 5)
/-- Window 6's staging memref at point `t`. -/
abbrev ms6 (t : Fin cfg0.N) : Memref sig .tc .vmem S1x4096x128 .f32 := win0_6.stage (cfg0.slots t 6)
/-- Window 7's staging memref at point `t`. -/
abbrev ms7 (t : Fin cfg0.N) : Memref sig .tc .vmem S1x4096x128 .f32 := win0_7.stage (cfg0.slots t 7)
/-- Window 8's staging memref at point `t`. -/
abbrev ms8 (t : Fin cfg0.N) : Memref sig .tc .vmem S1x4096x128 .f32 := win0_8.stage (cfg0.slots t 8)
/-- Window 9's staging memref at point `t`. -/
abbrev ms9 (t : Fin cfg0.N) : Memref sig .tc .vmem S1x2048x128 .bf16 := win0_9.stage (cfg0.slots t 9)

/-! No window is idle at any point. -/
theorem live0 (t : Fin cfg0.N) : cfg0.idle 0 (grid0.coords t) = false := rfl
theorem live1 (t : Fin cfg0.N) : cfg0.idle 1 (grid0.coords t) = false := rfl
theorem live2 (t : Fin cfg0.N) : cfg0.idle 2 (grid0.coords t) = false := rfl
theorem live3 (t : Fin cfg0.N) : cfg0.idle 3 (grid0.coords t) = false := rfl
theorem live4 (t : Fin cfg0.N) : cfg0.idle 4 (grid0.coords t) = false := rfl
theorem live5 (t : Fin cfg0.N) : cfg0.idle 5 (grid0.coords t) = false := rfl
theorem live6 (t : Fin cfg0.N) : cfg0.idle 6 (grid0.coords t) = false := rfl
theorem live7 (t : Fin cfg0.N) : cfg0.idle 7 (grid0.coords t) = false := rfl
theorem live8 (t : Fin cfg0.N) : cfg0.idle 8 (grid0.coords t) = false := rfl
theorem live9 (t : Fin cfg0.N) : cfg0.idle 9 (grid0.coords t) = false := rfl

/-- The two scratches as whole memrefs. -/
abbrev scr0 : Memref sig .tc .vmem S3x2048x128 .f32 := Memref.whole cc0_scratch0
@[inherit_doc scr0] abbrev scr1 : Memref sig .tc .vmem S3x2048x128 .f32 := Memref.whole cc0_scratch1

variable (m : (ℓ : Loc nD τ sig) → Buf (Elt F) ℓ) (ρ : Dev nD → PrngReg)

/-- The block the kernel leaves at point `t`: the merged attention of the nine blocks it is given. -/
def blkOut (c : Dev nD) (t : Fin cfg0.N) : Vec F S1x2048x128 .bf16 :=
  outBlk (grid0.coords t) (iblk m c 0 t) (iblk m c 1 t) (iblk m c 2 t) (iblk m c 3 t) (iblk m c 4 t) (iblk m c 5 t) (iblk m c 6 t) (iblk m c 7 t) (iblk m c 8 t)

/-- The proof data: each input window keeps its block, the output window holds `blkOut`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => blkOut m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = blkOut m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]
theorem leaves5 (c : Dev nD) (t : Fin cfg0.N) : (dats m 0 c).leavesExact 5 t = owns (c : Thread nD τ) (ms5 t) fullShare (iblk m c 5 t) := by
  unfold Dat.leavesExact; rw [live5 t, after5]
theorem leaves6 (c : Dev nD) (t : Fin cfg0.N) : (dats m 0 c).leavesExact 6 t = owns (c : Thread nD τ) (ms6 t) fullShare (iblk m c 6 t) := by
  unfold Dat.leavesExact; rw [live6 t, after6]
theorem leaves7 (c : Dev nD) (t : Fin cfg0.N) : (dats m 0 c).leavesExact 7 t = owns (c : Thread nD τ) (ms7 t) fullShare (iblk m c 7 t) := by
  unfold Dat.leavesExact; rw [live7 t, after7]
theorem leaves8 (c : Dev nD) (t : Fin cfg0.N) : (dats m 0 c).leavesExact 8 t = owns (c : Thread nD τ) (ms8 t) fullShare (iblk m c 8 t) := by
  unfold Dat.leavesExact; rw [live8 t, after8]
theorem leaves9 (c : Dev nD) (t : Fin cfg0.N) : (dats m 0 c).leavesExact 9 t = owns (c : Thread nD τ) (ms9 t) fullShare (blkOut m c t) := by
  unfold Dat.leavesExact; rw [live9 t, after9]

/-- What the region lends the body besides the windows: the two scratches and the generator, at anything. -/
theorem lent_eq (c : Dev nD) : (Pipeline.ΦA spec0 c : sProp 𝕄G)
    = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- What the body is called with at point `t`, the windows one by one, -/
def bodyPre (c : Dev nD) (t : Fin cfg0.N) : sProp 𝕄G :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄G :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- What the run asks is what the windows and scratches hold; what it gives back is what they must hold. -/
theorem run_owns (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S1x4096x128 .f32) (harg10 : arg10.IsWhole) (arg11 : Memref sig .tc .vmem S1x4096x128 .f32) (harg11 : arg11.IsWhole) (arg12 : Memref sig .tc .vmem S1x2048x128 .bf16) (harg12 : arg12.IsWhole) (arg13 : Memref sig .tc .vmem S3x2048x128 .f32) (harg13 : arg13.IsWhole) (arg14 : Memref sig .tc .vmem S3x2048x128 .f32) (harg14 : arg14.IsWhole)  (x3 : Vec F S1x2048x128 .f32) (x4 : Vec F S1x2048x128 .f32) (x5 : Vec F S1x2048x128 .f32) (x6 : Vec F S1x4096x128 .f32) (x7 : Vec F S1x4096x128 .f32) (x8 : Vec F S1x4096x128 .f32) (x9 : Vec F S1x4096x128 .f32) (x10 : Vec F S1x4096x128 .f32) (x11 : Vec F S1x4096x128 .f32) (E : Set ℕ) :
    (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d)) : sProp 𝕄G)
      ⊢ wp frame (wpE (defs₀ (F := F)) Variants.none (c : Thread nD τ) none) E (cc0_dilated_attention (F := F) i arg3 harg3 arg4 harg4 arg5 harg5 arg6 harg6 arg7 harg7 arg8 harg8 arg9 harg9 arg10 harg10 arg11 harg11 arg12 harg12 arg13 harg13 arg14 harg14)
        (fun _ => iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (outBlk i x3 x4 x5 x6 x7 x8 x9 x10 x11) ∗ (∃ d, owns (c : Thread nD τ) arg13 fullShare d) ∗ (∃ d, owns (c : Thread nD τ) arg14 fullShare d))) := by
  unfold owns
  iintro ⟨⟨%X3, %e3, H3⟩, ⟨%X4, %e4, H4⟩, ⟨%X5, %e5, H5⟩, ⟨%X6, %e6, H6⟩, ⟨%X7, %e7, H7⟩, ⟨%X8, %e8, H8⟩, ⟨%X9, %e9, H9⟩, ⟨%X10, %e10, H10⟩, ⟨%X11, %e11, H11⟩, ⟨%d12, %f12, %e12, H12⟩, ⟨%d13, %f13, %e13, H13⟩, ⟨%d14, %f14, %e14, H14⟩⟩
  subst e3 e4 e5 e6 e7 e8 e9 e10 e11
  iapply ((body_run c i arg3 harg3 arg4 harg4 arg5 harg5 arg6 harg6 arg7 harg7 arg8 harg8 arg9 harg9 arg10 harg10 arg11 harg11 arg12 harg12 arg13 harg13 arg14 harg14 X3 X4 X5 X6 X7 X8 X9 X10 X11 f12 f13 f14 E).trans (wp_mono _ _ _ fun _ => ?_))
  · iintro ⟨H3, H4, H5, H6, H7, H8, H9, H10, H11, ⟨%g12, %k12, H12⟩, ⟨%g13, H13⟩, ⟨%g14, H14⟩⟩
    isplitl [H3]; · iexists _; isplitr; (ipureintro; rfl); iexact H3
    isplitl [H4]; · iexists _; isplitr; (ipureintro; rfl); iexact H4
    isplitl [H5]; · iexists _; isplitr; (ipureintro; rfl); iexact H5
    isplitl [H6]; · iexists _; isplitr; (ipureintro; rfl); iexact H6
    isplitl [H7]; · iexists _; isplitr; (ipureintro; rfl); iexact H7
    isplitl [H8]; · iexists _; isplitr; (ipureintro; rfl); iexact H8
    isplitl [H9]; · iexists _; isplitr; (ipureintro; rfl); iexact H9
    isplitl [H10]; · iexists _; isplitr; (ipureintro; rfl); iexact H10
    isplitl [H11]; · iexists _; isplitr; (ipureintro; rfl); iexact H11
    isplitl [H12]; · iexists _; isplitr; (ipureintro; exact k12); iexact H12
    isplitl [H13]; · iexists (arg13.view.read (Elt F) g13); iexists g13; isplitr; (ipureintro; rfl); iexact H13
    iexists (arg14.view.read (Elt F) g14); iexists g14; isplitr; (ipureintro; rfl); iexact H14
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The same with anything else held along. -/
theorem run_along (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S1x4096x128 .f32) (harg10 : arg10.IsWhole) (arg11 : Memref sig .tc .vmem S1x4096x128 .f32) (harg11 : arg11.IsWhole) (arg12 : Memref sig .tc .vmem S1x2048x128 .bf16) (harg12 : arg12.IsWhole) (arg13 : Memref sig .tc .vmem S3x2048x128 .f32) (harg13 : arg13.IsWhole) (arg14 : Memref sig .tc .vmem S3x2048x128 .f32) (harg14 : arg14.IsWhole)  (x3 : Vec F S1x2048x128 .f32) (x4 : Vec F S1x2048x128 .f32) (x5 : Vec F S1x2048x128 .f32) (x6 : Vec F S1x4096x128 .f32) (x7 : Vec F S1x4096x128 .f32) (x8 : Vec F S1x4096x128 .f32) (x9 : Vec F S1x4096x128 .f32) (x10 : Vec F S1x4096x128 .f32) (x11 : Vec F S1x4096x128 .f32) (E : Set ℕ) (R : sProp 𝕄G) :
    (iprop((owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d)) ∗ R) : sProp 𝕄G)
      ⊢ wp frame (wpE (defs₀ (F := F)) Variants.none (c : Thread nD τ) none) E (cc0_dilated_attention (F := F) i arg3 harg3 arg4 harg4 arg5 harg5 arg6 harg6 arg7 harg7 arg8 harg8 arg9 harg9 arg10 harg10 arg11 harg11 arg12 harg12 arg13 harg13 arg14 harg14)
        (fun _ => iprop((owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (outBlk i x3 x4 x5 x6 x7 x8 x9 x10 x11) ∗ (∃ d, owns (c : Thread nD τ) arg13 fullShare d) ∗ (∃ d, owns (c : Thread nD τ) arg14 fullShare d)) ∗ R)) :=
  (Idealize.SL.BI.Laws.sep_mono_left (run_owns c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 E)).trans (wp_frame_r _ _ _)

/-- The body at any point. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0, before1, before2, before3, before4, before5, before6, before7, before8,
    leaves0, leaves1, leaves2, leaves3, leaves4, leaves5, leaves6, leaves7, leaves8, leaves9]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, lent_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((run_along c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Set.univ (iprop((dats m 0 c).owesAt () t.castSucc ∗ (∃ r, prngReg c r)))).trans (wp_mono _ _ _ fun _ => ?_))
  · iintro ⟨⟨H0, H1, H2, H3, H4, H5, H6, H7, H8, H9, HS0, HS1⟩, Ho, Hg⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitr [Ho Hg]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    iexact HS1
  isplitl [Ho]; · iexact Ho
  iexact Hg

/-- The body table's row at point `t`'s slots is the body at that point. -/
theorem row_eq (t : Fin cfg0.N) : defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
/-- The launch: every weakly fair execution ends, every array as the pipeline leaves it and every counter at zero. -/
theorem run_both : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl) (howed := fun _ _ => rfl) (V := V m)
    (hmain := hmain m Variants.none) (hA := A_eq m) (hΦ := fun _ _ => rfl)

/-- The same without the counters. -/
theorem run_arrays : θ_run defs (onTc (τ := τ) (main (F := F))) (s₀ m ρ) (Pipeline.FramePost cfgs (dats m) 0 (V m)) :=
  (θ_run defs _ _).mono (fun _ h => h.1) (run_both m ρ)

/-- The argument ends unchanged and every counter at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_and (frame_of m ρ (dats m) (A_eq m) (run_arrays m ρ)) ((θ_run defs _ _).mono (fun _ h => h.2) (run_both m ρ))

end Cert.Proof.Attn

end
-- ==== Proof.AttnBits.Frame.lean ====
module

public import proofs.«01_k».proof.Proof.Gen.Kernel.Loops
public import proofs.«01_k».proof.Proof.Gen.Kernel.Frame
public import Idealize.ShloMosaic.Lib.Claim

@[expose] public section

set_option maxRecDepth 16384

noncomputable section

namespace Cert.Proof.AttnBits

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! The attention kernel as compiled, at any values: that it ends and leaves its input alone. -/

/-- What holds before each trip of group 1's loop: the three blocks it reads, and the two scratches at anything. -/
abbrev held1 (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S1x4096x128 .f32) (harg10 : arg10.IsWhole) (arg11 : Memref sig .tc .vmem S1x4096x128 .f32) (harg11 : arg11.IsWhole) (arg12 : Memref sig .tc .vmem S1x2048x128 .bf16) (harg12 : arg12.IsWhole) (arg13 : Memref sig .tc .vmem S3x2048x128 .f32) (harg13 : arg13.IsWhole) (arg14 : Memref sig .tc .vmem S3x2048x128 .f32) (harg14 : arg14.IsWhole)  (arg2 : BitVec 32) (v2 : IVec S128x128 1) (v20 : IVec S256x256 32) (v21 : FVec F S256x128 .bf16) (v35 : IVec S256x256 1) (v37 : IVec S256x256 1) (X4 : BufTy.Contents (Elt F) arg4.view.ty) (X7 : BufTy.Contents (Elt F) arg7.view.ty) (X10 : BufTy.Contents (Elt F) arg10.view.ty) (k : ℕ) (_u : PUnit) : sProp 𝕄G :=
  iprop((arg4.view.loc (c : Thread nD τ) ↦[arg4.view.set]{fullShare} X4) ∗ (arg7.view.loc (c : Thread nD τ) ↦[arg7.view.set]{fullShare} X7) ∗ (arg10.view.loc (c : Thread nD τ) ↦[arg10.view.set]{fullShare} X10) ∗ (∃ f, (arg13.view.loc (c : Thread nD τ) ↦[arg13.view.set]{fullShare} f)) ∗ (∃ f, (arg14.view.loc (c : Thread nD τ) ↦[arg14.view.set]{fullShare} f)))

set_option maxHeartbeats 400000 in
set_option warn.classDefReducibility false in
/-- Group 1's loop by its invariant. -/
@[sl_loop] def loopHeld1 (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S1x4096x128 .f32) (harg10 : arg10.IsWhole) (arg11 : Memref sig .tc .vmem S1x4096x128 .f32) (harg11 : arg11.IsWhole) (arg12 : Memref sig .tc .vmem S1x2048x128 .bf16) (harg12 : arg12.IsWhole) (arg13 : Memref sig .tc .vmem S3x2048x128 .f32) (harg13 : arg13.IsWhole) (arg14 : Memref sig .tc .vmem S3x2048x128 .f32) (harg14 : arg14.IsWhole)  (arg2 : BitVec 32) (v2 : IVec S128x128 1) (v20 : IVec S256x256 32) (v21 : FVec F S256x128 .bf16) (v35 : IVec S256x256 1) (v37 : IVec S256x256 1) (X4 : BufTy.Contents (Elt F) arg4.view.ty) (X7 : BufTy.Contents (Elt F) arg7.view.ty) (X10 : BufTy.Contents (Elt F) arg10.view.ty) (E : Set ℕ) :
    LoopInvTy_k0_t2 (F := F) Unit ℕ (UR sig nD τ) ℕ Variants.none c none E i arg3 harg3 arg4 harg4 arg5 harg5 arg6 harg6 arg7 harg7 arg8 harg8 arg9 harg9 arg10 harg10 arg11 harg11 arg12 harg12 arg13 harg13 arg14 harg14 arg2 v2 v20 v21 v35 v37 where
  inv := held1 (F := F) c i arg3 harg3 arg4 harg4 arg5 harg5 arg6 harg6 arg7 harg7 arg8 harg8 arg9 harg9 arg10 harg10 arg11 harg11 arg12 harg12 arg13 harg13 arg14 harg14 arg2 v2 v20 v21 v35 v37 X4 X7 X10
  step k acc := by
    iintro ⟨HQ, HK, HV, ⟨%f13, H13⟩, ⟨%f14, H14⟩⟩
    unfold k0_t2_body
    sl_exec
    sl_step
    isplitl [HQ]; · iexact HQ
    isplitl [HK]; · iexact HK
    isplitl [HV]; · iexact HV
    isplitl [H13]; · iexists _; iexact H13
    iexists _; iexact H14

/-- What holds before each trip of group 2's loop: the three blocks it reads, and the two scratches at anything. -/
abbrev held2 (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S1x4096x128 .f32) (harg10 : arg10.IsWhole) (arg11 : Memref sig .tc .vmem S1x4096x128 .f32) (harg11 : arg11.IsWhole) (arg12 : Memref sig .tc .vmem S1x2048x128 .bf16) (harg12 : arg12.IsWhole) (arg13 : Memref sig .tc .vmem S3x2048x128 .f32) (harg13 : arg13.IsWhole) (arg14 : Memref sig .tc .vmem S3x2048x128 .f32) (harg14 : arg14.IsWhole)  (arg2 : BitVec 32) (v2 : IVec S128x128 1) (v19 : IVec S256x256 32) (v20 : IVec S256x256 32) (v21 : FVec F S256x128 .bf16) (X5 : BufTy.Contents (Elt F) arg5.view.ty) (X8 : BufTy.Contents (Elt F) arg8.view.ty) (X11 : BufTy.Contents (Elt F) arg11.view.ty) (k : ℕ) (_u : PUnit) : sProp 𝕄G :=
  iprop((arg5.view.loc (c : Thread nD τ) ↦[arg5.view.set]{fullShare} X5) ∗ (arg8.view.loc (c : Thread nD τ) ↦[arg8.view.set]{fullShare} X8) ∗ (arg11.view.loc (c : Thread nD τ) ↦[arg11.view.set]{fullShare} X11) ∗ (∃ f, (arg13.view.loc (c : Thread nD τ) ↦[arg13.view.set]{fullShare} f)) ∗ (∃ f, (arg14.view.loc (c : Thread nD τ) ↦[arg14.view.set]{fullShare} f)))

set_option maxHeartbeats 400000 in
set_option warn.classDefReducibility false in
/-- Group 2's loop by its invariant. -/
@[sl_loop] def loopHeld2 (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S1x4096x128 .f32) (harg10 : arg10.IsWhole) (arg11 : Memref sig .tc .vmem S1x4096x128 .f32) (harg11 : arg11.IsWhole) (arg12 : Memref sig .tc .vmem S1x2048x128 .bf16) (harg12 : arg12.IsWhole) (arg13 : Memref sig .tc .vmem S3x2048x128 .f32) (harg13 : arg13.IsWhole) (arg14 : Memref sig .tc .vmem S3x2048x128 .f32) (harg14 : arg14.IsWhole)  (arg2 : BitVec 32) (v2 : IVec S128x128 1) (v19 : IVec S256x256 32) (v20 : IVec S256x256 32) (v21 : FVec F S256x128 .bf16) (X5 : BufTy.Contents (Elt F) arg5.view.ty) (X8 : BufTy.Contents (Elt F) arg8.view.ty) (X11 : BufTy.Contents (Elt F) arg11.view.ty) (E : Set ℕ) :
    LoopInvTy_k0_t3 (F := F) Unit ℕ (UR sig nD τ) ℕ Variants.none c none E i arg3 harg3 arg4 harg4 arg5 harg5 arg6 harg6 arg7 harg7 arg8 harg8 arg9 harg9 arg10 harg10 arg11 harg11 arg12 harg12 arg13 harg13 arg14 harg14 arg2 v2 v19 v20 v21 where
  inv := held2 (F := F) c i arg3 harg3 arg4 harg4 arg5 harg5 arg6 harg6 arg7 harg7 arg8 harg8 arg9 harg9 arg10 harg10 arg11 harg11 arg12 harg12 arg13 harg13 arg14 harg14 arg2 v2 v19 v20 v21 X5 X8 X11
  step k acc := by
    iintro ⟨HQ, HK, HV, ⟨%f13, H13⟩, ⟨%f14, H14⟩⟩
    unfold k0_t3_body
    sl_exec
    sl_step
    isplitl [HQ]; · iexact HQ
    isplitl [HK]; · iexact HK
    isplitl [HV]; · iexact HV
    isplitl [H13]; · iexists _; iexact H13
    iexists _; iexact H14

/-- A memref whose elements are held is owned at whatever they read. -/
theorem hold_any {c : Dev nD} {s : Shape} {e : EltTy} (b : Memref sig .tc .vmem s e) (f : BufTy.Contents (Elt F) b.view.ty) :
    ((b.view.loc (c : Thread nD τ) ↦[b.view.set]{fullShare} f) : sProp 𝕄G) ⊢ iprop(∃ d, owns (c : Thread nD τ) b fullShare d) := by
  unfold owns
  iintro H
  iexists (b.view.read (Elt F) f)
  iexists f
  isplitr
  · ipureintro; rfl
  iexact H

set_option maxHeartbeats 800000 in
/-- The whole body, run: the nine input blocks stay, the output block and the two scratches hold something. -/
theorem run_any (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S1x4096x128 .f32) (harg10 : arg10.IsWhole) (arg11 : Memref sig .tc .vmem S1x4096x128 .f32) (harg11 : arg11.IsWhole) (arg12 : Memref sig .tc .vmem S1x2048x128 .bf16) (harg12 : arg12.IsWhole) (arg13 : Memref sig .tc .vmem S3x2048x128 .f32) (harg13 : arg13.IsWhole) (arg14 : Memref sig .tc .vmem S3x2048x128 .f32) (harg14 : arg14.IsWhole)  (x3 : Vec F S1x2048x128 .f32) (x4 : Vec F S1x2048x128 .f32) (x5 : Vec F S1x2048x128 .f32) (x6 : Vec F S1x4096x128 .f32) (x7 : Vec F S1x4096x128 .f32) (x8 : Vec F S1x4096x128 .f32) (x9 : Vec F S1x4096x128 .f32) (x10 : Vec F S1x4096x128 .f32) (x11 : Vec F S1x4096x128 .f32) (E : Set ℕ) :
    (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d)) : sProp 𝕄G)
      ⊢ wp frame (wpE (defs₀ (F := F)) Variants.none (c : Thread nD τ) none) E (cc0_dilated_attention (F := F) i arg3 harg3 arg4 harg4 arg5 harg5 arg6 harg6 arg7 harg7 arg8 harg8 arg9 harg9 arg10 harg10 arg11 harg11 arg12 harg12 arg13 harg13 arg14 harg14)
        (fun _ => iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d))) := by
  rw [cc0_dilated_attention_eq_skeleton]
  unfold cc0_dilated_attention_skel owns
  iintro ⟨⟨%X3, %e3, H3⟩, ⟨%X4, %e4, H4⟩, ⟨%X5, %e5, H5⟩, ⟨%X6, %e6, H6⟩, ⟨%X7, %e7, H7⟩, ⟨%X8, %e8, H8⟩, ⟨%X9, %e9, H9⟩, ⟨%X10, %e10, H10⟩, ⟨%X11, %e11, H11⟩, ⟨%d12, %f12, %e12, H12⟩, ⟨%d13, %f13, %e13, H13⟩, ⟨%d14, %f14, %e14, H14⟩⟩
  subst e3 e4 e5 e6 e7 e8 e9 e10 e11
  sl_exec
  sl_step
  isplitl [H3]; · iexists _; isplitr; (ipureintro; rfl); iexact H3
  isplitl [H4]; · iexists _; isplitr; (ipureintro; rfl); iexact H4
  isplitl [H5]; · iexists _; isplitr; (ipureintro; rfl); iexact H5
  isplitl [H6]; · iexists _; isplitr; (ipureintro; rfl); iexact H6
  isplitl [H7]; · iexists _; isplitr; (ipureintro; rfl); iexact H7
  isplitl [H8]; · iexists _; isplitr; (ipureintro; rfl); iexact H8
  isplitl [H9]; · iexists _; isplitr; (ipureintro; rfl); iexact H9
  isplitl [H10]; · iexists _; isplitr; (ipureintro; rfl); iexact H10
  isplitl [H11]; · iexists _; isplitr; (ipureintro; rfl); iexact H11
  isplitl [H12]; · iapply (hold_any (c := c) arg12 _); iexact H12
  isplitl [H13]; · iapply (hold_any (c := c) arg13 _); iexact H13
  iapply (hold_any (c := c) arg14 _); iexact H14

/-- The same with anything else held along. -/
theorem run_along (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S1x4096x128 .f32) (harg10 : arg10.IsWhole) (arg11 : Memref sig .tc .vmem S1x4096x128 .f32) (harg11 : arg11.IsWhole) (arg12 : Memref sig .tc .vmem S1x2048x128 .bf16) (harg12 : arg12.IsWhole) (arg13 : Memref sig .tc .vmem S3x2048x128 .f32) (harg13 : arg13.IsWhole) (arg14 : Memref sig .tc .vmem S3x2048x128 .f32) (harg14 : arg14.IsWhole)  (x3 : Vec F S1x2048x128 .f32) (x4 : Vec F S1x2048x128 .f32) (x5 : Vec F S1x2048x128 .f32) (x6 : Vec F S1x4096x128 .f32) (x7 : Vec F S1x4096x128 .f32) (x8 : Vec F S1x4096x128 .f32) (x9 : Vec F S1x4096x128 .f32) (x10 : Vec F S1x4096x128 .f32) (x11 : Vec F S1x4096x128 .f32) (E : Set ℕ) (R : sProp 𝕄G) :
    (iprop((owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d)) ∗ R) : sProp 𝕄G)
      ⊢ wp frame (wpE (defs₀ (F := F)) Variants.none (c : Thread nD τ) none) E (cc0_dilated_attention (F := F) i arg3 harg3 arg4 harg4 arg5 harg5 arg6 harg6 arg7 harg7 arg8 harg8 arg9 harg9 arg10 harg10 arg11 harg11 arg12 harg12 arg13 harg13 arg14 harg14)
        (fun _ => iprop((owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d)) ∗ R)) :=
  (Idealize.SL.BI.Laws.sep_mono_left (run_any c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 E)).trans (wp_frame_r _ _ _)

/-! ## The pipeline's proof data -/

/-- Window 0's staging memref at point `t`. -/
abbrev ms0 (t : Fin cfg0.N) : Memref sig .tc .vmem S1x2048x128 .f32 := win0_0.stage (cfg0.slots t 0)
/-- Window 1's staging memref at point `t`. -/
abbrev ms1 (t : Fin cfg0.N) : Memref sig .tc .vmem S1x2048x128 .f32 := win0_1.stage (cfg0.slots t 1)
/-- Window 2's staging memref at point `t`. -/
abbrev ms2 (t : Fin cfg0.N) : Memref sig .tc .vmem S1x2048x128 .f32 := win0_2.stage (cfg0.slots t 2)
/-- Window 3's staging memref at point `t`. -/
abbrev ms3 (t : Fin cfg0.N) : Memref sig .tc .vmem S1x4096x128 .f32 := win0_3.stage (cfg0.slots t 3)
/-- Window 4's staging memref at point `t`. -/
abbrev ms4 (t : Fin cfg0.N) : Memref sig .tc .vmem S1x4096x128 .f32 := win0_4.stage (cfg0.slots t 4)
/-- Window 5's staging memref at point `t`. -/
abbrev ms5 (t : Fin cfg0.N) : Memref sig .tc .vmem S1x4096x128 .f32 := win0_5.stage (cfg0.slots t 5)
/-- Window 6's staging memref at point `t`. -/
abbrev ms6 (t : Fin cfg0.N) : Memref sig .tc .vmem S1x4096x128 .f32 := win0_6.stage (cfg0.slots t 6)
/-- Window 7's staging memref at point `t`. -/
abbrev ms7 (t : Fin cfg0.N) : Memref sig .tc .vmem S1x4096x128 .f32 := win0_7.stage (cfg0.slots t 7)
/-- Window 8's staging memref at point `t`. -/
abbrev ms8 (t : Fin cfg0.N) : Memref sig .tc .vmem S1x4096x128 .f32 := win0_8.stage (cfg0.slots t 8)
/-- Window 9's staging memref at point `t`. -/
abbrev ms9 (t : Fin cfg0.N) : Memref sig .tc .vmem S1x2048x128 .bf16 := win0_9.stage (cfg0.slots t 9)

/-! No window is idle at any point. -/
theorem live0 (t : Fin cfg0.N) : cfg0.idle 0 (grid0.coords t) = false := rfl
theorem live1 (t : Fin cfg0.N) : cfg0.idle 1 (grid0.coords t) = false := rfl
theorem live2 (t : Fin cfg0.N) : cfg0.idle 2 (grid0.coords t) = false := rfl
theorem live3 (t : Fin cfg0.N) : cfg0.idle 3 (grid0.coords t) = false := rfl
theorem live4 (t : Fin cfg0.N) : cfg0.idle 4 (grid0.coords t) = false := rfl
theorem live5 (t : Fin cfg0.N) : cfg0.idle 5 (grid0.coords t) = false := rfl
theorem live6 (t : Fin cfg0.N) : cfg0.idle 6 (grid0.coords t) = false := rfl
theorem live7 (t : Fin cfg0.N) : cfg0.idle 7 (grid0.coords t) = false := rfl
theorem live8 (t : Fin cfg0.N) : cfg0.idle 8 (grid0.coords t) = false := rfl
theorem live9 (t : Fin cfg0.N) : cfg0.idle 9 (grid0.coords t) = false := rfl

/-- The two scratches as whole memrefs. -/
abbrev scr0 : Memref sig .tc .vmem S3x2048x128 .f32 := Memref.whole cc0_scratch0
@[inherit_doc scr0] abbrev scr1 : Memref sig .tc .vmem S3x2048x128 .f32 := Memref.whole cc0_scratch1

variable (m : (ℓ : Loc nD τ sig) → Buf (Elt F) ℓ) (ρ : Dev nD → PrngReg)

/-- The output window's contents are not named. -/
def forgot : Fin 10 → Bool := fun w => w.val == 9

/-- The proof data: each input window keeps its block, what the output window holds is not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]
theorem leaves5 (c : Dev nD) (t : Fin cfg0.N) : (dats m 0 c).leavesExact 5 t = owns (c : Thread nD τ) (ms5 t) fullShare (iblk m c 5 t) := by
  unfold Dat.leavesExact; rw [live5 t, after5]
theorem leaves6 (c : Dev nD) (t : Fin cfg0.N) : (dats m 0 c).leavesExact 6 t = owns (c : Thread nD τ) (ms6 t) fullShare (iblk m c 6 t) := by
  unfold Dat.leavesExact; rw [live6 t, after6]
theorem leaves7 (c : Dev nD) (t : Fin cfg0.N) : (dats m 0 c).leavesExact 7 t = owns (c : Thread nD τ) (ms7 t) fullShare (iblk m c 7 t) := by
  unfold Dat.leavesExact; rw [live7 t, after7]
theorem leaves8 (c : Dev nD) (t : Fin cfg0.N) : (dats m 0 c).leavesExact 8 t = owns (c : Thread nD τ) (ms8 t) fullShare (iblk m c 8 t) := by
  unfold Dat.leavesExact; rw [live8 t, after8]

/-- What the region lends the body besides the windows: the two scratches and the generator, at anything. -/
theorem lent_eq (c : Dev nD) : (Pipeline.ΦA spec0 c : sProp 𝕄G)
    = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- What the body is called with at point `t`, the windows one by one, -/
def bodyPre (c : Dev nD) (t : Fin cfg0.N) : sProp 𝕄G :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare d))

/-- and what it returns. -/
def bodyPost (c : Dev nD) (t : Fin cfg0.N) : sProp 𝕄G :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (∃ d, owns (c : Thread nD τ) (ms9 t) fullShare d))

/-- The body at any point. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0, before1, before2, before3, before4, before5, before6, before7, before8,
    leaves0, leaves1, leaves2, leaves3, leaves4, leaves5, leaves6, leaves7, leaves8]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, lent_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((run_along c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Set.univ (iprop((dats m 0 c).owesAt () t.castSucc ∗ (∃ r, prngReg c r)))).trans (wp_mono _ _ _ fun _ => ?_))
  · iintro ⟨⟨H0, H1, H2, H3, H4, H5, H6, H7, H8, H9, HS0, HS1⟩, Ho, Hg⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitr [Ho Hg]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    iexact HS1
  isplitl [Ho]; · iexact Ho
  iexact Hg

/-- The body table's row at point `t`'s slots is the body at that point. -/
theorem row_eq (t : Fin cfg0.N) : defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ forgot := fun t => by
  rw [bigSep_W0, bigSep_W0, row_eq]
  exact triple_restated (sound_body m c t) rfl .rfl fun _ => .rfl

set_option backward.isDefEq.respectTransparency.types false in
/-- The launch: every weakly fair execution ends, every input array as it was and every counter at zero. -/
theorem run_both : θ_run defs (onTc (τ := τ) (main (F := F))) (s₀ m ρ) (fun r => Pipeline.RDat.FramePost (cfgs 0) (fun c => (dats m 0 c).toRForget forgot) (V m) r ∧ r.2.sem = fun _ => 0) :=
  Pipeline.θ_run_frame_forget_shared (Q' := _) cfgs (dats m) (0 : Fin 1) launch₀0 defs₀ Variants.none forgot m ρ main
    (hbody := fun c => (body_obligation m c).loose) (hq := fun _ _ _ => rfl) (howed := fun _ _ => rfl) (V := V m)
    (hmain := hmain m Variants.none) (hA := A_eq m) (hΦ := fun _ _ => rfl)

/-- The argument ends unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => (Pipeline.RDat.FramePost.arr_in h.1 c 8 rfl).trans ((A_eq m c 8).trans (V_main_arg0 m c)), h.2⟩) (run_both m ρ)

end Cert.Proof.AttnBits

end
-- ==== Proof.Frames.lean ====
/- Each program runs to the end and leaves its arguments and its semaphores as they were. -/
module

public import proofs.«01_k».proof.Defs
public import proofs.«01_k».proof.Proof.Attn.Frame
public import proofs.«01_k».proof.Proof.AttnBits.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run

@[expose] public section

noncomputable section

namespace Cert.Proof.Frames

open Idealize.ShloMosaic Idealize.ShloMosaic.TcCoe Idealize.SL.Sem

/-- The attention kernel, as compiled: it ends, its input array unchanged and every counter at zero. -/
theorem attention : Cert.quiescent_Kernel := fun m ρ _ => Cert.Proof.AttnBits.frame_any m ρ

/-- The attention kernel with its mask word read as minus infinity: the same. -/
theorem attention_ideal : Cert.quiescent_KernelIdeal := fun m ρ _ => Cert.Proof.Attn.frame_ideal m ρ

/-- The plain attention: the host run, read at its argument; it declares no semaphore. -/
theorem attention_plain : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The feed-forward kernel, as compiled: it ends, its six arrays unchanged and every counter at zero. -/
theorem ffn : Cert.quiescent_Kernel2 := fun m ρ _ => Cert.Kernel2.Gen.frame m ρ

/-- The feed-forward kernel over the extended reals: the same. -/
theorem ffn_ideal : Cert.quiescent_Kernel2Ideal := fun m ρ _ => Cert.Kernel2Ideal.Gen.frame m ρ

/-- The plain feed-forward: the host run, read at its arguments; it declares no semaphore. -/
theorem ffn_plain : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The norm and projection kernel, as compiled: it ends, its five arrays unchanged and every counter at zero. -/
theorem proj : Cert.quiescent_Kernel3 := fun m ρ _ => Cert.Kernel3.Gen.frame m ρ

/-- The norm and projection kernel over the extended reals: the same. -/
theorem proj_ideal : Cert.quiescent_Kernel3Ideal := fun m ρ _ => Cert.Kernel3Ideal.Gen.frame m ρ

/-- The plain norm and projection: the host run, read at its arguments; it declares no semaphore. -/
theorem proj_plain : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The output projection, as compiled: it ends, its three arrays unchanged and every counter at zero. -/
theorem out : Cert.quiescent_Kernel4 := fun m ρ _ => Cert.Kernel4.Gen.frame m ρ

/-- The output projection over the extended reals: the same. -/
theorem out_ideal : Cert.quiescent_Kernel4Ideal := fun m ρ _ => Cert.Kernel4Ideal.Gen.frame m ρ

/-- The plain output projection: the host run, read at its arguments; it declares no semaphore. -/
theorem out_plain : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The only word read anew is the mask, and minus infinity is what it stands for. -/
theorem attention_preserves : Cert.preserves_Kernel_KernelIdeal :=
  IdealRules.named_const.statement Cert.KernelIdeal.κ "mask" .f32 0xF149F2CA#32 ⊥ rfl

/-- The feed-forward kernel's two programs have the same words. -/
theorem ffn_preserves : Cert.preserves_Kernel2_Kernel2Ideal := trivial

/-- The norm and projection kernel's two programs have the same words. -/
theorem proj_preserves : Cert.preserves_Kernel3_Kernel3Ideal := trivial

/-- The output projection's two programs have the same words. -/
theorem out_preserves : Cert.preserves_Kernel4_Kernel4Ideal := trivial

end Cert.Proof.Frames

end
-- ==== Proof.Attn.Math.lean ====
/- The mathematics of one row of attention and of the merge of three groups, over the extended reals. -/
module

public import Idealize.ShloMosaic.Lib.Pointwise

@[expose] public section

noncomputable section

namespace Cert.Proof.Attn.Math

open Idealize.ShloMosaic Idealize.ShloMosaic.Tactic

/-! ## One row -/

/-- The largest score of a row. -/
def top (M : Fin 256 → EReal) : EReal := Finset.univ.fold max ⊥ M
/-- A key's unnormalised weight. -/
def wt (M : Fin 256 → EReal) (c : Fin 256) : EReal := Ideal.exp (M c - top M)
/-- The sum of a row's weights. -/
def den (M : Fin 256 → EReal) : EReal := ∑ c, wt M c
/-- The weighted sum of a row's values. -/
def num (M V : Fin 256 → EReal) : EReal := ∑ c, wt M c * V c

/-- A key that is not seen has no weight. -/
theorem wt_bot (M : Fin 256 → EReal) (c : Fin 256) (h : M c = ⊥) : wt M c = 0 := by
  rw [wt, h, sub_eq_add_neg, EReal.bot_add, Ideal.exp_bot]

/-- The weighted sum looks only at the values of the keys that are seen. -/
theorem num_congr (M V W : Fin 256 → EReal) (h : ∀ c, M c ≠ ⊥ → V c = W c) : num M V = num M W := by
  refine Finset.sum_congr rfl fun c _ => ?_
  by_cases hc : M c = ⊥
  · rw [wt_bot M c hc, zero_mul, zero_mul]
  · rw [h c hc]

theorem le_top (M : Fin 256 → EReal) (c : Fin 256) : M c ≤ top M :=
  (Finset.le_fold_max (M c)).mpr (Or.inr ⟨c, Finset.mem_univ c, le_refl _⟩)

/-- With every seen score finite and one seen key, the largest score is a real. -/
theorem top_real (M : Fin 256 → EReal) (c0 : Fin 256) (h0 : M c0 ≠ ⊥) (h : ∀ c, M c ≠ ⊤) : ∃ m : ℝ, top M = (m : EReal) := by
  have hb : top M ≠ ⊥ := fun e => h0 (le_bot_iff.mp (e ▸ le_top M c0))
  have ht : top M ≠ ⊤ := by
    have : top M < ⊤ := (Finset.fold_max_lt ⊤).mpr ⟨bot_lt_top, fun c _ => lt_top_iff_ne_top.mpr (h c)⟩
    exact this.ne
  exact ⟨(top M).toReal, (EReal.coe_toReal ht hb).symm⟩

/-- A finite sum of reals, taken in the extended reals. -/
theorem coe_sum' {ι : Type} (s : Finset ι) (f : ι → ℝ) : ∑ i ∈ s, ((f i : ℝ) : EReal) = ((∑ i ∈ s, f i : ℝ) : EReal) := by
  classical
  induction s using Finset.induction_on with
  | empty => rw [Finset.sum_empty, Finset.sum_empty]; rfl
  | insert a s ha ih => rw [Finset.sum_insert ha, Finset.sum_insert ha, ih, EReal.coe_add]

/-- With every seen score finite and one seen key, the sum of the weights is a positive real. -/
theorem den_real (M : Fin 256 → EReal) (c0 : Fin 256) (h0 : M c0 ≠ ⊥) (h : ∀ c, M c ≠ ⊤) : ∃ d : ℝ, 0 < d ∧ den M = (d : EReal) := by
  obtain ⟨m, hm⟩ := top_real M c0 h0 h
  have hw : ∀ c, ∃ w : ℝ, 0 ≤ w ∧ (M c ≠ ⊥ → 0 < w) ∧ wt M c = (w : EReal) := fun c => by
    by_cases hc : M c = ⊥
    · exact ⟨0, le_refl _, fun e => absurd hc e, wt_bot M c hc⟩
    · refine ⟨Real.exp ((M c).toReal - m), (Real.exp_pos _).le, fun _ => Real.exp_pos _, ?_⟩
      rw [wt, hm, ← EReal.coe_toReal (h c) hc, ← EReal.coe_sub, Ideal.exp_coe, EReal.toReal_coe]
  choose w hw0 hwp hwe using hw
  refine ⟨∑ c, w c, ?_, ?_⟩
  · exact Finset.sum_pos' (fun c _ => hw0 c) ⟨c0, Finset.mem_univ c0, hwp c0 h0⟩
  · rw [den, Finset.sum_congr rfl fun c _ => hwe c, coe_sum']

/-! ## The merge -/

/-- Merging three groups by the log-sum-exps of their rows. -/
def mergeLse (L0 L1 L2 O0 O1 O2 : EReal) : EReal :=
  Ideal.div (Ideal.exp (L0 - max (max L0 L1) L2) * O0 + Ideal.exp (L1 - max (max L0 L1) L2) * O1 + Ideal.exp (L2 - max (max L0 L1) L2) * O2)
    (Ideal.exp (L0 - max (max L0 L1) L2) + Ideal.exp (L1 - max (max L0 L1) L2) + Ideal.exp (L2 - max (max L0 L1) L2))

/-- Merging three groups by the sums of their weights, each rescaled to the largest score of all. -/
def mergeDen (m0 m1 m2 d0 d1 d2 O0 O1 O2 : EReal) : EReal :=
  Ideal.div (d0 * Ideal.exp (m0 - max (max m0 m1) m2)) (d0 * Ideal.exp (m0 - max (max m0 m1) m2) + d1 * Ideal.exp (m1 - max (max m0 m1) m2) + d2 * Ideal.exp (m2 - max (max m0 m1) m2)) * O0
    + Ideal.div (d1 * Ideal.exp (m1 - max (max m0 m1) m2)) (d0 * Ideal.exp (m0 - max (max m0 m1) m2) + d1 * Ideal.exp (m1 - max (max m0 m1) m2) + d2 * Ideal.exp (m2 - max (max m0 m1) m2)) * O1
    + Ideal.div (d2 * Ideal.exp (m2 - max (max m0 m1) m2)) (d0 * Ideal.exp (m0 - max (max m0 m1) m2) + d1 * Ideal.exp (m1 - max (max m0 m1) m2) + d2 * Ideal.exp (m2 - max (max m0 m1) m2)) * O2

theorem coe_max' (a b : ℝ) : max (a : EReal) (b : EReal) = ((max a b : ℝ) : EReal) :=
  (EReal.coe_strictMono.monotone.map_max (a := a) (b := b)).symm

/-- Three terms divided by a positive real, each on its own. -/
theorem div_three (u0 u1 u2 : ℝ) (U : ℝ) (hU : 0 < U) (O0 O1 O2 : EReal) :
    Ideal.div ((u0 : EReal) * O0 + u1 * O1 + u2 * O2) (U : EReal)
      = ((u0 * (1 / U) : ℝ) : EReal) * O0 + ((u1 * (1 / U) : ℝ) : EReal) * O1 + ((u2 * (1 / U) : ℝ) : EReal) * O2 := by
  have hc : (0 : EReal) ≤ ((1 / U : ℝ) : EReal) := EReal.coe_nonneg.mpr (by positivity)
  have ht : ((1 / U : ℝ) : EReal) ≠ ⊤ := EReal.coe_ne_top _
  rw [Ideal.div_coe hU.ne', EReal.right_distrib_of_nonneg_of_ne_top hc ht, EReal.right_distrib_of_nonneg_of_ne_top hc ht,
    EReal.coe_mul, EReal.coe_mul, EReal.coe_mul, mul_right_comm, mul_right_comm (u1 : EReal), mul_right_comm (u2 : EReal)]

/-- The two merges agree where each group's largest score is a real and its weights sum to a positive real,
    whatever the groups' outputs are. -/
theorem merge_eq (m0 m1 m2 d0 d1 d2 : ℝ) (h0 : 0 < d0) (h1 : 0 < d1) (h2 : 0 < d2) (O0 O1 O2 : EReal) :
    mergeLse ((m0 : EReal) + Ideal.log d0) ((m1 : EReal) + Ideal.log d1) ((m2 : EReal) + Ideal.log d2) O0 O1 O2
      = mergeDen m0 m1 m2 d0 d1 d2 O0 O1 O2 := by
  have hl : ∀ d : ℝ, 0 < d → Ideal.log (d : EReal) = ((Real.log d : ℝ) : EReal) := fun d hd => by
    show (if d ≤ 0 then ⊥ else ((Real.log d : ℝ) : EReal)) = _
    rw [if_neg (not_le.mpr hd)]
  rw [hl d0 h0, hl d1 h1, hl d2 h2]
  simp only [mergeLse, mergeDen, ← EReal.coe_add, coe_max', ← EReal.coe_sub, Ideal.exp_coe, ← EReal.coe_mul]
  generalize hX : max (max (m0 + Real.log d0) (m1 + Real.log d1)) (m2 + Real.log d2) = X
  generalize hY : max (max m0 m1) m2 = Y
  have e : ∀ m d : ℝ, 0 < d → Real.exp (m + Real.log d - X) = Real.exp (Y - X) * (d * Real.exp (m - Y)) := fun m d hd => by
    rw [show m + Real.log d - X = (Y - X) + (Real.log d + (m - Y)) by ring, Real.exp_add, Real.exp_add, Real.exp_log hd]
  rw [e m0 d0 h0, e m1 d1 h1, e m2 d2 h2]
  generalize hk : Real.exp (Y - X) = k
  have hkp : 0 < k := hk ▸ Real.exp_pos _
  have p0 : 0 < d0 * Real.exp (m0 - Y) := mul_pos h0 (Real.exp_pos _)
  have p1 : 0 < d1 * Real.exp (m1 - Y) := mul_pos h1 (Real.exp_pos _)
  have p2 : 0 < d2 * Real.exp (m2 - Y) := mul_pos h2 (Real.exp_pos _)
  generalize d0 * Real.exp (m0 - Y) = w0 at *
  generalize d1 * Real.exp (m1 - Y) = w1 at *
  generalize d2 * Real.exp (m2 - Y) = w2 at *
  have hW : 0 < w0 + w1 + w2 := by positivity
  have hU : 0 < k * w0 + k * w1 + k * w2 := by positivity
  rw [div_three _ _ _ _ hU, Ideal.div_coe hW.ne', Ideal.div_coe hW.ne', Ideal.div_coe hW.ne', ← EReal.coe_mul, ← EReal.coe_mul, ← EReal.coe_mul]
  have q : ∀ w : ℝ, k * w * (1 / (k * w0 + k * w1 + k * w2)) = w * (1 / (w0 + w1 + w2)) := fun w => by
    rw [← mul_add, ← mul_add]
    field_simp
  rw [q, q, q]

/-! ## The rows of the layer -/

/-- The projected queries, keys and values. -/
abbrev Arr : Type := (⟨3, ![8, 4096, 9216]⟩ : Shape).Idx → EReal

/-- An entry of them, its row and column as numbers. -/
def elt (A : Arr) (b : Fin 8) (s c : ℕ) : EReal := A (ix3 b (Fin.ofNat 4096 s) (Fin.ofNat 9216 c))

/-- The position in the sequence of member `a` of block `n` of residue `r`. -/
def pos (D r n a : ℕ) : ℕ := (n * 128 + a) * D + r
/-- The position of key `c` of that block: the first 128 keys are the block before. -/
def kpos (D r n c : ℕ) : ℕ := (n * 128 + c) * D + r - 128 * D

/-- Query `a` of block `n` sees key `c`: no further back than 128 keys, not later, and not before the start. -/
def seen (n a c : ℕ) : Prop := a ≤ c ∧ c ≤ a + 128 ∧ (n = 0 → 128 ≤ c)
instance (n a c : ℕ) : Decidable (seen n a c) := by unfold seen; infer_instance

/-- A row's scores; minus infinity where the key is not seen. -/
def S (g D : ℕ) (A : Arr) (b : Fin 8) (r n a h : ℕ) (c : Fin 256) : EReal :=
  if seen n a c.val then ∑ d : Fin 64, elt A b (pos D r n a) (g * 1024 + h * 64 + d.val) * elt A b (kpos D r n c.val) (3072 + g * 1024 + h * 64 + d.val) else ⊥
/-- A row's values, one column of them. -/
def V (g D : ℕ) (A : Arr) (b : Fin 8) (r n h e : ℕ) (c : Fin 256) : EReal := elt A b (kpos D r n c.val) (6144 + g * 1024 + h * 64 + e)

/-- One group's attention. -/
def O (g D : ℕ) (A : Arr) (b : Fin 8) (r n a h e : ℕ) : EReal := Ideal.div (num (S g D A b r n a h) (V g D A b r n h e)) (den (S g D A b r n a h))
/-- One group's log-sum-exp. -/
def L (g D : ℕ) (A : Arr) (b : Fin 8) (r n a h : ℕ) : EReal := top (S g D A b r n a h) + Ideal.log (den (S g D A b r n a h))

/-- The layer's attention at one row, head and column, merged by log-sum-exps. -/
def kernelAt (A : Arr) (b : Fin 8) (s h e : ℕ) : EReal :=
  mergeLse (L 0 1 A b 0 (s / 128) (s % 128) h) (L 1 4 A b (s % 4) (s / 4 / 128) (s / 4 % 128) h) (L 2 16 A b (s % 16) (s / 16 / 128) (s / 16 % 128) h)
    (O 0 1 A b 0 (s / 128) (s % 128) h e) (O 1 4 A b (s % 4) (s / 4 / 128) (s / 4 % 128) h e) (O 2 16 A b (s % 16) (s / 16 / 128) (s / 16 % 128) h e)

/-- The layer's attention at one row, head and column, merged by the sums of the weights. -/
def refAt (A : Arr) (b : Fin 8) (s h e : ℕ) : EReal :=
  mergeDen (top (S 0 1 A b 0 (s / 128) (s % 128) h)) (top (S 1 4 A b (s % 4) (s / 4 / 128) (s / 4 % 128) h)) (top (S 2 16 A b (s % 16) (s / 16 / 128) (s / 16 % 128) h))
    (den (S 0 1 A b 0 (s / 128) (s % 128) h)) (den (S 1 4 A b (s % 4) (s / 4 / 128) (s / 4 % 128) h)) (den (S 2 16 A b (s % 16) (s / 16 / 128) (s / 16 % 128) h))
    (O 0 1 A b 0 (s / 128) (s % 128) h e) (O 1 4 A b (s % 4) (s / 4 / 128) (s / 4 % 128) h e) (O 2 16 A b (s % 16) (s / 16 / 128) (s / 16 % 128) h e)

/-- The queries and keys are reals. -/
def Finite (A : Arr) : Prop := ∀ (b : Fin 8) (s c : ℕ), c < 6144 → ∃ x : ℝ, elt A b s c = (x : EReal)

/-- With finite queries and keys a seen score is a real. -/
theorem score_real (A : Arr) (hA : Finite A) (g D : ℕ) (hg : g < 3) (b : Fin 8) (r n a h : ℕ) (hh : h < 16) (c : Fin 256) (hs : seen n a c.val) :
    ∃ x : ℝ, S g D A b r n a h c = (x : EReal) := by
  have hq : ∀ d : Fin 64, ∃ x : ℝ, elt A b (pos D r n a) (g * 1024 + h * 64 + d.val) = (x : EReal) := fun d => hA b _ _ (by omega)
  have hk : ∀ d : Fin 64, ∃ x : ℝ, elt A b (kpos D r n c.val) (3072 + g * 1024 + h * 64 + d.val) = (x : EReal) := fun d => hA b _ _ (by omega)
  choose q hq using hq
  choose k hk using hk
  refine ⟨∑ d, q d * k d, ?_⟩
  rw [S, if_pos hs, ← coe_sum']
  exact Finset.sum_congr rfl fun d _ => by rw [hq, hk, EReal.coe_mul]

theorem row_real (A : Arr) (hA : Finite A) (g D : ℕ) (hg : g < 3) (b : Fin 8) (r n a h : ℕ) (ha : a < 128) (hh : h < 16) :
    ∃ m d : ℝ, 0 < d ∧ top (S g D A b r n a h) = (m : EReal) ∧ den (S g D A b r n a h) = (d : EReal) := by
  have h0 : S g D A b r n a h ⟨a + 128, by omega⟩ ≠ ⊥ := by
    obtain ⟨x, hx⟩ := score_real A hA g D hg b r n a h hh ⟨a + 128, by omega⟩ ⟨by simp, by simp, fun _ => by simp⟩
    rw [hx]; exact EReal.coe_ne_bot x
  have ht : ∀ c, S g D A b r n a h c ≠ ⊤ := fun c => by
    by_cases hs : seen n a c.val
    · obtain ⟨x, hx⟩ := score_real A hA g D hg b r n a h hh c hs
      rw [hx]; exact EReal.coe_ne_top x
    · rw [S, if_neg hs]; exact bot_ne_top
  obtain ⟨m, hm⟩ := top_real _ _ h0 ht
  obtain ⟨d, hd, e⟩ := den_real _ _ h0 ht
  exact ⟨m, d, hd, hm, e⟩

/-- With finite queries and keys both merges are the same number. -/
theorem kernelAt_eq (A : Arr) (hA : Finite A) (b : Fin 8) (s h e : ℕ) (hh : h < 16) : kernelAt A b s h e = refAt A b s h e := by
  obtain ⟨m0, d0, p0, t0, e0⟩ := row_real A hA 0 1 (by omega) b 0 (s / 128) (s % 128) h (Nat.mod_lt _ (by omega)) hh
  obtain ⟨m1, d1, p1, t1, e1⟩ := row_real A hA 1 4 (by omega) b (s % 4) (s / 4 / 128) (s / 4 % 128) h (Nat.mod_lt _ (by omega)) hh
  obtain ⟨m2, d2, p2, t2, e2⟩ := row_real A hA 2 16 (by omega) b (s % 16) (s / 16 / 128) (s / 16 % 128) h (Nat.mod_lt _ (by omega)) hh
  simp only [kernelAt, refAt, L, t0, t1, t2, e0, e1, e2]
  exact merge_eq m0 m1 m2 d0 d1 d2 p0 p1 p2 _ _ _

end Cert.Proof.Attn.Math

end
-- ==== Proof.Attn.Bits.lean ====
/- The masks of the attention, as bits. -/
module

public import proofs.«01_k».proof.Proof.Attn.Math

@[expose] public section

noncomputable section

namespace Cert.Proof.Attn.Math

open Idealize.ShloMosaic Idealize.ShloMosaic.Tactic

/-- The distance bits of the mask: a key at most 128 back and not later. -/
theorem near_bits : ∀ (a : Fin 128) (c : Fin 256),
    IntOp.andi
        (IntOp.cmpi CmpIPredicate.sge (IntOp.subi (IntOp.addi (BitVec.ofNat 32 a.val) 128#32) (BitVec.ofNat 32 c.val)) 0#32)
        (IntOp.cmpi CmpIPredicate.sle (IntOp.subi (IntOp.addi (BitVec.ofNat 32 a.val) 128#32) (BitVec.ofNat 32 c.val)) 128#32)
      = if a.val ≤ c.val ∧ c.val ≤ a.val + 128 then 1#1 else 0#1 := by decide +kernel

/-- The start bit of the mask: no key before the start of the sequence. -/
theorem start_bits : ∀ (n : Fin 32) (c : Fin 256),
    IntOp.cmpi CmpIPredicate.sge
        (IntOp.addi (IntOp.subi (IntOp.muli (BitVec.ofNat 32 n.val) 128#32) 128#32) (BitVec.ofNat 32 c.val)) 0#32
      = if (n.val = 0 → 128 ≤ c.val) then 1#1 else 0#1 := by decide +kernel

/-- The whole mask is one exactly where the key is seen. -/
theorem mask_bits (n : Fin 32) (a : Fin 128) (c : Fin 256) :
    IntOp.andi (IntOp.andi
        (IntOp.cmpi CmpIPredicate.sge (IntOp.subi (IntOp.addi (BitVec.ofNat 32 a.val) 128#32) (BitVec.ofNat 32 c.val)) 0#32)
        (IntOp.cmpi CmpIPredicate.sle (IntOp.subi (IntOp.addi (BitVec.ofNat 32 a.val) 128#32) (BitVec.ofNat 32 c.val)) 128#32))
      (IntOp.cmpi CmpIPredicate.sge
        (IntOp.addi (IntOp.subi (IntOp.muli (BitVec.ofNat 32 n.val) 128#32) 128#32) (BitVec.ofNat 32 c.val)) 0#32)
      = if seen n.val a.val c.val then 1#1 else 0#1 := by
  rw [near_bits, start_bits]
  by_cases h1 : a.val ≤ c.val ∧ c.val ≤ a.val + 128 <;> by_cases h2 : (n.val = 0 → 128 ≤ c.val)
  · rw [if_pos h1, if_pos h2, if_pos (show seen _ _ _ from ⟨h1.1, h1.2, h2⟩)]; rfl
  · rw [if_pos h1, if_neg h2, if_neg (fun h : seen _ _ _ => h2 h.2.2)]; rfl
  · rw [if_neg h1, if_pos h2, if_neg (fun h : seen _ _ _ => h1 ⟨h.1, h.2.1⟩)]; rfl
  · rw [if_neg h1, if_neg h2, if_neg (fun h : seen _ _ _ => h1 ⟨h.1, h.2.1⟩)]; rfl

/-- The pattern of minus infinity, as an extended real. -/
theorem neg_inf : (Ideal.ofBits .f32 0xFF800000#32 : EReal) = ⊥ := by simp [Ideal.ofBits, Ideal.ieee]

end Cert.Proof.Attn.Math

end
-- ==== Proof.Attn.RefBase.lean ====
/- What the reference's arrays hold, entry by entry: what the three groups share. -/
module

public import proofs.«01_k».proof.Proof.Gen.ReferenceIdeal.Run
public import proofs.«01_k».proof.Proof.Attn.Bits
public import Idealize.ShloMosaic.Lib.Pointwise

@[expose] public section

set_option maxRecDepth 16384

noncomputable section

namespace Cert.Proof.AttnRef

open Cert.ReferenceIdeal Cert.ReferenceIdeal.Gen Cert.ReferenceIdeal.Value
open Idealize.ShloMosaic Idealize.ShloMosaic.TcCoe Idealize.ShloMosaic.Tactic

/-- The array of a device that the reference is given. -/
abbrev inp (W : Valuation τ sig (Elt Ideal)) : Attn.Math.Arr := W (Proc.devRef .tc main_arg0)

/-- An entry of the split array is an entry of the argument. -/
theorem elt_of (A : Attn.Math.Arr) (b : Fin 8) (s : Fin 4096) (j : Fin 9216) (s' j' : ℕ) (hs : s.val = s') (hj : j.val = j') :
    A (ix3 b s j) = Attn.Math.elt A b s' j' := by
  subst hs hj
  unfold Attn.Math.elt
  congr 2
  · exact Fin.ext (Nat.mod_eq_of_lt s.isLt).symm
  · exact Fin.ext (Nat.mod_eq_of_lt j.isLt).symm

theorem q_at (W : Valuation τ sig (Elt Ideal)) (b : Fin 8) (s : Fin 4096) (g : Fin 3) (h : Fin 16) (d : Fin 64) :
    (res_main_v2 (F := Ideal) W (ix5 b s g h d) : EReal) = Attn.Math.elt (inp W) b s.val (g.val * 1024 + h.val * 64 + d.val) := by
  pointwise [res_main_v2, res_main_v0]
  exact elt_of (inp W) b _ _ _ _ (by simp) (by simp <;> omega)

theorem k_at (W : Valuation τ sig (Elt Ideal)) (b : Fin 8) (s : Fin 4096) (g : Fin 3) (h : Fin 16) (d : Fin 64) :
    (res_main_v4 (F := Ideal) W (ix5 b s g h d) : EReal) = Attn.Math.elt (inp W) b s.val (3072 + g.val * 1024 + h.val * 64 + d.val) := by
  pointwise [res_main_v4, res_main_v0]
  exact elt_of (inp W) b _ _ _ _ (by simp) (by simp <;> omega)

theorem v_at (W : Valuation τ sig (Elt Ideal)) (b : Fin 8) (s : Fin 4096) (g : Fin 3) (h : Fin 16) (d : Fin 64) :
    (res_main_v6 (F := Ideal) W (ix5 b s g h d) : EReal) = Attn.Math.elt (inp W) b s.val (6144 + g.val * 1024 + h.val * 64 + d.val) := by
  pointwise [res_main_v6, res_main_v0]
  exact elt_of (inp W) b _ _ _ _ (by simp) (by simp <;> omega)

end Cert.Proof.AttnRef

end
-- ==== Proof.Attn.Ref0.lean ====
/- What the reference's group 0 holds, entry by entry. -/
module

public import proofs.«01_k».proof.Proof.Attn.RefBase

@[expose] public section

set_option maxRecDepth 16384

noncomputable section

namespace Cert.Proof.AttnRef

open Cert.ReferenceIdeal Cert.ReferenceIdeal.Gen Cert.ReferenceIdeal.Value
open Idealize.ShloMosaic Idealize.ShloMosaic.TcCoe Idealize.ShloMosaic.Tactic

/-- Group 0's residue-major layout of an array of that group's heads. -/
def res0 (X : FVec Ideal S8x4096x3x16x64 .f32) : FVec Ideal S8x1x32x128x16x64 .f32 :=
  shapeCast _ (transpose S8x1x4096x16x64 [0, 2, 1, 3, 4] (shapeCast _ (shapeCast _ (extractStridedSlice S8x4096x1x16x64 ![0, 0, 0, 0, 0] X slices_S8x4096x3x16x64_S8x4096x1x16x64_0_0_0_0_0) shapeCasts_S8x4096x1x16x64_S8x4096x16x64) shapeCasts_S8x4096x16x64_S8x4096x1x16x64) transposes_S8x4096x1x16x64_S8x1x4096x16x64_0_2_1_3_4) shapeCasts_S8x1x4096x16x64_S8x1x32x128x16x64

/-- Group 0's keys: the block before each block (nothing before the first), then the block. -/
def cat0 (K : FVec Ideal S8x1x32x128x16x64 .f32) : FVec Ideal S8x1x32x256x16x64 .f32 :=
  concatenate S8x1x32x256x16x64 3 [⟨S8x1x32x128x16x64, (concatenate S8x1x32x128x16x64 2 [⟨S8x1x1x128x16x64, (broadcastInDim S8x1x1x128x16x64 ![] bcast_S_S8x1x1x128x16x64 (constant S_ .f32 0x00000000#32))⟩, ⟨S8x1x31x128x16x64, (extractStridedSlice S8x1x31x128x16x64 ![0, 0, 0, 0, 0, 0] K slices_S8x1x32x128x16x64_S8x1x31x128x16x64_0_0_0_0_0_0)⟩] concatenates_S8x1x1x128x16x64_S8x1x31x128x16x64_S8x1x32x128x16x64_d2)⟩, ⟨S8x1x32x128x16x64, K⟩] concatenates_S8x1x32x128x16x64_S8x1x32x128x16x64_S8x1x32x256x16x64_d3

/-- Group 0's products of queries and keys. -/
def dot0 (Q : FVec Ideal S8x1x32x128x16x64 .f32) (K : FVec Ideal S8x1x32x256x16x64 .f32) : FVec Ideal S8x1x32x16x128x256 .f32 :=
  Host.dotGeneral (F := Ideal) dot_S8x1x32x128x16x64_S8x1x32x256x16x64_S8x1x32x16x128x256_5_5_3_3_0124_0124 none Q K

/-- Group 0's distances from a query back to a key. -/
def dist0 : IVec S128x256 32 :=
  subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))

/-- Group 0's mask. -/
def mask0 : IVec S8x1x32x16x128x256 1 :=
  broadcastInDim S8x1x32x16x128x256 ![0, 1, 2, 3, 4, 5] bcast_S1x1x32x1x128x256_S8x1x32x16x128x256_0_1_2_3_4_5 (broadcastInDim S1x1x32x1x128x256 ![2, 4, 5] bcast_S32x128x256_S1x1x32x1x128x256_2_4_5 (andi (broadcastInDim S32x128x256 ![0, 1, 2] bcast_S1x128x256_S32x128x256_0_1_2 (broadcastInDim S1x128x256 ![1, 2] bcast_S128x256_S1x128x256_1_2 (andi (cmpi .sge dist0 (broadcastInDim S128x256 ![] bcast_S_S128x256 (constantI S_ 32 0#32))) (cmpi .sle dist0 (broadcastInDim S128x256 ![] bcast_S_S128x256 (constantI S_ 32 128#32)))))) (broadcastInDim S32x128x256 ![0, 1, 2] bcast_S32x1x256_S32x128x256_0_1_2 (broadcastInDim S32x1x256 ![0, 2] bcast_S32x256_S32x1x256_0_2 (cmpi .sge (addi (broadcastInDim S32x256 ![0, 1] bcast_S32x1_S32x256_0_1 (subi (muli (broadcastInDim S32x1 ![0] bcast_S32_S32x1_0 (iotaInDim S32 32 0)) (broadcastInDim S32x1 ![] bcast_S_S32x1 (constantI S_ 32 128#32))) (broadcastInDim S32x1 ![] bcast_S_S32x1 (constantI S_ 32 128#32)))) (broadcastInDim S32x256 ![0, 1] bcast_S1x256_S32x256_0_1 (broadcastInDim S1x256 ![1] bcast_S256_S1x256_1 (iotaInDim S256 32 0)))) (broadcastInDim S32x256 ![] bcast_S_S32x256 (constantI S_ 32 0#32)))))))

/-- Group 0's weighted sums of the values. -/
def num0 (V : FVec Ideal S8x1x32x256x16x64 .f32) (P : FVec Ideal S8x1x32x16x128x256 .f32) : FVec Ideal S8x1x32x16x64x128 .f32 :=
  Host.dotGeneral (F := Ideal) dot_S8x1x32x256x16x64_S8x1x32x16x128x256_S8x1x32x16x64x128_3_5_5_4_0124_0123 none V P

/-! ## The pieces, entry by entry -/

theorem res0_at (X : FVec Ideal S8x4096x3x16x64 .f32) (b : Fin 8) (r : Fin 1) (n : Fin 32) (a : Fin 128) (h : Fin 16) (d : Fin 64) :
    res0 X (ix6 b r n a h d) = X (ix5 b ⟨(n.val * 128 + a.val) * 1 + r.val, by omega⟩ 0 h d) := by
  pointwise [res0]
  first | done | (congr 2; apply Fin.ext; simp <;> omega)

theorem cat0_at (K : FVec Ideal S8x1x32x128x16x64 .f32) (b : Fin 8) (r : Fin 1) (n : Fin 32) (c : Fin 256) (h : Fin 16) (d : Fin 64) :
    cat0 K (ix6 b r n c h d) = if h1 : c.val < 128 then if h2 : n.val < 1 then 0 else K (ix6 b r ⟨n.val - 1, by omega⟩ ⟨c.val, by omega⟩ h d)
      else K (ix6 b r n ⟨c.val - 128, by omega⟩ h d) := by
  obtain rfl : r = 0 := Subsingleton.elim _ _; pointwise [cat0]

theorem dot0_at (Q : FVec Ideal S8x1x32x128x16x64 .f32) (K : FVec Ideal S8x1x32x256x16x64 .f32) (b : Fin 8) (r : Fin 1) (n : Fin 32) (c : Fin 256) (a : Fin 128) (h : Fin 16) :
    dot0 Q K (ix6 b r n h a c) = ∑ x : Fin 64, Q (ix6 b r n a h x) * K (ix6 b r n c h x) := by
  pointwise [dot0]

theorem mask0_at (b : Fin 8) (r : Fin 1) (n : Fin 32) (c : Fin 256) (a : Fin 128) (h : Fin 16) :
    mask0 (ix6 b r n h a c) = if Attn.Math.seen n.val a.val c.val then 1#1 else 0#1 := by
  pointwise [mask0, dist0]
  exact Attn.Math.mask_bits ⟨n.val, by omega⟩ a c

theorem num0_at (K : FVec Ideal S8x1x32x256x16x64 .f32) (P : FVec Ideal S8x1x32x16x128x256 .f32) (b : Fin 8) (r : Fin 1) (n : Fin 32) (a : Fin 128) (h : Fin 16) (d : Fin 64) :
    num0 K P (ix6 b r n h d a) = ∑ x : Fin 256, K (ix6 b r n x h d) * P (ix6 b r n h a x) := by
  pointwise [num0]

/-- The keys of a seen slot are those of its position. -/
theorem key0_at (W : Valuation τ sig (Elt Ideal)) (b : Fin 8) (r : Fin 1) (n : Fin 32) (c : Fin 256) (h : Fin 16) (d : Fin 64) (hs : n.val = 0 → 128 ≤ c.val) :
    (cat0 (res_main_v18 (F := Ideal) W) (ix6 b r n c h d) : EReal) = Attn.Math.elt (inp W) b (Attn.Math.kpos 1 r.val n.val c.val) (3072 + 0 * 1024 + h.val * 64 + d.val) := by
  rw [cat0_at]
  have e : res_main_v18 (F := Ideal) W = res0 (res_main_v4 W) := rfl
  rw [e]
  split_ifs with h1 h2
  · omega
  · rw [res0_at, k_at]
    exact congrArg (fun s => Attn.Math.elt (inp W) b s _) (show (_ : ℕ) = _ by simp only [Attn.Math.kpos]; omega)
  · rw [res0_at, k_at]
    exact congrArg (fun s => Attn.Math.elt (inp W) b s _) (show (_ : ℕ) = _ by simp only [Attn.Math.kpos]; omega)

/-- The values of a seen slot are those of its position. -/
theorem val0_at (W : Valuation τ sig (Elt Ideal)) (b : Fin 8) (r : Fin 1) (n : Fin 32) (c : Fin 256) (h : Fin 16) (d : Fin 64) (hs : n.val = 0 → 128 ≤ c.val) :
    (cat0 (res_main_v21 (F := Ideal) W) (ix6 b r n c h d) : EReal) = Attn.Math.elt (inp W) b (Attn.Math.kpos 1 r.val n.val c.val) (6144 + 0 * 1024 + h.val * 64 + d.val) := by
  rw [cat0_at]
  have e : res_main_v21 (F := Ideal) W = res0 (res_main_v6 W) := rfl
  rw [e]
  split_ifs with h1 h2
  · omega
  · rw [res0_at, v_at]
    exact congrArg (fun s => Attn.Math.elt (inp W) b s _) (show (_ : ℕ) = _ by simp only [Attn.Math.kpos]; omega)
  · rw [res0_at, v_at]
    exact congrArg (fun s => Attn.Math.elt (inp W) b s _) (show (_ : ℕ) = _ by simp only [Attn.Math.kpos]; omega)

/-- The masked scores. -/
theorem score0_at (W : Valuation τ sig (Elt Ideal)) (b : Fin 8) (r : Fin 1) (n : Fin 32) (c : Fin 256) (a : Fin 128) (h : Fin 16) :
    (res_main_v65 (F := Ideal) W (ix6 b r n h a c) : EReal) = Attn.Math.S 0 1 (inp W) b r.val n.val a.val h.val c := by
  have e : res_main_v65 (F := Ideal) W = select mask0 (dot0 (res0 (res_main_v2 W)) (cat0 (res_main_v18 W))) (broadcastInDim S8x1x32x16x128x256 ![] bcast_S_S8x1x32x16x128x256 (id (constant S_ .f32 0xFF800000#32))) := rfl
  rw [e]
  show Scalar.select (mask0 (ix6 b r n h a c)) (dot0 (res0 (res_main_v2 W)) (cat0 (res_main_v18 W)) (ix6 b r n h a c)) (Ideal.ofBits .f32 0xFF800000#32) = _
  rw [mask0_at, dot0_at, Attn.Math.S]
  by_cases hs : Attn.Math.seen n.val a.val c.val
  · rw [if_pos hs, if_pos hs]
    refine Fintype.sum_congr (fun x : Fin 64 => ((res0 (res_main_v2 W) (ix6 b r n a h x) : EReal) * (cat0 (res_main_v18 W) (ix6 b r n c h x) : EReal) : EReal)) _ fun x => ?_
    show (res0 (res_main_v2 W) (ix6 b r n a h x) : EReal) * (cat0 (res_main_v18 W) (ix6 b r n c h x) : EReal) = _
    rw [key0_at W b r n c h x hs.2.2, res0_at, q_at]
    exact congrArg (fun s => Attn.Math.elt (inp W) b s _ * _) (show (_ : ℕ) = _ by simp only [Attn.Math.pos])
  · rw [if_neg hs, if_neg hs]
    exact Attn.Math.neg_inf

/-- A row's slots are the indices a reduction over the keys gathers. -/
theorem slots0 (b : Fin 8) (r : Fin 1) (n : Fin 32) (h : Fin 16) (a : Fin 128) :
    (Finset.univ.filter fun i => reducesTo_S8x1x32x16x128x256_S8x1x32x16x128_d5.drop i = ix5 b r n h a) = Finset.univ.map ⟨fun c : Fin 256 => ix6 b r n h a c, fun c c' e => congrFun e 5⟩ := by
  ext i
  simp only [Finset.mem_filter, Finset.mem_univ, true_and, Finset.mem_map, Function.Embedding.coeFn_mk]
  constructor
  · intro e
    refine ⟨i 5, funext fun j => Fin.ext ?_⟩
    have e0 : (i 0).val = b.val := congrArg Fin.val (congrFun e 0)
    have e1 : (i 1).val = r.val := congrArg Fin.val (congrFun e 1)
    have e2 : (i 2).val = n.val := congrArg Fin.val (congrFun e 2)
    have e3 : (i 3).val = h.val := congrArg Fin.val (congrFun e 3)
    have e4 : (i 4).val = a.val := congrArg Fin.val (congrFun e 4)
    fin_cases j
    · exact e0.symm
    · exact e1.symm
    · exact e2.symm
    · exact e3.symm
    · exact e4.symm
    · rfl
  · rintro ⟨c, rfl⟩
    funext j
    fin_cases j <;> rfl

/-- A reduction by the largest over the keys, slot by slot. -/
theorem maxSlots0 (P : S8x1x32x16x128x256.Idx → EReal) (z : EReal) (b : Fin 8) (r : Fin 1) (n : Fin 32) (a : Fin 128) (h : Fin 16) :
    Finset.fold max z P (Finset.univ.filter fun i => reducesTo_S8x1x32x16x128x256_S8x1x32x16x128_d5.drop i = ix5 b r n h a) = Finset.univ.fold max z fun c : Fin 256 => P (ix6 b r n h a c) := by
  rw [slots0, Finset.fold_map]
  rfl

/-- A reduction by the sum over the keys, slot by slot. -/
theorem sumSlots0 (P : S8x1x32x16x128x256.Idx → EReal) (b : Fin 8) (r : Fin 1) (n : Fin 32) (a : Fin 128) (h : Fin 16) :
    Ideal.hostReduceAdd reducesTo_S8x1x32x16x128x256_S8x1x32x16x128_d5 P 0 (ix5 b r n h a) = ∑ c : Fin 256, P (ix6 b r n h a c) := by
  show (0 : EReal) + ∑ i ∈ Finset.univ.filter (fun i => reducesTo_S8x1x32x16x128x256_S8x1x32x16x128_d5.drop i = ix5 b r n h a), P i = _
  rw [slots0, Finset.sum_map, zero_add]
  rfl

/-- The largest score of a row. -/
theorem top0_at (W : Valuation τ sig (Elt Ideal)) (b : Fin 8) (r : Fin 1) (n : Fin 32) (a : Fin 128) (h : Fin 16) :
    (res_main_v66 (F := Ideal) W (ix5 b r n h a) : EReal) = Attn.Math.top (Attn.Math.S 0 1 (inp W) b r.val n.val a.val h.val) := by
  have e : (res_main_v66 (F := Ideal) W (ix5 b r n h a) : EReal) = Finset.fold max (Ideal.ofBits .f32 0xFF800000#32) (fun i => (res_main_v65 W i : EReal)) (Finset.univ.filter fun i => reducesTo_S8x1x32x16x128x256_S8x1x32x16x128_d5.drop i = ix5 b r n h a) := by
    pointwise [res_main_v66]
  refine e.trans ((maxSlots0 _ _ b r n a h).trans ?_)
  rw [Attn.Math.neg_inf]
  exact Finset.fold_congr fun c _ => score0_at W b r n c a h

/-- The weights of a row. -/
theorem wt0_at (W : Valuation τ sig (Elt Ideal)) (b : Fin 8) (r : Fin 1) (n : Fin 32) (c : Fin 256) (a : Fin 128) (h : Fin 16) :
    (res_main_v70 (F := Ideal) W (ix6 b r n h a c) : EReal) = Attn.Math.wt (Attn.Math.S 0 1 (inp W) b r.val n.val a.val h.val) c := by
  have e : (res_main_v70 (F := Ideal) W (ix6 b r n h a c) : EReal) = (fun x y : EReal => Ideal.exp (x - y)) (res_main_v65 W (ix6 b r n h a c)) (res_main_v66 W (ix5 b r n h a)) := by
    obtain rfl : r = 0 := Subsingleton.elim _ _; pointwise [res_main_v70]
  exact e.trans (congrArg₂ (fun x y : EReal => Ideal.exp (x - y)) (score0_at W b r n c a h) (top0_at W b r n a h))

/-- The sum of the weights of a row. -/
theorem den0_at (W : Valuation τ sig (Elt Ideal)) (b : Fin 8) (r : Fin 1) (n : Fin 32) (a : Fin 128) (h : Fin 16) :
    (res_main_v75 (F := Ideal) W (ix5 b r n a h) : EReal) = Attn.Math.den (Attn.Math.S 0 1 (inp W) b r.val n.val a.val h.val) := by
  have e : (res_main_v75 (F := Ideal) W (ix5 b r n a h) : EReal) = Ideal.hostReduceAdd reducesTo_S8x1x32x16x128x256_S8x1x32x16x128_d5 (res_main_v70 W) 0 (ix5 b r n h a) := by
    obtain rfl : r = 0 := Subsingleton.elim _ _; pointwise [res_main_v75]
  exact e.trans ((sumSlots0 _ b r n a h).trans (Fintype.sum_congr _ _ fun c => wt0_at W b r n c a h))

/-- The group's attention in the residue-major layout. -/
def att0 (W : Valuation τ sig (Elt Ideal)) : FVec Ideal S8x1x32x128x16x64 .f32 :=
  Host.divf (transpose S8x1x32x128x16x64 [0, 1, 2, 5, 3, 4] (num0 (cat0 (res_main_v21 W)) (res_main_v70 W)) transposes_S8x1x32x16x64x128_S8x1x32x128x16x64_0_1_2_5_3_4)
    (broadcastInDim S8x1x32x128x16x64 ![0, 1, 2, 3, 4, 5] bcast_S8x1x32x128x16x1_S8x1x32x128x16x64_0_1_2_3_4_5
      (broadcastInDim S8x1x32x128x16x1 ![0, 1, 2, 3, 4] bcast_S8x1x32x128x16_S8x1x32x128x16x1_0_1_2_3_4 (res_main_v75 W)))

theorem att0_at (W : Valuation τ sig (Elt Ideal)) (b : Fin 8) (r : Fin 1) (n : Fin 32) (a : Fin 128) (h : Fin 16) (d : Fin 64) :
    (att0 W (ix6 b r n a h d) : EReal) = Attn.Math.O 0 1 (inp W) b r.val n.val a.val h.val d.val := by
  have e : (att0 W (ix6 b r n a h d) : EReal) = Ideal.div (num0 (cat0 (res_main_v21 W)) (res_main_v70 W) (ix6 b r n h d a)) (res_main_v75 W (ix5 b r n a h)) := by
    obtain rfl : r = 0 := Subsingleton.elim _ _; pointwise [att0]
  rw [e, den0_at, num0_at, Attn.Math.O]
  refine congrArg (fun x => Ideal.div x _) ?_
  refine (Finset.sum_congr rfl fun c _ => ?_ : (∑ x : Fin 256, (cat0 (res_main_v21 W) (ix6 b r n x h d) : EReal) * (res_main_v70 W (ix6 b r n h a x) : EReal) : EReal)
    = Attn.Math.num (Attn.Math.S 0 1 (inp W) b r.val n.val a.val h.val) (fun c => cat0 (res_main_v21 W) (ix6 b r n c h d))).trans (Attn.Math.num_congr _ _ _ fun c hc => ?_)
  · rw [wt0_at]; exact mul_comm _ _
  · have hs : Attn.Math.seen n.val a.val c.val := by
      by_contra hs
      exact hc (by rw [Attn.Math.S, if_neg hs])
    exact val0_at W b r n c h d hs.2.2

/-! ## Back to the sequence's order -/

/-- An array of the residue-major layout in the sequence's order, under a leading axis of one. -/
def back0 (X : FVec Ideal S8x1x32x128x16x64 .f32) : FVec Ideal S1x8x4096x16x64 .f32 :=
  broadcastInDim S1x8x4096x16x64 ![1, 2, 3, 4] bcast_S8x4096x16x64_S1x8x4096x16x64_1_2_3_4 (shapeCast _ (transpose S8x4096x1x16x64 [0, 2, 1, 3, 4] (shapeCast _ X shapeCasts_S8x1x32x128x16x64_S8x1x4096x16x64) transposes_S8x1x4096x16x64_S8x4096x1x16x64_0_2_1_3_4) shapeCasts_S8x4096x1x16x64_S8x4096x16x64)

/-- The same of an array with one number per row and head. -/
def backRow0 (X : FVec Ideal S8x1x32x128x16 .f32) : FVec Ideal S1x8x4096x16 .f32 :=
  broadcastInDim S1x8x4096x16 ![1, 2, 3] bcast_S8x4096x16_S1x8x4096x16_1_2_3 (shapeCast _ (transpose S8x4096x1x16 [0, 2, 1, 3] (shapeCast _ X shapeCasts_S8x1x32x128x16_S8x1x4096x16) transposes_S8x1x4096x16_S8x4096x1x16_0_2_1_3) shapeCasts_S8x4096x1x16_S8x4096x16)

theorem back0_at (X : FVec Ideal S8x1x32x128x16x64 .f32) (z : Fin 1) (b : Fin 8) (s : Fin 4096) (h : Fin 16) (d : Fin 64) :
    back0 X (ix5 z b s h d) = X (ix6 b ⟨s.val % 1, by omega⟩ ⟨s.val / 1 / 128, by omega⟩ ⟨s.val / 1 % 128, by omega⟩ h d) := by
  pointwise [back0]
  first | done | (congr 2 <;> apply Fin.ext <;> simp <;> omega)

theorem backRow0_at (X : FVec Ideal S8x1x32x128x16 .f32) (z : Fin 1) (b : Fin 8) (s : Fin 4096) (h : Fin 16) :
    backRow0 X (ix4 z b s h) = X (ix5 b ⟨s.val % 1, by omega⟩ ⟨s.val / 1 / 128, by omega⟩ ⟨s.val / 1 % 128, by omega⟩ h) := by
  pointwise [backRow0]
  first | done | (congr 2 <;> apply Fin.ext <;> simp <;> omega)

/-- A row's largest scores with the head last. -/
def topT0 (W : Valuation τ sig (Elt Ideal)) : FVec Ideal S8x1x32x128x16 .f32 :=
  transpose S8x1x32x128x16 [0, 1, 2, 4, 3] (res_main_v66 W) transposes_S8x1x32x16x128_S8x1x32x128x16_0_1_2_4_3

theorem topT0_at (W : Valuation τ sig (Elt Ideal)) (b : Fin 8) (r : Fin 1) (n : Fin 32) (a : Fin 128) (h : Fin 16) :
    (topT0 W (ix5 b r n a h) : EReal) = Attn.Math.top (Attn.Math.S 0 1 (inp W) b r.val n.val a.val h.val) := by
  have e : (topT0 W (ix5 b r n a h) : EReal) = res_main_v66 W (ix5 b r n h a) := by
    obtain rfl : r = 0 := Subsingleton.elim _ _; pointwise [topT0]
  rw [e, top0_at]

end Cert.Proof.AttnRef

end
-- ==== Proof.Attn.Ref1.lean ====
/- What the reference's group 1 holds, entry by entry. -/
module

public import proofs.«01_k».proof.Proof.Attn.RefBase

@[expose] public section

set_option maxRecDepth 16384

noncomputable section

namespace Cert.Proof.AttnRef

open Cert.ReferenceIdeal Cert.ReferenceIdeal.Gen Cert.ReferenceIdeal.Value
open Idealize.ShloMosaic Idealize.ShloMosaic.TcCoe Idealize.ShloMosaic.Tactic

/-- Group 1's residue-major layout of an array of that group's heads. -/
def res1 (X : FVec Ideal S8x4096x3x16x64 .f32) : FVec Ideal S8x4x8x128x16x64 .f32 :=
  shapeCast _ (transpose S8x4x1024x16x64 [0, 2, 1, 3, 4] (shapeCast _ (shapeCast _ (extractStridedSlice S8x4096x1x16x64 ![0, 0, 1, 0, 0] X slices_S8x4096x3x16x64_S8x4096x1x16x64_0_0_1_0_0) shapeCasts_S8x4096x1x16x64_S8x4096x16x64) shapeCasts_S8x4096x16x64_S8x1024x4x16x64) transposes_S8x1024x4x16x64_S8x4x1024x16x64_0_2_1_3_4) shapeCasts_S8x4x1024x16x64_S8x4x8x128x16x64

/-- Group 1's keys: the block before each block (nothing before the first), then the block. -/
def cat1 (K : FVec Ideal S8x4x8x128x16x64 .f32) : FVec Ideal S8x4x8x256x16x64 .f32 :=
  concatenate S8x4x8x256x16x64 3 [⟨S8x4x8x128x16x64, (concatenate S8x4x8x128x16x64 2 [⟨S8x4x1x128x16x64, (broadcastInDim S8x4x1x128x16x64 ![] bcast_S_S8x4x1x128x16x64 (constant S_ .f32 0x00000000#32))⟩, ⟨S8x4x7x128x16x64, (extractStridedSlice S8x4x7x128x16x64 ![0, 0, 0, 0, 0, 0] K slices_S8x4x8x128x16x64_S8x4x7x128x16x64_0_0_0_0_0_0)⟩] concatenates_S8x4x1x128x16x64_S8x4x7x128x16x64_S8x4x8x128x16x64_d2)⟩, ⟨S8x4x8x128x16x64, K⟩] concatenates_S8x4x8x128x16x64_S8x4x8x128x16x64_S8x4x8x256x16x64_d3

/-- Group 1's products of queries and keys. -/
def dot1 (Q : FVec Ideal S8x4x8x128x16x64 .f32) (K : FVec Ideal S8x4x8x256x16x64 .f32) : FVec Ideal S8x4x8x16x128x256 .f32 :=
  Host.dotGeneral (F := Ideal) dot_S8x4x8x128x16x64_S8x4x8x256x16x64_S8x4x8x16x128x256_5_5_3_3_0124_0124 none Q K

/-- Group 1's distances from a query back to a key. -/
def dist1 : IVec S128x256 32 :=
  subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))

/-- Group 1's mask. -/
def mask1 : IVec S8x4x8x16x128x256 1 :=
  broadcastInDim S8x4x8x16x128x256 ![0, 1, 2, 3, 4, 5] bcast_S1x1x8x1x128x256_S8x4x8x16x128x256_0_1_2_3_4_5 (broadcastInDim S1x1x8x1x128x256 ![2, 4, 5] bcast_S8x128x256_S1x1x8x1x128x256_2_4_5 (andi (broadcastInDim S8x128x256 ![0, 1, 2] bcast_S1x128x256_S8x128x256_0_1_2 (broadcastInDim S1x128x256 ![1, 2] bcast_S128x256_S1x128x256_1_2 (andi (cmpi .sge dist1 (broadcastInDim S128x256 ![] bcast_S_S128x256 (constantI S_ 32 0#32))) (cmpi .sle dist1 (broadcastInDim S128x256 ![] bcast_S_S128x256 (constantI S_ 32 128#32)))))) (broadcastInDim S8x128x256 ![0, 1, 2] bcast_S8x1x256_S8x128x256_0_1_2 (broadcastInDim S8x1x256 ![0, 2] bcast_S8x256_S8x1x256_0_2 (cmpi .sge (addi (broadcastInDim S8x256 ![0, 1] bcast_S8x1_S8x256_0_1 (subi (muli (broadcastInDim S8x1 ![0] bcast_S8_S8x1_0 (iotaInDim S8 32 0)) (broadcastInDim S8x1 ![] bcast_S_S8x1 (constantI S_ 32 128#32))) (broadcastInDim S8x1 ![] bcast_S_S8x1 (constantI S_ 32 128#32)))) (broadcastInDim S8x256 ![0, 1] bcast_S1x256_S8x256_0_1 (broadcastInDim S1x256 ![1] bcast_S256_S1x256_1 (iotaInDim S256 32 0)))) (broadcastInDim S8x256 ![] bcast_S_S8x256 (constantI S_ 32 0#32)))))))

/-- Group 1's weighted sums of the values. -/
def num1 (V : FVec Ideal S8x4x8x256x16x64 .f32) (P : FVec Ideal S8x4x8x16x128x256 .f32) : FVec Ideal S8x4x8x16x64x128 .f32 :=
  Host.dotGeneral (F := Ideal) dot_S8x4x8x256x16x64_S8x4x8x16x128x256_S8x4x8x16x64x128_3_5_5_4_0124_0123 none V P

/-! ## The pieces, entry by entry -/

theorem res1_at (X : FVec Ideal S8x4096x3x16x64 .f32) (b : Fin 8) (r : Fin 4) (n : Fin 8) (a : Fin 128) (h : Fin 16) (d : Fin 64) :
    res1 X (ix6 b r n a h d) = X (ix5 b ⟨(n.val * 128 + a.val) * 4 + r.val, by omega⟩ 1 h d) := by
  pointwise [res1]
  first | done | (congr 2; apply Fin.ext; simp <;> omega)

theorem cat1_at (K : FVec Ideal S8x4x8x128x16x64 .f32) (b : Fin 8) (r : Fin 4) (n : Fin 8) (c : Fin 256) (h : Fin 16) (d : Fin 64) :
    cat1 K (ix6 b r n c h d) = if h1 : c.val < 128 then if h2 : n.val < 1 then 0 else K (ix6 b r ⟨n.val - 1, by omega⟩ ⟨c.val, by omega⟩ h d)
      else K (ix6 b r n ⟨c.val - 128, by omega⟩ h d) := by
  pointwise [cat1]

theorem dot1_at (Q : FVec Ideal S8x4x8x128x16x64 .f32) (K : FVec Ideal S8x4x8x256x16x64 .f32) (b : Fin 8) (r : Fin 4) (n : Fin 8) (c : Fin 256) (a : Fin 128) (h : Fin 16) :
    dot1 Q K (ix6 b r n h a c) = ∑ x : Fin 64, Q (ix6 b r n a h x) * K (ix6 b r n c h x) := by
  pointwise [dot1]

theorem mask1_at (b : Fin 8) (r : Fin 4) (n : Fin 8) (c : Fin 256) (a : Fin 128) (h : Fin 16) :
    mask1 (ix6 b r n h a c) = if Attn.Math.seen n.val a.val c.val then 1#1 else 0#1 := by
  pointwise [mask1, dist1]
  exact Attn.Math.mask_bits ⟨n.val, by omega⟩ a c

theorem num1_at (K : FVec Ideal S8x4x8x256x16x64 .f32) (P : FVec Ideal S8x4x8x16x128x256 .f32) (b : Fin 8) (r : Fin 4) (n : Fin 8) (a : Fin 128) (h : Fin 16) (d : Fin 64) :
    num1 K P (ix6 b r n h d a) = ∑ x : Fin 256, K (ix6 b r n x h d) * P (ix6 b r n h a x) := by
  pointwise [num1]

/-- The keys of a seen slot are those of its position. -/
theorem key1_at (W : Valuation τ sig (Elt Ideal)) (b : Fin 8) (r : Fin 4) (n : Fin 8) (c : Fin 256) (h : Fin 16) (d : Fin 64) (hs : n.val = 0 → 128 ≤ c.val) :
    (cat1 (res_main_v99 (F := Ideal) W) (ix6 b r n c h d) : EReal) = Attn.Math.elt (inp W) b (Attn.Math.kpos 4 r.val n.val c.val) (3072 + 1 * 1024 + h.val * 64 + d.val) := by
  rw [cat1_at]
  have e : res_main_v99 (F := Ideal) W = res1 (res_main_v4 W) := rfl
  rw [e]
  split_ifs with h1 h2
  · omega
  · rw [res1_at, k_at]
    exact congrArg (fun s => Attn.Math.elt (inp W) b s _) (show (_ : ℕ) = _ by simp only [Attn.Math.kpos]; omega)
  · rw [res1_at, k_at]
    exact congrArg (fun s => Attn.Math.elt (inp W) b s _) (show (_ : ℕ) = _ by simp only [Attn.Math.kpos]; omega)

/-- The values of a seen slot are those of its position. -/
theorem val1_at (W : Valuation τ sig (Elt Ideal)) (b : Fin 8) (r : Fin 4) (n : Fin 8) (c : Fin 256) (h : Fin 16) (d : Fin 64) (hs : n.val = 0 → 128 ≤ c.val) :
    (cat1 (res_main_v102 (F := Ideal) W) (ix6 b r n c h d) : EReal) = Attn.Math.elt (inp W) b (Attn.Math.kpos 4 r.val n.val c.val) (6144 + 1 * 1024 + h.val * 64 + d.val) := by
  rw [cat1_at]
  have e : res_main_v102 (F := Ideal) W = res1 (res_main_v6 W) := rfl
  rw [e]
  split_ifs with h1 h2
  · omega
  · rw [res1_at, v_at]
    exact congrArg (fun s => Attn.Math.elt (inp W) b s _) (show (_ : ℕ) = _ by simp only [Attn.Math.kpos]; omega)
  · rw [res1_at, v_at]
    exact congrArg (fun s => Attn.Math.elt (inp W) b s _) (show (_ : ℕ) = _ by simp only [Attn.Math.kpos]; omega)

/-- The masked scores. -/
theorem score1_at (W : Valuation τ sig (Elt Ideal)) (b : Fin 8) (r : Fin 4) (n : Fin 8) (c : Fin 256) (a : Fin 128) (h : Fin 16) :
    (res_main_v146 (F := Ideal) W (ix6 b r n h a c) : EReal) = Attn.Math.S 1 4 (inp W) b r.val n.val a.val h.val c := by
  have e : res_main_v146 (F := Ideal) W = select mask1 (dot1 (res1 (res_main_v2 W)) (cat1 (res_main_v99 W))) (broadcastInDim S8x4x8x16x128x256 ![] bcast_S_S8x4x8x16x128x256 (id (constant S_ .f32 0xFF800000#32))) := rfl
  rw [e]
  show Scalar.select (mask1 (ix6 b r n h a c)) (dot1 (res1 (res_main_v2 W)) (cat1 (res_main_v99 W)) (ix6 b r n h a c)) (Ideal.ofBits .f32 0xFF800000#32) = _
  rw [mask1_at, dot1_at, Attn.Math.S]
  by_cases hs : Attn.Math.seen n.val a.val c.val
  · rw [if_pos hs, if_pos hs]
    refine Fintype.sum_congr (fun x : Fin 64 => ((res1 (res_main_v2 W) (ix6 b r n a h x) : EReal) * (cat1 (res_main_v99 W) (ix6 b r n c h x) : EReal) : EReal)) _ fun x => ?_
    show (res1 (res_main_v2 W) (ix6 b r n a h x) : EReal) * (cat1 (res_main_v99 W) (ix6 b r n c h x) : EReal) = _
    rw [key1_at W b r n c h x hs.2.2, res1_at, q_at]
    exact congrArg (fun s => Attn.Math.elt (inp W) b s _ * _) (show (_ : ℕ) = _ by simp only [Attn.Math.pos])
  · rw [if_neg hs, if_neg hs]
    exact Attn.Math.neg_inf

/-- A row's slots are the indices a reduction over the keys gathers. -/
theorem slots1 (b : Fin 8) (r : Fin 4) (n : Fin 8) (h : Fin 16) (a : Fin 128) :
    (Finset.univ.filter fun i => reducesTo_S8x4x8x16x128x256_S8x4x8x16x128_d5.drop i = ix5 b r n h a) = Finset.univ.map ⟨fun c : Fin 256 => ix6 b r n h a c, fun c c' e => congrFun e 5⟩ := by
  ext i
  simp only [Finset.mem_filter, Finset.mem_univ, true_and, Finset.mem_map, Function.Embedding.coeFn_mk]
  constructor
  · intro e
    refine ⟨i 5, funext fun j => Fin.ext ?_⟩
    have e0 : (i 0).val = b.val := congrArg Fin.val (congrFun e 0)
    have e1 : (i 1).val = r.val := congrArg Fin.val (congrFun e 1)
    have e2 : (i 2).val = n.val := congrArg Fin.val (congrFun e 2)
    have e3 : (i 3).val = h.val := congrArg Fin.val (congrFun e 3)
    have e4 : (i 4).val = a.val := congrArg Fin.val (congrFun e 4)
    fin_cases j
    · exact e0.symm
    · exact e1.symm
    · exact e2.symm
    · exact e3.symm
    · exact e4.symm
    · rfl
  · rintro ⟨c, rfl⟩
    funext j
    fin_cases j <;> rfl

/-- A reduction by the largest over the keys, slot by slot. -/
theorem maxSlots1 (P : S8x4x8x16x128x256.Idx → EReal) (z : EReal) (b : Fin 8) (r : Fin 4) (n : Fin 8) (a : Fin 128) (h : Fin 16) :
    Finset.fold max z P (Finset.univ.filter fun i => reducesTo_S8x4x8x16x128x256_S8x4x8x16x128_d5.drop i = ix5 b r n h a) = Finset.univ.fold max z fun c : Fin 256 => P (ix6 b r n h a c) := by
  rw [slots1, Finset.fold_map]
  rfl

/-- A reduction by the sum over the keys, slot by slot. -/
theorem sumSlots1 (P : S8x4x8x16x128x256.Idx → EReal) (b : Fin 8) (r : Fin 4) (n : Fin 8) (a : Fin 128) (h : Fin 16) :
    Ideal.hostReduceAdd reducesTo_S8x4x8x16x128x256_S8x4x8x16x128_d5 P 0 (ix5 b r n h a) = ∑ c : Fin 256, P (ix6 b r n h a c) := by
  show (0 : EReal) + ∑ i ∈ Finset.univ.filter (fun i => reducesTo_S8x4x8x16x128x256_S8x4x8x16x128_d5.drop i = ix5 b r n h a), P i = _
  rw [slots1, Finset.sum_map, zero_add]
  rfl

/-- The largest score of a row. -/
theorem top1_at (W : Valuation τ sig (Elt Ideal)) (b : Fin 8) (r : Fin 4) (n : Fin 8) (a : Fin 128) (h : Fin 16) :
    (res_main_v147 (F := Ideal) W (ix5 b r n h a) : EReal) = Attn.Math.top (Attn.Math.S 1 4 (inp W) b r.val n.val a.val h.val) := by
  have e : (res_main_v147 (F := Ideal) W (ix5 b r n h a) : EReal) = Finset.fold max (Ideal.ofBits .f32 0xFF800000#32) (fun i => (res_main_v146 W i : EReal)) (Finset.univ.filter fun i => reducesTo_S8x4x8x16x128x256_S8x4x8x16x128_d5.drop i = ix5 b r n h a) := by
    pointwise [res_main_v147]
  refine e.trans ((maxSlots1 _ _ b r n a h).trans ?_)
  rw [Attn.Math.neg_inf]
  exact Finset.fold_congr fun c _ => score1_at W b r n c a h

/-- The weights of a row. -/
theorem wt1_at (W : Valuation τ sig (Elt Ideal)) (b : Fin 8) (r : Fin 4) (n : Fin 8) (c : Fin 256) (a : Fin 128) (h : Fin 16) :
    (res_main_v151 (F := Ideal) W (ix6 b r n h a c) : EReal) = Attn.Math.wt (Attn.Math.S 1 4 (inp W) b r.val n.val a.val h.val) c := by
  have e : (res_main_v151 (F := Ideal) W (ix6 b r n h a c) : EReal) = (fun x y : EReal => Ideal.exp (x - y)) (res_main_v146 W (ix6 b r n h a c)) (res_main_v147 W (ix5 b r n h a)) := by
    pointwise [res_main_v151]
  exact e.trans (congrArg₂ (fun x y : EReal => Ideal.exp (x - y)) (score1_at W b r n c a h) (top1_at W b r n a h))

/-- The sum of the weights of a row. -/
theorem den1_at (W : Valuation τ sig (Elt Ideal)) (b : Fin 8) (r : Fin 4) (n : Fin 8) (a : Fin 128) (h : Fin 16) :
    (res_main_v156 (F := Ideal) W (ix5 b r n a h) : EReal) = Attn.Math.den (Attn.Math.S 1 4 (inp W) b r.val n.val a.val h.val) := by
  have e : (res_main_v156 (F := Ideal) W (ix5 b r n a h) : EReal) = Ideal.hostReduceAdd reducesTo_S8x4x8x16x128x256_S8x4x8x16x128_d5 (res_main_v151 W) 0 (ix5 b r n h a) := by
    pointwise [res_main_v156]
  exact e.trans ((sumSlots1 _ b r n a h).trans (Fintype.sum_congr _ _ fun c => wt1_at W b r n c a h))

/-- The group's attention in the residue-major layout. -/
def att1 (W : Valuation τ sig (Elt Ideal)) : FVec Ideal S8x4x8x128x16x64 .f32 :=
  Host.divf (transpose S8x4x8x128x16x64 [0, 1, 2, 5, 3, 4] (num1 (cat1 (res_main_v102 W)) (res_main_v151 W)) transposes_S8x4x8x16x64x128_S8x4x8x128x16x64_0_1_2_5_3_4)
    (broadcastInDim S8x4x8x128x16x64 ![0, 1, 2, 3, 4, 5] bcast_S8x4x8x128x16x1_S8x4x8x128x16x64_0_1_2_3_4_5
      (broadcastInDim S8x4x8x128x16x1 ![0, 1, 2, 3, 4] bcast_S8x4x8x128x16_S8x4x8x128x16x1_0_1_2_3_4 (res_main_v156 W)))

theorem att1_at (W : Valuation τ sig (Elt Ideal)) (b : Fin 8) (r : Fin 4) (n : Fin 8) (a : Fin 128) (h : Fin 16) (d : Fin 64) :
    (att1 W (ix6 b r n a h d) : EReal) = Attn.Math.O 1 4 (inp W) b r.val n.val a.val h.val d.val := by
  have e : (att1 W (ix6 b r n a h d) : EReal) = Ideal.div (num1 (cat1 (res_main_v102 W)) (res_main_v151 W) (ix6 b r n h d a)) (res_main_v156 W (ix5 b r n a h)) := by
    pointwise [att1]
  rw [e, den1_at, num1_at, Attn.Math.O]
  refine congrArg (fun x => Ideal.div x _) ?_
  refine (Finset.sum_congr rfl fun c _ => ?_ : (∑ x : Fin 256, (cat1 (res_main_v102 W) (ix6 b r n x h d) : EReal) * (res_main_v151 W (ix6 b r n h a x) : EReal) : EReal)
    = Attn.Math.num (Attn.Math.S 1 4 (inp W) b r.val n.val a.val h.val) (fun c => cat1 (res_main_v102 W) (ix6 b r n c h d))).trans (Attn.Math.num_congr _ _ _ fun c hc => ?_)
  · rw [wt1_at]; exact mul_comm _ _
  · have hs : Attn.Math.seen n.val a.val c.val := by
      by_contra hs
      exact hc (by rw [Attn.Math.S, if_neg hs])
    exact val1_at W b r n c h d hs.2.2

/-! ## Back to the sequence's order -/

/-- An array of the residue-major layout in the sequence's order, under a leading axis of one. -/
def back1 (X : FVec Ideal S8x4x8x128x16x64 .f32) : FVec Ideal S1x8x4096x16x64 .f32 :=
  broadcastInDim S1x8x4096x16x64 ![1, 2, 3, 4] bcast_S8x4096x16x64_S1x8x4096x16x64_1_2_3_4 (shapeCast _ (transpose S8x1024x4x16x64 [0, 2, 1, 3, 4] (shapeCast _ X shapeCasts_S8x4x8x128x16x64_S8x4x1024x16x64) transposes_S8x4x1024x16x64_S8x1024x4x16x64_0_2_1_3_4) shapeCasts_S8x1024x4x16x64_S8x4096x16x64)

/-- The same of an array with one number per row and head. -/
def backRow1 (X : FVec Ideal S8x4x8x128x16 .f32) : FVec Ideal S1x8x4096x16 .f32 :=
  broadcastInDim S1x8x4096x16 ![1, 2, 3] bcast_S8x4096x16_S1x8x4096x16_1_2_3 (shapeCast _ (transpose S8x1024x4x16 [0, 2, 1, 3] (shapeCast _ X shapeCasts_S8x4x8x128x16_S8x4x1024x16) transposes_S8x4x1024x16_S8x1024x4x16_0_2_1_3) shapeCasts_S8x1024x4x16_S8x4096x16)

theorem back1_at (X : FVec Ideal S8x4x8x128x16x64 .f32) (z : Fin 1) (b : Fin 8) (s : Fin 4096) (h : Fin 16) (d : Fin 64) :
    back1 X (ix5 z b s h d) = X (ix6 b ⟨s.val % 4, by omega⟩ ⟨s.val / 4 / 128, by omega⟩ ⟨s.val / 4 % 128, by omega⟩ h d) := by
  pointwise [back1]
  first | done | (congr 2 <;> apply Fin.ext <;> simp <;> omega)

theorem backRow1_at (X : FVec Ideal S8x4x8x128x16 .f32) (z : Fin 1) (b : Fin 8) (s : Fin 4096) (h : Fin 16) :
    backRow1 X (ix4 z b s h) = X (ix5 b ⟨s.val % 4, by omega⟩ ⟨s.val / 4 / 128, by omega⟩ ⟨s.val / 4 % 128, by omega⟩ h) := by
  pointwise [backRow1]
  first | done | (congr 2 <;> apply Fin.ext <;> simp <;> omega)

/-- A row's largest scores with the head last. -/
def topT1 (W : Valuation τ sig (Elt Ideal)) : FVec Ideal S8x4x8x128x16 .f32 :=
  transpose S8x4x8x128x16 [0, 1, 2, 4, 3] (res_main_v147 W) transposes_S8x4x8x16x128_S8x4x8x128x16_0_1_2_4_3

theorem topT1_at (W : Valuation τ sig (Elt Ideal)) (b : Fin 8) (r : Fin 4) (n : Fin 8) (a : Fin 128) (h : Fin 16) :
    (topT1 W (ix5 b r n a h) : EReal) = Attn.Math.top (Attn.Math.S 1 4 (inp W) b r.val n.val a.val h.val) := by
  have e : (topT1 W (ix5 b r n a h) : EReal) = res_main_v147 W (ix5 b r n h a) := by
    pointwise [topT1]
  rw [e, top1_at]

end Cert.Proof.AttnRef

end
-- ==== Proof.Attn.Ref2.lean ====
/- What the reference's group 2 holds, entry by entry. -/
module

public import proofs.«01_k».proof.Proof.Attn.RefBase

@[expose] public section

set_option maxRecDepth 16384

noncomputable section

namespace Cert.Proof.AttnRef

open Cert.ReferenceIdeal Cert.ReferenceIdeal.Gen Cert.ReferenceIdeal.Value
open Idealize.ShloMosaic Idealize.ShloMosaic.TcCoe Idealize.ShloMosaic.Tactic

/-- Group 2's residue-major layout of an array of that group's heads. -/
def res2 (X : FVec Ideal S8x4096x3x16x64 .f32) : FVec Ideal S8x16x2x128x16x64 .f32 :=
  shapeCast _ (transpose S8x16x256x16x64 [0, 2, 1, 3, 4] (shapeCast _ (shapeCast _ (extractStridedSlice S8x4096x1x16x64 ![0, 0, 2, 0, 0] X slices_S8x4096x3x16x64_S8x4096x1x16x64_0_0_2_0_0) shapeCasts_S8x4096x1x16x64_S8x4096x16x64) shapeCasts_S8x4096x16x64_S8x256x16x16x64) transposes_S8x256x16x16x64_S8x16x256x16x64_0_2_1_3_4) shapeCasts_S8x16x256x16x64_S8x16x2x128x16x64

/-- Group 2's keys: the block before each block (nothing before the first), then the block. -/
def cat2 (K : FVec Ideal S8x16x2x128x16x64 .f32) : FVec Ideal S8x16x2x256x16x64 .f32 :=
  concatenate S8x16x2x256x16x64 3 [⟨S8x16x2x128x16x64, (concatenate S8x16x2x128x16x64 2 [⟨S8x16x1x128x16x64, (broadcastInDim S8x16x1x128x16x64 ![] bcast_S_S8x16x1x128x16x64 (constant S_ .f32 0x00000000#32))⟩, ⟨S8x16x1x128x16x64, (extractStridedSlice S8x16x1x128x16x64 ![0, 0, 0, 0, 0, 0] K slices_S8x16x2x128x16x64_S8x16x1x128x16x64_0_0_0_0_0_0)⟩] concatenates_S8x16x1x128x16x64_S8x16x1x128x16x64_S8x16x2x128x16x64_d2)⟩, ⟨S8x16x2x128x16x64, K⟩] concatenates_S8x16x2x128x16x64_S8x16x2x128x16x64_S8x16x2x256x16x64_d3

/-- Group 2's products of queries and keys. -/
def dot2 (Q : FVec Ideal S8x16x2x128x16x64 .f32) (K : FVec Ideal S8x16x2x256x16x64 .f32) : FVec Ideal S8x16x2x16x128x256 .f32 :=
  Host.dotGeneral (F := Ideal) dot_S8x16x2x128x16x64_S8x16x2x256x16x64_S8x16x2x16x128x256_5_5_3_3_0124_0124 none Q K

/-- Group 2's distances from a query back to a key. -/
def dist2 : IVec S128x256 32 :=
  subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))

/-- Group 2's mask. -/
def mask2 : IVec S8x16x2x16x128x256 1 :=
  broadcastInDim S8x16x2x16x128x256 ![0, 1, 2, 3, 4, 5] bcast_S1x1x2x1x128x256_S8x16x2x16x128x256_0_1_2_3_4_5 (broadcastInDim S1x1x2x1x128x256 ![2, 4, 5] bcast_S2x128x256_S1x1x2x1x128x256_2_4_5 (andi (broadcastInDim S2x128x256 ![0, 1, 2] bcast_S1x128x256_S2x128x256_0_1_2 (broadcastInDim S1x128x256 ![1, 2] bcast_S128x256_S1x128x256_1_2 (andi (cmpi .sge dist2 (broadcastInDim S128x256 ![] bcast_S_S128x256 (constantI S_ 32 0#32))) (cmpi .sle dist2 (broadcastInDim S128x256 ![] bcast_S_S128x256 (constantI S_ 32 128#32)))))) (broadcastInDim S2x128x256 ![0, 1, 2] bcast_S2x1x256_S2x128x256_0_1_2 (broadcastInDim S2x1x256 ![0, 2] bcast_S2x256_S2x1x256_0_2 (cmpi .sge (addi (broadcastInDim S2x256 ![0, 1] bcast_S2x1_S2x256_0_1 (subi (muli (broadcastInDim S2x1 ![0] bcast_S2_S2x1_0 (iotaInDim S2 32 0)) (broadcastInDim S2x1 ![] bcast_S_S2x1 (constantI S_ 32 128#32))) (broadcastInDim S2x1 ![] bcast_S_S2x1 (constantI S_ 32 128#32)))) (broadcastInDim S2x256 ![0, 1] bcast_S1x256_S2x256_0_1 (broadcastInDim S1x256 ![1] bcast_S256_S1x256_1 (iotaInDim S256 32 0)))) (broadcastInDim S2x256 ![] bcast_S_S2x256 (constantI S_ 32 0#32)))))))

/-- Group 2's weighted sums of the values. -/
def num2 (V : FVec Ideal S8x16x2x256x16x64 .f32) (P : FVec Ideal S8x16x2x16x128x256 .f32) : FVec Ideal S8x16x2x16x64x128 .f32 :=
  Host.dotGeneral (F := Ideal) dot_S8x16x2x256x16x64_S8x16x2x16x128x256_S8x16x2x16x64x128_3_5_5_4_0124_0123 none V P

/-! ## The pieces, entry by entry -/

theorem res2_at (X : FVec Ideal S8x4096x3x16x64 .f32) (b : Fin 8) (r : Fin 16) (n : Fin 2) (a : Fin 128) (h : Fin 16) (d : Fin 64) :
    res2 X (ix6 b r n a h d) = X (ix5 b ⟨(n.val * 128 + a.val) * 16 + r.val, by omega⟩ 2 h d) := by
  pointwise [res2]
  first | done | (congr 2; apply Fin.ext; simp <;> omega)

theorem cat2_at (K : FVec Ideal S8x16x2x128x16x64 .f32) (b : Fin 8) (r : Fin 16) (n : Fin 2) (c : Fin 256) (h : Fin 16) (d : Fin 64) :
    cat2 K (ix6 b r n c h d) = if h1 : c.val < 128 then if h2 : n.val < 1 then 0 else K (ix6 b r ⟨n.val - 1, by omega⟩ ⟨c.val, by omega⟩ h d)
      else K (ix6 b r n ⟨c.val - 128, by omega⟩ h d) := by
  pointwise [cat2]

theorem dot2_at (Q : FVec Ideal S8x16x2x128x16x64 .f32) (K : FVec Ideal S8x16x2x256x16x64 .f32) (b : Fin 8) (r : Fin 16) (n : Fin 2) (c : Fin 256) (a : Fin 128) (h : Fin 16) :
    dot2 Q K (ix6 b r n h a c) = ∑ x : Fin 64, Q (ix6 b r n a h x) * K (ix6 b r n c h x) := by
  pointwise [dot2]

theorem mask2_at (b : Fin 8) (r : Fin 16) (n : Fin 2) (c : Fin 256) (a : Fin 128) (h : Fin 16) :
    mask2 (ix6 b r n h a c) = if Attn.Math.seen n.val a.val c.val then 1#1 else 0#1 := by
  pointwise [mask2, dist2]
  exact Attn.Math.mask_bits ⟨n.val, by omega⟩ a c

theorem num2_at (K : FVec Ideal S8x16x2x256x16x64 .f32) (P : FVec Ideal S8x16x2x16x128x256 .f32) (b : Fin 8) (r : Fin 16) (n : Fin 2) (a : Fin 128) (h : Fin 16) (d : Fin 64) :
    num2 K P (ix6 b r n h d a) = ∑ x : Fin 256, K (ix6 b r n x h d) * P (ix6 b r n h a x) := by
  pointwise [num2]

/-- The keys of a seen slot are those of its position. -/
theorem key2_at (W : Valuation τ sig (Elt Ideal)) (b : Fin 8) (r : Fin 16) (n : Fin 2) (c : Fin 256) (h : Fin 16) (d : Fin 64) (hs : n.val = 0 → 128 ≤ c.val) :
    (cat2 (res_main_v180 (F := Ideal) W) (ix6 b r n c h d) : EReal) = Attn.Math.elt (inp W) b (Attn.Math.kpos 16 r.val n.val c.val) (3072 + 2 * 1024 + h.val * 64 + d.val) := by
  rw [cat2_at]
  have e : res_main_v180 (F := Ideal) W = res2 (res_main_v4 W) := rfl
  rw [e]
  split_ifs with h1 h2
  · omega
  · rw [res2_at, k_at]
    exact congrArg (fun s => Attn.Math.elt (inp W) b s _) (show (_ : ℕ) = _ by simp only [Attn.Math.kpos]; omega)
  · rw [res2_at, k_at]
    exact congrArg (fun s => Attn.Math.elt (inp W) b s _) (show (_ : ℕ) = _ by simp only [Attn.Math.kpos]; omega)

/-- The values of a seen slot are those of its position. -/
theorem val2_at (W : Valuation τ sig (Elt Ideal)) (b : Fin 8) (r : Fin 16) (n : Fin 2) (c : Fin 256) (h : Fin 16) (d : Fin 64) (hs : n.val = 0 → 128 ≤ c.val) :
    (cat2 (res_main_v183 (F := Ideal) W) (ix6 b r n c h d) : EReal) = Attn.Math.elt (inp W) b (Attn.Math.kpos 16 r.val n.val c.val) (6144 + 2 * 1024 + h.val * 64 + d.val) := by
  rw [cat2_at]
  have e : res_main_v183 (F := Ideal) W = res2 (res_main_v6 W) := rfl
  rw [e]
  split_ifs with h1 h2
  · omega
  · rw [res2_at, v_at]
    exact congrArg (fun s => Attn.Math.elt (inp W) b s _) (show (_ : ℕ) = _ by simp only [Attn.Math.kpos]; omega)
  · rw [res2_at, v_at]
    exact congrArg (fun s => Attn.Math.elt (inp W) b s _) (show (_ : ℕ) = _ by simp only [Attn.Math.kpos]; omega)

/-- The masked scores. -/
theorem score2_at (W : Valuation τ sig (Elt Ideal)) (b : Fin 8) (r : Fin 16) (n : Fin 2) (c : Fin 256) (a : Fin 128) (h : Fin 16) :
    (res_main_v227 (F := Ideal) W (ix6 b r n h a c) : EReal) = Attn.Math.S 2 16 (inp W) b r.val n.val a.val h.val c := by
  have e : res_main_v227 (F := Ideal) W = select mask2 (dot2 (res2 (res_main_v2 W)) (cat2 (res_main_v180 W))) (broadcastInDim S8x16x2x16x128x256 ![] bcast_S_S8x16x2x16x128x256 (id (constant S_ .f32 0xFF800000#32))) := rfl
  rw [e]
  show Scalar.select (mask2 (ix6 b r n h a c)) (dot2 (res2 (res_main_v2 W)) (cat2 (res_main_v180 W)) (ix6 b r n h a c)) (Ideal.ofBits .f32 0xFF800000#32) = _
  rw [mask2_at, dot2_at, Attn.Math.S]
  by_cases hs : Attn.Math.seen n.val a.val c.val
  · rw [if_pos hs, if_pos hs]
    refine Fintype.sum_congr (fun x : Fin 64 => ((res2 (res_main_v2 W) (ix6 b r n a h x) : EReal) * (cat2 (res_main_v180 W) (ix6 b r n c h x) : EReal) : EReal)) _ fun x => ?_
    show (res2 (res_main_v2 W) (ix6 b r n a h x) : EReal) * (cat2 (res_main_v180 W) (ix6 b r n c h x) : EReal) = _
    rw [key2_at W b r n c h x hs.2.2, res2_at, q_at]
    exact congrArg (fun s => Attn.Math.elt (inp W) b s _ * _) (show (_ : ℕ) = _ by simp only [Attn.Math.pos])
  · rw [if_neg hs, if_neg hs]
    exact Attn.Math.neg_inf

/-- A row's slots are the indices a reduction over the keys gathers. -/
theorem slots2 (b : Fin 8) (r : Fin 16) (n : Fin 2) (h : Fin 16) (a : Fin 128) :
    (Finset.univ.filter fun i => reducesTo_S8x16x2x16x128x256_S8x16x2x16x128_d5.drop i = ix5 b r n h a) = Finset.univ.map ⟨fun c : Fin 256 => ix6 b r n h a c, fun c c' e => congrFun e 5⟩ := by
  ext i
  simp only [Finset.mem_filter, Finset.mem_univ, true_and, Finset.mem_map, Function.Embedding.coeFn_mk]
  constructor
  · intro e
    refine ⟨i 5, funext fun j => Fin.ext ?_⟩
    have e0 : (i 0).val = b.val := congrArg Fin.val (congrFun e 0)
    have e1 : (i 1).val = r.val := congrArg Fin.val (congrFun e 1)
    have e2 : (i 2).val = n.val := congrArg Fin.val (congrFun e 2)
    have e3 : (i 3).val = h.val := congrArg Fin.val (congrFun e 3)
    have e4 : (i 4).val = a.val := congrArg Fin.val (congrFun e 4)
    fin_cases j
    · exact e0.symm
    · exact e1.symm
    · exact e2.symm
    · exact e3.symm
    · exact e4.symm
    · rfl
  · rintro ⟨c, rfl⟩
    funext j
    fin_cases j <;> rfl

/-- A reduction by the largest over the keys, slot by slot. -/
theorem maxSlots2 (P : S8x16x2x16x128x256.Idx → EReal) (z : EReal) (b : Fin 8) (r : Fin 16) (n : Fin 2) (a : Fin 128) (h : Fin 16) :
    Finset.fold max z P (Finset.univ.filter fun i => reducesTo_S8x16x2x16x128x256_S8x16x2x16x128_d5.drop i = ix5 b r n h a) = Finset.univ.fold max z fun c : Fin 256 => P (ix6 b r n h a c) := by
  rw [slots2, Finset.fold_map]
  rfl

/-- A reduction by the sum over the keys, slot by slot. -/
theorem sumSlots2 (P : S8x16x2x16x128x256.Idx → EReal) (b : Fin 8) (r : Fin 16) (n : Fin 2) (a : Fin 128) (h : Fin 16) :
    Ideal.hostReduceAdd reducesTo_S8x16x2x16x128x256_S8x16x2x16x128_d5 P 0 (ix5 b r n h a) = ∑ c : Fin 256, P (ix6 b r n h a c) := by
  show (0 : EReal) + ∑ i ∈ Finset.univ.filter (fun i => reducesTo_S8x16x2x16x128x256_S8x16x2x16x128_d5.drop i = ix5 b r n h a), P i = _
  rw [slots2, Finset.sum_map, zero_add]
  rfl

/-- The largest score of a row. -/
theorem top2_at (W : Valuation τ sig (Elt Ideal)) (b : Fin 8) (r : Fin 16) (n : Fin 2) (a : Fin 128) (h : Fin 16) :
    (res_main_v228 (F := Ideal) W (ix5 b r n h a) : EReal) = Attn.Math.top (Attn.Math.S 2 16 (inp W) b r.val n.val a.val h.val) := by
  have e : (res_main_v228 (F := Ideal) W (ix5 b r n h a) : EReal) = Finset.fold max (Ideal.ofBits .f32 0xFF800000#32) (fun i => (res_main_v227 W i : EReal)) (Finset.univ.filter fun i => reducesTo_S8x16x2x16x128x256_S8x16x2x16x128_d5.drop i = ix5 b r n h a) := by
    pointwise [res_main_v228]
  refine e.trans ((maxSlots2 _ _ b r n a h).trans ?_)
  rw [Attn.Math.neg_inf]
  exact Finset.fold_congr fun c _ => score2_at W b r n c a h

/-- The weights of a row. -/
theorem wt2_at (W : Valuation τ sig (Elt Ideal)) (b : Fin 8) (r : Fin 16) (n : Fin 2) (c : Fin 256) (a : Fin 128) (h : Fin 16) :
    (res_main_v232 (F := Ideal) W (ix6 b r n h a c) : EReal) = Attn.Math.wt (Attn.Math.S 2 16 (inp W) b r.val n.val a.val h.val) c := by
  have e : (res_main_v232 (F := Ideal) W (ix6 b r n h a c) : EReal) = (fun x y : EReal => Ideal.exp (x - y)) (res_main_v227 W (ix6 b r n h a c)) (res_main_v228 W (ix5 b r n h a)) := by
    pointwise [res_main_v232]
  exact e.trans (congrArg₂ (fun x y : EReal => Ideal.exp (x - y)) (score2_at W b r n c a h) (top2_at W b r n a h))

/-- The sum of the weights of a row. -/
theorem den2_at (W : Valuation τ sig (Elt Ideal)) (b : Fin 8) (r : Fin 16) (n : Fin 2) (a : Fin 128) (h : Fin 16) :
    (res_main_v237 (F := Ideal) W (ix5 b r n a h) : EReal) = Attn.Math.den (Attn.Math.S 2 16 (inp W) b r.val n.val a.val h.val) := by
  have e : (res_main_v237 (F := Ideal) W (ix5 b r n a h) : EReal) = Ideal.hostReduceAdd reducesTo_S8x16x2x16x128x256_S8x16x2x16x128_d5 (res_main_v232 W) 0 (ix5 b r n h a) := by
    pointwise [res_main_v237]
  exact e.trans ((sumSlots2 _ b r n a h).trans (Fintype.sum_congr _ _ fun c => wt2_at W b r n c a h))

/-- The group's attention in the residue-major layout. -/
def att2 (W : Valuation τ sig (Elt Ideal)) : FVec Ideal S8x16x2x128x16x64 .f32 :=
  Host.divf (transpose S8x16x2x128x16x64 [0, 1, 2, 5, 3, 4] (num2 (cat2 (res_main_v183 W)) (res_main_v232 W)) transposes_S8x16x2x16x64x128_S8x16x2x128x16x64_0_1_2_5_3_4)
    (broadcastInDim S8x16x2x128x16x64 ![0, 1, 2, 3, 4, 5] bcast_S8x16x2x128x16x1_S8x16x2x128x16x64_0_1_2_3_4_5
      (broadcastInDim S8x16x2x128x16x1 ![0, 1, 2, 3, 4] bcast_S8x16x2x128x16_S8x16x2x128x16x1_0_1_2_3_4 (res_main_v237 W)))

theorem att2_at (W : Valuation τ sig (Elt Ideal)) (b : Fin 8) (r : Fin 16) (n : Fin 2) (a : Fin 128) (h : Fin 16) (d : Fin 64) :
    (att2 W (ix6 b r n a h d) : EReal) = Attn.Math.O 2 16 (inp W) b r.val n.val a.val h.val d.val := by
  have e : (att2 W (ix6 b r n a h d) : EReal) = Ideal.div (num2 (cat2 (res_main_v183 W)) (res_main_v232 W) (ix6 b r n h d a)) (res_main_v237 W (ix5 b r n a h)) := by
    pointwise [att2]
  rw [e, den2_at, num2_at, Attn.Math.O]
  refine congrArg (fun x => Ideal.div x _) ?_
  refine (Finset.sum_congr rfl fun c _ => ?_ : (∑ x : Fin 256, (cat2 (res_main_v183 W) (ix6 b r n x h d) : EReal) * (res_main_v232 W (ix6 b r n h a x) : EReal) : EReal)
    = Attn.Math.num (Attn.Math.S 2 16 (inp W) b r.val n.val a.val h.val) (fun c => cat2 (res_main_v183 W) (ix6 b r n c h d))).trans (Attn.Math.num_congr _ _ _ fun c hc => ?_)
  · rw [wt2_at]; exact mul_comm _ _
  · have hs : Attn.Math.seen n.val a.val c.val := by
      by_contra hs
      exact hc (by rw [Attn.Math.S, if_neg hs])
    exact val2_at W b r n c h d hs.2.2

/-! ## Back to the sequence's order -/

/-- An array of the residue-major layout in the sequence's order, under a leading axis of one. -/
def back2 (X : FVec Ideal S8x16x2x128x16x64 .f32) : FVec Ideal S1x8x4096x16x64 .f32 :=
  broadcastInDim S1x8x4096x16x64 ![1, 2, 3, 4] bcast_S8x4096x16x64_S1x8x4096x16x64_1_2_3_4 (shapeCast _ (transpose S8x256x16x16x64 [0, 2, 1, 3, 4] (shapeCast _ X shapeCasts_S8x16x2x128x16x64_S8x16x256x16x64) transposes_S8x16x256x16x64_S8x256x16x16x64_0_2_1_3_4) shapeCasts_S8x256x16x16x64_S8x4096x16x64)

/-- The same of an array with one number per row and head. -/
def backRow2 (X : FVec Ideal S8x16x2x128x16 .f32) : FVec Ideal S1x8x4096x16 .f32 :=
  broadcastInDim S1x8x4096x16 ![1, 2, 3] bcast_S8x4096x16_S1x8x4096x16_1_2_3 (shapeCast _ (transpose S8x256x16x16 [0, 2, 1, 3] (shapeCast _ X shapeCasts_S8x16x2x128x16_S8x16x256x16) transposes_S8x16x256x16_S8x256x16x16_0_2_1_3) shapeCasts_S8x256x16x16_S8x4096x16)

theorem back2_at (X : FVec Ideal S8x16x2x128x16x64 .f32) (z : Fin 1) (b : Fin 8) (s : Fin 4096) (h : Fin 16) (d : Fin 64) :
    back2 X (ix5 z b s h d) = X (ix6 b ⟨s.val % 16, by omega⟩ ⟨s.val / 16 / 128, by omega⟩ ⟨s.val / 16 % 128, by omega⟩ h d) := by
  pointwise [back2]
  first | done | (congr 2 <;> apply Fin.ext <;> simp <;> omega)

theorem backRow2_at (X : FVec Ideal S8x16x2x128x16 .f32) (z : Fin 1) (b : Fin 8) (s : Fin 4096) (h : Fin 16) :
    backRow2 X (ix4 z b s h) = X (ix5 b ⟨s.val % 16, by omega⟩ ⟨s.val / 16 / 128, by omega⟩ ⟨s.val / 16 % 128, by omega⟩ h) := by
  pointwise [backRow2]
  first | done | (congr 2 <;> apply Fin.ext <;> simp <;> omega)

/-- A row's largest scores with the head last. -/
def topT2 (W : Valuation τ sig (Elt Ideal)) : FVec Ideal S8x16x2x128x16 .f32 :=
  transpose S8x16x2x128x16 [0, 1, 2, 4, 3] (res_main_v228 W) transposes_S8x16x2x16x128_S8x16x2x128x16_0_1_2_4_3

theorem topT2_at (W : Valuation τ sig (Elt Ideal)) (b : Fin 8) (r : Fin 16) (n : Fin 2) (a : Fin 128) (h : Fin 16) :
    (topT2 W (ix5 b r n a h) : EReal) = Attn.Math.top (Attn.Math.S 2 16 (inp W) b r.val n.val a.val h.val) := by
  have e : (topT2 W (ix5 b r n a h) : EReal) = res_main_v228 W (ix5 b r n h a) := by
    pointwise [topT2]
  rw [e, top2_at]

end Cert.Proof.AttnRef

end
-- ==== Proof.Attn.RefMerge.lean ====
/- The reference's merge of the three groups, entry by entry. -/
module

public import proofs.«01_k».proof.Proof.Attn.Ref0
public import proofs.«01_k».proof.Proof.Attn.Ref1
public import proofs.«01_k».proof.Proof.Attn.Ref2

@[expose] public section

set_option maxRecDepth 16384

noncomputable section

namespace Cert.Proof.AttnRef

open Cert.ReferenceIdeal Cert.ReferenceIdeal.Gen Cert.ReferenceIdeal.Value
open Idealize.ShloMosaic Idealize.ShloMosaic.TcCoe Idealize.ShloMosaic.Tactic

/-- Three arrays stacked. -/
def stack (X Y Z : FVec Ideal S1x8x4096x16x64 .f32) : FVec Ideal S3x8x4096x16x64 .f32 :=
  concatenate S3x8x4096x16x64 0 [⟨S1x8x4096x16x64, X⟩, ⟨S1x8x4096x16x64, Y⟩, ⟨S1x8x4096x16x64, Z⟩] concatenates_S1x8x4096x16x64_S1x8x4096x16x64_S1x8x4096x16x64_S3x8x4096x16x64_d0

/-- Three arrays of one number per row and head, stacked. -/
def stackRow (X Y Z : FVec Ideal S1x8x4096x16 .f32) : FVec Ideal S3x8x4096x16 .f32 :=
  concatenate S3x8x4096x16 0 [⟨S1x8x4096x16, X⟩, ⟨S1x8x4096x16, Y⟩, ⟨S1x8x4096x16, Z⟩] concatenates_S1x8x4096x16_S1x8x4096x16_S1x8x4096x16_S3x8x4096x16_d0

theorem stack_at0 (X Y Z : FVec Ideal S1x8x4096x16x64 .f32) (b : Fin 8) (s : Fin 4096) (h : Fin 16) (d : Fin 64) :
    stack X Y Z (ix5 0 b s h d) = X (ix5 0 b s h d) := by
  pointwise [stack]
theorem stack_at1 (X Y Z : FVec Ideal S1x8x4096x16x64 .f32) (b : Fin 8) (s : Fin 4096) (h : Fin 16) (d : Fin 64) :
    stack X Y Z (ix5 1 b s h d) = Y (ix5 0 b s h d) := by
  pointwise [stack]
theorem stack_at2 (X Y Z : FVec Ideal S1x8x4096x16x64 .f32) (b : Fin 8) (s : Fin 4096) (h : Fin 16) (d : Fin 64) :
    stack X Y Z (ix5 2 b s h d) = Z (ix5 0 b s h d) := by
  pointwise [stack]
theorem stackRow_at0 (X Y Z : FVec Ideal S1x8x4096x16 .f32) (b : Fin 8) (s : Fin 4096) (h : Fin 16) :
    stackRow X Y Z (ix4 0 b s h) = X (ix4 0 b s h) := by
  pointwise [stackRow]
theorem stackRow_at1 (X Y Z : FVec Ideal S1x8x4096x16 .f32) (b : Fin 8) (s : Fin 4096) (h : Fin 16) :
    stackRow X Y Z (ix4 1 b s h) = Y (ix4 0 b s h) := by
  pointwise [stackRow]
theorem stackRow_at2 (X Y Z : FVec Ideal S1x8x4096x16 .f32) (b : Fin 8) (s : Fin 4096) (h : Fin 16) :
    stackRow X Y Z (ix4 2 b s h) = Z (ix4 0 b s h) := by
  pointwise [stackRow]

/-- The three groups are the indices a reduction over the leading axis gathers. -/
theorem groups (b : Fin 8) (s : Fin 4096) (h : Fin 16) :
    (Finset.univ.filter fun i => reducesTo_S3x8x4096x16_S8x4096x16_d0.drop i = ix3 b s h) = Finset.univ.map ⟨fun g : Fin 3 => ix4 g b s h, fun c c' e => congrFun e 0⟩ := by
  ext i
  simp only [Finset.mem_filter, Finset.mem_univ, true_and, Finset.mem_map, Function.Embedding.coeFn_mk]
  constructor
  · intro e
    refine ⟨i 0, funext fun j => Fin.ext ?_⟩
    have e0 : (i 1).val = b.val := congrArg Fin.val (congrFun e 0)
    have e1 : (i 2).val = s.val := congrArg Fin.val (congrFun e 1)
    have e2 : (i 3).val = h.val := congrArg Fin.val (congrFun e 2)
    fin_cases j
    · rfl
    · exact e0.symm
    · exact e1.symm
    · exact e2.symm
  · rintro ⟨c, rfl⟩
    funext j
    fin_cases j <;> rfl

theorem maxGroups (P : S3x8x4096x16.Idx → EReal) (b : Fin 8) (s : Fin 4096) (h : Fin 16) :
    Finset.fold max (Ideal.ofBits .f32 0xFF800000#32) P (Finset.univ.filter fun i => reducesTo_S3x8x4096x16_S8x4096x16_d0.drop i = ix3 b s h)
      = max (max (P (ix4 0 b s h)) (P (ix4 1 b s h))) (P (ix4 2 b s h)) := by
  rw [groups, Finset.fold_map, Attn.Math.neg_inf]
  show Finset.fold max ⊥ (fun g : Fin 3 => P (ix4 g b s h)) Finset.univ = _
  rw [show (Finset.univ : Finset (Fin 3)) = {0, 1, 2} by decide, Finset.fold_insert (by decide), Finset.fold_insert (by decide), Finset.fold_singleton,
    max_eq_left (bot_le : (⊥ : EReal) ≤ _), max_assoc]

/-- A number of each row, group and head, spread over the groups. -/
def spread (X : FVec Ideal S8x4096x16 .f32) : FVec Ideal S3x8x4096x16 .f32 :=
  broadcastInDim S3x8x4096x16 ![0, 1, 2, 3] bcast_S1x8x4096x16_S3x8x4096x16_0_1_2_3 (broadcastInDim S1x8x4096x16 ![1, 2, 3] bcast_S8x4096x16_S1x8x4096x16_1_2_3 X)

theorem spread_at (X : FVec Ideal S8x4096x16 .f32) (g : Fin 3) (b : Fin 8) (s : Fin 4096) (h : Fin 16) : spread X (ix4 g b s h) = X (ix3 b s h) := by
  pointwise [spread]

/-- The groups' weights: the sums of their rows' weights, rescaled to the largest score of the groups. -/
def groupW (D T : FVec Ideal S3x8x4096x16 .f32) : FVec Ideal S3x8x4096x16 .f32 :=
  mulf D (Host.exp (subf T (spread (Host.reduce FloatOps.maximumf T (constant S_ .f32 0xFF800000#32) reducesTo_S3x8x4096x16_S8x4096x16_d0 h_S_))))

theorem groupW_at (D T : FVec Ideal S3x8x4096x16 .f32) (g : Fin 3) (b : Fin 8) (s : Fin 4096) (h : Fin 16) :
    groupW D T (ix4 g b s h) = D (ix4 g b s h) * Ideal.exp (T (ix4 g b s h) - max (max (T (ix4 0 b s h)) (T (ix4 1 b s h))) (T (ix4 2 b s h))) := by
  have e : groupW D T (ix4 g b s h) = D (ix4 g b s h) * Ideal.exp (T (ix4 g b s h) - Finset.fold max (Ideal.ofBits .f32 0xFF800000#32) T (Finset.univ.filter fun i => reducesTo_S3x8x4096x16_S8x4096x16_d0.drop i = ix3 b s h)) := by
    pointwise [groupW, spread]
  exact e.trans (congrArg (fun x : EReal => D (ix4 g b s h) * Ideal.exp (T (ix4 g b s h) - x)) (maxGroups T b s h))

/-- The groups' outputs weighed by their shares. -/
def weigh (W : FVec Ideal S3x8x4096x16 .f32) (X : FVec Ideal S3x8x4096x16x64 .f32) : FVec Ideal S8x4096x1024 .bf16 :=
  truncf .bf16 (shapeCast _ (Host.dotGeneral (F := Ideal) dot_S3x8x4096x16_S3x8x4096x16x64_S8x4096x16x64_0_0_n_4_123_123 none
    (Host.divf W (spread (Host.reduceAdd W (constant S_ .f32 0x00000000#32) reducesTo_S3x8x4096x16_S8x4096x16_d0 h_S_))) X) shapeCasts_S8x4096x16x64_S8x4096x1024) bitsLt_bf16_f32

theorem weigh_at (W : FVec Ideal S3x8x4096x16 .f32) (X : FVec Ideal S3x8x4096x16x64 .f32) (b : Fin 8) (s : Fin 4096) (j : Fin 1024) :
    (weigh W X (ix3 b s j) : EReal) = ∑ g : Fin 3, Ideal.div (W (ix4 g b s ⟨j.val / 64, by omega⟩)) (W (ix4 0 b s ⟨j.val / 64, by omega⟩) + W (ix4 1 b s ⟨j.val / 64, by omega⟩) + W (ix4 2 b s ⟨j.val / 64, by omega⟩))
      * X (ix5 g b s ⟨j.val / 64, by omega⟩ ⟨j.val % 64, by omega⟩) := by
  pointwise [weigh, spread]
  simp only [Fin.sum_univ_three]

/-- The reference's result. -/
def result (W : Valuation τ sig (Elt Ideal)) : FVec Ideal S8x4096x1024 .bf16 :=
  weigh (groupW (stackRow (backRow0 (res_main_v75 W)) (backRow1 (res_main_v156 W)) (backRow2 (res_main_v237 W))) (stackRow (backRow0 (topT0 W)) (backRow1 (topT1 W)) (backRow2 (topT2 W))))
    (stack (back0 (att0 W)) (back1 (att1 W)) (back2 (att2 W)))

theorem v253_eq (W : Valuation τ sig (Elt Ideal)) : res_main_v253 (F := Ideal) W = stack (back0 (att0 W)) (back1 (att1 W)) (back2 (att2 W)) := rfl
theorem v257_eq (W : Valuation τ sig (Elt Ideal)) : res_main_v257 (F := Ideal) W = stackRow (backRow0 (topT0 W)) (backRow1 (topT1 W)) (backRow2 (topT2 W)) := rfl
theorem v267_eq (W : Valuation τ sig (Elt Ideal)) : res_main_v267 (F := Ideal) W = groupW (stackRow (backRow0 (res_main_v75 W)) (backRow1 (res_main_v156 W)) (backRow2 (res_main_v237 W))) (res_main_v257 W) := rfl

theorem result_eq (W : Valuation τ sig (Elt Ideal)) :
    weigh (res_main_v267 (F := Ideal) W) (res_main_v253 W)
      = result W := by
  rw [v253_eq, v267_eq, v257_eq]
  rfl

/-- The reference's result, entry by entry. -/
theorem result_at (W : Valuation τ sig (Elt Ideal)) (b : Fin 8) (s : Fin 4096) (j : Fin 1024) :
    (result W (ix3 b s j) : EReal) = Attn.Math.refAt (inp W) b s.val (j.val / 64) (j.val % 64) := by
  rw [result, weigh_at, Fin.sum_univ_three]
  simp only [groupW_at, stack_at0, stack_at1, stack_at2, stackRow_at0, stackRow_at1, stackRow_at2, back0_at, back1_at, back2_at, backRow0_at, backRow1_at, backRow2_at]
  simp only [att0_at, att1_at, att2_at, topT0_at, topT1_at, topT2_at, den0_at, den1_at, den2_at]
  simp only [Nat.mod_one, Nat.div_one]
  rfl

end Cert.Proof.AttnRef

end
-- ==== Proof.Attn.Reads.lean ====
/- The rows the attention kernel's trips read. -/
module

public import proofs.«01_k».proof.Proof.Attn.Body

@[expose] public section

set_option maxRecDepth 16384

noncomputable section

namespace Cert.Proof.Attn

open Cert.KernelIdeal Cert.KernelIdeal.Gen
open Idealize.ShloMosaic Idealize.ShloMosaic.TcCoe Idealize.ShloMosaic.Tactic

/-! Where the trips' rectangles begin. -/

theorem off1_eq : ∀ k : Fin k0_t1_loop.trips, k0_off1 k = ![0, 128 * k.val, 0] := by decide +kernel
theorem off5_eq : ∀ k : Fin k0_t2_loop.trips, k0_off5 k = ![0, 512 * (k.val / 4) + k.val % 4, 0] := by decide +kernel
theorem off9_eq : ∀ k : Fin k0_t3_loop.trips, k0_off9 k = ![0, k.val, 0] := by decide +kernel
theorem off2_eq : ∀ (i : grid0.Coords) (k : Fin k0_t1_loop.trips), k0_off2 i k = ![0, 2048 * (i 2).val + 128 * k.val, 0] := by decide +kernel
theorem off3_eq : ∀ (i : grid0.Coords) (k : Fin k0_t1_loop.trips), k0_off3 i k = ![0, 2048 * (i 2).val + 128 * k.val - 128, 0] := by decide +kernel
theorem off6_eq : ∀ (i : grid0.Coords) (k : Fin k0_t2_loop.trips), k0_off6 i k = ![0, 2048 * (i 2).val + (512 * (k.val / 4) + k.val % 4), 0] := by decide +kernel
theorem off7_eq : ∀ (i : grid0.Coords) (k : Fin k0_t2_loop.trips), k0_off7 i k = ![0, 2048 * (i 2).val + (512 * (k.val / 4) + k.val % 4) - 512, 0] := by decide +kernel
theorem off10_eq : ∀ (i : grid0.Coords) (k : Fin k0_t3_loop.trips), k0_off10 i k = ![0, 2048 * (i 2).val + k.val, 0] := by decide +kernel
theorem off11_eq : ∀ (i : grid0.Coords) (k : Fin k0_t3_loop.trips), k0_off11 i k = ![0, 2048 * (i 2).val + k.val - 2048, 0] := by decide +kernel

/-! The first key a trip's block may look at. -/

theorem first0 : ∀ (h : Fin 2) (k : Fin k0_t1_loop.trips), trip_k0_t1.sl.v58 (BitVec.ofNat 32 h.val) k = if 16 * h.val + k.val = 0 then 128#32 else 0#32 := by decide +kernel
theorem first1 : ∀ (h : Fin 2) (k : Fin k0_t2_loop.trips), Scalar.select (Scalar.cmpi .sge (Scalar.subi (Scalar.addi (Scalar.muli (BitVec.ofNat 32 h.val) 2048#32) (Scalar.addi (Scalar.muli (Scalar.shrui (Scf.iv 0#32 1#32 k) 2#32) 512#32) (Scalar.andi (Scf.iv 0#32 1#32 k) 3#32))) 512#32) 0#32) 0#32 128#32
    = if 4 * h.val + k.val / 4 = 0 then 128#32 else 0#32 := by decide +kernel
theorem first2 : ∀ (h : Fin 2) (k : Fin k0_t3_loop.trips), Scalar.select (Scalar.cmpi .sge (Scalar.subi (Scalar.addi (Scalar.muli (BitVec.ofNat 32 h.val) 2048#32) (Scalar.addi 0#32 (Scalar.andi (Scf.iv 0#32 1#32 k) 15#32))) 2048#32) 0#32) 0#32 128#32
    = if h.val = 0 then 128#32 else 0#32 := by decide +kernel

end Cert.Proof.Attn

end
-- ==== Proof.Attn.Pay.lean ====
/- What the attention kernel's arithmetic leaves, entry by entry. -/
module

public import proofs.«01_k».proof.Proof.Attn.Pieces
public import proofs.«01_k».proof.Proof.Attn.Bits
public import Idealize.ShloMosaic.Lib.Pointwise

@[expose] public section

set_option maxRecDepth 16384

noncomputable section

namespace Cert.Proof.Attn

open Cert.KernelIdeal Cert.KernelIdeal.Gen
open Idealize.ShloMosaic Idealize.ShloMosaic.TcCoe Idealize.ShloMosaic.Tactic

/-! ## The masks -/

/-- A row's number within its head's block. -/
theorem pay25_at (R c : Fin 256) : k0_pay25 (ix2 R c) = BitVec.ofNat 32 (R.val % 128) := by
  pointwise [k0_pay25]
  clear c
  revert R
  decide +kernel

/-- The distance bits of a row and a key. -/
theorem near_at (R c : Fin 256) : IntOp.andi (k0_pay34 (ix2 R c)) (k0_pay35 (ix2 R c)) = if R.val % 128 ≤ c.val ∧ c.val ≤ R.val % 128 + 128 then 1#1 else 0#1 := by
  have e : IntOp.andi (k0_pay34 (ix2 R c)) (k0_pay35 (ix2 R c)) = IntOp.andi
      (IntOp.cmpi .sge (IntOp.subi (IntOp.addi (k0_pay25 (ix2 R c)) 128#32) (BitVec.ofNat 32 c.val)) 0#32)
      (IntOp.cmpi .sle (IntOp.subi (IntOp.addi (k0_pay25 (ix2 R c)) 128#32) (BitVec.ofNat 32 c.val)) 128#32) := by
    pointwise [k0_pay34, k0_pay35, k0_pay33]
  rw [e, pay25_at]
  exact Math.near_bits ⟨R.val % 128, by omega⟩ c

/-- The two bits of a seen key, joined. -/
theorem seen_bits (n a c : ℕ) : IntOp.andi (if a ≤ c ∧ c ≤ a + 128 then 1#1 else 0#1) (if (n = 0 → 128 ≤ c) then 1#1 else 0#1) = if Math.seen n a c then 1#1 else 0#1 := by
  by_cases h1 : a ≤ c ∧ c ≤ a + 128 <;> by_cases h2 : (n = 0 → 128 ≤ c)
  · rw [if_pos h1, if_pos h2, if_pos (show Math.seen _ _ _ from ⟨h1.1, h1.2, h2⟩)]; rfl
  · rw [if_pos h1, if_neg h2, if_neg (fun h : Math.seen _ _ _ => h2 h.2.2)]; rfl
  · rw [if_neg h1, if_pos h2, if_neg (fun h : Math.seen _ _ _ => h1 ⟨h.1, h.2.1⟩)]; rfl
  · rw [if_neg h1, if_neg h2, if_neg (fun h : Math.seen _ _ _ => h1 ⟨h.1, h.2.1⟩)]; rfl

/-- The kernel's masking value is minus infinity. -/
theorem mask_val : ((Named.named κ "mask" 0xF149F2CA#32 : Ideal .f32) : EReal) = ⊥ := rfl

/-- A masked score. -/
theorem masked (n a c : ℕ) (s : EReal) : (Scalar.select (if Math.seen n a c then 1#1 else 0#1) s (Named.named κ "mask" 0xF149F2CA#32 : Ideal .f32) : EReal) = if Math.seen n a c then s else ⊥ := by
  by_cases h : Math.seen n a c
  · rw [if_pos h, if_pos h]; rfl
  · rw [if_neg h, if_neg h]; exact mask_val

/-- The first key a block may look at, as a bit of the lane's number. -/
theorem start_lane (P : Prop) [Decidable P] (c : Fin 256) : IntOp.cmpi .sge (BitVec.ofNat 32 c.val) (if P then 128#32 else 0#32) = if (P → 128 ≤ c.val) then 1#1 else 0#1 := by
  by_cases h : P
  · simp only [if_pos h, h, true_imp_iff]
    revert c; decide +kernel
  · simp only [if_neg h, h, false_imp_iff, if_true]
    revert c; decide +kernel

/-! ## The operands -/

/-- A block of queries, the first head's (iota .tc S256x256 32 [1] iota_S256x256_d1_w32) over the second's. -/
def qAt (q : Vec Ideal S1x128x128 .f32) (R : Fin 256) (x : Fin 128) : EReal :=
  if h : R.val < 128 then (if x.val < 64 then q (ix3 0 ⟨R.val, h⟩ x) else 0) else (if x.val < 64 then 0 else q (ix3 0 ⟨R.val - 128, by omega⟩ x))
/-- The block before over the block. -/
def bothAt (p c : Vec Ideal S1x128x128 .f32) (y : Fin 256) (x : Fin 128) : EReal :=
  if h : y.val < 128 then p (ix3 0 ⟨y.val, h⟩ x) else c (ix3 0 ⟨y.val - 128, by omega⟩ x)

theorem head_bit : ∀ l : Fin 128, IntOp.cmpi .slt (BitVec.ofNat 32 l.val) 64#32 = if l.val < 64 then 1#1 else 0#1 := by decide +kernel

theorem head_sel (l : Fin 128) (x y : EReal) : Scalar.select (IntOp.cmpi .slt (BitVec.ofNat 32 l.val) 64#32) x y = if l.val < 64 then x else y := by
  rw [head_bit]
  by_cases h : l.val < 64
  · rw [if_pos h, if_pos h]; rfl
  · rw [if_neg h, if_neg h]; rfl

theorem pay14_at (q : Vec Ideal S1x128x128 .f32) (R : Fin 256) (x : Fin 128) : (k0_pay14 (F := Ideal) k0_pay24 q (ix2 R x) : EReal) = qAt q R x := by
  pointwise [k0_pay14, k0_pay24]
  simp only [head_sel]
  rfl

theorem pay15_at (a b : Vec Ideal S1x128x128 .f32) (y : Fin 256) (x : Fin 128) : (k0_pay15 (F := Ideal) a b (ix2 y x) : EReal) = bothAt b a y x := by
  pointwise [k0_pay15]
  rfl

theorem pay16_lo (a b : Vec Ideal S1x128x128 .f32) (y : Fin 256) (l : Fin 128) : (k0_pay16 (F := Ideal) k0_pay26 a b (ix2 y ⟨l.val, by omega⟩) : EReal) = bothAt b a y l := by
  pointwise [k0_pay16, k0_pay26]
  rfl
theorem pay16_hi (a b : Vec Ideal S1x128x128 .f32) (y : Fin 256) (l : Fin 128) : (k0_pay16 (F := Ideal) k0_pay26 a b (ix2 y ⟨128 + l.val, by omega⟩) : EReal) = 1 := by
  pointwise [k0_pay16, k0_pay26]
theorem pay17_lo (a b : Vec Ideal S1x128x128 .f32) (y : Fin 256) (l : Fin 128) : (k0_pay17 (F := Ideal) k0_pay26 a b (ix2 y ⟨l.val, by omega⟩) : EReal) = bothAt b a y l := by
  pointwise [k0_pay17, k0_pay26]
  rfl
theorem pay17_hi (a b : Vec Ideal S1x128x128 .f32) (y : Fin 256) (l : Fin 128) : (k0_pay17 (F := Ideal) k0_pay26 a b (ix2 y ⟨128 + l.val, by omega⟩) : EReal) = 1 := by
  pointwise [k0_pay17, k0_pay26]
theorem pay20_lo (a b : Vec Ideal S1x128x128 .f32) (y : Fin 256) (l : Fin 128) : (k0_pay20 (F := Ideal) k0_pay26 a b (ix2 y ⟨l.val, by omega⟩) : EReal) = bothAt b a y l := by
  pointwise [k0_pay20, k0_pay26]
  rfl
theorem pay20_hi (a b : Vec Ideal S1x128x128 .f32) (y : Fin 256) (l : Fin 128) : (k0_pay20 (F := Ideal) k0_pay26 a b (ix2 y ⟨128 + l.val, by omega⟩) : EReal) = 1 := by
  pointwise [k0_pay20, k0_pay26]

theorem pay18_at (q c p : Vec Ideal S1x128x128 .f32) (R y : Fin 256) : (k0_pay18 (F := Ideal) k0_pay24 q c p (ix2 R y) : EReal) = ∑ x : Fin 128, qAt q R x * bothAt p c y x := by
  pointwise [k0_pay18, k0_pay24]
  simp only [head_sel]
  rfl

theorem pay21_at (q c p : Vec Ideal S1x128x128 .f32) (R y : Fin 256) : (k0_pay21 (F := Ideal) k0_pay24 q c p (ix2 R y) : EReal) = ∑ x : Fin 128, qAt q R x * bothAt p c y x := by
  pointwise [k0_pay21, k0_pay24]
  simp only [head_sel]
  rfl

/-! ## The scores -/

/-- The scores the kernel keeps for a row: minus infinity where the key is not seen. -/
def rowS (n : ℕ) (q c p : Vec Ideal S1x128x128 .f32) (R y : Fin 256) : EReal :=
  if Math.seen n (R.val % 128) y.val then ∑ x : Fin 128, qAt q R x * bothAt p c y x else ⊥

theorem score0 (n : ℕ) (v58 : BitVec 32) (hv : v58 = if n = 0 then 128#32 else 0#32) (q c p : Vec Ideal S1x128x128 .f32) (R y : Fin 256) :
    (k0_pay27 (F := Ideal) v58 (k0_pay14 k0_pay24 q) (k0_pay15 c p) (constant S256x256 .f32 0x00000000#32) (ix2 R y) : EReal) = rowS n q c p R y := by
  have e : (k0_pay27 (F := Ideal) v58 (k0_pay14 k0_pay24 q) (k0_pay15 c p) (constant S256x256 .f32 0x00000000#32) (ix2 R y) : EReal)
      = Scalar.select (IntOp.andi (IntOp.andi (k0_pay34 (ix2 R y)) (k0_pay35 (ix2 R y))) (IntOp.cmpi .sge (BitVec.ofNat 32 y.val) v58))
          (∑ x : Fin 128, (k0_pay14 (F := Ideal) k0_pay24 q (ix2 R x) : EReal) * (k0_pay15 (F := Ideal) c p (ix2 y x) : EReal) : EReal) (Named.named κ "mask" 0xF149F2CA#32 : Ideal .f32) := by
    pointwise [k0_pay27, k0_pay34, k0_pay35, k0_pay33]
  refine e.trans ?_
  rw [near_at, hv, start_lane, seen_bits, masked, rowS]
  simp only [pay14_at, pay15_at]

theorem score1 (n : ℕ) (d : IVec S256x256 1) (hd : ∀ R y : Fin 256, d (ix2 R y) = if (n = 0 → 128 ≤ y.val) then 1#1 else 0#1) (q c p : Vec Ideal S1x128x128 .f32) (R y : Fin 256) :
    (k0_pay1 (F := Ideal) k0_pay34 k0_pay35 (k0_pay18 k0_pay24 q c p) d (ix2 R y) : EReal) = rowS n q c p R y := by
  have e : (k0_pay1 (F := Ideal) k0_pay34 k0_pay35 (k0_pay18 k0_pay24 q c p) d (ix2 R y) : EReal)
      = Scalar.select (IntOp.andi (IntOp.andi (k0_pay34 (ix2 R y)) (k0_pay35 (ix2 R y))) (d (ix2 R y)))
          (k0_pay18 (F := Ideal) k0_pay24 q c p (ix2 R y) : EReal) (Named.named κ "mask" 0xF149F2CA#32 : Ideal .f32) := rfl
  refine e.trans ?_
  rw [near_at, hd, seen_bits, masked, rowS, pay18_at]

theorem score2 (n : ℕ) (d : IVec S256x256 1) (hd : ∀ R y : Fin 256, d (ix2 R y) = if (n = 0 → 128 ≤ y.val) then 1#1 else 0#1) (q c p : Vec Ideal S1x128x128 .f32) (R y : Fin 256) :
    (k0_pay7 (F := Ideal) k0_pay25 (iota .tc S256x256 32 [1] iota_S256x256_d1_w32) (k0_pay21 k0_pay24 q c p) d (ix2 R y) : EReal) = rowS n q c p R y := by
  have e : (k0_pay7 (F := Ideal) k0_pay25 (iota .tc S256x256 32 [1] iota_S256x256_d1_w32) (k0_pay21 k0_pay24 q c p) d (ix2 R y) : EReal)
      = Scalar.select (IntOp.andi (IntOp.andi (k0_pay34 (ix2 R y)) (k0_pay35 (ix2 R y))) (d (ix2 R y)))
          (k0_pay21 (F := Ideal) k0_pay24 q c p (ix2 R y) : EReal) (Named.named κ "mask" 0xF149F2CA#32 : Ideal .f32) := rfl
  refine e.trans ?_
  rw [near_at, hd, seen_bits, masked, rowS, pay21_at]

/-! ## The rows' outputs and log-sum-exps -/

theorem max1 (a b d : IVec S256x256 1) (v : FVec Ideal S256x256 .bf16) (s : FVec Ideal S256x256 .f32) (M : Fin 256 → Fin 256 → EReal) (hM : ∀ R c : Fin 256, (k0_pay1 (F := Ideal) a b s d (ix2 R c) : EReal) = M R c) (R : Fin 256) (z : Fin 1) :
    (k0_pay2 (F := Ideal) a b s d (ix2 R z) : EReal) = Math.top (M R) := by
  have e : (k0_pay2 (F := Ideal) a b s d (ix2 R z) : EReal) = Finset.univ.fold max (Ideal.ofBits .f32 0xFF800000#32) (fun x => (k0_pay1 (F := Ideal) a b s d (ix2 R x) : EReal)) := by
    obtain rfl : z = 0 := Subsingleton.elim _ _
    pointwise [k0_pay2]
  rw [e, Math.neg_inf]
  exact Finset.fold_congr fun c _ => hM R c

theorem acc1 (a b d : IVec S256x256 1) (v : FVec Ideal S256x256 .bf16) (s : FVec Ideal S256x256 .f32) (M : Fin 256 → Fin 256 → EReal) (hM : ∀ R c : Fin 256, (k0_pay1 (F := Ideal) a b s d (ix2 R c) : EReal) = M R c) (R l : Fin 256) :
    (k0_pay3 (F := Ideal) a b v s d (ix2 R l) : EReal) = Math.num (M R) (fun c => v (ix2 c l)) := by
  have e : (k0_pay3 (F := Ideal) a b v s d (ix2 R l) : EReal) = ∑ x : Fin 256, (fun p q : EReal => Ideal.exp (p - q)) (k0_pay1 (F := Ideal) a b s d (ix2 R x)) (k0_pay2 (F := Ideal) a b s d (ix2 R 0)) * (v (ix2 x l) : EReal) := by
    pointwise [k0_pay3]
  rw [e, max1 a b d v s M hM R 0]
  exact Fintype.sum_congr _ _ fun c => by rw [hM]; rfl

theorem out1 (a b d : IVec S256x256 1) (v : FVec Ideal S256x256 .bf16) (s : FVec Ideal S256x256 .f32) (M : Fin 256 → Fin 256 → EReal) (hM : ∀ R c : Fin 256, (k0_pay1 (F := Ideal) a b s d (ix2 R c) : EReal) = M R c)
    (V : Fin 128 → Fin 256 → EReal) (hV : ∀ (c : Fin 256) (l : Fin 128), (v (ix2 c ⟨l.val, by omega⟩) : EReal) = V l c)
    (h1 : ∀ (c : Fin 256) (l : Fin 128), (v (ix2 c ⟨128 + l.val, by omega⟩) : EReal) = 1) (r l : Fin 128) :
    (k0_pay5 (F := Ideal) k0_pay24 a b v s d (ix3 0 r l) : EReal) = (fun R : Fin 256 => Ideal.div (Math.num (M R) (V l)) (Math.den (M R))) (if l.val < 64 then ⟨r.val, by omega⟩ else ⟨128 + r.val, by omega⟩) := by
  have e : (k0_pay5 (F := Ideal) k0_pay24 a b v s d (ix3 0 r l) : EReal) = Scalar.select (IntOp.cmpi .slt (BitVec.ofNat 32 l.val) 64#32)
      (Ideal.div (k0_pay3 (F := Ideal) a b v s d (ix2 ⟨r.val, by omega⟩ ⟨l.val, by omega⟩)) (k0_pay3 (F := Ideal) a b v s d (ix2 ⟨r.val, by omega⟩ ⟨128 + l.val, by omega⟩)))
      (Ideal.div (k0_pay3 (F := Ideal) a b v s d (ix2 ⟨128 + r.val, by omega⟩ ⟨l.val, by omega⟩)) (k0_pay3 (F := Ideal) a b v s d (ix2 ⟨128 + r.val, by omega⟩ ⟨128 + l.val, by omega⟩))) := by
    pointwise [k0_pay5, k0_pay24, k0_pay4]
  have n : ∀ R : Fin 256, Math.num (M R) (fun c => v (ix2 c ⟨l.val, by omega⟩)) = Math.num (M R) (V l) := fun R => Math.num_congr _ _ _ fun c _ => hV c l
  have hden : ∀ R : Fin 256, Math.num (M R) (fun c => v (ix2 c ⟨128 + l.val, by omega⟩)) = Math.den (M R) := fun R => Fintype.sum_congr _ _ fun c => (congrArg (Math.wt (M R) c * ·) (h1 c l)).trans (mul_one _)
  rw [e, head_sel, acc1 (hM := hM), acc1 (hM := hM), acc1 (hM := hM), acc1 (hM := hM), n, hden, n, hden]
  split_ifs <;> rfl

theorem lse1 (a b d : IVec S256x256 1) (v : FVec Ideal S256x256 .bf16) (s : FVec Ideal S256x256 .f32) (M : Fin 256 → Fin 256 → EReal) (hM : ∀ R c : Fin 256, (k0_pay1 (F := Ideal) a b s d (ix2 R c) : EReal) = M R c)
    (h1 : ∀ (c : Fin 256) (l : Fin 128), (v (ix2 c ⟨128 + l.val, by omega⟩) : EReal) = 1) (r l : Fin 128) :
    (k0_pay6 (F := Ideal) k0_pay24 a b v s d (ix3 0 r l) : EReal) = (fun R : Fin 256 => Math.top (M R) + Ideal.log (Math.den (M R))) (if l.val < 64 then ⟨r.val, by omega⟩ else ⟨128 + r.val, by omega⟩) := by
  have e : (k0_pay6 (F := Ideal) k0_pay24 a b v s d (ix3 0 r l) : EReal) = Scalar.select (IntOp.cmpi .slt (BitVec.ofNat 32 l.val) 64#32)
      ((fun p q : EReal => p + Ideal.log q) (k0_pay2 (F := Ideal) a b s d (ix2 ⟨r.val, by omega⟩ 0)) (k0_pay3 (F := Ideal) a b v s d (ix2 ⟨r.val, by omega⟩ ⟨128 + l.val, by omega⟩)))
      ((fun p q : EReal => p + Ideal.log q) (k0_pay2 (F := Ideal) a b s d (ix2 ⟨128 + r.val, by omega⟩ 0)) (k0_pay3 (F := Ideal) a b v s d (ix2 ⟨128 + r.val, by omega⟩ ⟨128 + l.val, by omega⟩))) := by
    pointwise [k0_pay6, k0_pay24, k0_pay4]
  have hden : ∀ R : Fin 256, Math.num (M R) (fun c => v (ix2 c ⟨128 + l.val, by omega⟩)) = Math.den (M R) := fun R => Fintype.sum_congr _ _ fun c => (congrArg (Math.wt (M R) c * ·) (h1 c l)).trans (mul_one _)
  rw [e, head_sel, max1 a b d v s M hM, max1 a b d v s M hM, acc1 (hM := hM), acc1 (hM := hM), hden, hden]
  split_ifs <;> rfl

theorem max2 (a b : IVec S256x256 32) (d : IVec S256x256 1) (v : FVec Ideal S256x256 .bf16) (s : FVec Ideal S256x256 .f32) (M : Fin 256 → Fin 256 → EReal) (hM : ∀ R c : Fin 256, (k0_pay7 (F := Ideal) a b s d (ix2 R c) : EReal) = M R c) (R : Fin 256) (z : Fin 1) :
    (k0_pay8 (F := Ideal) a b s d (ix2 R z) : EReal) = Math.top (M R) := by
  have e : (k0_pay8 (F := Ideal) a b s d (ix2 R z) : EReal) = Finset.univ.fold max (Ideal.ofBits .f32 0xFF800000#32) (fun x => (k0_pay7 (F := Ideal) a b s d (ix2 R x) : EReal)) := by
    obtain rfl : z = 0 := Subsingleton.elim _ _
    pointwise [k0_pay8]
  rw [e, Math.neg_inf]
  exact Finset.fold_congr fun c _ => hM R c

theorem acc2 (a b : IVec S256x256 32) (d : IVec S256x256 1) (v : FVec Ideal S256x256 .bf16) (s : FVec Ideal S256x256 .f32) (M : Fin 256 → Fin 256 → EReal) (hM : ∀ R c : Fin 256, (k0_pay7 (F := Ideal) a b s d (ix2 R c) : EReal) = M R c) (R l : Fin 256) :
    (k0_pay9 (F := Ideal) a b v s d (ix2 R l) : EReal) = Math.num (M R) (fun c => v (ix2 c l)) := by
  have e : (k0_pay9 (F := Ideal) a b v s d (ix2 R l) : EReal) = ∑ x : Fin 256, (fun p q : EReal => Ideal.exp (p - q)) (k0_pay7 (F := Ideal) a b s d (ix2 R x)) (k0_pay8 (F := Ideal) a b s d (ix2 R 0)) * (v (ix2 x l) : EReal) := by
    pointwise [k0_pay9]
  rw [e, max2 a b d v s M hM R 0]
  exact Fintype.sum_congr _ _ fun c => by rw [hM]; rfl

theorem out2 (a b : IVec S256x256 32) (d : IVec S256x256 1) (v : FVec Ideal S256x256 .bf16) (s : FVec Ideal S256x256 .f32) (M : Fin 256 → Fin 256 → EReal) (hM : ∀ R c : Fin 256, (k0_pay7 (F := Ideal) a b s d (ix2 R c) : EReal) = M R c)
    (V : Fin 128 → Fin 256 → EReal) (hV : ∀ (c : Fin 256) (l : Fin 128), (v (ix2 c ⟨l.val, by omega⟩) : EReal) = V l c)
    (h1 : ∀ (c : Fin 256) (l : Fin 128), (v (ix2 c ⟨128 + l.val, by omega⟩) : EReal) = 1) (r l : Fin 128) :
    (k0_pay11 (F := Ideal) k0_pay24 a b v s d (ix3 0 r l) : EReal) = (fun R : Fin 256 => Ideal.div (Math.num (M R) (V l)) (Math.den (M R))) (if l.val < 64 then ⟨r.val, by omega⟩ else ⟨128 + r.val, by omega⟩) := by
  have e : (k0_pay11 (F := Ideal) k0_pay24 a b v s d (ix3 0 r l) : EReal) = Scalar.select (IntOp.cmpi .slt (BitVec.ofNat 32 l.val) 64#32)
      (Ideal.div (k0_pay9 (F := Ideal) a b v s d (ix2 ⟨r.val, by omega⟩ ⟨l.val, by omega⟩)) (k0_pay9 (F := Ideal) a b v s d (ix2 ⟨r.val, by omega⟩ ⟨128 + l.val, by omega⟩)))
      (Ideal.div (k0_pay9 (F := Ideal) a b v s d (ix2 ⟨128 + r.val, by omega⟩ ⟨l.val, by omega⟩)) (k0_pay9 (F := Ideal) a b v s d (ix2 ⟨128 + r.val, by omega⟩ ⟨128 + l.val, by omega⟩))) := by
    pointwise [k0_pay11, k0_pay24, k0_pay10]
  have n : ∀ R : Fin 256, Math.num (M R) (fun c => v (ix2 c ⟨l.val, by omega⟩)) = Math.num (M R) (V l) := fun R => Math.num_congr _ _ _ fun c _ => hV c l
  have hden : ∀ R : Fin 256, Math.num (M R) (fun c => v (ix2 c ⟨128 + l.val, by omega⟩)) = Math.den (M R) := fun R => Fintype.sum_congr _ _ fun c => (congrArg (Math.wt (M R) c * ·) (h1 c l)).trans (mul_one _)
  rw [e, head_sel, acc2 (hM := hM), acc2 (hM := hM), acc2 (hM := hM), acc2 (hM := hM), n, hden, n, hden]
  split_ifs <;> rfl

theorem lse2 (a b : IVec S256x256 32) (d : IVec S256x256 1) (v : FVec Ideal S256x256 .bf16) (s : FVec Ideal S256x256 .f32) (M : Fin 256 → Fin 256 → EReal) (hM : ∀ R c : Fin 256, (k0_pay7 (F := Ideal) a b s d (ix2 R c) : EReal) = M R c)
    (h1 : ∀ (c : Fin 256) (l : Fin 128), (v (ix2 c ⟨128 + l.val, by omega⟩) : EReal) = 1) (r l : Fin 128) :
    (k0_pay12 (F := Ideal) k0_pay24 a b v s d (ix3 0 r l) : EReal) = (fun R : Fin 256 => Math.top (M R) + Ideal.log (Math.den (M R))) (if l.val < 64 then ⟨r.val, by omega⟩ else ⟨128 + r.val, by omega⟩) := by
  have e : (k0_pay12 (F := Ideal) k0_pay24 a b v s d (ix3 0 r l) : EReal) = Scalar.select (IntOp.cmpi .slt (BitVec.ofNat 32 l.val) 64#32)
      ((fun p q : EReal => p + Ideal.log q) (k0_pay8 (F := Ideal) a b s d (ix2 ⟨r.val, by omega⟩ 0)) (k0_pay9 (F := Ideal) a b v s d (ix2 ⟨r.val, by omega⟩ ⟨128 + l.val, by omega⟩)))
      ((fun p q : EReal => p + Ideal.log q) (k0_pay8 (F := Ideal) a b s d (ix2 ⟨128 + r.val, by omega⟩ 0)) (k0_pay9 (F := Ideal) a b v s d (ix2 ⟨128 + r.val, by omega⟩ ⟨128 + l.val, by omega⟩))) := by
    pointwise [k0_pay12, k0_pay24, k0_pay10]
  have hden : ∀ R : Fin 256, Math.num (M R) (fun c => v (ix2 c ⟨128 + l.val, by omega⟩)) = Math.den (M R) := fun R => Fintype.sum_congr _ _ fun c => (congrArg (Math.wt (M R) c * ·) (h1 c l)).trans (mul_one _)
  rw [e, head_sel, max2 a b d v s M hM, max2 a b d v s M hM, acc2 (hM := hM), acc2 (hM := hM), hden, hden]
  split_ifs <;> rfl

theorem max0 (w : BitVec 32) (a b : FVec Ideal S256x128 .bf16) (v : FVec Ideal S256x256 .bf16) (s : FVec Ideal S256x256 .f32) (M : Fin 256 → Fin 256 → EReal) (hM : ∀ R c : Fin 256, (k0_pay27 (F := Ideal) w a b s (ix2 R c) : EReal) = M R c) (R : Fin 256) (z : Fin 1) :
    (k0_pay28 (F := Ideal) w a b s (ix2 R z) : EReal) = Math.top (M R) := by
  have e : (k0_pay28 (F := Ideal) w a b s (ix2 R z) : EReal) = Finset.univ.fold max (Ideal.ofBits .f32 0xFF800000#32) (fun x => (k0_pay27 (F := Ideal) w a b s (ix2 R x) : EReal)) := by
    obtain rfl : z = 0 := Subsingleton.elim _ _
    pointwise [k0_pay28]
  rw [e, Math.neg_inf]
  exact Finset.fold_congr fun c _ => hM R c

theorem acc0 (w : BitVec 32) (a b : FVec Ideal S256x128 .bf16) (v : FVec Ideal S256x256 .bf16) (s : FVec Ideal S256x256 .f32) (M : Fin 256 → Fin 256 → EReal) (hM : ∀ R c : Fin 256, (k0_pay27 (F := Ideal) w a b s (ix2 R c) : EReal) = M R c) (R l : Fin 256) :
    (k0_pay29 (F := Ideal) w a b v s (ix2 R l) : EReal) = Math.num (M R) (fun c => v (ix2 c l)) := by
  have e : (k0_pay29 (F := Ideal) w a b v s (ix2 R l) : EReal) = ∑ x : Fin 256, (fun p q : EReal => Ideal.exp (p - q)) (k0_pay27 (F := Ideal) w a b s (ix2 R x)) (k0_pay28 (F := Ideal) w a b s (ix2 R 0)) * (v (ix2 x l) : EReal) := by
    pointwise [k0_pay29]
  rw [e, max0 w a b v s M hM R 0]
  exact Fintype.sum_congr _ _ fun c => by rw [hM]; rfl

theorem out0 (w : BitVec 32) (a b : FVec Ideal S256x128 .bf16) (v : FVec Ideal S256x256 .bf16) (s : FVec Ideal S256x256 .f32) (M : Fin 256 → Fin 256 → EReal) (hM : ∀ R c : Fin 256, (k0_pay27 (F := Ideal) w a b s (ix2 R c) : EReal) = M R c)
    (V : Fin 128 → Fin 256 → EReal) (hV : ∀ (c : Fin 256) (l : Fin 128), (v (ix2 c ⟨l.val, by omega⟩) : EReal) = V l c)
    (h1 : ∀ (c : Fin 256) (l : Fin 128), (v (ix2 c ⟨128 + l.val, by omega⟩) : EReal) = 1) (r l : Fin 128) :
    (k0_pay31 (F := Ideal) w a b v s (ix3 0 r l) : EReal) = (fun R : Fin 256 => Ideal.div (Math.num (M R) (V l)) (Math.den (M R))) (if l.val < 64 then ⟨r.val, by omega⟩ else ⟨128 + r.val, by omega⟩) := by
  have e : (k0_pay31 (F := Ideal) w a b v s (ix3 0 r l) : EReal) = Scalar.select (IntOp.cmpi .slt (BitVec.ofNat 32 l.val) 64#32)
      (Ideal.div (k0_pay29 (F := Ideal) w a b v s (ix2 ⟨r.val, by omega⟩ ⟨l.val, by omega⟩)) (k0_pay29 (F := Ideal) w a b v s (ix2 ⟨r.val, by omega⟩ ⟨128 + l.val, by omega⟩)))
      (Ideal.div (k0_pay29 (F := Ideal) w a b v s (ix2 ⟨128 + r.val, by omega⟩ ⟨l.val, by omega⟩)) (k0_pay29 (F := Ideal) w a b v s (ix2 ⟨128 + r.val, by omega⟩ ⟨128 + l.val, by omega⟩))) := by
    pointwise [k0_pay31, k0_pay24, k0_pay30]
  have n : ∀ R : Fin 256, Math.num (M R) (fun c => v (ix2 c ⟨l.val, by omega⟩)) = Math.num (M R) (V l) := fun R => Math.num_congr _ _ _ fun c _ => hV c l
  have hden : ∀ R : Fin 256, Math.num (M R) (fun c => v (ix2 c ⟨128 + l.val, by omega⟩)) = Math.den (M R) := fun R => Fintype.sum_congr _ _ fun c => (congrArg (Math.wt (M R) c * ·) (h1 c l)).trans (mul_one _)
  rw [e, head_sel, acc0 (hM := hM), acc0 (hM := hM), acc0 (hM := hM), acc0 (hM := hM), n, hden, n, hden]
  split_ifs <;> rfl

theorem lse0 (w : BitVec 32) (a b : FVec Ideal S256x128 .bf16) (v : FVec Ideal S256x256 .bf16) (s : FVec Ideal S256x256 .f32) (M : Fin 256 → Fin 256 → EReal) (hM : ∀ R c : Fin 256, (k0_pay27 (F := Ideal) w a b s (ix2 R c) : EReal) = M R c)
    (h1 : ∀ (c : Fin 256) (l : Fin 128), (v (ix2 c ⟨128 + l.val, by omega⟩) : EReal) = 1) (r l : Fin 128) :
    (k0_pay32 (F := Ideal) w a b v s (ix3 0 r l) : EReal) = (fun R : Fin 256 => Math.top (M R) + Ideal.log (Math.den (M R))) (if l.val < 64 then ⟨r.val, by omega⟩ else ⟨128 + r.val, by omega⟩) := by
  have e : (k0_pay32 (F := Ideal) w a b v s (ix3 0 r l) : EReal) = Scalar.select (IntOp.cmpi .slt (BitVec.ofNat 32 l.val) 64#32)
      ((fun p q : EReal => p + Ideal.log q) (k0_pay28 (F := Ideal) w a b s (ix2 ⟨r.val, by omega⟩ 0)) (k0_pay29 (F := Ideal) w a b v s (ix2 ⟨r.val, by omega⟩ ⟨128 + l.val, by omega⟩)))
      ((fun p q : EReal => p + Ideal.log q) (k0_pay28 (F := Ideal) w a b s (ix2 ⟨128 + r.val, by omega⟩ 0)) (k0_pay29 (F := Ideal) w a b v s (ix2 ⟨128 + r.val, by omega⟩ ⟨128 + l.val, by omega⟩))) := by
    pointwise [k0_pay32, k0_pay24, k0_pay30]
  have hden : ∀ R : Fin 256, Math.num (M R) (fun c => v (ix2 c ⟨128 + l.val, by omega⟩)) = Math.den (M R) := fun R => Fintype.sum_congr _ _ fun c => (congrArg (Math.wt (M R) c * ·) (h1 c l)).trans (mul_one _)
  rw [e, head_sel, max0 w a b v s M hM, max0 w a b v s M hM, acc0 (hM := hM), acc0 (hM := hM), hden, hden]
  split_ifs <;> rfl

/-! ## The merge -/

theorem merge_at (a b c d e f : Vec Ideal S1x256x128 .f32) (R : Fin 256) (l : Fin 128) :
    (k0_pay13 (k0_pay23 (F := Ideal) a b c d e f) (ix3 0 R l) : EReal) = Math.mergeLse (a (ix3 0 R l)) (b (ix3 0 R l)) (c (ix3 0 R l)) (d (ix3 0 R l)) (e (ix3 0 R l)) (f (ix3 0 R l)) := by
  pointwise [k0_pay13, k0_pay23]
  rfl

end Cert.Proof.Attn

end
-- ==== Proof.Attn.Rows.lean ====
/- What the attention kernel's trips store: the layer's attention of each group. -/
module

public import proofs.«01_k».proof.Proof.Attn.Reads
public import proofs.«01_k».proof.Proof.Attn.Pay

@[expose] public section

set_option maxRecDepth 16384

noncomputable section

namespace Cert.Proof.Attn

open Cert.KernelIdeal Cert.KernelIdeal.Gen
open Idealize.ShloMosaic Idealize.ShloMosaic.TcCoe Idealize.ShloMosaic.Tactic

/-- The five blocks a trip reads are those of block `n` of residue `r` of the argument, at the columns of group
    `g` and slab `slab`; of the block before only where there is one. -/
structure Reads (g D : ℕ) (A : Math.Arr) (b : Fin 8) (r n slab : ℕ) (q kc vc kp vp : Vec Ideal S1x128x128 .f32) : Prop where
  q : ∀ a x : Fin 128, (q (ix3 0 a x) : EReal) = Math.elt A b (Math.pos D r n a.val) (g * 1024 + slab * 128 + x.val)
  kc : ∀ a x : Fin 128, (kc (ix3 0 a x) : EReal) = Math.elt A b (Math.kpos D r n (128 + a.val)) (3072 + g * 1024 + slab * 128 + x.val)
  vc : ∀ a x : Fin 128, (vc (ix3 0 a x) : EReal) = Math.elt A b (Math.kpos D r n (128 + a.val)) (6144 + g * 1024 + slab * 128 + x.val)
  kp : n ≠ 0 → ∀ a x : Fin 128, (kp (ix3 0 a x) : EReal) = Math.elt A b (Math.kpos D r n a.val) (3072 + g * 1024 + slab * 128 + x.val)
  vp : n ≠ 0 → ∀ a x : Fin 128, (vp (ix3 0 a x) : EReal) = Math.elt A b (Math.kpos D r n a.val) (6144 + g * 1024 + slab * 128 + x.val)

/-- The row of the two stacked heads that a lane takes. -/
def rowOf (a l : Fin 128) : Fin 256 := if l.val < 64 then ⟨a.val, by omega⟩ else ⟨128 + a.val, by omega⟩

/-- A sum over 128 lanes is one over the first 64 and one over the last. -/
theorem sum_lanes (f : Fin 128 → EReal) : ∑ x, f x = ∑ d : Fin 64, f ⟨d.val, by omega⟩ + ∑ d : Fin 64, f ⟨64 + d.val, by omega⟩ :=
  Fin.sum_univ_add (a := 64) (b := 64) f

section

variable {g D : ℕ} {A : Math.Arr} {b : Fin 8} {r n slab : ℕ} {q kc vc kp vp : Vec Ideal S1x128x128 .f32} (h : Reads g D A b r n slab q kc vc kp vp)
include h

/-- A seen key's lanes. -/
theorem key_at (y : Fin 256) (hs : n = 0 → 128 ≤ y.val) (x : Fin 128) : bothAt kp kc y x = Math.elt A b (Math.kpos D r n y.val) (3072 + g * 1024 + slab * 128 + x.val) := by
  unfold bothAt
  split_ifs with hy
  · exact h.kp (fun e => by have := hs e; omega) ⟨y.val, hy⟩ x
  · rw [h.kc]
    exact congrArg (fun s => Math.elt A b (Math.kpos D r n s) _) (show 128 + (y.val - 128) = y.val by omega)

/-- A seen key's value lanes. -/
theorem value_at (y : Fin 256) (hs : n = 0 → 128 ≤ y.val) (x : Fin 128) : bothAt vp vc y x = Math.elt A b (Math.kpos D r n y.val) (6144 + g * 1024 + slab * 128 + x.val) := by
  unfold bothAt
  split_ifs with hy
  · exact h.vp (fun e => by have := hs e; omega) ⟨y.val, hy⟩ x
  · rw [h.vc]
    exact congrArg (fun s => Math.elt A b (Math.kpos D r n s) _) (show 128 + (y.val - 128) = y.val by omega)

/-- The scores of a lane's row are those of its head. -/
theorem row_scores (a l : Fin 128) : rowS n q kc kp (rowOf a l) = Math.S g D A b r n a.val (slab * 2 + l.val / 64) := by
  funext y
  have hR : (rowOf a l).val % 128 = a.val := by
    unfold rowOf; split_ifs
    · show a.val % 128 = a.val; omega
    · show (128 + a.val) % 128 = a.val; omega
  rw [rowS, hR, Math.S]
  by_cases hs : Math.seen n a.val y.val
  · rw [if_pos hs, if_pos hs, sum_lanes]
    by_cases hl : l.val < 64
    · have hz : ∀ d : Fin 64, qAt q (rowOf a l) ⟨64 + d.val, by omega⟩ * bothAt kp kc y ⟨64 + d.val, by omega⟩ = 0 := fun d => by
        rw [rowOf, if_pos hl, qAt, dif_pos (show a.val < 128 from a.isLt), if_neg (show ¬ (64 + d.val < 64) by omega), zero_mul]
      rw [Fintype.sum_congr _ _ hz, Finset.sum_const_zero, add_zero]
      refine Fintype.sum_congr _ _ fun d => ?_
      rw [key_at h y hs.2.2, rowOf, if_pos hl, qAt, dif_pos (show a.val < 128 from a.isLt), if_pos (show d.val < 64 from d.isLt), h.q]
      exact congrArg₂ (fun u v => Math.elt A b _ u * Math.elt A b _ v) (show g * 1024 + slab * 128 + d.val = g * 1024 + (slab * 2 + l.val / 64) * 64 + d.val by omega)
        (show 3072 + g * 1024 + slab * 128 + d.val = 3072 + g * 1024 + (slab * 2 + l.val / 64) * 64 + d.val by omega)
    · have hz : ∀ d : Fin 64, qAt q (rowOf a l) ⟨d.val, by omega⟩ * bothAt kp kc y ⟨d.val, by omega⟩ = 0 := fun d => by
        rw [rowOf, if_neg hl, qAt, dif_neg (show ¬ (128 + a.val < 128) by omega), if_pos (show d.val < 64 from d.isLt), zero_mul]
      rw [Fintype.sum_congr _ _ hz, Finset.sum_const_zero, zero_add]
      refine Fintype.sum_congr _ _ fun d => ?_
      rw [key_at h y hs.2.2, rowOf, if_neg hl, qAt, dif_neg (show ¬ (128 + a.val < 128) by omega), if_neg (show ¬ (64 + d.val < 64) by omega), h.q]
      have hl' : l.val / 64 = 1 := by omega
      exact congrArg₂ (· * ·) (congrArg₂ (fun s u => Math.elt A b (Math.pos D r n s) u) (show 128 + a.val - 128 = a.val by omega) (show g * 1024 + slab * 128 + (64 + d.val) = g * 1024 + (slab * 2 + l.val / 64) * 64 + d.val by omega))
        (congrArg (fun v => Math.elt A b _ v) (show 3072 + g * 1024 + slab * 128 + (64 + d.val) = 3072 + g * 1024 + (slab * 2 + l.val / 64) * 64 + d.val by omega))
  · rw [if_neg hs, if_neg hs]

/-- What a trip computes for a lane is the group's attention. -/
theorem row_out (a l : Fin 128) : Ideal.div (Math.num (rowS n q kc kp (rowOf a l)) (fun y => bothAt vp vc y l)) (Math.den (rowS n q kc kp (rowOf a l)))
    = Math.O g D A b r n a.val (slab * 2 + l.val / 64) (l.val % 64) := by
  rw [row_scores h, Math.O]
  refine congrArg (fun x => Ideal.div x _) (Math.num_congr _ _ _ fun y hy => ?_)
  have hs : Math.seen n a.val y.val := by
    by_contra hs
    exact hy (by rw [Math.S, if_neg hs])
  rw [value_at h y hs.2.2, Math.V]
  exact congrArg (fun v => Math.elt A b _ v) (show 6144 + g * 1024 + slab * 128 + l.val = 6144 + g * 1024 + (slab * 2 + l.val / 64) * 64 + l.val % 64 by omega)

theorem row_lse (a l : Fin 128) : Math.top (rowS n q kc kp (rowOf a l)) + Ideal.log (Math.den (rowS n q kc kp (rowOf a l))) = Math.L g D A b r n a.val (slab * 2 + l.val / 64) := by
  rw [row_scores h, Math.L]

end

/-! ## The three groups' trips -/

/-- The first key's bits, off the number it is. -/
theorem start_bits (n : ℕ) (w : BitVec 32) (hw : w = if n = 0 then 128#32 else 0#32) (R y : Fin 256) :
    cmpi .sge lanes (broadcast S256x256 w) (ix2 R y) = if (n = 0 → 128 ≤ y.val) then 1#1 else 0#1 := by
  rw [hw]
  refine Eq.trans ?_ (start_lane (n = 0) y)
  refine Eq.trans (b := IntOp.cmpi .sge (lanes (ix2 R y)) (if n = 0 then 128#32 else 0#32)) rfl ?_
  exact congrArg (fun w => IntOp.cmpi .sge w (if n = 0 then 128#32 else 0#32)) (show lanes (ix2 R y) = BitVec.ofNat 32 y.val by unfold lanes; pointwise)

theorem oPay0_at (hf : Fin 2) (k : Fin k0_t1_loop.trips) {A : Math.Arr} {b : Fin 8} {slab : ℕ} {q kc vc kp vp : Vec Ideal S1x128x128 .f32}
    (h : Reads 0 1 A b 0 (16 * hf.val + k.val) slab q kc vc kp vp) (a l : Fin 128) :
    (oPay0 (F := Ideal) (BitVec.ofNat 32 hf.val) k q kc vc kp vp (ix3 0 a l) : EReal) = Math.O 0 1 A b 0 (16 * hf.val + k.val) a.val (slab * 2 + l.val / 64) (l.val % 64) :=
  (out0 _ _ _ _ _ (rowS (16 * hf.val + k.val) q kc kp) (fun R c => score0 _ _ (first0 hf k) q kc kp R c) (fun l y => bothAt vp vc y l) (fun c l => pay16_lo vc vp c l) (fun c l => pay16_hi vc vp c l) a l).trans
    (row_out h a l)

theorem lPay0_at (hf : Fin 2) (k : Fin k0_t1_loop.trips) {A : Math.Arr} {b : Fin 8} {slab : ℕ} {q kc vc kp vp : Vec Ideal S1x128x128 .f32}
    (h : Reads 0 1 A b 0 (16 * hf.val + k.val) slab q kc vc kp vp) (a l : Fin 128) :
    (lPay0 (F := Ideal) (BitVec.ofNat 32 hf.val) k q kc vc kp vp (ix3 0 a l) : EReal) = Math.L 0 1 A b 0 (16 * hf.val + k.val) a.val (slab * 2 + l.val / 64) :=
  (lse0 _ _ _ _ _ (rowS (16 * hf.val + k.val) q kc kp) (fun R c => score0 _ _ (first0 hf k) q kc kp R c) (fun c l => pay16_hi vc vp c l) a l).trans (row_lse h a l)

theorem oPay1_at (hf : Fin 2) (k : Fin k0_t2_loop.trips) {A : Math.Arr} {b : Fin 8} {slab : ℕ} {q kc vc kp vp : Vec Ideal S1x128x128 .f32}
    (h : Reads 1 4 A b (k.val % 4) (4 * hf.val + k.val / 4) slab q kc vc kp vp) (a l : Fin 128) :
    (oPay1 (F := Ideal) (BitVec.ofNat 32 hf.val) k0_pay24 lanes k0_pay26 k0_pay34 k0_pay35 k q kc vc kp vp (ix3 0 a l) : EReal) = Math.O 1 4 A b (k.val % 4) (4 * hf.val + k.val / 4) a.val (slab * 2 + l.val / 64) (l.val % 64) :=
  (out1 _ _ _ _ _ (rowS (4 * hf.val + k.val / 4) q kc kp) (fun R c => score1 _ _ (fun R y => start_bits _ _ (first1 hf k) R y) q kc kp R c) (fun l y => bothAt vp vc y l) (fun c l => pay17_lo vc vp c l) (fun c l => pay17_hi vc vp c l) a l).trans
    (row_out h a l)

theorem lPay1_at (hf : Fin 2) (k : Fin k0_t2_loop.trips) {A : Math.Arr} {b : Fin 8} {slab : ℕ} {q kc vc kp vp : Vec Ideal S1x128x128 .f32}
    (h : Reads 1 4 A b (k.val % 4) (4 * hf.val + k.val / 4) slab q kc vc kp vp) (a l : Fin 128) :
    (lPay1 (F := Ideal) (BitVec.ofNat 32 hf.val) k0_pay24 lanes k0_pay26 k0_pay34 k0_pay35 k q kc vc kp vp (ix3 0 a l) : EReal) = Math.L 1 4 A b (k.val % 4) (4 * hf.val + k.val / 4) a.val (slab * 2 + l.val / 64) :=
  (lse1 _ _ _ _ _ (rowS (4 * hf.val + k.val / 4) q kc kp) (fun R c => score1 _ _ (fun R y => start_bits _ _ (first1 hf k) R y) q kc kp R c) (fun c l => pay17_hi vc vp c l) a l).trans (row_lse h a l)

theorem oPay2_at (hf : Fin 2) (k : Fin k0_t3_loop.trips) {A : Math.Arr} {b : Fin 8} {slab : ℕ} {q kc vc kp vp : Vec Ideal S1x128x128 .f32}
    (h : Reads 2 16 A b k.val hf.val slab q kc vc kp vp) (a l : Fin 128) :
    (oPay2 (F := Ideal) (BitVec.ofNat 32 hf.val) k0_pay24 k0_pay25 lanes k0_pay26 k q kc vc kp vp (ix3 0 a l) : EReal) = Math.O 2 16 A b k.val hf.val a.val (slab * 2 + l.val / 64) (l.val % 64) :=
  (out2 _ _ _ _ _ (rowS hf.val q kc kp) (fun R c => score2 _ _ (fun R y => start_bits _ _ (first2 hf k) R y) q kc kp R c) (fun l y => bothAt vp vc y l) (fun c l => pay20_lo vc vp c l) (fun c l => pay20_hi vc vp c l) a l).trans
    (row_out h a l)

theorem lPay2_at (hf : Fin 2) (k : Fin k0_t3_loop.trips) {A : Math.Arr} {b : Fin 8} {slab : ℕ} {q kc vc kp vp : Vec Ideal S1x128x128 .f32}
    (h : Reads 2 16 A b k.val hf.val slab q kc vc kp vp) (a l : Fin 128) :
    (lPay2 (F := Ideal) (BitVec.ofNat 32 hf.val) k0_pay24 k0_pay25 lanes k0_pay26 k q kc vc kp vp (ix3 0 a l) : EReal) = Math.L 2 16 A b k.val hf.val a.val (slab * 2 + l.val / 64) :=
  (lse2 _ _ _ _ _ (rowS hf.val q kc kp) (fun R c => score2 _ _ (fun R y => start_bits _ _ (first2 hf k) R y) q kc kp R c) (fun c l => pay20_hi vc vp c l) a l).trans (row_lse h a l)

end Cert.Proof.Attn

end
-- ==== Proof.Attn.Trips.lean ====
/- What the attention kernel leaves in its scratches and its output block: the layer's attention. -/
module

public import proofs.«01_k».proof.Proof.Attn.Rows

@[expose] public section

set_option maxRecDepth 16384

noncomputable section

namespace Cert.Proof.Attn

open Cert.KernelIdeal Cert.KernelIdeal.Gen
open Idealize.ShloMosaic Idealize.ShloMosaic.TcCoe Idealize.ShloMosaic.Tactic

/-- A block of queries holds rows `p` on of sequence `b`, at the columns from `c` on. -/
def HoldsQ (A : Math.Arr) (b : Fin 8) (p c : ℕ) (X : Vec Ideal S1x2048x128 .f32) : Prop :=
  ∀ y : S1x2048x128.Idx, (X y : EReal) = Math.elt A b (p + (y 1).val) (c + (y 2).val)

/-- A block of keys or values holds the whole sequence `b`, at the columns from `c` on. -/
def HoldsK (A : Math.Arr) (b : Fin 8) (c : ℕ) (Y : Vec Ideal S1x4096x128 .f32) : Prop :=
  ∀ y : S1x4096x128.Idx, (Y y : EReal) = Math.elt A b (y 1).val (c + (y 2).val)

/-- The attention of a row, the row's coordinates rewritten. -/
theorem O_congr (g D : ℕ) (A : Math.Arr) (b : Fin 8) {r r' n n' a a' : ℕ} (hr : r = r') (hn : n = n') (ha : a = a') (h e : ℕ) : Math.O g D A b r n a h e = Math.O g D A b r' n' a' h e := by
  subst hr hn ha; rfl

@[inherit_doc O_congr] theorem L_congr (g D : ℕ) (A : Math.Arr) (b : Fin 8) {r r' n n' a a' : ℕ} (hr : r = r') (hn : n = n') (ha : a = a') (h : ℕ) : Math.L g D A b r n a h = Math.L g D A b r' n' a' h := by
  subst hr hn ha; rfl

/-- The row and lane a trip of group 0 reads: of the queries, of the keys and values, of those a block back. -/
theorem rowQ0 (i : grid0.Coords) (k : Fin k0_t1_loop.trips) (a x : Fin 128) :
    (((Rect.unit (s := S1x2048x128) (k0_off1 k) S1x128x128.size (k0_off1_inb k)).toLoadRect.idx (ix3 0 a x) : S1x2048x128.Idx) 1).val = 128 * k.val + 1 * a.val ∧ (((Rect.unit (s := S1x2048x128) (k0_off1 k) S1x128x128.size (k0_off1_inb k)).toLoadRect.idx (ix3 0 a x) : S1x2048x128.Idx) 2).val = x.val := by
  rw [LoadRect.idx_apply, LoadRect.idx_apply]
  simp only [Rect.unit, off1_eq]
  refine ⟨rfl, ?_⟩
  show 0 + 1 * x.val = x.val
  omega

@[inherit_doc rowQ0] theorem rowC0 (i : grid0.Coords) (k : Fin k0_t1_loop.trips) (a x : Fin 128) :
    (((Rect.unit (s := S1x4096x128) (k0_off2 i k) S1x128x128.size (k0_off2_inb i k)).toLoadRect.idx (ix3 0 a x) : S1x4096x128.Idx) 1).val = 2048 * (i 2).val + 128 * k.val + 1 * a.val ∧ (((Rect.unit (s := S1x4096x128) (k0_off2 i k) S1x128x128.size (k0_off2_inb i k)).toLoadRect.idx (ix3 0 a x) : S1x4096x128.Idx) 2).val = x.val := by
  rw [LoadRect.idx_apply, LoadRect.idx_apply]
  simp only [Rect.unit, off2_eq]
  refine ⟨rfl, ?_⟩
  show 0 + 1 * x.val = x.val
  omega

@[inherit_doc rowQ0] theorem rowP0 (i : grid0.Coords) (k : Fin k0_t1_loop.trips) (a x : Fin 128) :
    (((Rect.unit (s := S1x4096x128) (k0_off3 i k) S1x128x128.size (k0_off3_inb i k)).toLoadRect.idx (ix3 0 a x) : S1x4096x128.Idx) 1).val = 2048 * (i 2).val + 128 * k.val - 128 + 1 * a.val ∧ (((Rect.unit (s := S1x4096x128) (k0_off3 i k) S1x128x128.size (k0_off3_inb i k)).toLoadRect.idx (ix3 0 a x) : S1x4096x128.Idx) 2).val = x.val := by
  rw [LoadRect.idx_apply, LoadRect.idx_apply]
  simp only [Rect.unit, off3_eq]
  refine ⟨rfl, ?_⟩
  show 0 + 1 * x.val = x.val
  omega

/-- A trip of group 0 reads its block and the one before. -/
theorem reads0 (i : grid0.Coords) (k : Fin k0_t1_loop.trips) {A : Math.Arr} {b : Fin 8} {slab : ℕ} {X : Vec Ideal S1x2048x128 .f32} {Y Z : Vec Ideal S1x4096x128 .f32}
    (hX : HoldsQ A b (2048 * (i 2).val) (0 * 1024 + slab * 128) X) (hY : HoldsK A b (3072 + 0 * 1024 + slab * 128) Y) (hZ : HoldsK A b (6144 + 0 * 1024 + slab * 128) Z) :
    Reads 0 1 A b 0 (16 * (i 2).val + k.val) slab (fun j => X ((Rect.unit (s := S1x2048x128) (k0_off1 k) S1x128x128.size (k0_off1_inb k)).toLoadRect.idx j))
      (fun j => Y ((Rect.unit (s := S1x4096x128) (k0_off2 i k) S1x128x128.size (k0_off2_inb i k)).toLoadRect.idx j)) (fun j => Z ((Rect.unit (s := S1x4096x128) (k0_off2 i k) S1x128x128.size (k0_off2_inb i k)).toLoadRect.idx j))
      (fun j => Y ((Rect.unit (s := S1x4096x128) (k0_off3 i k) S1x128x128.size (k0_off3_inb i k)).toLoadRect.idx j)) (fun j => Z ((Rect.unit (s := S1x4096x128) (k0_off3 i k) S1x128x128.size (k0_off3_inb i k)).toLoadRect.idx j)) where
  q a x := by
    refine (hX _).trans ?_
    rw [(rowQ0 i k a x).1, (rowQ0 i k a x).2]
    exact congrArg (fun s => Math.elt A b s _) (by rw [Math.pos]; omega)
  kc a x := by
    refine (hY _).trans ?_
    rw [(rowC0 i k a x).1, (rowC0 i k a x).2]
    exact congrArg (fun s => Math.elt A b s _) (by rw [Math.kpos]; omega)
  vc a x := by
    refine (hZ _).trans ?_
    rw [(rowC0 i k a x).1, (rowC0 i k a x).2]
    exact congrArg (fun s => Math.elt A b s _) (by rw [Math.kpos]; omega)
  kp hn a x := by
    refine (hY _).trans ?_
    rw [(rowP0 i k a x).1, (rowP0 i k a x).2]
    exact congrArg (fun s => Math.elt A b s _) (by rw [Math.kpos]; omega)
  vp hn a x := by
    refine (hZ _).trans ?_
    rw [(rowP0 i k a x).1, (rowP0 i k a x).2]
    exact congrArg (fun s => Math.elt A b s _) (by rw [Math.kpos]; omega)

/-- What a trip of group 0 stores. -/
theorem oPiece0_at (i : grid0.Coords) (k : Fin k0_t1_loop.trips) {A : Math.Arr} {b : Fin 8} {slab : ℕ} {X : Vec Ideal S1x2048x128 .f32} {Y Z : Vec Ideal S1x4096x128 .f32}
    (hX : HoldsQ A b (2048 * (i 2).val) (0 * 1024 + slab * 128) X) (hY : HoldsK A b (3072 + 0 * 1024 + slab * 128) Y) (hZ : HoldsK A b (6144 + 0 * 1024 + slab * 128) Z) (a l : Fin 128) :
    ((oPiece0 (F := Ideal) i (half i) X Y Z k).2 (ix3 (n0 := 1) (n1 := 128) (n2 := 128) 0 a l) : EReal) = Math.O 0 1 A b 0 (16 * (i 2).val + k.val) a.val (slab * 2 + l.val / 64) (l.val % 64) :=
  oPay0_at (i 2) k (reads0 i k hX hY hZ) a l

/-- What a trip of group 0 stores. -/
theorem lPiece0_at (i : grid0.Coords) (k : Fin k0_t1_loop.trips) {A : Math.Arr} {b : Fin 8} {slab : ℕ} {X : Vec Ideal S1x2048x128 .f32} {Y Z : Vec Ideal S1x4096x128 .f32}
    (hX : HoldsQ A b (2048 * (i 2).val) (0 * 1024 + slab * 128) X) (hY : HoldsK A b (3072 + 0 * 1024 + slab * 128) Y) (hZ : HoldsK A b (6144 + 0 * 1024 + slab * 128) Z) (a l : Fin 128) :
    ((lPiece0 (F := Ideal) i (half i) X Y Z k).2 (ix3 (n0 := 1) (n1 := 128) (n2 := 128) 0 a l) : EReal) = Math.L 0 1 A b 0 (16 * (i 2).val + k.val) a.val (slab * 2 + l.val / 64) :=
  lPay0_at (i 2) k (reads0 i k hX hY hZ) a l

/-- The row and lane a trip of group 1 reads: of the queries, of the keys and values, of those a block back. -/
theorem rowQ1 (i : grid0.Coords) (k : Fin k0_t2_loop.trips) (a x : Fin 128) :
    (((⟨k0_off5 k, S1x128x128.size, ![1, 4, 1], k0_off5_inb k⟩ : LoadRect S1x2048x128).idx (ix3 0 a x) : S1x2048x128.Idx) 1).val = (512 * (k.val / 4) + k.val % 4) + 4 * a.val ∧ (((⟨k0_off5 k, S1x128x128.size, ![1, 4, 1], k0_off5_inb k⟩ : LoadRect S1x2048x128).idx (ix3 0 a x) : S1x2048x128.Idx) 2).val = x.val := by
  rw [LoadRect.idx_apply, LoadRect.idx_apply]
  simp only [Rect.unit, off5_eq]
  refine ⟨rfl, ?_⟩
  show 0 + 1 * x.val = x.val
  omega

@[inherit_doc rowQ1] theorem rowC1 (i : grid0.Coords) (k : Fin k0_t2_loop.trips) (a x : Fin 128) :
    (((⟨k0_off6 i k, S1x128x128.size, ![1, 4, 1], k0_off6_inb i k⟩ : LoadRect S1x4096x128).idx (ix3 0 a x) : S1x4096x128.Idx) 1).val = 2048 * (i 2).val + (512 * (k.val / 4) + k.val % 4) + 4 * a.val ∧ (((⟨k0_off6 i k, S1x128x128.size, ![1, 4, 1], k0_off6_inb i k⟩ : LoadRect S1x4096x128).idx (ix3 0 a x) : S1x4096x128.Idx) 2).val = x.val := by
  rw [LoadRect.idx_apply, LoadRect.idx_apply]
  simp only [Rect.unit, off6_eq]
  refine ⟨rfl, ?_⟩
  show 0 + 1 * x.val = x.val
  omega

@[inherit_doc rowQ1] theorem rowP1 (i : grid0.Coords) (k : Fin k0_t2_loop.trips) (a x : Fin 128) :
    (((⟨k0_off7 i k, S1x128x128.size, ![1, 4, 1], k0_off7_inb i k⟩ : LoadRect S1x4096x128).idx (ix3 0 a x) : S1x4096x128.Idx) 1).val = 2048 * (i 2).val + (512 * (k.val / 4) + k.val % 4) - 512 + 4 * a.val ∧ (((⟨k0_off7 i k, S1x128x128.size, ![1, 4, 1], k0_off7_inb i k⟩ : LoadRect S1x4096x128).idx (ix3 0 a x) : S1x4096x128.Idx) 2).val = x.val := by
  rw [LoadRect.idx_apply, LoadRect.idx_apply]
  simp only [Rect.unit, off7_eq]
  refine ⟨rfl, ?_⟩
  show 0 + 1 * x.val = x.val
  omega

/-- A trip of group 1 reads its block and the one before. -/
theorem reads1 (i : grid0.Coords) (k : Fin k0_t2_loop.trips) {A : Math.Arr} {b : Fin 8} {slab : ℕ} {X : Vec Ideal S1x2048x128 .f32} {Y Z : Vec Ideal S1x4096x128 .f32}
    (hX : HoldsQ A b (2048 * (i 2).val) (1 * 1024 + slab * 128) X) (hY : HoldsK A b (3072 + 1 * 1024 + slab * 128) Y) (hZ : HoldsK A b (6144 + 1 * 1024 + slab * 128) Z) :
    Reads 1 4 A b (k.val % 4) (4 * (i 2).val + k.val / 4) slab (fun j => X ((⟨k0_off5 k, S1x128x128.size, ![1, 4, 1], k0_off5_inb k⟩ : LoadRect S1x2048x128).idx j))
      (fun j => Y ((⟨k0_off6 i k, S1x128x128.size, ![1, 4, 1], k0_off6_inb i k⟩ : LoadRect S1x4096x128).idx j)) (fun j => Z ((⟨k0_off6 i k, S1x128x128.size, ![1, 4, 1], k0_off6_inb i k⟩ : LoadRect S1x4096x128).idx j))
      (fun j => Y ((⟨k0_off7 i k, S1x128x128.size, ![1, 4, 1], k0_off7_inb i k⟩ : LoadRect S1x4096x128).idx j)) (fun j => Z ((⟨k0_off7 i k, S1x128x128.size, ![1, 4, 1], k0_off7_inb i k⟩ : LoadRect S1x4096x128).idx j)) where
  q a x := by
    refine (hX _).trans ?_
    rw [(rowQ1 i k a x).1, (rowQ1 i k a x).2]
    exact congrArg (fun s => Math.elt A b s _) (by rw [Math.pos]; omega)
  kc a x := by
    refine (hY _).trans ?_
    rw [(rowC1 i k a x).1, (rowC1 i k a x).2]
    exact congrArg (fun s => Math.elt A b s _) (by rw [Math.kpos]; omega)
  vc a x := by
    refine (hZ _).trans ?_
    rw [(rowC1 i k a x).1, (rowC1 i k a x).2]
    exact congrArg (fun s => Math.elt A b s _) (by rw [Math.kpos]; omega)
  kp hn a x := by
    refine (hY _).trans ?_
    rw [(rowP1 i k a x).1, (rowP1 i k a x).2]
    exact congrArg (fun s => Math.elt A b s _) (by rw [Math.kpos]; omega)
  vp hn a x := by
    refine (hZ _).trans ?_
    rw [(rowP1 i k a x).1, (rowP1 i k a x).2]
    exact congrArg (fun s => Math.elt A b s _) (by rw [Math.kpos]; omega)

/-- What a trip of group 1 stores. -/
theorem oPiece1_at (i : grid0.Coords) (k : Fin k0_t2_loop.trips) {A : Math.Arr} {b : Fin 8} {slab : ℕ} {X : Vec Ideal S1x2048x128 .f32} {Y Z : Vec Ideal S1x4096x128 .f32}
    (hX : HoldsQ A b (2048 * (i 2).val) (1 * 1024 + slab * 128) X) (hY : HoldsK A b (3072 + 1 * 1024 + slab * 128) Y) (hZ : HoldsK A b (6144 + 1 * 1024 + slab * 128) Z) (a l : Fin 128) :
    ((oPiece1 (F := Ideal) i (half i) k0_pay24 lanes k0_pay26 k0_pay34 k0_pay35 X Y Z k).2 (ix3 (n0 := 1) (n1 := 128) (n2 := 128) 0 a l) : EReal) = Math.O 1 4 A b (k.val % 4) (4 * (i 2).val + k.val / 4) a.val (slab * 2 + l.val / 64) (l.val % 64) :=
  oPay1_at (i 2) k (reads1 i k hX hY hZ) a l

/-- What a trip of group 1 stores. -/
theorem lPiece1_at (i : grid0.Coords) (k : Fin k0_t2_loop.trips) {A : Math.Arr} {b : Fin 8} {slab : ℕ} {X : Vec Ideal S1x2048x128 .f32} {Y Z : Vec Ideal S1x4096x128 .f32}
    (hX : HoldsQ A b (2048 * (i 2).val) (1 * 1024 + slab * 128) X) (hY : HoldsK A b (3072 + 1 * 1024 + slab * 128) Y) (hZ : HoldsK A b (6144 + 1 * 1024 + slab * 128) Z) (a l : Fin 128) :
    ((lPiece1 (F := Ideal) i (half i) k0_pay24 lanes k0_pay26 k0_pay34 k0_pay35 X Y Z k).2 (ix3 (n0 := 1) (n1 := 128) (n2 := 128) 0 a l) : EReal) = Math.L 1 4 A b (k.val % 4) (4 * (i 2).val + k.val / 4) a.val (slab * 2 + l.val / 64) :=
  lPay1_at (i 2) k (reads1 i k hX hY hZ) a l

/-- The row and lane a trip of group 2 reads: of the queries, of the keys and values, of those a block back. -/
theorem rowQ2 (i : grid0.Coords) (k : Fin k0_t3_loop.trips) (a x : Fin 128) :
    (((⟨k0_off9 k, S1x128x128.size, ![1, 16, 1], k0_off9_inb k⟩ : LoadRect S1x2048x128).idx (ix3 0 a x) : S1x2048x128.Idx) 1).val = k.val + 16 * a.val ∧ (((⟨k0_off9 k, S1x128x128.size, ![1, 16, 1], k0_off9_inb k⟩ : LoadRect S1x2048x128).idx (ix3 0 a x) : S1x2048x128.Idx) 2).val = x.val := by
  rw [LoadRect.idx_apply, LoadRect.idx_apply]
  simp only [Rect.unit, off9_eq]
  refine ⟨rfl, ?_⟩
  show 0 + 1 * x.val = x.val
  omega

@[inherit_doc rowQ2] theorem rowC2 (i : grid0.Coords) (k : Fin k0_t3_loop.trips) (a x : Fin 128) :
    (((⟨k0_off10 i k, S1x128x128.size, ![1, 16, 1], k0_off10_inb i k⟩ : LoadRect S1x4096x128).idx (ix3 0 a x) : S1x4096x128.Idx) 1).val = 2048 * (i 2).val + k.val + 16 * a.val ∧ (((⟨k0_off10 i k, S1x128x128.size, ![1, 16, 1], k0_off10_inb i k⟩ : LoadRect S1x4096x128).idx (ix3 0 a x) : S1x4096x128.Idx) 2).val = x.val := by
  rw [LoadRect.idx_apply, LoadRect.idx_apply]
  simp only [Rect.unit, off10_eq]
  refine ⟨rfl, ?_⟩
  show 0 + 1 * x.val = x.val
  omega

@[inherit_doc rowQ2] theorem rowP2 (i : grid0.Coords) (k : Fin k0_t3_loop.trips) (a x : Fin 128) :
    (((⟨k0_off11 i k, S1x128x128.size, ![1, 16, 1], k0_off11_inb i k⟩ : LoadRect S1x4096x128).idx (ix3 0 a x) : S1x4096x128.Idx) 1).val = 2048 * (i 2).val + k.val - 2048 + 16 * a.val ∧ (((⟨k0_off11 i k, S1x128x128.size, ![1, 16, 1], k0_off11_inb i k⟩ : LoadRect S1x4096x128).idx (ix3 0 a x) : S1x4096x128.Idx) 2).val = x.val := by
  rw [LoadRect.idx_apply, LoadRect.idx_apply]
  simp only [Rect.unit, off11_eq]
  refine ⟨rfl, ?_⟩
  show 0 + 1 * x.val = x.val
  omega

/-- A trip of group 2 reads its block and the one before. -/
theorem reads2 (i : grid0.Coords) (k : Fin k0_t3_loop.trips) {A : Math.Arr} {b : Fin 8} {slab : ℕ} {X : Vec Ideal S1x2048x128 .f32} {Y Z : Vec Ideal S1x4096x128 .f32}
    (hX : HoldsQ A b (2048 * (i 2).val) (2 * 1024 + slab * 128) X) (hY : HoldsK A b (3072 + 2 * 1024 + slab * 128) Y) (hZ : HoldsK A b (6144 + 2 * 1024 + slab * 128) Z) :
    Reads 2 16 A b k.val ((i 2).val) slab (fun j => X ((⟨k0_off9 k, S1x128x128.size, ![1, 16, 1], k0_off9_inb k⟩ : LoadRect S1x2048x128).idx j))
      (fun j => Y ((⟨k0_off10 i k, S1x128x128.size, ![1, 16, 1], k0_off10_inb i k⟩ : LoadRect S1x4096x128).idx j)) (fun j => Z ((⟨k0_off10 i k, S1x128x128.size, ![1, 16, 1], k0_off10_inb i k⟩ : LoadRect S1x4096x128).idx j))
      (fun j => Y ((⟨k0_off11 i k, S1x128x128.size, ![1, 16, 1], k0_off11_inb i k⟩ : LoadRect S1x4096x128).idx j)) (fun j => Z ((⟨k0_off11 i k, S1x128x128.size, ![1, 16, 1], k0_off11_inb i k⟩ : LoadRect S1x4096x128).idx j)) where
  q a x := by
    refine (hX _).trans ?_
    rw [(rowQ2 i k a x).1, (rowQ2 i k a x).2]
    exact congrArg (fun s => Math.elt A b s _) (by rw [Math.pos]; omega)
  kc a x := by
    refine (hY _).trans ?_
    rw [(rowC2 i k a x).1, (rowC2 i k a x).2]
    exact congrArg (fun s => Math.elt A b s _) (by rw [Math.kpos]; omega)
  vc a x := by
    refine (hZ _).trans ?_
    rw [(rowC2 i k a x).1, (rowC2 i k a x).2]
    exact congrArg (fun s => Math.elt A b s _) (by rw [Math.kpos]; omega)
  kp hn a x := by
    refine (hY _).trans ?_
    rw [(rowP2 i k a x).1, (rowP2 i k a x).2]
    exact congrArg (fun s => Math.elt A b s _) (by rw [Math.kpos]; omega)
  vp hn a x := by
    refine (hZ _).trans ?_
    rw [(rowP2 i k a x).1, (rowP2 i k a x).2]
    exact congrArg (fun s => Math.elt A b s _) (by rw [Math.kpos]; omega)

/-- What a trip of group 2 stores. -/
theorem oPiece2_at (i : grid0.Coords) (k : Fin k0_t3_loop.trips) {A : Math.Arr} {b : Fin 8} {slab : ℕ} {X : Vec Ideal S1x2048x128 .f32} {Y Z : Vec Ideal S1x4096x128 .f32}
    (hX : HoldsQ A b (2048 * (i 2).val) (2 * 1024 + slab * 128) X) (hY : HoldsK A b (3072 + 2 * 1024 + slab * 128) Y) (hZ : HoldsK A b (6144 + 2 * 1024 + slab * 128) Z) (a l : Fin 128) :
    ((oPiece2 (F := Ideal) i (half i) k0_pay24 k0_pay25 lanes k0_pay26 X Y Z k).2 (ix3 (n0 := 1) (n1 := 128) (n2 := 128) 0 a l) : EReal) = Math.O 2 16 A b k.val ((i 2).val) a.val (slab * 2 + l.val / 64) (l.val % 64) :=
  oPay2_at (i 2) k (reads2 i k hX hY hZ) a l

/-- What a trip of group 2 stores. -/
theorem lPiece2_at (i : grid0.Coords) (k : Fin k0_t3_loop.trips) {A : Math.Arr} {b : Fin 8} {slab : ℕ} {X : Vec Ideal S1x2048x128 .f32} {Y Z : Vec Ideal S1x4096x128 .f32}
    (hX : HoldsQ A b (2048 * (i 2).val) (2 * 1024 + slab * 128) X) (hY : HoldsK A b (3072 + 2 * 1024 + slab * 128) Y) (hZ : HoldsK A b (6144 + 2 * 1024 + slab * 128) Z) (a l : Fin 128) :
    ((lPiece2 (F := Ideal) i (half i) k0_pay24 k0_pay25 lanes k0_pay26 X Y Z k).2 (ix3 (n0 := 1) (n1 := 128) (n2 := 128) 0 a l) : EReal) = Math.L 2 16 A b k.val ((i 2).val) a.val (slab * 2 + l.val / 64) :=
  lPay2_at (i 2) k (reads2 i k hX hY hZ) a l

/-- Slab 0 of the scratch, entry by entry. -/
theorem oScr0 (i : grid0.Coords) {A : Math.Arr} {b : Fin 8} {slab : ℕ} {x0 x1 x2 : Vec Ideal S1x2048x128 .f32} {y0 y1 y2 z0 z1 z2 : Vec Ideal S1x4096x128 .f32}
    (hX0 : HoldsQ A b (2048 * (i 2).val) (0 * 1024 + slab * 128) x0) (hY0 : HoldsK A b (3072 + 0 * 1024 + slab * 128) y0) (hZ0 : HoldsK A b (6144 + 0 * 1024 + slab * 128) z0)
    (hX1 : HoldsQ A b (2048 * (i 2).val) (1 * 1024 + slab * 128) x1) (hY1 : HoldsK A b (3072 + 1 * 1024 + slab * 128) y1) (hZ1 : HoldsK A b (6144 + 1 * 1024 + slab * 128) z1)
    (hX2 : HoldsQ A b (2048 * (i 2).val) (2 * 1024 + slab * 128) x2) (hY2 : HoldsK A b (3072 + 2 * 1024 + slab * 128) y2) (hZ2 : HoldsK A b (6144 + 2 * 1024 + slab * 128) z2) (R : Fin 2048) (l : Fin 128) :
    (oScr (F := Ideal) i x0 x1 x2 y0 y1 y2 z0 z1 z2 (ix3 0 R l) : EReal) = Math.O 0 1 A b 0 ((2048 * (i 2).val + R.val) / 128) ((2048 * (i 2).val + R.val) % 128) (slab * 2 + l.val / 64) (l.val % 64) := by
  have hi : (i 2).val < 2 := (i 2).isLt
  refine Eq.trans ?_ ((oPiece0_at i (tr0 R) hX0 hY0 hZ0 ⟨R.val % 128, by omega⟩ l).trans ?_)
  · exact if_pos rfl
  · have e1 : 0 = 0 := by omega
    have e2 : 16 * (i 2).val + R.val / 128 = (2048 * (i 2).val + R.val) / 128 := by omega
    have e3 : R.val % 128 = (2048 * (i 2).val + R.val) % 128 := by omega
    show Math.O 0 1 A b (0) (16 * (i 2).val + R.val / 128) (R.val % 128) (slab * 2 + l.val / 64) (l.val % 64) = _
    exact O_congr 0 1 A b rfl e2 e3 _ _

/-- Slab 1 of the scratch, entry by entry. -/
theorem oScr1 (i : grid0.Coords) {A : Math.Arr} {b : Fin 8} {slab : ℕ} {x0 x1 x2 : Vec Ideal S1x2048x128 .f32} {y0 y1 y2 z0 z1 z2 : Vec Ideal S1x4096x128 .f32}
    (hX0 : HoldsQ A b (2048 * (i 2).val) (0 * 1024 + slab * 128) x0) (hY0 : HoldsK A b (3072 + 0 * 1024 + slab * 128) y0) (hZ0 : HoldsK A b (6144 + 0 * 1024 + slab * 128) z0)
    (hX1 : HoldsQ A b (2048 * (i 2).val) (1 * 1024 + slab * 128) x1) (hY1 : HoldsK A b (3072 + 1 * 1024 + slab * 128) y1) (hZ1 : HoldsK A b (6144 + 1 * 1024 + slab * 128) z1)
    (hX2 : HoldsQ A b (2048 * (i 2).val) (2 * 1024 + slab * 128) x2) (hY2 : HoldsK A b (3072 + 2 * 1024 + slab * 128) y2) (hZ2 : HoldsK A b (6144 + 2 * 1024 + slab * 128) z2) (R : Fin 2048) (l : Fin 128) :
    (oScr (F := Ideal) i x0 x1 x2 y0 y1 y2 z0 z1 z2 (ix3 1 R l) : EReal) = Math.O 1 4 A b ((2048 * (i 2).val + R.val) % 4) ((2048 * (i 2).val + R.val) / 4 / 128) ((2048 * (i 2).val + R.val) / 4 % 128) (slab * 2 + l.val / 64) (l.val % 64) := by
  have hi : (i 2).val < 2 := (i 2).isLt
  refine Eq.trans ?_ ((oPiece1_at i (tr1 R) hX1 hY1 hZ1 ⟨R.val % 512 / 4, by omega⟩ l).trans ?_)
  · exact (if_neg (show ¬ (1 : ℕ) = 0 by decide)).trans (if_pos rfl)
  · have e1 : (R.val / 512 * 4 + R.val % 4) % 4 = (2048 * (i 2).val + R.val) % 4 := by omega
    have e2 : 4 * (i 2).val + (R.val / 512 * 4 + R.val % 4) / 4 = (2048 * (i 2).val + R.val) / 4 / 128 := by omega
    have e3 : R.val % 512 / 4 = (2048 * (i 2).val + R.val) / 4 % 128 := by omega
    show Math.O 1 4 A b ((R.val / 512 * 4 + R.val % 4) % 4) (4 * (i 2).val + (R.val / 512 * 4 + R.val % 4) / 4) (R.val % 512 / 4) (slab * 2 + l.val / 64) (l.val % 64) = _
    exact O_congr 1 4 A b e1 e2 e3 _ _

/-- Slab 2 of the scratch, entry by entry. -/
theorem oScr2 (i : grid0.Coords) {A : Math.Arr} {b : Fin 8} {slab : ℕ} {x0 x1 x2 : Vec Ideal S1x2048x128 .f32} {y0 y1 y2 z0 z1 z2 : Vec Ideal S1x4096x128 .f32}
    (hX0 : HoldsQ A b (2048 * (i 2).val) (0 * 1024 + slab * 128) x0) (hY0 : HoldsK A b (3072 + 0 * 1024 + slab * 128) y0) (hZ0 : HoldsK A b (6144 + 0 * 1024 + slab * 128) z0)
    (hX1 : HoldsQ A b (2048 * (i 2).val) (1 * 1024 + slab * 128) x1) (hY1 : HoldsK A b (3072 + 1 * 1024 + slab * 128) y1) (hZ1 : HoldsK A b (6144 + 1 * 1024 + slab * 128) z1)
    (hX2 : HoldsQ A b (2048 * (i 2).val) (2 * 1024 + slab * 128) x2) (hY2 : HoldsK A b (3072 + 2 * 1024 + slab * 128) y2) (hZ2 : HoldsK A b (6144 + 2 * 1024 + slab * 128) z2) (R : Fin 2048) (l : Fin 128) :
    (oScr (F := Ideal) i x0 x1 x2 y0 y1 y2 z0 z1 z2 (ix3 2 R l) : EReal) = Math.O 2 16 A b ((2048 * (i 2).val + R.val) % 16) ((2048 * (i 2).val + R.val) / 16 / 128) ((2048 * (i 2).val + R.val) / 16 % 128) (slab * 2 + l.val / 64) (l.val % 64) := by
  have hi : (i 2).val < 2 := (i 2).isLt
  refine Eq.trans ?_ ((oPiece2_at i (tr2 R) hX2 hY2 hZ2 ⟨R.val / 16, by omega⟩ l).trans ?_)
  · exact (if_neg (show ¬ (2 : ℕ) = 0 by decide)).trans (if_neg (show ¬ (2 : ℕ) = 1 by decide))
  · have e1 : R.val % 16 = (2048 * (i 2).val + R.val) % 16 := by omega
    have e2 : (i 2).val = (2048 * (i 2).val + R.val) / 16 / 128 := by omega
    have e3 : R.val / 16 = (2048 * (i 2).val + R.val) / 16 % 128 := by omega
    show Math.O 2 16 A b (R.val % 16) ((i 2).val) (R.val / 16) (slab * 2 + l.val / 64) (l.val % 64) = _
    exact O_congr 2 16 A b e1 e2 e3 _ _

/-- Slab 0 of the scratch, entry by entry. -/
theorem lScr0 (i : grid0.Coords) {A : Math.Arr} {b : Fin 8} {slab : ℕ} {x0 x1 x2 : Vec Ideal S1x2048x128 .f32} {y0 y1 y2 z0 z1 z2 : Vec Ideal S1x4096x128 .f32}
    (hX0 : HoldsQ A b (2048 * (i 2).val) (0 * 1024 + slab * 128) x0) (hY0 : HoldsK A b (3072 + 0 * 1024 + slab * 128) y0) (hZ0 : HoldsK A b (6144 + 0 * 1024 + slab * 128) z0)
    (hX1 : HoldsQ A b (2048 * (i 2).val) (1 * 1024 + slab * 128) x1) (hY1 : HoldsK A b (3072 + 1 * 1024 + slab * 128) y1) (hZ1 : HoldsK A b (6144 + 1 * 1024 + slab * 128) z1)
    (hX2 : HoldsQ A b (2048 * (i 2).val) (2 * 1024 + slab * 128) x2) (hY2 : HoldsK A b (3072 + 2 * 1024 + slab * 128) y2) (hZ2 : HoldsK A b (6144 + 2 * 1024 + slab * 128) z2) (R : Fin 2048) (l : Fin 128) :
    (lScr (F := Ideal) i x0 x1 x2 y0 y1 y2 z0 z1 z2 (ix3 0 R l) : EReal) = Math.L 0 1 A b 0 ((2048 * (i 2).val + R.val) / 128) ((2048 * (i 2).val + R.val) % 128) (slab * 2 + l.val / 64) := by
  have hi : (i 2).val < 2 := (i 2).isLt
  refine Eq.trans ?_ ((lPiece0_at i (tr0 R) hX0 hY0 hZ0 ⟨R.val % 128, by omega⟩ l).trans ?_)
  · exact if_pos rfl
  · have e1 : 0 = 0 := by omega
    have e2 : 16 * (i 2).val + R.val / 128 = (2048 * (i 2).val + R.val) / 128 := by omega
    have e3 : R.val % 128 = (2048 * (i 2).val + R.val) % 128 := by omega
    show Math.L 0 1 A b (0) (16 * (i 2).val + R.val / 128) (R.val % 128) (slab * 2 + l.val / 64) = _
    exact L_congr 0 1 A b rfl e2 e3 _

/-- Slab 1 of the scratch, entry by entry. -/
theorem lScr1 (i : grid0.Coords) {A : Math.Arr} {b : Fin 8} {slab : ℕ} {x0 x1 x2 : Vec Ideal S1x2048x128 .f32} {y0 y1 y2 z0 z1 z2 : Vec Ideal S1x4096x128 .f32}
    (hX0 : HoldsQ A b (2048 * (i 2).val) (0 * 1024 + slab * 128) x0) (hY0 : HoldsK A b (3072 + 0 * 1024 + slab * 128) y0) (hZ0 : HoldsK A b (6144 + 0 * 1024 + slab * 128) z0)
    (hX1 : HoldsQ A b (2048 * (i 2).val) (1 * 1024 + slab * 128) x1) (hY1 : HoldsK A b (3072 + 1 * 1024 + slab * 128) y1) (hZ1 : HoldsK A b (6144 + 1 * 1024 + slab * 128) z1)
    (hX2 : HoldsQ A b (2048 * (i 2).val) (2 * 1024 + slab * 128) x2) (hY2 : HoldsK A b (3072 + 2 * 1024 + slab * 128) y2) (hZ2 : HoldsK A b (6144 + 2 * 1024 + slab * 128) z2) (R : Fin 2048) (l : Fin 128) :
    (lScr (F := Ideal) i x0 x1 x2 y0 y1 y2 z0 z1 z2 (ix3 1 R l) : EReal) = Math.L 1 4 A b ((2048 * (i 2).val + R.val) % 4) ((2048 * (i 2).val + R.val) / 4 / 128) ((2048 * (i 2).val + R.val) / 4 % 128) (slab * 2 + l.val / 64) := by
  have hi : (i 2).val < 2 := (i 2).isLt
  refine Eq.trans ?_ ((lPiece1_at i (tr1 R) hX1 hY1 hZ1 ⟨R.val % 512 / 4, by omega⟩ l).trans ?_)
  · exact (if_neg (show ¬ (1 : ℕ) = 0 by decide)).trans (if_pos rfl)
  · have e1 : (R.val / 512 * 4 + R.val % 4) % 4 = (2048 * (i 2).val + R.val) % 4 := by omega
    have e2 : 4 * (i 2).val + (R.val / 512 * 4 + R.val % 4) / 4 = (2048 * (i 2).val + R.val) / 4 / 128 := by omega
    have e3 : R.val % 512 / 4 = (2048 * (i 2).val + R.val) / 4 % 128 := by omega
    show Math.L 1 4 A b ((R.val / 512 * 4 + R.val % 4) % 4) (4 * (i 2).val + (R.val / 512 * 4 + R.val % 4) / 4) (R.val % 512 / 4) (slab * 2 + l.val / 64) = _
    exact L_congr 1 4 A b e1 e2 e3 _

/-- Slab 2 of the scratch, entry by entry. -/
theorem lScr2 (i : grid0.Coords) {A : Math.Arr} {b : Fin 8} {slab : ℕ} {x0 x1 x2 : Vec Ideal S1x2048x128 .f32} {y0 y1 y2 z0 z1 z2 : Vec Ideal S1x4096x128 .f32}
    (hX0 : HoldsQ A b (2048 * (i 2).val) (0 * 1024 + slab * 128) x0) (hY0 : HoldsK A b (3072 + 0 * 1024 + slab * 128) y0) (hZ0 : HoldsK A b (6144 + 0 * 1024 + slab * 128) z0)
    (hX1 : HoldsQ A b (2048 * (i 2).val) (1 * 1024 + slab * 128) x1) (hY1 : HoldsK A b (3072 + 1 * 1024 + slab * 128) y1) (hZ1 : HoldsK A b (6144 + 1 * 1024 + slab * 128) z1)
    (hX2 : HoldsQ A b (2048 * (i 2).val) (2 * 1024 + slab * 128) x2) (hY2 : HoldsK A b (3072 + 2 * 1024 + slab * 128) y2) (hZ2 : HoldsK A b (6144 + 2 * 1024 + slab * 128) z2) (R : Fin 2048) (l : Fin 128) :
    (lScr (F := Ideal) i x0 x1 x2 y0 y1 y2 z0 z1 z2 (ix3 2 R l) : EReal) = Math.L 2 16 A b ((2048 * (i 2).val + R.val) % 16) ((2048 * (i 2).val + R.val) / 16 / 128) ((2048 * (i 2).val + R.val) / 16 % 128) (slab * 2 + l.val / 64) := by
  have hi : (i 2).val < 2 := (i 2).isLt
  refine Eq.trans ?_ ((lPiece2_at i (tr2 R) hX2 hY2 hZ2 ⟨R.val / 16, by omega⟩ l).trans ?_)
  · exact (if_neg (show ¬ (2 : ℕ) = 0 by decide)).trans (if_neg (show ¬ (2 : ℕ) = 1 by decide))
  · have e1 : R.val % 16 = (2048 * (i 2).val + R.val) % 16 := by omega
    have e2 : (i 2).val = (2048 * (i 2).val + R.val) / 16 / 128 := by omega
    have e3 : R.val / 16 = (2048 * (i 2).val + R.val) / 16 % 128 := by omega
    show Math.L 2 16 A b (R.val % 16) ((i 2).val) (R.val / 16) (slab * 2 + l.val / 64) = _
    exact L_congr 2 16 A b e1 e2 e3 _

theorem off13_eq : ∀ k : Fin k0_t4_loop.trips, k0_off13 k = ![0, 256 * k.val, 0] := by decide +kernel

/-- The row of slab 0 a merging trip reads. -/
theorem mRow0 (X : Vec Ideal S3x2048x128 .f32) (R : Fin 2048) (l : Fin 128) :
    (mRow (F := Ideal) X (k0_off13 (tr4 R)) (k0_off13_inb (tr4 R)) (ix3 0 ⟨R.val % 256, by omega⟩ l)) = X (ix3 0 R l) := by
  refine congrArg X (funext fun a => Fin.ext ?_)
  rw [LoadRect.idx_apply]
  simp only [Rect.unit, off13_eq]
  fin_cases a
  · rfl
  · show 256 * (R.val / 256) + 1 * (R.val % 256) = R.val
    omega
  · show 0 + 1 * l.val = l.val
    omega

theorem off14_eq : ∀ k : Fin k0_t4_loop.trips, k0_off14 k = ![1, 256 * k.val, 0] := by decide +kernel

/-- The row of slab 1 a merging trip reads. -/
theorem mRow1 (X : Vec Ideal S3x2048x128 .f32) (R : Fin 2048) (l : Fin 128) :
    (mRow (F := Ideal) X (k0_off14 (tr4 R)) (k0_off14_inb (tr4 R)) (ix3 0 ⟨R.val % 256, by omega⟩ l)) = X (ix3 1 R l) := by
  refine congrArg X (funext fun a => Fin.ext ?_)
  rw [LoadRect.idx_apply]
  simp only [Rect.unit, off14_eq]
  fin_cases a
  · rfl
  · show 256 * (R.val / 256) + 1 * (R.val % 256) = R.val
    omega
  · show 0 + 1 * l.val = l.val
    omega

theorem off15_eq : ∀ k : Fin k0_t4_loop.trips, k0_off15 k = ![2, 256 * k.val, 0] := by decide +kernel

/-- The row of slab 2 a merging trip reads. -/
theorem mRow2 (X : Vec Ideal S3x2048x128 .f32) (R : Fin 2048) (l : Fin 128) :
    (mRow (F := Ideal) X (k0_off15 (tr4 R)) (k0_off15_inb (tr4 R)) (ix3 0 ⟨R.val % 256, by omega⟩ l)) = X (ix3 2 R l) := by
  refine congrArg X (funext fun a => Fin.ext ?_)
  rw [LoadRect.idx_apply]
  simp only [Rect.unit, off15_eq]
  fin_cases a
  · rfl
  · show 256 * (R.val / 256) + 1 * (R.val % 256) = R.val
    omega
  · show 0 + 1 * l.val = l.val
    omega

/-- The block the kernel writes, entry by entry: the three groups' attention merged. -/
theorem outBlk_at (i : grid0.Coords) {A : Math.Arr} {b : Fin 8} {slab : ℕ} {x0 x1 x2 : Vec Ideal S1x2048x128 .f32} {y0 y1 y2 z0 z1 z2 : Vec Ideal S1x4096x128 .f32}
    (hX0 : HoldsQ A b (2048 * (i 2).val) (0 * 1024 + slab * 128) x0) (hY0 : HoldsK A b (3072 + 0 * 1024 + slab * 128) y0) (hZ0 : HoldsK A b (6144 + 0 * 1024 + slab * 128) z0)
    (hX1 : HoldsQ A b (2048 * (i 2).val) (1 * 1024 + slab * 128) x1) (hY1 : HoldsK A b (3072 + 1 * 1024 + slab * 128) y1) (hZ1 : HoldsK A b (6144 + 1 * 1024 + slab * 128) z1)
    (hX2 : HoldsQ A b (2048 * (i 2).val) (2 * 1024 + slab * 128) x2) (hY2 : HoldsK A b (3072 + 2 * 1024 + slab * 128) y2) (hZ2 : HoldsK A b (6144 + 2 * 1024 + slab * 128) z2) (R : Fin 2048) (l : Fin 128) :
    (outBlk (F := Ideal) i x0 x1 x2 y0 y1 y2 z0 z1 z2 (ix3 0 R l) : EReal) = Math.kernelAt A b (2048 * (i 2).val + R.val) (slab * 2 + l.val / 64) (l.val % 64) := by
  refine Eq.trans (b := k0_pay13 (F := Ideal) (k0_pay23 _ _ _ _ _ _) (ix3 0 (⟨R.val % 256, by omega⟩ : Fin 256) l)) rfl ?_
  refine (merge_at _ _ _ _ _ _ _ _).trans ?_
  rw [Math.kernelAt]
  refine Eq.trans (b := Math.mergeLse _ _ _ _ _ _) (congr (congr (congr (congr (congr (congrArg Math.mergeLse ?_) ?_) ?_) ?_) ?_) ?_) rfl
  · exact (mRow0 _ R l).trans (lScr0 i hX0 hY0 hZ0 hX1 hY1 hZ1 hX2 hY2 hZ2 R l)
  · exact (mRow1 _ R l).trans (lScr1 i hX0 hY0 hZ0 hX1 hY1 hZ1 hX2 hY2 hZ2 R l)
  · exact (mRow2 _ R l).trans (lScr2 i hX0 hY0 hZ0 hX1 hY1 hZ1 hX2 hY2 hZ2 R l)
  · exact (mRow0 _ R l).trans (oScr0 i hX0 hY0 hZ0 hX1 hY1 hZ1 hX2 hY2 hZ2 R l)
  · exact (mRow1 _ R l).trans (oScr1 i hX0 hY0 hZ0 hX1 hY1 hZ1 hX2 hY2 hZ2 R l)
  · exact (mRow2 _ R l).trans (oScr2 i hX0 hY0 hZ0 hX1 hY1 hZ1 hX2 hY2 hZ2 R l)

end Cert.Proof.Attn

end
-- ==== Proof.Attn.Result.lean ====
/- The array the attention kernel leaves, entry by entry. -/
module

public import proofs.«01_k».proof.Proof.Attn.Frame
public import proofs.«01_k».proof.Proof.Attn.Trips
public import proofs.«01_k».proof.Proof.Attn.RefBase
public import Idealize.ShloMosaic.Lib.Pipeline.ValueKit
public import Idealize.ShloMosaic.Lib.Pipeline.ReadBack

@[expose] public section

set_option maxRecDepth 16384

noncomputable section

namespace Cert.Proof.Attn

open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ)

/-- The block each window takes at each point: sequence `t / 16`, slab `t / 2 % 8`, half `t % 2`; the groups' columns
    of the queries, the keys and the values lie 8 blocks apart. -/
theorem idx : ∀ t : Fin cfg0.N, win0_0.index t = ![t.val / 16, t.val % 2, 0 + t.val / 2 % 8]
    ∧ win0_1.index t = ![t.val / 16, t.val % 2, 8 + t.val / 2 % 8]
    ∧ win0_2.index t = ![t.val / 16, t.val % 2, 16 + t.val / 2 % 8]
    ∧ win0_3.index t = ![t.val / 16, 0, 24 + t.val / 2 % 8]
    ∧ win0_4.index t = ![t.val / 16, 0, 32 + t.val / 2 % 8]
    ∧ win0_5.index t = ![t.val / 16, 0, 40 + t.val / 2 % 8]
    ∧ win0_6.index t = ![t.val / 16, 0, 48 + t.val / 2 % 8]
    ∧ win0_7.index t = ![t.val / 16, 0, 56 + t.val / 2 % 8]
    ∧ win0_8.index t = ![t.val / 16, 0, 64 + t.val / 2 % 8]
    ∧ win0_9.index t = ![t.val / 16, t.val % 2, t.val / 2 % 8]
    ∧ (grid0.coords t 2).val = t.val % 2 :=
  (by decide +kernel : ∀ t : Fin grid0.N, _)

/-- There are 8 sequences. -/
theorem seq_lt (t : Fin cfg0.N) : t.val / 16 < 8 := by
  have h := lt_of_lt_of_eq t.isLt (show cfg0.N = 128 from N_0)
  omega

/-- The sequence of a point. -/
def seqOf (t : Fin cfg0.N) : Fin 8 := ⟨t.val / 16, seq_lt t⟩

/-- The array a device is given. -/
abbrev inp (c : Dev nD) : Math.Arr := m ((c : Thread nD τ).loc main_arg0)

/-- Each window's block, entry by entry, off the array. -/
theorem blk0 (c : Dev nD) (t : Fin cfg0.N) (r : Fin 2048) (l : Fin 128) :
    (show FVec Ideal S1x2048x128 .f32 from iblk m c 0 t) (ix3 0 r l) = m ((c : Thread nD τ).loc main_arg0) (ix3 (seqOf t) ⟨t.val % 2 * 2048 + r.val, by omega⟩ ⟨(0 + t.val / 2 % 8) * 128 + l.val, by omega⟩) := by
  blk_ext [iblk, V, idx t, seqOf]
@[inherit_doc blk0] theorem blk1 (c : Dev nD) (t : Fin cfg0.N) (r : Fin 2048) (l : Fin 128) :
    (show FVec Ideal S1x2048x128 .f32 from iblk m c 1 t) (ix3 0 r l) = m ((c : Thread nD τ).loc main_arg0) (ix3 (seqOf t) ⟨t.val % 2 * 2048 + r.val, by omega⟩ ⟨(8 + t.val / 2 % 8) * 128 + l.val, by omega⟩) := by
  blk_ext [iblk, V, idx t, seqOf]
@[inherit_doc blk0] theorem blk2 (c : Dev nD) (t : Fin cfg0.N) (r : Fin 2048) (l : Fin 128) :
    (show FVec Ideal S1x2048x128 .f32 from iblk m c 2 t) (ix3 0 r l) = m ((c : Thread nD τ).loc main_arg0) (ix3 (seqOf t) ⟨t.val % 2 * 2048 + r.val, by omega⟩ ⟨(16 + t.val / 2 % 8) * 128 + l.val, by omega⟩) := by
  blk_ext [iblk, V, idx t, seqOf]
@[inherit_doc blk0] theorem blk3 (c : Dev nD) (t : Fin cfg0.N) (r : Fin 4096) (l : Fin 128) :
    (show FVec Ideal S1x4096x128 .f32 from iblk m c 3 t) (ix3 0 r l) = m ((c : Thread nD τ).loc main_arg0) (ix3 (seqOf t) r ⟨(24 + t.val / 2 % 8) * 128 + l.val, by omega⟩) := by
  blk_ext [iblk, V, idx t, seqOf]
@[inherit_doc blk0] theorem blk4 (c : Dev nD) (t : Fin cfg0.N) (r : Fin 4096) (l : Fin 128) :
    (show FVec Ideal S1x4096x128 .f32 from iblk m c 4 t) (ix3 0 r l) = m ((c : Thread nD τ).loc main_arg0) (ix3 (seqOf t) r ⟨(32 + t.val / 2 % 8) * 128 + l.val, by omega⟩) := by
  blk_ext [iblk, V, idx t, seqOf]
@[inherit_doc blk0] theorem blk5 (c : Dev nD) (t : Fin cfg0.N) (r : Fin 4096) (l : Fin 128) :
    (show FVec Ideal S1x4096x128 .f32 from iblk m c 5 t) (ix3 0 r l) = m ((c : Thread nD τ).loc main_arg0) (ix3 (seqOf t) r ⟨(40 + t.val / 2 % 8) * 128 + l.val, by omega⟩) := by
  blk_ext [iblk, V, idx t, seqOf]
@[inherit_doc blk0] theorem blk6 (c : Dev nD) (t : Fin cfg0.N) (r : Fin 4096) (l : Fin 128) :
    (show FVec Ideal S1x4096x128 .f32 from iblk m c 6 t) (ix3 0 r l) = m ((c : Thread nD τ).loc main_arg0) (ix3 (seqOf t) r ⟨(48 + t.val / 2 % 8) * 128 + l.val, by omega⟩) := by
  blk_ext [iblk, V, idx t, seqOf]
@[inherit_doc blk0] theorem blk7 (c : Dev nD) (t : Fin cfg0.N) (r : Fin 4096) (l : Fin 128) :
    (show FVec Ideal S1x4096x128 .f32 from iblk m c 7 t) (ix3 0 r l) = m ((c : Thread nD τ).loc main_arg0) (ix3 (seqOf t) r ⟨(56 + t.val / 2 % 8) * 128 + l.val, by omega⟩) := by
  blk_ext [iblk, V, idx t, seqOf]
@[inherit_doc blk0] theorem blk8 (c : Dev nD) (t : Fin cfg0.N) (r : Fin 4096) (l : Fin 128) :
    (show FVec Ideal S1x4096x128 .f32 from iblk m c 8 t) (ix3 0 r l) = m ((c : Thread nD τ).loc main_arg0) (ix3 (seqOf t) r ⟨(64 + t.val / 2 % 8) * 128 + l.val, by omega⟩) := by
  blk_ext [iblk, V, idx t, seqOf]

/-- Each window's block holds what the trips take it to. -/
theorem holds0 (c : Dev nD) (t : Fin cfg0.N) : HoldsQ (inp m c) (seqOf t) (2048 * (grid0.coords t 2).val) (0 * 1024 + t.val / 2 % 8 * 128) (iblk m c 0 t) := by
  have hi : (grid0.coords t 2).val = t.val % 2 := by simp only [idx t]
  intro y
  idx_vars y
  obtain rfl : y0 = 0 := Subsingleton.elim _ _
  refine (blk0 m c t y1 y2).trans (AttnRef.elt_of (inp m c) (seqOf t) _ _ _ _ ?_ ?_)
  · show t.val % 2 * 2048 + y1.val = 2048 * (grid0.coords t 2).val + y1.val
    rw [hi]; omega
  · show (0 + t.val / 2 % 8) * 128 + y2.val = 0 * 1024 + t.val / 2 % 8 * 128 + y2.val
    omega
@[inherit_doc holds0] theorem holds1 (c : Dev nD) (t : Fin cfg0.N) : HoldsQ (inp m c) (seqOf t) (2048 * (grid0.coords t 2).val) (1 * 1024 + t.val / 2 % 8 * 128) (iblk m c 1 t) := by
  have hi : (grid0.coords t 2).val = t.val % 2 := by simp only [idx t]
  intro y
  idx_vars y
  obtain rfl : y0 = 0 := Subsingleton.elim _ _
  refine (blk1 m c t y1 y2).trans (AttnRef.elt_of (inp m c) (seqOf t) _ _ _ _ ?_ ?_)
  · show t.val % 2 * 2048 + y1.val = 2048 * (grid0.coords t 2).val + y1.val
    rw [hi]; omega
  · show (8 + t.val / 2 % 8) * 128 + y2.val = 1 * 1024 + t.val / 2 % 8 * 128 + y2.val
    omega
@[inherit_doc holds0] theorem holds2 (c : Dev nD) (t : Fin cfg0.N) : HoldsQ (inp m c) (seqOf t) (2048 * (grid0.coords t 2).val) (2 * 1024 + t.val / 2 % 8 * 128) (iblk m c 2 t) := by
  have hi : (grid0.coords t 2).val = t.val % 2 := by simp only [idx t]
  intro y
  idx_vars y
  obtain rfl : y0 = 0 := Subsingleton.elim _ _
  refine (blk2 m c t y1 y2).trans (AttnRef.elt_of (inp m c) (seqOf t) _ _ _ _ ?_ ?_)
  · show t.val % 2 * 2048 + y1.val = 2048 * (grid0.coords t 2).val + y1.val
    rw [hi]; omega
  · show (16 + t.val / 2 % 8) * 128 + y2.val = 2 * 1024 + t.val / 2 % 8 * 128 + y2.val
    omega
@[inherit_doc holds0] theorem holds3 (c : Dev nD) (t : Fin cfg0.N) : HoldsK (inp m c) (seqOf t) (3072 + 0 * 1024 + t.val / 2 % 8 * 128) (iblk m c 3 t) := by
  intro y
  idx_vars y
  obtain rfl : y0 = 0 := Subsingleton.elim _ _
  refine (blk3 m c t y1 y2).trans (AttnRef.elt_of (inp m c) (seqOf t) _ _ _ _ rfl ?_)
  show (24 + t.val / 2 % 8) * 128 + y2.val = 3072 + 0 * 1024 + t.val / 2 % 8 * 128 + y2.val
  omega
@[inherit_doc holds0] theorem holds4 (c : Dev nD) (t : Fin cfg0.N) : HoldsK (inp m c) (seqOf t) (3072 + 1 * 1024 + t.val / 2 % 8 * 128) (iblk m c 4 t) := by
  intro y
  idx_vars y
  obtain rfl : y0 = 0 := Subsingleton.elim _ _
  refine (blk4 m c t y1 y2).trans (AttnRef.elt_of (inp m c) (seqOf t) _ _ _ _ rfl ?_)
  show (32 + t.val / 2 % 8) * 128 + y2.val = 3072 + 1 * 1024 + t.val / 2 % 8 * 128 + y2.val
  omega
@[inherit_doc holds0] theorem holds5 (c : Dev nD) (t : Fin cfg0.N) : HoldsK (inp m c) (seqOf t) (3072 + 2 * 1024 + t.val / 2 % 8 * 128) (iblk m c 5 t) := by
  intro y
  idx_vars y
  obtain rfl : y0 = 0 := Subsingleton.elim _ _
  refine (blk5 m c t y1 y2).trans (AttnRef.elt_of (inp m c) (seqOf t) _ _ _ _ rfl ?_)
  show (40 + t.val / 2 % 8) * 128 + y2.val = 3072 + 2 * 1024 + t.val / 2 % 8 * 128 + y2.val
  omega
@[inherit_doc holds0] theorem holds6 (c : Dev nD) (t : Fin cfg0.N) : HoldsK (inp m c) (seqOf t) (6144 + 0 * 1024 + t.val / 2 % 8 * 128) (iblk m c 6 t) := by
  intro y
  idx_vars y
  obtain rfl : y0 = 0 := Subsingleton.elim _ _
  refine (blk6 m c t y1 y2).trans (AttnRef.elt_of (inp m c) (seqOf t) _ _ _ _ rfl ?_)
  show (48 + t.val / 2 % 8) * 128 + y2.val = 6144 + 0 * 1024 + t.val / 2 % 8 * 128 + y2.val
  omega
@[inherit_doc holds0] theorem holds7 (c : Dev nD) (t : Fin cfg0.N) : HoldsK (inp m c) (seqOf t) (6144 + 1 * 1024 + t.val / 2 % 8 * 128) (iblk m c 7 t) := by
  intro y
  idx_vars y
  obtain rfl : y0 = 0 := Subsingleton.elim _ _
  refine (blk7 m c t y1 y2).trans (AttnRef.elt_of (inp m c) (seqOf t) _ _ _ _ rfl ?_)
  show (56 + t.val / 2 % 8) * 128 + y2.val = 6144 + 1 * 1024 + t.val / 2 % 8 * 128 + y2.val
  omega
@[inherit_doc holds0] theorem holds8 (c : Dev nD) (t : Fin cfg0.N) : HoldsK (inp m c) (seqOf t) (6144 + 2 * 1024 + t.val / 2 % 8 * 128) (iblk m c 8 t) := by
  intro y
  idx_vars y
  obtain rfl : y0 = 0 := Subsingleton.elim _ _
  refine (blk8 m c t y1 y2).trans (AttnRef.elt_of (inp m c) (seqOf t) _ _ _ _ rfl ?_)
  show (64 + t.val / 2 % 8) * 128 + y2.val = 6144 + 2 * 1024 + t.val / 2 % 8 * 128 + y2.val
  omega

/-- The result: every row's attention by the kernel's formula. -/
def result (c : Dev nD) : FVec Ideal S8x4096x1024 .bf16 := fun y => Math.kernelAt (inp m c) (y 0) (y 1).val ((y 2).val / 64) ((y 2).val % 64)

/-- The array after the last point is the result: the points' blocks cover it. -/
theorem final (c : Dev nD) : (dats m 0 c).arrAt 9 cfg0.N = result m c := by
  refine (dats m 0 c).arrAt_eq_of_covers 9 _ (by decide +kernel) fun t hf y => ?_
  blk_simp
  have hi : (grid0.coords t 2).val = t.val % 2 := by simp only [idx t]
  rw [after9]
  idx_vars y
  obtain rfl : y0 = 0 := Subsingleton.elim _ _
  have e : ((View.whole main_v0).slice (win0_9.rect t)).emb (ix3 0 y1 y2) = (ix3 (seqOf t) ⟨t.val % 2 * 2048 + y1.val, by omega⟩ ⟨t.val / 2 % 8 * 128 + y2.val, by omega⟩ : S8x4096x1024.Idx) := by
    blk_ext [idx t, seqOf]
  rw [e]
  refine (outBlk_at (grid0.coords t) (holds0 m c t) (holds3 m c t) (holds6 m c t) (holds1 m c t) (holds4 m c t) (holds7 m c t) (holds2 m c t) (holds5 m c t) (holds8 m c t) y1 y2).trans ?_
  have e1 : 2048 * (grid0.coords t 2).val + y1.val = t.val % 2 * 2048 + y1.val := by rw [hi]; omega
  have e2 : t.val / 2 % 8 * 2 + y2.val / 64 = (t.val / 2 % 8 * 128 + y2.val) / 64 := by omega
  have e3 : y2.val % 64 = (t.val / 2 % 8 * 128 + y2.val) % 64 := by omega
  show Math.kernelAt (inp m c) (seqOf t) (2048 * (grid0.coords t 2).val + y1.val) (t.val / 2 % 8 * 2 + y2.val / 64) (y2.val % 64)
    = Math.kernelAt (inp m c) (seqOf t) (t.val % 2 * 2048 + y1.val) ((t.val / 2 % 8 * 128 + y2.val) / 64) ((t.val / 2 % 8 * 128 + y2.val) % 64)
  rw [e1, e2, ← e3]

end Cert.Proof.Attn

end
-- ==== Proof.Attn.Claim.lean ====
/- The attention kernel and its reference leave the same result. -/
module

public import proofs.«01_k».proof.Defs
public import proofs.«01_k».proof.Proof.Gen.ReferenceIdeal.Run
public import proofs.«01_k».proof.Proof.Attn.RefMerge
public import proofs.«01_k».proof.Proof.Attn.Result
public import Idealize.ShloMosaic.Lib.Pipeline.ValueKit

@[expose] public section

set_option maxRecDepth 16384

noncomputable section

namespace Cert.Proof.Attn

open Idealize.ShloMosaic Idealize.ShloMosaic.TcCoe Idealize.ShloMosaic.Tactic Idealize.SL.Sem

/-- What the precondition's function asks of the shapes. -/
instance pre_facts : Cert.Pre_finite_queries_and_keys.Facts where
  slices_S8x4096x9216_S8x4096x6144_0_0_0 := by decide +kernel
  bcast_S_S8x4096x6144 := by decide +kernel

/-- The word of plus infinity. -/
theorem pos_inf : (Ideal.ofBits .f32 0x7F800000#32 : EReal) = ⊤ := by simp [Ideal.ofBits, Ideal.ieee]

/-- An entry whose absolute value is below plus infinity is a real number. -/
theorem real_of_abs (x : Ideal .f32) (h : FloatOps.absf x < (⊤ : EReal)) : ∃ r : ℝ, (x : EReal) = r := by
  have h' : max (x : EReal) (-x) < ⊤ := h
  rw [max_lt_iff] at h'
  exact ⟨(x : EReal).toReal, (EReal.coe_toReal (ne_of_lt h'.1) fun e => by rw [e] at h'; simp at h').symm⟩

/-- The precondition makes every query and key entry a real number. -/
theorem finite_of (A : FVec Ideal ⟨3, ![8, 4096, 9216]⟩ .f32) (h : Cert.Pre_finite_queries_and_keys.fn (F := Ideal) A = fun _ => 1#1) : Math.Finite A := by
  intro b s c hc
  have e := congrFun h (ix3 b (Fin.ofNat 4096 s) (⟨c, hc⟩ : Fin 6144))
  have e' : Cert.Pre_finite_queries_and_keys.fn (F := Ideal) A (ix3 b (Fin.ofNat 4096 s) (⟨c, hc⟩ : Fin 6144))
      = BitVec.ofBool (decide (FloatOps.absf (F := Ideal) (φ := .f32) (A (ix3 b (Fin.ofNat 4096 s) ⟨c, by omega⟩)) < Ideal.ofBits .f32 0x7F800000#32)) := by
    pointwise [Cert.Pre_finite_queries_and_keys.fn]
  rw [e', pos_inf] at e
  have hlt := of_decide_eq_true (p := FloatOps.absf (F := Ideal) (φ := .f32) (A (ix3 b (Fin.ofNat 4096 s) ⟨c, by omega⟩)) < (⊤ : EReal)) (by
    by_contra hf
    rw [Bool.not_eq_true] at hf
    rw [hf] at e
    exact absurd e (by decide))
  obtain ⟨r, hr⟩ := real_of_abs _ hlt
  refine ⟨r, Eq.trans (congrArg (fun j => A (ix3 b (Fin.ofNat 4096 s) j)) ?_) hr⟩
  exact Fin.ext (Nat.mod_eq_of_lt (by omega))

/-- The attention run's result and argument. -/
theorem run_result (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ fun r => ∀ c : Dev Cert.KernelIdeal.nD,
      r.2.mem ((c.tc : Thread Cert.KernelIdeal.nD Cert.KernelIdeal.τ).loc Cert.KernelIdeal.main_v0) = result m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0) :=
  (θ_run Cert.KernelIdeal.defs _ _).mono (fun _ h c => ⟨((h c).1 9).trans (final m c),
      ((h c).1 8).trans (((dats m 0 c).arrAt_in 8 rfl _).trans ((A_eq m c 8).trans (Cert.KernelIdeal.Gen.V_main_arg0 m c)))⟩)
    (run_arrays (F := Ideal) m ρ)

/-- The reference's formula of a device's array is the kernel's, where the queries and keys are real numbers. -/
theorem result_eq (m : (ℓ : Loc Cert.KernelIdeal.nD Cert.KernelIdeal.τ Cert.KernelIdeal.sig) → Buf (Elt Ideal) ℓ) (c : Dev Cert.KernelIdeal.nD) (W : Valuation Cert.ReferenceIdeal.τ Cert.ReferenceIdeal.sig (Elt Ideal))
    (hW : AttnRef.inp W = inp m c) (hA : Math.Finite (inp m c)) : AttnRef.result W = result m c := by
  funext y
  idx_vars y
  refine (AttnRef.result_at W y0 y1 y2).trans ?_
  rw [hW]
  exact (Math.kernelAt_eq (inp m c) hA y0 y1.val (y2.val / 64) (y2.val % 64) (by omega)).symm

/-- `Cert.algebraic_KernelIdeal_ReferenceIdeal_pre_finite_queries_and_keys`: over the extended reals the kernel's attention and the plain one's are equal
    wherever the queries and keys are real numbers, whatever the values are. -/
theorem algebraic : Cert.algebraic_KernelIdeal_ReferenceIdeal_pre_finite_queries_and_keys := by
  intro m ρ m' ρ' hpre hag
  refine ⟨fun c => result m c, run_result m ρ, ?_⟩
  refine (θ_run Cert.ReferenceIdeal.defs _ _).mono (fun _ h c => ⟨(h c).1.trans ?_, (h c).2⟩) (Cert.ReferenceIdeal.Value.run (F := Ideal) m' ρ')
  exact (AttnRef.result_eq _).trans (result_eq m c _ (hag c) (finite_of _ (hpre c)))

end Cert.Proof.Attn

end
-- ==== Proof.Ffn.Pay.lean ====
/- The feed-forward kernel's arithmetic, entry by entry, over the extended reals. -/
module

public import proofs.«01_k».proof.Proof.Gen.Kernel2Ideal.Value
public import Idealize.ShloMosaic.Lib.Pointwise
public import Idealize.ShloMosaic.Lib.Pipeline.ValueKit

@[expose] public section

set_option maxRecDepth 16384

noncomputable section

namespace Cert.Proof.Ffn

open Cert.Kernel2Ideal Cert.Kernel2Ideal.Gen
open Idealize.ShloMosaic Idealize.ShloMosaic.TcCoe Idealize.SL.Sem

/-- One entry of the up-projection of a normalised block. -/
def upAt (hn : FVec Ideal S520x1024 .bf16) (w : FVec Ideal S1024x256 .bf16) (r : Fin 520) (n : Fin 256) : EReal :=
  ∑ k : Fin 1024, hn (ix2 r k) * w (ix2 k n)

/-- One entry of the short convolution down the rows, with its bias. -/
def convAt (hn : FVec Ideal S520x1024 .bf16) (w : FVec Ideal S1024x256 .bf16) (cw : FVec Ideal S3x256 .f32) (cb : FVec Ideal S1x256 .f32)
    (r : Fin 512) (n : Fin 256) : EReal :=
  cb (ix2 0 n) + cw (ix2 0 n) * upAt hn w ⟨r.val + 6, by omega⟩ n + cw (ix2 1 n) * upAt hn w ⟨r.val + 7, by omega⟩ n
    + cw (ix2 2 n) * upAt hn w ⟨r.val + 8, by omega⟩ n

/-- Rolling by `d` rows and dropping the first eight reads `8 - d` rows further down. -/
theorem row_back (r : Fin 512) (d : ℕ) (hd : d ≤ 8) (h) (h') : (⟨(8 + r.val + 520 - d) % 520, h⟩ : Fin 520) = ⟨r.val + (8 - d), h'⟩ := by
  apply Fin.ext
  show (8 + r.val + 520 - d) % 520 = r.val + (8 - d)
  omega

/-- The gate's convolution. -/
theorem pay7_at (hn : FVec Ideal S520x1024 .bf16) (w : FVec Ideal S1024x256 .bf16) (cw : FVec Ideal S3x256 .f32) (cb : FVec Ideal S1x256 .f32)
    (r : Fin 512) (n : Fin 256) : k0_pay7 (F := Ideal) hn w cw cb (ix2 r n) = convAt hn w cw cb r n := by
  pointwise [k0_pay7]
  unfold convAt upAt
  rw [row_back r 2 (by omega) _ (by omega), row_back r 1 (by omega) _ (by omega), show (⟨8 + r.val, by omega⟩ : Fin 520) = ⟨r.val + 8, by omega⟩ from Fin.ext (Nat.add_comm _ _)]

/-- The logistic gate times the value, one entry. -/
def actAt (g v : EReal) : EReal := g * Ideal.logistic g * v

/-- What a point adds to the accumulator, one entry: its 256 hidden units through the down-projection. -/
def partAt (hn : FVec Ideal S520x1024 .bf16) (wg wv : FVec Ideal S1024x256 .bf16) (cwg cwv : FVec Ideal S3x256 .f32) (cbg cbv : FVec Ideal S1x256 .f32)
    (wd : FVec Ideal S256x1024 .bf16) (r : Fin 512) (j : Fin 1024) : EReal :=
  ∑ n : Fin 256, actAt (convAt hn wg cwg cbg r n) (convAt hn wv cwv cbv r n) * wd (ix2 n j)

/-- The accumulating payload, one entry. -/
theorem pay1_at (v25 : FVec Ideal S512x256 .f32) (hn : FVec Ideal S520x1024 .bf16) (w : FVec Ideal S1024x256 .bf16) (cw : FVec Ideal S3x256 .f32) (cb : FVec Ideal S1x256 .f32)
   (acc : FVec Ideal S512x1024 .f32) (wd : FVec Ideal S256x1024 .bf16) (r : Fin 512) (j : Fin 1024) :
    k0_pay1 (F := Ideal) v25 (k0_pay8 hn w) cw (k0_pay9 hn w cw) (k0_pay10 cb) acc wd (ix2 r j)
      = acc (ix2 r j) + ∑ n : Fin 256, actAt (v25 (ix2 r n)) (convAt hn w cw cb r n) * wd (ix2 n j) := by
  pointwise [k0_pay1, k0_pay8, k0_pay9, k0_pay10]
  unfold convAt upAt actAt
  simp only [row_back r 2 (by omega) _ (by omega), row_back r 1 (by omega) _ (by omega), show (⟨8 + r.val, by omega⟩ : Fin 520) = ⟨r.val + 8, by omega⟩ from Fin.ext (Nat.add_comm _ _)]

/-- A row normalised by its root mean square and scaled by the gain, one entry. -/
def nrmAt (x g : Fin 1024 → EReal) (j : Fin 1024) : EReal :=
  x j * Ideal.rsqrt (Ideal.div (∑ k : Fin 1024, x k * x k) (Ideal.ofBits .f32 1149239296#32) + Ideal.ofBits .f32 897988541#32) * g j

/-- The factor on the halo rows: zero at the first tile of a sequence of eight, one elsewhere. -/
theorem keep_at : ∀ i : Fin 64, (Scalar.extui
              (Scalar.cmpi CmpIPredicate.ne
                (Scalar.select
                  (Scalar.andi
                    (Scalar.xori
                      (Scalar.cmpi CmpIPredicate.slt
                        (Scalar.remsi (BitVec.ofNat 32 i.val) (Scalar.select (Scalar.cmpi CmpIPredicate.eq 8#32 0#32) 1#32 8#32)) 0#32)
                      (Scalar.cmpi CmpIPredicate.slt (Scalar.select (Scalar.cmpi CmpIPredicate.eq 8#32 0#32) 1#32 8#32)
                        0#32))
                    (Scalar.cmpi CmpIPredicate.ne
                      (Scalar.remsi (BitVec.ofNat 32 i.val) (Scalar.select (Scalar.cmpi CmpIPredicate.eq 8#32 0#32) 1#32 8#32)) 0#32))
                  (Scalar.addi (Scalar.remsi (BitVec.ofNat 32 i.val) (Scalar.select (Scalar.cmpi CmpIPredicate.eq 8#32 0#32) 1#32 8#32))
                    (Scalar.select (Scalar.cmpi CmpIPredicate.eq 8#32 0#32) 1#32 8#32))
                  (Scalar.remsi (BitVec.ofNat 32 i.val) (Scalar.select (Scalar.cmpi CmpIPredicate.eq 8#32 0#32) 1#32 8#32)))
                0#32) : BitVec 32).toInt = if i.val % 8 = 0 then 0 else 1 := by
  decide +kernel

/-- The halo rows: normalised, and zero at the start of a sequence. -/
theorem pay3_at (i : Fin 64) (x : FVec Ideal S8x1024 .f32) (g : FVec Ideal S1x1024 .f32) (r : Fin 8) (j : Fin 1024) :
    k0_pay3 (F := Ideal) (BitVec.ofNat 32 i.val) x g (ix2 r j) = if i.val % 8 = 0 then 0 else nrmAt (fun k => x (ix2 r k)) (fun k => g (ix2 0 k)) j := by
  pointwise [k0_pay3]
  rw [keep_at i]
  unfold nrmAt
  split
  · simp
  · simp

/-- The tile's own rows: normalised. -/
theorem pay5_at (x : FVec Ideal S512x1024 .f32) (g : FVec Ideal S1x1024 .f32) (r : Fin 512) (j : Fin 1024) :
    k0_pay5 (F := Ideal) x (k0_pay4 x) g (ix2 r j) = nrmAt (fun k => x (ix2 r k)) (fun k => g (ix2 0 k)) j := by
  pointwise [k0_pay4, k0_pay5]
  rfl

/-- The accumulator's fill is zero. -/
theorem pay6_at (r : Fin 512) (j : Fin 1024) : k0_pay6 (F := Ideal) (ix2 r j) = 0 := by
  pointwise [k0_pay6]

/-- The result payload, one entry. -/
theorem pay2_at (x acc : FVec Ideal S512x1024 .f32) (r : Fin 512) (j : Fin 1024) : k0_pay2 (F := Ideal) x acc (ix2 r j) = x (ix2 r j) + acc (ix2 r j) := by
  pointwise [k0_pay2]

end Cert.Proof.Ffn

end
-- ==== Proof.Ffn.Step.lean ====
/- What each grid point of the feed-forward kernel leaves in its scratches and its output block. -/
module

public import proofs.«01_k».proof.Proof.Gen.Kernel2Ideal.Value
public import proofs.«01_k».proof.Proof.Ffn.Pay
public import Idealize.ShloMosaic.Lib.Pipeline.ValueKit
public import Idealize.ShloMosaic.Lib.Pipeline.ReadBack

@[expose] public section

set_option maxRecDepth 16384

noncomputable section

namespace Cert.Proof.Ffn

open Cert.Kernel2Ideal Cert.Kernel2Ideal.Gen
open Idealize.ShloMosaic Idealize.ShloMosaic.TcCoe Idealize.SL.Sem

variable (m : (ℓ : Loc nD τ sig) → Buf (Elt Ideal) ℓ)

/-- The block each window takes at each point: the tile `t / 11`, its halo eight rows above, the hidden tile `t % 11`. -/
theorem idx : ∀ t : Fin cfg0.N, win0_0.index t = ![t.val / 11, 0] ∧ win0_1.index t = ![t.val / 11 * 64 - 1, 0] ∧ win0_2.index t = ![0, 0]
    ∧ win0_3.index t = ![0, t.val % 11] ∧ win0_4.index t = ![0, 11 + t.val % 11] ∧ win0_5.index t = ![0, t.val % 11] ∧ win0_6.index t = ![0, 11 + t.val % 11]
    ∧ win0_7.index t = ![0, t.val % 11] ∧ win0_8.index t = ![0, 11 + t.val % 11] ∧ win0_9.index t = ![t.val % 11, 0] ∧ win0_10.index t = ![t.val / 11, 0]
    ∧ (grid0.coords t 0).val = t.val / 11 :=
  (by decide +kernel : ∀ t : Fin grid0.N, _)

/-- The normalised rows a tile works on: its own 512 and the eight above, those zero at the start of a sequence. -/
def hnAt (X : FVec Ideal S32768x1024 .f32) (g : FVec Ideal S1x1024 .f32) (i : ℕ) (hi : i < 64) : FVec Ideal S520x1024 .bf16 := fun y =>
  if h : (y 0).val < 8 then
    if i % 8 = 0 then 0 else nrmAt (fun k => X (ix2 ⟨(i * 64 - 1) * 8 + (y 0).val, by omega⟩ k)) (fun k => g (ix2 0 k)) (y 1)
  else nrmAt (fun k => X (ix2 ⟨i * 512 + ((y 0).val - 8), by have h' : (y 0).val < 520 := (y 0).isLt; omega⟩ k)) (fun k => g (ix2 0 k)) (y 1)

/-- There are 64 tiles. -/
theorem tile_lt (t : Fin cfg0.N) : t.val / 11 < 64 := by
  have h := lt_of_lt_of_eq t.isLt (show cfg0.N = 704 from N_0)
  omega

/-- Each window's block, entry by entry, off its array. -/
theorem blk0 (c : Dev nD) (t : Fin cfg0.N) (r : Fin 512) (k : Fin 1024) :
    (show FVec Ideal S512x1024 .f32 from iblk m c 0 t) (ix2 r k) = m ((c : Thread nD τ).loc main_arg0) (ix2 ⟨t.val / 11 * 512 + r.val, by have := tile_lt t; omega⟩ k) := by
  blk_ext [iblk, V, idx t]
@[inherit_doc blk0] theorem blk1 (c : Dev nD) (t : Fin cfg0.N) (r : Fin 8) (k : Fin 1024) :
    (show FVec Ideal S8x1024 .f32 from iblk m c 1 t) (ix2 r k) = m ((c : Thread nD τ).loc main_arg0) (ix2 ⟨(t.val / 11 * 64 - 1) * 8 + r.val, by have := tile_lt t; omega⟩ k) := by
  blk_ext [iblk, V, idx t]
@[inherit_doc blk0] theorem blk2 (c : Dev nD) (t : Fin cfg0.N) (k : Fin 1024) :
    (show FVec Ideal S1x1024 .f32 from iblk m c 2 t) (ix2 0 k) = m ((c : Thread nD τ).loc main_arg1) (ix2 0 k) := by
  blk_ext [iblk, V, idx t]
@[inherit_doc blk0] theorem blk3 (c : Dev nD) (t : Fin cfg0.N) (r : Fin 1024) (n : Fin 256) :
    (show FVec Ideal S1024x256 .bf16 from iblk m c 3 t) (ix2 r n) = m ((c : Thread nD τ).loc main_arg2) (ix2 r ⟨t.val % 11 * 256 + n.val, by have := Nat.mod_lt t.val (show 0 < 11 by decide); omega⟩) := by
  blk_ext [iblk, V, idx t]
@[inherit_doc blk0] theorem blk4 (c : Dev nD) (t : Fin cfg0.N) (r : Fin 1024) (n : Fin 256) :
    (show FVec Ideal S1024x256 .bf16 from iblk m c 4 t) (ix2 r n) = m ((c : Thread nD τ).loc main_arg2) (ix2 r ⟨2816 + (t.val % 11 * 256 + n.val), by have := Nat.mod_lt t.val (show 0 < 11 by decide); omega⟩) := by
  blk_ext [iblk, V, idx t]
@[inherit_doc blk0] theorem blk5 (c : Dev nD) (t : Fin cfg0.N) (r : Fin 3) (n : Fin 256) :
    (show FVec Ideal S3x256 .f32 from iblk m c 5 t) (ix2 r n) = m ((c : Thread nD τ).loc main_arg3) (ix2 r ⟨t.val % 11 * 256 + n.val, by have := Nat.mod_lt t.val (show 0 < 11 by decide); omega⟩) := by
  blk_ext [iblk, V, idx t]
@[inherit_doc blk0] theorem blk6 (c : Dev nD) (t : Fin cfg0.N) (r : Fin 3) (n : Fin 256) :
    (show FVec Ideal S3x256 .f32 from iblk m c 6 t) (ix2 r n) = m ((c : Thread nD τ).loc main_arg3) (ix2 r ⟨2816 + (t.val % 11 * 256 + n.val), by have := Nat.mod_lt t.val (show 0 < 11 by decide); omega⟩) := by
  blk_ext [iblk, V, idx t]
@[inherit_doc blk0] theorem blk7 (c : Dev nD) (t : Fin cfg0.N) (r : Fin 1) (n : Fin 256) :
    (show FVec Ideal S1x256 .f32 from iblk m c 7 t) (ix2 r n) = m ((c : Thread nD τ).loc main_arg4) (ix2 r ⟨t.val % 11 * 256 + n.val, by have := Nat.mod_lt t.val (show 0 < 11 by decide); omega⟩) := by
  blk_ext [iblk, V, idx t]
@[inherit_doc blk0] theorem blk8 (c : Dev nD) (t : Fin cfg0.N) (r : Fin 1) (n : Fin 256) :
    (show FVec Ideal S1x256 .f32 from iblk m c 8 t) (ix2 r n) = m ((c : Thread nD τ).loc main_arg4) (ix2 r ⟨2816 + (t.val % 11 * 256 + n.val), by have := Nat.mod_lt t.val (show 0 < 11 by decide); omega⟩) := by
  blk_ext [iblk, V, idx t]
@[inherit_doc blk0] theorem blk9 (c : Dev nD) (t : Fin cfg0.N) (n : Fin 256) (j : Fin 1024) :
    (show FVec Ideal S256x1024 .bf16 from iblk m c 9 t) (ix2 n j) = m ((c : Thread nD τ).loc main_arg5) (ix2 ⟨t.val % 11 * 256 + n.val, by have := Nat.mod_lt t.val (show 0 < 11 by decide); omega⟩ j) := by
  blk_ext [iblk, V, idx t]

/-- The two stores of the first point of a tile fill the scratch with the tile's normalised rows. -/
theorem canon_hn (c : Dev nD) (t : Fin cfg0.N) (y : S520x1024.Idx) :
    View.canon (Val := Elt Ideal) (s := S520x1024) (e := .bf16)
      [⟨Rect.unit ![8, 0] ![512, 1024] inb_S520x1024_S512x1024_8_0,
          k0_pay5 (F := Ideal) (iblk m c 0 t) (k0_pay4 (iblk m c 0 t)) (iblk m c 2 t)⟩,
        ⟨Rect.unit ![0, 0] ![8, 1024] inb_S520x1024_S8x1024_0_0,
          k0_pay3 (F := Ideal) (BitVec.ofNat 32 (grid0.coords t 0).val) (iblk m c 1 t) (iblk m c 2 t)⟩]
      y = hnAt (m ((c : Thread nD τ).loc main_arg0)) (m ((c : Thread nD τ).loc main_arg1)) (t.val / 11) (tile_lt t) y := by
  have hi := tile_lt t
  canon_tiles x h using (View.cover_of_tiledBy _ ![8, 1024] (by sl_kernel_rfl) y)
  · idx_vars x
    rw [pay5_at]
    rw [show y = ix2 (⟨8 + x0.val, Nat.add_lt_add_left x0.isLt 8⟩ : Fin 520) x1 by blk_ext []]
    simp only [blk0, blk2]
    have hv : ((ix2 (⟨8 + x0.val, by omega⟩ : Fin 520) x1 : S520x1024.Idx) 0).val = 8 + x0.val := rfl
    unfold hnAt
    rw [dif_neg (by omega)]
    congr 1
    funext k
    congr 2
    apply Fin.ext
    show t.val / 11 * 512 + x0.val = t.val / 11 * 512 + (8 + x0.val - 8)
    omega
  · idx_vars x
    rw [show y = ix2 (⟨x0.val, x0.isLt.trans (by decide)⟩ : Fin 520) x1 by blk_ext []]
    have hv : ((ix2 (⟨x0.val, by omega⟩ : Fin 520) x1 : S520x1024.Idx) 0).val = x0.val := rfl
    refine (pay3_at (grid0.coords t 0) _ _ _ _).trans ?_
    rw [(idx t).2.2.2.2.2.2.2.2.2.2.2]
    simp only [blk1, blk2]
    unfold hnAt
    rw [dif_pos (by omega)]
    rfl

/-- The first point of a tile fills the first scratch. -/
theorem hn_first (c : Dev nD) (t : Fin cfg0.N) (h0 : t.val % 11 = 0) :
    (outsAt0 m c t.val t.isLt).2.1 = hnAt (m ((c : Thread nD τ).loc main_arg0)) (m ((c : Thread nD τ).loc main_arg1)) (t.val / 11) (tile_lt t) := by
  funext y
  rw [outsAt0_A m c t h0 (by omega)]
  frame_out
  exact canon_hn m c t y

/-- Later points leave it alone. -/
theorem hn_next (c : Dev nD) (t : Fin cfg0.N) (h0 : ¬ t.val % 11 = 0) : (outsAt0 m c t.val t.isLt).2.1 = (outsAt0 m c (t.val - 1) (by omega)).2.1 := by
  by_cases h1 : t.val % 11 = 10
  · rw [outsAt0_C m c t h0 h1]; rfl
  · rw [outsAt0_B m c t h0 h1]; rfl

/-- At every point the first scratch holds the tile's normalised rows. -/
theorem hn_all (c : Dev nD) : ∀ (j : ℕ) (t : Fin cfg0.N), t.val % 11 = j →
    (outsAt0 m c t.val t.isLt).2.1 = hnAt (m ((c : Thread nD τ).loc main_arg0)) (m ((c : Thread nD τ).loc main_arg1)) (t.val / 11) (tile_lt t) := by
  intro j
  induction j with
  | zero => exact fun t h => hn_first m c t h
  | succ j ih =>
    intro t h
    rw [hn_next m c t (by omega), ih ⟨t.val - 1, by omega⟩ (by show (t.val - 1) % 11 = j; omega)]
    congr 1
    show (t.val - 1) / 11 = t.val / 11
    omega

/-- What point `t` adds at each entry. -/
def part (c : Dev nD) (t : Fin cfg0.N) (y : S512x1024.Idx) : EReal :=
  partAt (hnAt (m ((c : Thread nD τ).loc main_arg0)) (m ((c : Thread nD τ).loc main_arg1)) (t.val / 11) (tile_lt t)) (iblk m c 3 t) (iblk m c 4 t) (iblk m c 5 t) (iblk m c 6 t) (iblk m c 7 t) (iblk m c 8 t) (iblk m c 9 t) (y 0) (y 1)

/-- The accumulating payload adds the point's part. -/
theorem pay_part (hn : FVec Ideal S520x1024 .bf16) (wg wv : FVec Ideal S1024x256 .bf16) (cwg cwv : FVec Ideal S3x256 .f32) (cbg cbv : FVec Ideal S1x256 .f32)
    (wd : FVec Ideal S256x1024 .bf16) (acc : FVec Ideal S512x1024 .f32) (y : S512x1024.Idx) :
    k0_pay1 (F := Ideal) (k0_pay7 hn wg cwg cbg) (k0_pay8 hn wv) cwv (k0_pay9 hn wv cwv) (k0_pay10 cbv) acc wd y
      = acc y + partAt hn wg wv cwg cwv cbg cbv wd (y 0) (y 1) := by
  idx_vars y
  rw [pay1_at]
  unfold partAt
  simp only [pay7_at]

/-- The scratch read whole after stores that fill it reads what they left. -/
theorem read_whole (L : List (View.Piece (Elt Ideal) S520x1024 .bf16)) (H : FVec Ideal S520x1024 .bf16) (h : ∀ y, View.canon L y = H y) (inb) :
    (View.whole cc0_scratch0 : View sig .tc .vmem S520x1024 .bf16).readCov L (Rect.unit (s := S520x1024) ![0, 0] ![520, 1024] inb).toLoadRect = H := by
  rw [View.readCov_eq_canon', show View.canon L = H from funext h]
  exact View.ld_unit_lit (Val := Elt Ideal) (S := S520x1024) (e := .bf16) inb H (by decide)

/-- The first point leaves its own part in the accumulator. -/
theorem acc_first (c : Dev nD) (t : Fin cfg0.N) (h0 : t.val % 11 = 0) (y : S512x1024.Idx) : (outsAt0 m c t.val t.isLt).2.2 y = 0 + part m c t y := by
  rw [outsAt0_A m c t h0 (by omega)]
  frame_out
  rw [read_whole _ _ (canon_hn m c t), pay_part]
  idx_vars y
  rw [pay6_at]
  rfl

/-- Later points add theirs. -/
theorem acc_next (c : Dev nD) (t : Fin cfg0.N) (h0 : ¬ t.val % 11 = 0) (y : S512x1024.Idx) :
    (outsAt0 m c t.val t.isLt).2.2 y = (outsAt0 m c (t.val - 1) (by omega)).2.2 y + part m c t y := by
  have e := (hn_next m c t h0).symm.trans (hn_all m c _ t rfl)
  by_cases h1 : t.val % 11 = 10
  · rw [outsAt0_C m c t h0 h1]
    frame_out
    rw [read_unread_whole, read_unread_whole, pay_part, e]
    rfl
  · rw [outsAt0_B m c t h0 h1]
    frame_out
    rw [read_unread_whole, read_unread_whole, pay_part, e]
    rfl

/-- The last point's output block: the rows themselves plus the accumulator. -/
theorem out_last (c : Dev nD) (t : Fin cfg0.N) (h1 : t.val % 11 = 10) (y : S512x1024.Idx) :
    (outsAt0 m c t.val t.isLt).1 y = (show FVec Ideal S512x1024 .f32 from iblk m c 0 t) y + (outsAt0 m c t.val t.isLt).2.2 y := by
  rw [outsAt0_C m c t (by omega) h1]
  frame_out
  idx_vars y
  rw [pay2_at]

end Cert.Proof.Ffn

end
-- ==== Proof.Ffn.Formula.lean ====
/- The feed-forward sublayer as one formula per entry, and the reference's result as that formula. -/
module

public import proofs.«01_k».proof.Proof.Gen.Reference2Ideal.Run
public import proofs.«01_k».proof.Proof.Ffn.Step
public import Idealize.ShloMosaic.Lib.Pipeline.ValueKit
public import Idealize.ShloMosaic.Lib.Pointwise

@[expose] public section

set_option maxRecDepth 16384

noncomputable section

namespace Cert.Proof.Ffn

open Cert.Reference2Ideal Cert.Reference2Ideal.Gen
open Idealize.ShloMosaic Idealize.ShloMosaic.TcCoe Idealize.SL.Sem

/-- One entry of the up-projection of the normalised rows. -/
def upG (X : FVec Ideal S32768x1024 .f32) (g : FVec Ideal S1x1024 .f32) (W : FVec Ideal S1024x5632 .bf16) (R : Fin 32768) (n : Fin 5632) : EReal :=
  ∑ k : Fin 1024, nrmAt (fun k => X (ix2 R k)) (fun k => g (ix2 0 k)) k * W (ix2 k n)

/-- The up-projection `d` rows earlier in the same sequence of 4096, zero before its start. -/
def tapG (X : FVec Ideal S32768x1024 .f32) (g : FVec Ideal S1x1024 .f32) (W : FVec Ideal S1024x5632 .bf16) (R : Fin 32768) (d : ℕ) (n : Fin 5632) : EReal :=
  if R.val % 4096 < d then 0 else upG X g W ⟨R.val - d, by omega⟩ n

/-- The causal convolution of width three, one entry. -/
def convG (X : FVec Ideal S32768x1024 .f32) (g : FVec Ideal S1x1024 .f32) (W : FVec Ideal S1024x5632 .bf16) (cw : FVec Ideal S3x5632 .f32) (cb : FVec Ideal S1x5632 .f32)
    (R : Fin 32768) (n : Fin 5632) : EReal :=
  cb (ix2 0 n) + cw (ix2 0 n) * tapG X g W R 2 n + cw (ix2 1 n) * tapG X g W R 1 n + cw (ix2 2 n) * tapG X g W R 0 n

/-- The sublayer: the row itself plus the gated hidden units through the down-projection. -/
def outG (X : FVec Ideal S32768x1024 .f32) (g : FVec Ideal S1x1024 .f32) (W : FVec Ideal S1024x5632 .bf16) (cw : FVec Ideal S3x5632 .f32) (cb : FVec Ideal S1x5632 .f32)
    (wd : FVec Ideal S2816x1024 .bf16) : FVec Ideal S32768x1024 .f32 := fun y =>
  X (ix2 (y 0) (y 1)) + ∑ n : Fin 2816, actAt (convG X g W cw cb (y 0) ⟨n.val, by omega⟩) (convG X g W cw cb (y 0) ⟨2816 + n.val, by omega⟩) * wd (ix2 n (y 1))

open Idealize.ShloMosaic.Host in
/-- The reference's up-projection of the normalised rows. -/
def refUp (X : FVec Ideal S32768x1024 .f32) (g : FVec Ideal S1x1024 .f32) (W : FVec Ideal S1024x5632 .bf16) : FVec Ideal S8x4096x5632 .f32 :=
  Host.dotGeneral dot_S8x4096x1024_S1024x5632_S8x4096x5632_2_0_01_1_n_n none (mulf (mulf (shapeCast _ X shapeCasts_S32768x1024_S8x4096x1024) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (shapeCast _ X shapeCasts_S32768x1024_S8x4096x1024) (shapeCast _ X shapeCasts_S32768x1024_S8x4096x1024)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ g shapeCasts_S1x1024_S1024)))) (extf .f32 W bitsLt_bf16_f32)

/-- The same with two zero rows before each sequence. -/
def refPad (X : FVec Ideal S32768x1024 .f32) (g : FVec Ideal S1x1024 .f32) (W : FVec Ideal S1024x5632 .bf16) : FVec Ideal S8x4098x5632 .f32 :=
  pad S8x4098x5632 ![0, 2, 0] ![0, 0, 0] ![0, 0, 0] (refUp X g W) (sitofp .f32 (constantI S_ 32 0#32)) pads_S8x4096x5632_S8x4098x5632_000_200_000 h_S_

/-- The reference's convolution. -/
def refConv (X : FVec Ideal S32768x1024 .f32) (g : FVec Ideal S1x1024 .f32) (W : FVec Ideal S1024x5632 .bf16) (K : FVec Ideal S3x5632 .f32) (b : FVec Ideal S1x5632 .f32) : FVec Ideal S8x4096x5632 .f32 :=
  addf (broadcastInDim S8x4096x5632 ![0, 1, 2] bcast_S1x1x5632_S8x4096x5632_0_1_2 (broadcastInDim S1x1x5632 ![2] bcast_S5632_S1x1x5632_2 (shapeCast _ b shapeCasts_S1x5632_S5632))) (addf (addf (addf (broadcastInDim S8x4096x5632 ![] bcast_S_S8x4096x5632 (constant S_ .f32 0x00000000#32)) (mulf (broadcastInDim S8x4096x5632 ![0, 1, 2] bcast_S1x1x5632_S8x4096x5632_0_1_2 (broadcastInDim S1x1x5632 ![2] bcast_S5632_S1x1x5632_2 (shapeCast _ (extractStridedSlice S1x5632 ![0, 0] K slices_S3x5632_S1x5632_0_0) shapeCasts_S1x5632_S5632))) (extractStridedSlice S8x4096x5632 ![0, 0, 0] (refPad X g W) slices_S8x4098x5632_S8x4096x5632_0_0_0))) (mulf (broadcastInDim S8x4096x5632 ![0, 1, 2] bcast_S1x1x5632_S8x4096x5632_0_1_2 (broadcastInDim S1x1x5632 ![2] bcast_S5632_S1x1x5632_2 (shapeCast _ (extractStridedSlice S1x5632 ![1, 0] K slices_S3x5632_S1x5632_1_0) shapeCasts_S1x5632_S5632))) (extractStridedSlice S8x4096x5632 ![0, 1, 0] (refPad X g W) slices_S8x4098x5632_S8x4096x5632_0_1_0))) (mulf (broadcastInDim S8x4096x5632 ![0, 1, 2] bcast_S1x1x5632_S8x4096x5632_0_1_2 (broadcastInDim S1x1x5632 ![2] bcast_S5632_S1x1x5632_2 (shapeCast _ (extractStridedSlice S1x5632 ![2, 0] K slices_S3x5632_S1x5632_2_0) shapeCasts_S1x5632_S5632))) (extractStridedSlice S8x4096x5632 ![0, 2, 0] (refPad X g W) slices_S8x4098x5632_S8x4096x5632_0_2_0)))

/-- The reference's gated hidden units. -/
def refAct (X : FVec Ideal S32768x1024 .f32) (g : FVec Ideal S1x1024 .f32) (W : FVec Ideal S1024x5632 .bf16) (K : FVec Ideal S3x5632 .f32) (b : FVec Ideal S1x5632 .f32) : FVec Ideal S8x4096x2816 .f32 :=
  mulf (mulf (extractStridedSlice S8x4096x2816 ![0, 0, 0] (refConv X g W K b) slices_S8x4096x5632_S8x4096x2816_0_0_0) (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf (extractStridedSlice S8x4096x2816 ![0, 0, 0] (refConv X g W K b) slices_S8x4096x5632_S8x4096x2816_0_0_0)))))) (extractStridedSlice S8x4096x2816 ![0, 0, 2816] (refConv X g W K b) slices_S8x4096x5632_S8x4096x2816_0_0_2816)

/-- The reference's whole result. -/
def refOut (X : FVec Ideal S32768x1024 .f32) (g : FVec Ideal S1x1024 .f32) (W : FVec Ideal S1024x5632 .bf16) (K : FVec Ideal S3x5632 .f32) (b : FVec Ideal S1x5632 .f32) (D : FVec Ideal S2816x1024 .bf16) : FVec Ideal S32768x1024 .f32 :=
  shapeCast _ (addf (shapeCast _ X shapeCasts_S32768x1024_S8x4096x1024) (Host.dotGeneral dot_S8x4096x2816_S2816x1024_S8x4096x1024_2_0_01_1_n_n none (refAct X g W K b) (extf .f32 D bitsLt_bf16_f32))) shapeCasts_S8x4096x1024_S32768x1024

/-- A position `(b, s)` of the sequences as one of the rows. -/
abbrev row (b : Fin 8) (s : Fin 4096) : Fin 32768 := ⟨b.val * 4096 + s.val, by omega⟩

/-- The reference's up-projection, entry by entry. -/
theorem refUp_at (X : FVec Ideal S32768x1024 .f32) (g : FVec Ideal S1x1024 .f32) (W : FVec Ideal S1024x5632 .bf16) (b : Fin 8) (s : Fin 4096) (n : Fin 5632) : refUp X g W (ix3 b s n) = upG X g W (row b s) n := by
  pointwise [refUp]
  unfold upG nrmAt
  rfl

/-- The padded projection, entry by entry. -/
theorem refPad_at (X : FVec Ideal S32768x1024 .f32) (g : FVec Ideal S1x1024 .f32) (W : FVec Ideal S1024x5632 .bf16) (b : Fin 8) (s : Fin 4098) (n : Fin 5632) : refPad X g W (ix3 b s n) = if h : s.val < 2 then 0 else upG X g W (row b ⟨s.val - 2, by omega⟩) n := by
  pointwise [refPad]
  by_cases h : s.val < 2
  · rw [dif_neg (by omega), dif_pos h]
    simp [FloatOps.sitofp]
  · rw [dif_pos (by omega), dif_neg h, refUp_at]

/-- A tap of the padded projection is the projection that many rows earlier. -/
theorem tap_eq (X : FVec Ideal S32768x1024 .f32) (g : FVec Ideal S1x1024 .f32) (W : FVec Ideal S1024x5632 .bf16) (b : Fin 8) (s : Fin 4096) (n : Fin 5632)
    (d : ℕ) (hd : d ≤ 2) (q : Fin 4098) (hq : q.val = 2 - d + s.val) :
    (if h : q.val < 2 then 0 else upG X g W (row b ⟨q.val - 2, by omega⟩) n) = tapG X g W (row b s) d n := by
  have hm : (row b s).val % 4096 = s.val := by show (b.val * 4096 + s.val) % 4096 = s.val; omega
  unfold tapG
  by_cases h : q.val < 2
  · rw [dif_pos h, if_pos (by omega)]
  · rw [dif_neg h, if_neg (by omega)]
    congr 1
    apply Fin.ext
    show b.val * 4096 + (q.val - 2) = b.val * 4096 + s.val - d
    omega

/-- The reference's convolution, entry by entry. -/
theorem refConv_at (X : FVec Ideal S32768x1024 .f32) (g : FVec Ideal S1x1024 .f32) (W : FVec Ideal S1024x5632 .bf16) (K : FVec Ideal S3x5632 .f32) (b' : FVec Ideal S1x5632 .f32) (b : Fin 8) (s : Fin 4096) (n : Fin 5632) : refConv X g W K b' (ix3 b s n) = convG X g W K b' (row b s) n := by
  pointwise [refConv]
  rw [refPad_at, refPad_at, refPad_at]
  unfold convG
  rw [tap_eq X g W b s n 2 (by omega) ⟨s.val, by omega⟩ (by simp; try omega), tap_eq X g W b s n 1 (by omega) ⟨1 + s.val, by omega⟩ (by simp; try omega), tap_eq X g W b s n 0 (by omega) ⟨2 + s.val, by omega⟩ (by simp; try omega)]
  simp only [add_assoc]

/-- The reference's hidden units, entry by entry. -/
theorem refAct_at (X : FVec Ideal S32768x1024 .f32) (g : FVec Ideal S1x1024 .f32) (W : FVec Ideal S1024x5632 .bf16) (K : FVec Ideal S3x5632 .f32) (b' : FVec Ideal S1x5632 .f32) (b : Fin 8) (s : Fin 4096) (n : Fin 2816) : refAct X g W K b' (ix3 b s n) = actAt (convG X g W K b' (row b s) ⟨n.val, by omega⟩) (convG X g W K b' (row b s) ⟨2816 + n.val, by omega⟩) := by
  pointwise [refAct]
  rw [refConv_at, refConv_at]
  rfl

/-- The reference's result is the formula. -/
theorem refOut_eq (X : FVec Ideal S32768x1024 .f32) (g : FVec Ideal S1x1024 .f32) (W : FVec Ideal S1024x5632 .bf16) (K : FVec Ideal S3x5632 .f32) (b : FVec Ideal S1x5632 .f32) (D : FVec Ideal S2816x1024 .bf16) : refOut X g W K b D = outG X g W K b D := by
  funext y
  idx_vars y
  pointwise [refOut]
  have h : row ⟨y0.val / 4096, by omega⟩ ⟨y0.val % 4096, by omega⟩ = y0 := Fin.ext (by show y0.val / 4096 * 4096 + y0.val % 4096 = y0.val; omega)
  simp only [refAct_at, h]
  rfl

variable (m : (ℓ : Loc nD τ sig) → Buf (Elt Ideal) ℓ)

/-- What the reference's run leaves is the formula of the arguments. -/
theorem reference_eq (c : Dev nD) : Value.res_main_v51 m c = outG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine Eq.trans ?_ (refOut_eq _ _ _ _ _ _)
  rfl

end Cert.Proof.Ffn

end
-- ==== Proof.Ffn.Result.lean ====
/- The feed-forward kernel's result array is the formula of its arguments. -/
module

public import proofs.«01_k».proof.Proof.Gen.Kernel2Ideal.Value
public import proofs.«01_k».proof.Proof.Ffn.Step
public import proofs.«01_k».proof.Proof.Ffn.Formula
public import Idealize.ShloMosaic.Lib.Pipeline.ValueKit

@[expose] public section

set_option maxRecDepth 16384

noncomputable section

namespace Cert.Proof.Ffn

open Cert.Kernel2Ideal Cert.Kernel2Ideal.Gen
open Idealize.ShloMosaic Idealize.ShloMosaic.TcCoe Idealize.SL.Sem

/-- Row `r` of tile `i`, among all rows. -/
abbrev tileRow (i : ℕ) (hi : i < 64) (r : Fin 512) : Fin 32768 := ⟨i * 512 + r.val, by omega⟩

/-- A row of the tile's up-projection, `d` rows back, is the whole projection's tap: the halo's zero rows give zero. -/
theorem up_tap (X : FVec Ideal S32768x1024 .f32) (g : FVec Ideal S1x1024 .f32) (W : FVec Ideal S1024x5632 .bf16) (i : ℕ) (hi : i < 64)
    (w : FVec Ideal S1024x256 .bf16) (n : Fin 256) (N : Fin 5632) (hw : ∀ k, w (ix2 k n) = W (ix2 k N)) (r : Fin 512) (d : ℕ) (hd : d ≤ 2)
    (q : Fin 520) (hq : q.val = r.val + (8 - d)) : upAt (hnAt X g i hi) w q n = tapG X g W (tileRow i hi r) d N := by
  unfold upAt tapG upG
  have hm : (tileRow i hi r).val = i * 512 + r.val := rfl
  by_cases h : (tileRow i hi r).val % 4096 < d
  · rw [if_pos h]
    refine Finset.sum_eq_zero fun k _ => ?_
    have h8 : ((ix2 q k : S520x1024.Idx) 0).val < 8 := by show q.val < 8; omega
    unfold hnAt
    rw [dif_pos h8, if_pos (by omega), zero_mul]
  · rw [if_neg h]
    refine Finset.sum_congr rfl fun k _ => ?_
    rw [hw]
    congr 1
    unfold hnAt
    by_cases h8 : q.val < 8
    · rw [dif_pos (show ((ix2 q k : S520x1024.Idx) 0).val < 8 from h8), if_neg (by omega)]
      congr 1
      funext k
      congr 2
      apply Fin.ext
      show (i * 64 - 1) * 8 + q.val = i * 512 + r.val - d
      omega
    · rw [dif_neg (show ¬ ((ix2 q k : S520x1024.Idx) 0).val < 8 from h8)]
      congr 1
      funext k
      congr 2
      apply Fin.ext
      show i * 512 + (q.val - 8) = i * 512 + r.val - d
      omega

/-- The tile's convolution is the whole convolution at the tile's rows. -/
theorem conv_tap (X : FVec Ideal S32768x1024 .f32) (g : FVec Ideal S1x1024 .f32) (W : FVec Ideal S1024x5632 .bf16) (K : FVec Ideal S3x5632 .f32) (b : FVec Ideal S1x5632 .f32)
    (i : ℕ) (hi : i < 64) (w : FVec Ideal S1024x256 .bf16) (cw : FVec Ideal S3x256 .f32) (cb : FVec Ideal S1x256 .f32) (n : Fin 256) (N : Fin 5632)
    (hw : ∀ k, w (ix2 k n) = W (ix2 k N)) (hc : ∀ k, cw (ix2 k n) = K (ix2 k N)) (hb : ∀ k, cb (ix2 k n) = b (ix2 k N)) (r : Fin 512) :
    convAt (hnAt X g i hi) w cw cb r n = convG X g W K b (tileRow i hi r) N := by
  unfold convAt convG
  rw [hb, hc, hc, hc, up_tap X g W i hi w n N hw r 2 (by omega) _ rfl, up_tap X g W i hi w n N hw r 1 (by omega) _ rfl,
    up_tap X g W i hi w n N hw r 0 (by omega) _ rfl]

variable (m : (ℓ : Loc nD τ sig) → Buf (Elt Ideal) ℓ)

/-- The formula at this kernel's arguments. -/
abbrev result (c : Dev nD) : FVec Ideal S32768x1024 .f32 :=
  outG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- One term of the formula's sum over the hidden units. -/
def termG (c : Dev nD) (R : Fin 32768) (j : Fin 1024) (n : Fin 2816) : EReal :=
  actAt (convG (m ((c : Thread nD τ).loc main_arg0)) (m ((c : Thread nD τ).loc main_arg1)) (m ((c : Thread nD τ).loc main_arg2)) (m ((c : Thread nD τ).loc main_arg3)) (m ((c : Thread nD τ).loc main_arg4)) R ⟨n.val, by omega⟩)
    (convG (m ((c : Thread nD τ).loc main_arg0)) (m ((c : Thread nD τ).loc main_arg1)) (m ((c : Thread nD τ).loc main_arg2)) (m ((c : Thread nD τ).loc main_arg3)) (m ((c : Thread nD τ).loc main_arg4)) R ⟨2816 + n.val, by omega⟩)
    * (m ((c : Thread nD τ).loc main_arg5) : FVec Ideal S2816x1024 .bf16) (ix2 n j)

/-- What a point adds is its 256 terms of the formula's sum. -/
theorem part_eq (c : Dev nD) (t : Fin cfg0.N) (r : Fin 512) (j : Fin 1024) :
    part m c t (ix2 r j) = ∑ n : Fin 256, termG m c (tileRow (t.val / 11) (tile_lt t) r) j ⟨t.val % 11 * 256 + n.val, by have := Nat.mod_lt t.val (show 0 < 11 by decide); omega⟩ := by
  unfold part partAt termG
  refine Finset.sum_congr rfl fun n _ => ?_
  exact congrArg₂ (· * ·)
    (congrArg₂ actAt (conv_tap _ _ _ _ _ _ _ _ _ _ n _ (fun k => blk3 m c t k n) (fun k => blk5 m c t k n) (fun k => blk7 m c t k n) r)
      (conv_tap _ _ _ _ _ _ _ _ _ _ n _ (fun k => blk4 m c t k n) (fun k => blk6 m c t k n) (fun k => blk8 m c t k n) r))
    (blk9 m c t n j)

/-- The accumulator at a tile's last point: the whole sum over the hidden units. -/
theorem acc_last (c : Dev nD) (t : Fin cfg0.N) (h : t.val % 11 = 10) (r : Fin 512) (j : Fin 1024) :
    (outsAt0 m c t.val t.isLt).2.2 (ix2 r j) = ∑ n : Fin 2816, termG m c (tileRow (t.val / 11) (tile_lt t) r) j n := by
  have e := Pipeline.eq_sum_fin_of_reset_step_apply_of_flush (M := EReal) (ι := S512x1024.Idx) (fun n h => (outsAt0 m c n h).2.2) 11 (fun _ => 0) (part m c) (acc_first m c) (acc_next m c) t h (ix2 r j)
  refine e.trans ?_
  rw [zero_add]
  have e2 : ∀ s : Fin 11, part m c ⟨11 * (t.val / 11) + s.val, Pipeline.run_point_lt_of_flush t h s⟩ (ix2 r j)
      = ∑ n : Fin 256, termG m c (tileRow (t.val / 11) (tile_lt t) r) j ⟨s.val * 256 + n.val, by omega⟩ := fun s => by
    rw [part_eq]
    refine Finset.sum_congr rfl fun n _ => ?_
    congr 1
    · apply Fin.ext
      show (11 * (t.val / 11) + s.val) / 11 * 512 + r.val = t.val / 11 * 512 + r.val
      omega
    · apply Fin.ext
      show (11 * (t.val / 11) + s.val) % 11 * 256 + n.val = s.val * 256 + n.val
      omega
  rw [Finset.sum_congr rfl fun s _ => e2 s]
  exact Fin.sum_mul_add_congr fun s k hl => rfl

/-- The kernel's result array: the formula of its arguments. -/
theorem final (c : Dev nD) : (dats m 0 c).arrAt 10 cfg0.N = result m c := by
  refine (dats m 0 c).arrAt_eq_of_covers 10 _ (by decide +kernel) fun t hf y => ?_
  blk_simp
  have h : t.val % 11 = 10 := (flush0_10 t).mp hf
  rw [after0_10, out_last m c t h]
  idx_vars y
  rw [acc_last m c t h]
  have e : ((View.whole main_v0).slice (win0_10.rect t)).emb (ix2 y0 y1) = (ix2 (tileRow (t.val / 11) (tile_lt t) y0) y1 : S32768x1024.Idx) := by
    blk_ext [idx t]
  rw [e]
  exact congrArg (· + _) (blk0 m c t y0 y1)

end Cert.Proof.Ffn

end
-- ==== Proof.Ffn.Claim.lean ====
/- The feed-forward kernel and its reference leave the same result. -/
module

public import proofs.«01_k».proof.Proof.Gen.Kernel2Ideal.Value
public import proofs.«01_k».proof.Defs
public import proofs.«01_k».proof.Proof.Gen.Reference2Ideal.Run
public import proofs.«01_k».proof.Proof.Ffn.Result
public import proofs.«01_k».proof.Proof.Ffn.Step
public import proofs.«01_k».proof.Proof.Ffn.Formula
public import Idealize.ShloMosaic.Lib.Pipeline.ValueKit

@[expose] public section

set_option maxRecDepth 16384

noncomputable section

namespace Cert.Proof.Ffn

open Idealize.ShloMosaic Idealize.ShloMosaic.TcCoe Idealize.SL.Sem

/-- `Cert.algebraic_Kernel2Ideal_Reference2Ideal`: over the extended reals the kernel's result and the reference's are one formula of the
    arguments, whatever those are. -/
theorem algebraic : Cert.algebraic_Kernel2Ideal_Reference2Ideal := by
  intro m ρ m' ρ' _ hag
  refine ⟨fun c => result m c, ?_, ?_⟩
  · exact (θ_run Cert.Kernel2Ideal.defs _ _).mono (fun _ h c => ⟨(h c).1.trans (final m c), (h c).2⟩) (Cert.Kernel2Ideal.Value.run_blocks (F := Ideal) m ρ)
  · refine (θ_run Cert.Reference2Ideal.defs _ _).mono (fun _ h c => ⟨(h c).1.trans ((reference_eq m' c).trans ?_), (h c).2⟩) (Cert.Reference2Ideal.Value.run (F := Ideal) m' ρ')
    obtain ⟨h0, h1, h2, h3, h4, h5⟩ := hag c
    rw [h0, h1, h2, h3, h4, h5]

end Cert.Proof.Ffn

end
-- ==== Proof.Proj.Formula.lean ====
/- The norm, projection, head norms and rotation as one formula per entry, and the plain program's result as that formula. -/
module

public import proofs.«01_k».proof.Proof.Gen.Reference3Ideal.Run
public import Idealize.ShloMosaic.Lib.Pipeline.ValueKit
public import Idealize.ShloMosaic.Lib.Pointwise

@[expose] public section

set_option maxRecDepth 16384

noncomputable section

namespace Cert.Proof.Proj

open Cert.Reference3Ideal Cert.Reference3Ideal.Gen
open Idealize.ShloMosaic Idealize.ShloMosaic.TcCoe Idealize.SL.Sem

/-- A row normalised by its root mean square and scaled by the gain, one entry. -/
def nrmAt (x g : Fin 1024 → EReal) (j : Fin 1024) : EReal :=
  x j * Ideal.rsqrt (Ideal.div (∑ k : Fin 1024, x k * x k) (Ideal.ofBits .f32 1149239296#32) + Ideal.ofBits .f32 897988541#32) * g j

/-- One entry of the projection of the normalised rows. -/
def projG (X : FVec Ideal S32768x1024 .f32) (g : FVec Ideal S1x1024 .f32) (W : FVec Ideal S1024x9216 .f32) (R : Fin 32768) (n : Fin 9216) : EReal :=
  ∑ k : Fin 1024, nrmAt (fun k => X (ix2 R k)) (fun k => g (ix2 0 k)) k * W (ix2 k n)

/-- A head of 64 normalised by its root mean square and scaled by its gain, one entry. -/
def headAt (a γ : Fin 64 → EReal) (d : Fin 64) : EReal :=
  a d * Ideal.rsqrt (Ideal.div (∑ k : Fin 64, a k * a k) (Ideal.ofBits .f32 1115684864#32) + Ideal.ofBits .f32 897988541#32) * γ d

/-- The rotation of a head's first sixteen entries in two halves of eight, one entry. -/
def ropeAt (y : Fin 64 → EReal) (c s : Fin 8 → EReal) (d : Fin 64) : EReal :=
  if h : d.val < 8 then y d * c ⟨d.val, h⟩ - y ⟨d.val + 8, by omega⟩ * s ⟨d.val, h⟩
  else if h' : d.val < 16 then y d * c ⟨d.val - 8, by omega⟩ + y ⟨d.val - 8, by omega⟩ * s ⟨d.val - 8, by omega⟩
  else y d

/-- The angles: the position times the frequency. -/
def angT : FVec Ideal S4096x8 .f32 :=
  mulf (broadcastInDim S4096x8 ![0, 1] bcast_S4096x1_S4096x8_0_1 (broadcastInDim S4096x1 ![0] bcast_S4096_S4096x1_0 (sitofp .f32 (iotaInDim S4096 32 0)))) (broadcastInDim S4096x8 ![0, 1] bcast_S1x8_S4096x8_0_1 (broadcastInDim S1x8 ![1] bcast_S8_S1x8_1 (Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32))))))

/-- The cosines and the sines of the angles. -/
def cosT : FVec Ideal S4096x8 .f32 := Host.cos angT
@[inherit_doc cosT] def sinT : FVec Ideal S4096x8 .f32 := Host.sin angT

/-- A position `(b, s)` of the sequences as one of the rows. -/
abbrev row (b : Fin 8) (s : Fin 4096) : Fin 32768 := ⟨b.val * 4096 + s.val, by omega⟩

/-- The column of part `p`, group `g`, head `h`, entry `d`. -/
abbrev col (p g : Fin 3) (h : Fin 16) (d : Fin 64) : Fin 9216 := ⟨((p.val * 3 + g.val) * 16 + h.val) * 64 + d.val, by omega⟩

/-- A head of part `p`, normalised and rotated, one entry. -/
def rotG (X : FVec Ideal S32768x1024 .f32) (g : FVec Ideal S1x1024 .f32) (W : FVec Ideal S1024x9216 .f32) (p : Fin 3) (γ : FVec Ideal S3x64 .f32)
    (R : Fin 32768) (e : Fin 3) (h : Fin 16) (d : Fin 64) : EReal :=
  ropeAt (headAt (fun k => projG X g W R (col p e h k)) (fun k => γ (ix2 e k)))
    (fun k => cosT (ix2 ⟨R.val % 4096, by omega⟩ k)) (fun k => sinT (ix2 ⟨R.val % 4096, by omega⟩ k)) d

/-- The call's result: the queries normalised, rotated and scaled, the keys normalised and rotated, the values as projected. -/
def outG (X : FVec Ideal S32768x1024 .f32) (g : FVec Ideal S1x1024 .f32) (W : FVec Ideal S1024x9216 .f32) (q k : FVec Ideal S3x64 .f32) (R : Fin 32768) (p e : Fin 3) (h : Fin 16) (d : Fin 64) : EReal :=
  if p.val = 0 then rotG X g W 0 q R e h d * Ideal.ofBits .f32 0x3E000000#32
  else if p.val = 1 then rotG X g W 1 k R e h d
  else projG X g W R (col 2 e h d)

/-- The reference's projection, packed by part, group, head and entry. -/
def refProj (X : FVec Ideal S32768x1024 .f32) (g : FVec Ideal S1x1024 .f32) (W : FVec Ideal S1024x9216 .f32) : FVec Ideal S8x4096x3x3x16x64 .f32 :=
  shapeCast _ (Host.dotGeneral dot_S8x4096x1024_S1024x9216_S8x4096x9216_2_0_01_1_n_n none (mulf (mulf (shapeCast S8x4096x1024 X shapeCasts_S32768x1024_S8x4096x1024) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (shapeCast _ X shapeCasts_S32768x1024_S8x4096x1024) (shapeCast _ X shapeCasts_S32768x1024_S8x4096x1024)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ g shapeCasts_S1x1024_S1024)))) W) shapeCasts_S8x4096x9216_S8x4096x3x3x16x64

/-- A part's heads normalised and scaled by their gains. -/
def refHead (u : FVec Ideal S8x4096x3x16x64 .f32) (γ : FVec Ideal S3x64 .f32) : FVec Ideal S8x4096x3x16x64 .f32 :=
  mulf (mulf u (broadcastInDim S8x4096x3x16x64 ![0, 1, 2, 3, 4] bcast_S8x4096x3x16x1_S8x4096x3x16x64_0_1_2_3_4 (Host.rsqrt (addf (Host.divf (broadcastInDim S8x4096x3x16x1 ![0, 1, 2, 3] bcast_S8x4096x3x16_S8x4096x3x16x1_0_1_2_3 (Host.reduceAdd (mulf u u) (constant S_ .f32 0x00000000#32) reducesTo_S8x4096x3x16x64_S8x4096x3x16_d4 h_S_)) (broadcastInDim S8x4096x3x16x1 ![] bcast_S_S8x4096x3x16x1 (constant S_ .f32 0x42800000#32))) (broadcastInDim S8x4096x3x16x1 ![] bcast_S_S8x4096x3x16x1 (constant S_ .f32 0x358637BD#32)))))) (broadcastInDim S8x4096x3x16x64 ![0, 1, 2, 3, 4] bcast_S1x1x3x1x64_S8x4096x3x16x64_0_1_2_3_4 (broadcastInDim S1x1x3x1x64 ![2, 3, 4] bcast_S3x1x64_S1x1x3x1x64_2_3_4 (broadcastInDim S3x1x64 ![0, 2] bcast_S3x64_S3x1x64_0_2 γ)))

/-- A table of the positions, spread over the sequences, groups and heads. -/
def refTab (t : FVec Ideal S4096x8 .f32) : FVec Ideal S8x4096x3x16x8 .f32 :=
  broadcastInDim S8x4096x3x16x8 ![0, 1, 2, 3, 4] bcast_S1x4096x1x1x8_S8x4096x3x16x8_0_1_2_3_4 (broadcastInDim S1x4096x1x1x8 ![1, 2, 3, 4] bcast_S4096x1x1x8_S1x4096x1x1x8_1_2_3_4 (shapeCast S4096x1x1x8 t shapeCasts_S4096x8_S4096x1x1x8))

/-- A part's heads rotated. -/
def refRope (y : FVec Ideal S8x4096x3x16x64 .f32) : FVec Ideal S8x4096x3x16x64 .f32 :=
  concatenate S8x4096x3x16x64 4 [⟨S8x4096x3x16x8, subf (mulf (extractStridedSlice S8x4096x3x16x8 ![0, 0, 0, 0, 0] y slices_S8x4096x3x16x64_S8x4096x3x16x8_0_0_0_0_0) (refTab cosT)) (mulf (extractStridedSlice S8x4096x3x16x8 ![0, 0, 0, 0, 8] y slices_S8x4096x3x16x64_S8x4096x3x16x8_0_0_0_0_8) (refTab sinT))⟩, ⟨S8x4096x3x16x8, addf (mulf (extractStridedSlice S8x4096x3x16x8 ![0, 0, 0, 0, 8] y slices_S8x4096x3x16x64_S8x4096x3x16x8_0_0_0_0_8) (refTab cosT)) (mulf (extractStridedSlice S8x4096x3x16x8 ![0, 0, 0, 0, 0] y slices_S8x4096x3x16x64_S8x4096x3x16x8_0_0_0_0_0) (refTab sinT))⟩, ⟨S8x4096x3x16x48, extractStridedSlice S8x4096x3x16x48 ![0, 0, 0, 0, 16] y slices_S8x4096x3x16x64_S8x4096x3x16x48_0_0_0_0_16⟩] concatenates_S8x4096x3x16x8_S8x4096x3x16x8_S8x4096x3x16x48_S8x4096x3x16x64_d4

/-- The three parts, as the reference leaves them. -/
def refQ (u : FVec Ideal S8x4096x3x3x16x64 .f32) (γ : FVec Ideal S3x64 .f32) : FVec Ideal S8x4096x3x16x64 .f32 :=
  mulf (refRope (refHead (shapeCast S8x4096x3x16x64 (extractStridedSlice S8x4096x1x3x16x64 ![0, 0, 0, 0, 0, 0] u slices_S8x4096x3x3x16x64_S8x4096x1x3x16x64_0_0_0_0_0_0) shapeCasts_S8x4096x1x3x16x64_S8x4096x3x16x64) γ)) (broadcastInDim S8x4096x3x16x64 ![] bcast_S_S8x4096x3x16x64 (constant S_ .f32 0x3E000000#32))
@[inherit_doc refQ] def refK (u : FVec Ideal S8x4096x3x3x16x64 .f32) (γ : FVec Ideal S3x64 .f32) : FVec Ideal S8x4096x3x16x64 .f32 :=
  refRope (refHead (shapeCast S8x4096x3x16x64 (extractStridedSlice S8x4096x1x3x16x64 ![0, 0, 1, 0, 0, 0] u slices_S8x4096x3x3x16x64_S8x4096x1x3x16x64_0_0_1_0_0_0) shapeCasts_S8x4096x1x3x16x64_S8x4096x3x16x64) γ)
@[inherit_doc refQ] def refV (u : FVec Ideal S8x4096x3x3x16x64 .f32) : FVec Ideal S8x4096x3x16x64 .f32 :=
  shapeCast S8x4096x3x16x64 (extractStridedSlice S8x4096x1x3x16x64 ![0, 0, 2, 0, 0, 0] u slices_S8x4096x3x3x16x64_S8x4096x1x3x16x64_0_0_2_0_0_0) shapeCasts_S8x4096x1x3x16x64_S8x4096x3x16x64

/-- The three parts side by side. -/
def refPack (q k v : FVec Ideal S8x4096x3x16x64 .f32) : FVec Ideal S8x4096x3x3x16x64 .f32 :=
  concatenate S8x4096x3x3x16x64 2 [⟨S8x4096x1x3x16x64, broadcastInDim S8x4096x1x3x16x64 ![0, 1, 3, 4, 5] bcast_S8x4096x3x16x64_S8x4096x1x3x16x64_0_1_3_4_5 q⟩, ⟨S8x4096x1x3x16x64, broadcastInDim S8x4096x1x3x16x64 ![0, 1, 3, 4, 5] bcast_S8x4096x3x16x64_S8x4096x1x3x16x64_0_1_3_4_5 k⟩, ⟨S8x4096x1x3x16x64, broadcastInDim S8x4096x1x3x16x64 ![0, 1, 3, 4, 5] bcast_S8x4096x3x16x64_S8x4096x1x3x16x64_0_1_3_4_5 v⟩] concatenates_S8x4096x1x3x16x64_S8x4096x1x3x16x64_S8x4096x1x3x16x64_S8x4096x3x3x16x64_d2

/-- The reference's result as a function of its arguments. -/
def refOut (X : FVec Ideal S32768x1024 .f32) (g : FVec Ideal S1x1024 .f32) (W : FVec Ideal S1024x9216 .f32) (q k : FVec Ideal S3x64 .f32) : FVec Ideal S32768x9216 .f32 :=
  shapeCast S32768x9216 (refPack (refQ (refProj X g W) q) (refK (refProj X g W) k) (refV (refProj X g W))) shapeCasts_S8x4096x3x3x16x64_S32768x9216

/-- The reference's projection, entry by entry. -/
theorem refProj_at (X : FVec Ideal S32768x1024 .f32) (g : FVec Ideal S1x1024 .f32) (W : FVec Ideal S1024x9216 .f32) (b : Fin 8) (s : Fin 4096) (p e : Fin 3) (h : Fin 16) (d : Fin 64) :
    refProj X g W (ix6 b s p e h d) = projG X g W (row b s) (col p e h d) := by
  pointwise [refProj]
  unfold projG nrmAt
  rw [show (⟨p.val * 3072 + e.val * 1024 + h.val * 64 + d.val, by omega⟩ : Fin 9216) = col p e h d from Fin.ext (by show p.val * 3072 + e.val * 1024 + h.val * 64 + d.val = ((p.val * 3 + e.val) * 16 + h.val) * 64 + d.val; omega)]

/-- A normalised head, entry by entry. -/
theorem refHead_at (u : FVec Ideal S8x4096x3x16x64 .f32) (γ : FVec Ideal S3x64 .f32) (b : Fin 8) (s : Fin 4096) (e : Fin 3) (h : Fin 16) (d : Fin 64) :
    refHead u γ (ix5 b s e h d) = headAt (fun k => u (ix5 b s e h k)) (fun k => γ (ix2 e k)) d := by
  pointwise [refHead]
  rfl

/-- A spread table, entry by entry. -/
theorem refTab_at (t : FVec Ideal S4096x8 .f32) (b : Fin 8) (s : Fin 4096) (e : Fin 3) (h : Fin 16) (d : Fin 8) :
    refTab t (ix5 b s e h d) = t (ix2 s d) := by
  pointwise [refTab]

/-- A rotated head, entry by entry. -/
theorem refRope_at (y : FVec Ideal S8x4096x3x16x64 .f32) (b : Fin 8) (s : Fin 4096) (e : Fin 3) (h : Fin 16) (d : Fin 64) :
    refRope y (ix5 b s e h d) = ropeAt (fun k => y (ix5 b s e h k)) (fun k => cosT (ix2 s k)) (fun k => sinT (ix2 s k)) d := by
  pointwise [refRope]
  unfold ropeAt
  by_cases h8 : d.val < 8
  · rw [dif_pos h8, dif_pos h8, refTab_at, refTab_at, show (⟨8 + d.val, by omega⟩ : Fin 64) = ⟨d.val + 8, by omega⟩ from Fin.ext (Nat.add_comm _ _)]
  · rw [dif_neg h8, dif_neg h8]
    by_cases h16 : d.val < 16
    · rw [dif_pos (by omega), dif_pos h16, refTab_at, refTab_at, show (⟨8 + (d.val - 8), by omega⟩ : Fin 64) = d from Fin.ext (by show 8 + (d.val - 8) = d.val; omega)]
    · rw [dif_neg (by omega), dif_neg h16, show (⟨16 + (d.val - 8 - 8), by omega⟩ : Fin 64) = d from Fin.ext (by show 16 + (d.val - 8 - 8) = d.val; omega)]

/-- The packed parts, entry by entry. -/
theorem refPack_at (q k v : FVec Ideal S8x4096x3x16x64 .f32) (b : Fin 8) (s : Fin 4096) (p e : Fin 3) (h : Fin 16) (d : Fin 64) :
    refPack q k v (ix6 b s p e h d) = if p.val = 0 then q (ix5 b s e h d) else if p.val = 1 then k (ix5 b s e h d) else v (ix5 b s e h d) := by
  pointwise [refPack]
  by_cases h0 : p.val = 0
  · rw [dif_pos (by omega), if_pos h0]
  · rw [dif_neg (by omega), if_neg h0]
    by_cases h1 : p.val = 1
    · rw [dif_pos (by omega), if_pos h1]
    · rw [dif_neg (by omega), if_neg h1]

/-- The queries the reference leaves, entry by entry. -/
theorem refQ_at (u : FVec Ideal S8x4096x3x3x16x64 .f32) (γ : FVec Ideal S3x64 .f32) (b : Fin 8) (s : Fin 4096) (e : Fin 3) (h : Fin 16) (d : Fin 64) :
    refQ u γ (ix5 b s e h d) = ropeAt (headAt (fun k => u (ix6 b s 0 e h k)) (fun k => γ (ix2 e k))) (fun k => cosT (ix2 s k)) (fun k => sinT (ix2 s k)) d * Ideal.ofBits .f32 0x3E000000#32 := by
  pointwise [refQ]
  refine congrArg (fun x : EReal => x * Ideal.ofBits .f32 0x3E000000#32) ((refRope_at _ b s e h d).trans ?_)
  refine congrArg (fun y => ropeAt y _ _ d) (funext fun k => (refHead_at _ γ b s e h k).trans ?_)
  refine congrArg (fun a => headAt a _ k) (funext fun k => ?_)
  pointwise []

/-- The keys the reference leaves, entry by entry. -/
theorem refK_at (u : FVec Ideal S8x4096x3x3x16x64 .f32) (γ : FVec Ideal S3x64 .f32) (b : Fin 8) (s : Fin 4096) (e : Fin 3) (h : Fin 16) (d : Fin 64) :
    refK u γ (ix5 b s e h d) = ropeAt (headAt (fun k => u (ix6 b s 1 e h k)) (fun k => γ (ix2 e k))) (fun k => cosT (ix2 s k)) (fun k => sinT (ix2 s k)) d := by
  refine (refRope_at _ b s e h d).trans ?_
  refine congrArg (fun y => ropeAt y _ _ d) (funext fun k => (refHead_at _ γ b s e h k).trans ?_)
  refine congrArg (fun a => headAt a _ k) (funext fun k => ?_)
  pointwise []

/-- The values the reference leaves, entry by entry. -/
theorem refV_at (u : FVec Ideal S8x4096x3x3x16x64 .f32) (b : Fin 8) (s : Fin 4096) (e : Fin 3) (h : Fin 16) (d : Fin 64) :
    refV u (ix5 b s e h d) = u (ix6 b s 2 e h d) := by
  pointwise [refV]

/-- The reference's result is the formula, entry by entry. -/
theorem refOut_at (X : FVec Ideal S32768x1024 .f32) (g : FVec Ideal S1x1024 .f32) (W : FVec Ideal S1024x9216 .f32) (q k : FVec Ideal S3x64 .f32) (R : Fin 32768) (n : Fin 9216) :
    refOut X g W q k (ix2 R n) = outG X g W q k R ⟨n.val / 3072, by omega⟩ ⟨n.val / 1024 % 3, by omega⟩ ⟨n.val / 64 % 16, by omega⟩ ⟨n.val % 64, by omega⟩ := by
  pointwise [refOut]
  have h : row ⟨R.val / 4096, by omega⟩ ⟨R.val % 4096, by omega⟩ = R := Fin.ext (by show R.val / 4096 * 4096 + R.val % 4096 = R.val; omega)
  rw [refPack_at, refQ_at, refK_at, refV_at]
  simp only [refProj_at, h]
  rfl

variable (m : (ℓ : Loc nD τ sig) → Buf (Elt Ideal) ℓ)

set_option maxHeartbeats 4000000 in
/-- What the reference's run leaves, in pieces. -/
theorem reference_eq (c : Dev nD) : Value.res_main_v115 m c = refOut (m ((c : Thread nD τ).loc main_arg0)) (m ((c : Thread nD τ).loc main_arg1)) (m ((c : Thread nD τ).loc main_arg2)) (m ((c : Thread nD τ).loc main_arg3)) (m ((c : Thread nD τ).loc main_arg4)) := by
  rfl

end Cert.Proof.Proj

end
-- ==== Proof.Proj.Pay.lean ====
/- What the norm and projection kernel's body computes at each step, entry by entry. -/
module

public import proofs.«01_k».proof.Proof.Gen.Kernel3Ideal.Value
public import proofs.«01_k».proof.Proof.Proj.Formula
public import Idealize.ShloMosaic.Lib.Pipeline.ValueKit
public import Idealize.ShloMosaic.Lib.Pointwise

@[expose] public section

set_option maxRecDepth 16384

noncomputable section

namespace Cert.Proof.Proj

open Cert.Kernel3Ideal Cert.Kernel3Ideal.Gen
open Idealize.ShloMosaic Idealize.ShloMosaic.TcCoe Idealize.SL.Sem

/-- The heads of 128 lanes normalised and scaled, one lane: the squares summed in two halves over the lanes of the same head. -/
def subNorm (a : Fin 128 → EReal) (bd : Fin 128 → Fin 128 → EReal) (cg : Fin 128 → EReal) (l : Fin 128) : EReal :=
  a l * Ideal.rsqrt ((∑ k : Fin 128, a k * a k * bd k l + ∑ k : Fin 128, (a k * a k - a k * a k) * bd k l) * Ideal.ofBits .f32 0x3C800000#32 + Ideal.ofBits .f32 0x358637BD#32) * cg l

/-- The lanes rotated by eight either way against three tables, one lane. -/
def subRot (y c sa sb : Fin 128 → EReal) (l : Fin 128) : EReal :=
  y l * c l + y ⟨(l.val + 128 - 8) % 128, Nat.mod_lt _ (by decide)⟩ * sa l + y ⟨(l.val + 128 - 120) % 128, Nat.mod_lt _ (by decide)⟩ * sb l

/-- The normalised rows. -/
theorem pay1_at (x : FVec Ideal S512x1024 .f32) (g : FVec Ideal S1x1024 .f32) (r : Fin 512) (j : Fin 1024) :
    k0_pay1 (F := Ideal) x g (ix2 r j) = nrmAt (fun k => x (ix2 r k)) (fun k => g (ix2 0 k)) j := by
  pointwise [k0_pay1]
  rfl

/-- The projection of a block of columns. -/
theorem pay2_at (h : FVec Ideal S512x1024 .bf16) (w : FVec Ideal S1024x512 .bf16) (r : Fin 512) (n : Fin 512) :
    k0_pay2 (F := Ideal) h w (ix2 r n) = ∑ k : Fin 1024, h (ix2 r k) * w (ix2 k n) := by
  pointwise [k0_pay2]

/-- The rotation of the fourth quarter. -/
theorem pay3_at (y c sa sb : FVec Ideal S512x128 .f32) (r : Fin 512) (l : Fin 128) :
    k0_pay3 (F := Ideal) y c sa sb (ix2 r l) = subRot (fun k => y (ix2 r k)) (fun k => c (ix2 r k)) (fun k => sa (ix2 r k)) (fun k => sb (ix2 r k)) l := by
  pointwise [k0_pay3]
  rfl

/-- The norm of the fourth quarter. -/
theorem pay15_at (acc : FVec Ideal S512x512 .f32) (bd : FVec Ideal S128x128 .bf16) (cg : FVec Ideal S1x128 .f32) (r : Fin 512) (l : Fin 128) :
    k0_pay15 (F := Ideal) acc (k0_pay4 bd) cg (ix2 r l) = subNorm (fun k => acc (ix2 r ⟨384 + k.val, by omega⟩)) (fun k l => bd (ix2 k l)) (fun k => cg (ix2 0 k)) l := by
  pointwise [k0_pay15, k0_pay4]
  rfl

/-- The first quarter, normalised and rotated. -/
theorem pay5_at (acc : FVec Ideal S512x512 .f32) (bd : FVec Ideal S128x128 .bf16) (cg : FVec Ideal S1x128 .f32) (c sa sb : FVec Ideal S512x128 .f32) (r : Fin 512) (l : Fin 128) :
    k0_pay5 (F := Ideal) acc bd cg c sa sb (ix2 r l) = subRot (subNorm (fun k => acc (ix2 r ⟨k.val, by omega⟩)) (fun k l => bd (ix2 k l)) (fun k => cg (ix2 0 k))) (fun k => c (ix2 r k)) (fun k => sa (ix2 r k)) (fun k => sb (ix2 r k)) l := by
  pointwise [k0_pay5, k0_pay4]
  rfl

/-- The second quarter, normalised and rotated. -/
theorem pay10_at (acc : FVec Ideal S512x512 .f32) (bd : FVec Ideal S128x128 .bf16) (cg : FVec Ideal S1x128 .f32) (c sa sb : FVec Ideal S512x128 .f32) (r : Fin 512) (l : Fin 128) :
    k0_pay10 (F := Ideal) (k0_pay4 bd) (k0_pay6 acc) (k0_pay8 acc) (k0_pay9 acc) cg c sa sb (ix2 r l) = subRot (subNorm (fun k => acc (ix2 r ⟨128 + k.val, by omega⟩)) (fun k l => bd (ix2 k l)) (fun k => cg (ix2 0 k))) (fun k => c (ix2 r k)) (fun k => sa (ix2 r k)) (fun k => sb (ix2 r k)) l := by
  pointwise [k0_pay10, k0_pay4, k0_pay6, k0_pay7, k0_pay8, k0_pay9]
  rfl

/-- The third quarter, normalised and rotated. -/
theorem pay14_at (acc : FVec Ideal S512x512 .f32) (bd : FVec Ideal S128x128 .bf16) (cg : FVec Ideal S1x128 .f32) (c sa sb : FVec Ideal S512x128 .f32) (r : Fin 512) (l : Fin 128) :
    k0_pay14 (F := Ideal) (k0_pay11 acc) (k0_pay12 acc (k0_pay4 bd)) k0_pay13 cg c sa sb (ix2 r l) = subRot (subNorm (fun k => acc (ix2 r ⟨256 + k.val, by omega⟩)) (fun k l => bd (ix2 k l)) (fun k => cg (ix2 0 k))) (fun k => c (ix2 r k)) (fun k => sa (ix2 r k)) (fun k => sb (ix2 r k)) l := by
  pointwise [k0_pay14, k0_pay4, k0_pay11, k0_pay12, k0_pay13]
  rfl

end Cert.Proof.Proj

end
-- ==== Proof.Proj.Math.lean ====
/- The laws of the extended reals by which the kernel's head norms and rotations are the plain ones. -/
module

public import proofs.«01_k».proof.Proof.Proj.Pay
public import Idealize.ShloMosaic.Lib.IdealHost

@[expose] public section

noncomputable section

namespace Cert.Proof.Proj

open Idealize.ShloMosaic

/-- The constants the norms use: 1/64, 64, 1024 and the small one. -/
theorem inv64 : Ideal.ofBits .f32 0x3C800000#32 = (((1 : ℝ) / 64 : ℝ) : EReal) := by
  simp [Ideal.ofBits, Ideal.ieee, -EReal.coe_mul]; norm_num
@[inherit_doc inv64] theorem val64 : Ideal.ofBits .f32 1115684864#32 = ((64 : ℝ) : EReal) := by
  simp [Ideal.ofBits, Ideal.ieee, -EReal.coe_mul]; norm_num
@[inherit_doc inv64] theorem val1024 : Ideal.ofBits .f32 1149239296#32 = ((1024 : ℝ) : EReal) := by
  simp [Ideal.ofBits, Ideal.ieee, -EReal.coe_mul]; norm_num
@[inherit_doc inv64] theorem small : ∃ e : ℝ, 0 < e ∧ Ideal.ofBits .f32 897988541#32 = (e : EReal) := by
  refine ⟨_, ?_, by simp [Ideal.ofBits, Ideal.ieee, -EReal.coe_mul]; rfl⟩
  norm_num
@[inherit_doc inv64] theorem eighth : Ideal.ofBits .f32 0x3E000000#32 = (((1 : ℝ) / 8 : ℝ) : EReal) := by
  simp [Ideal.ofBits, Ideal.ieee, -EReal.coe_mul]; norm_num

/-- Dividing by 64 is multiplying by 1/64. -/
theorem div64 (x : EReal) : Ideal.div x (Ideal.ofBits .f32 1115684864#32) = x * Ideal.ofBits .f32 0x3C800000#32 := by
  rw [val64, inv64]
  unfold Ideal.div
  rw [if_neg (by norm_num), ← EReal.coe_inv, one_div]

/-- A finite sum of reals, taken among the extended reals, is the reals' sum. -/
theorem coe_sums {ι : Type} (s : Finset ι) (f : ι → ℝ) : ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

/-- A finite sum of reals is real. -/
theorem sum_real {ι : Type} [Fintype ι] (f : ι → EReal) (h : ∀ i, ∃ r : ℝ, f i = r) : ∃ r : ℝ, ∑ i, f i = r := by
  choose r hr using h
  refine ⟨∑ i, r i, ?_⟩
  rw [coe_sums]
  exact Finset.sum_congr rfl fun i _ => hr i

/-- A normalised row times a real gain is real, whatever the row: where an entry is infinite the norm's factor is zero. -/
theorem nrm_real (x g : Fin 1024 → EReal) (j : Fin 1024) (hg : ∃ r : ℝ, g j = r) : ∃ r : ℝ, nrmAt x g j = r := by
  obtain ⟨γ, hγ⟩ := hg
  obtain ⟨e, he, hE⟩ := small
  unfold nrmAt
  rw [hγ, hE, val1024]
  by_cases h : ∀ k, ∃ r : ℝ, x k = r
  · choose r hr using h
    have hs : ∑ k : Fin 1024, x k * x k = ((∑ k : Fin 1024, r k * r k : ℝ) : EReal) := by
      rw [coe_sums]
      exact Finset.sum_congr rfl fun i _ => by rw [hr i, EReal.coe_mul]
    have hp : 0 ≤ ∑ k : Fin 1024, r k * r k := Finset.sum_nonneg fun i _ => mul_self_nonneg _
    have hq : 0 < (∑ k : Fin 1024, r k * r k) * (1024 : ℝ)⁻¹ + e := by positivity
    rw [hs, hr j]
    unfold Ideal.div
    rw [if_neg (by norm_num), ← EReal.coe_inv, ← EReal.coe_mul, ← EReal.coe_add]
    refine ⟨r j * (Real.sqrt ((∑ k : Fin 1024, r k * r k) * (1024 : ℝ)⁻¹ + e))⁻¹ * γ, ?_⟩
    rw [EReal.coe_mul, EReal.coe_mul]
    congr 2
    show (if _ then _ else if _ then _ else _) = _
    rw [if_neg (not_lt.mpr hq.le), if_neg hq.ne']
  · push Not at h
    obtain ⟨k, hk⟩ := h
    have hkk : x k * x k = ⊤ := by
      generalize x k = u at hk
      induction u with
      | bot => rfl
      | top => rfl
      | coe r => exact absurd rfl (hk r)
    have hn : ∀ i, 0 ≤ x i * x i := fun i => by
      induction x i with
      | bot => decide
      | top => decide
      | coe r => rw [← EReal.coe_mul]; exact_mod_cast mul_self_nonneg r
    have hs : ∑ k : Fin 1024, x k * x k = ⊤ := by
      refine top_le_iff.mp ?_
      rw [← hkk]
      exact Finset.single_le_sum (f := fun i => x i * x i) (fun i _ => hn i) (Finset.mem_univ k)
    rw [hs]
    unfold Ideal.div
    rw [if_neg (by norm_num), ← EReal.coe_inv, EReal.top_mul_coe_of_pos (by norm_num), EReal.top_add_coe]
    refine ⟨0, ?_⟩
    show x j * (0 : EReal) * _ = _
    rw [mul_zero, zero_mul]; rfl

/-- The squares of 128 lanes summed over the lanes of lane `l`'s head. -/
theorem sum_head (f : Fin 128 → EReal) (bd : Fin 128 → Fin 128 → EReal) (hb : ∀ k l, bd k l = if k.val / 64 = l.val / 64 then 1 else 0) (l : Fin 128) :
    ∑ k : Fin 128, f k * bd k l = ∑ d : Fin 64, f ⟨l.val / 64 * 64 + d.val, by omega⟩ := by
  rw [show ∑ k : Fin 128, f k * bd k l = ∑ k : Fin (64 + 64), (fun k : Fin 128 => f k * bd k l) k from rfl, Fin.sum_univ_add]
  by_cases h : l.val < 64
  · rw [Finset.sum_eq_zero (s := Finset.univ) (f := fun i : Fin 64 => (fun k : Fin 128 => f k * bd k l) (Fin.natAdd 64 i)), add_zero]
    · refine Finset.sum_congr rfl fun d _ => ?_
      show f _ * bd _ l = _
      rw [hb, if_pos (by show d.val / 64 = _; omega), mul_one]
      exact congrArg f (Fin.ext (by show d.val = l.val / 64 * 64 + d.val; omega))
    · intro i _
      show f _ * bd _ l = 0
      rw [hb, if_neg (by show ¬ (64 + i.val) / 64 = _; omega), mul_zero]
  · rw [Finset.sum_eq_zero (s := Finset.univ) (f := fun i : Fin 64 => (fun k : Fin 128 => f k * bd k l) (Fin.castAdd 64 i)), zero_add]
    · refine Finset.sum_congr rfl fun d _ => ?_
      show f _ * bd _ l = _
      rw [hb, if_pos (by show (64 + d.val) / 64 = _; omega), mul_one]
      exact congrArg f (Fin.ext (by show 64 + d.val = l.val / 64 * 64 + d.val; omega))
    · intro i _
      show f _ * bd _ l = 0
      rw [hb, if_neg (by show ¬ i.val / 64 = _; omega), mul_zero]

/-- Over real lanes the kernel's norm is the head's: the low halves are zero, the lanes of other heads drop out. -/
theorem norm_eq (a : Fin 128 → EReal) (bd : Fin 128 → Fin 128 → EReal) (cg : Fin 128 → EReal) (ha : ∀ k, ∃ r : ℝ, a k = r)
    (hb : ∀ k l, bd k l = if k.val / 64 = l.val / 64 then 1 else 0) (l : Fin 128) (d : Fin 64) (q : ℕ) (hq : q < 2) (hl : l.val = q * 64 + d.val) :
    subNorm a bd cg l = headAt (fun d => a ⟨q * 64 + d.val, by omega⟩) (fun d => cg ⟨q * 64 + d.val, by omega⟩) d := by
  have hz : ∑ k : Fin 128, (a k * a k - a k * a k) * bd k l = 0 := by
    refine Finset.sum_eq_zero fun k _ => ?_
    obtain ⟨r, hr⟩ := ha k
    rw [hr, ← EReal.coe_mul, ← EReal.coe_sub, sub_self]
    exact zero_mul _
  have e0 : l = ⟨q * 64 + d.val, by omega⟩ := Fin.ext hl
  have e : l.val / 64 = q := by omega
  unfold subNorm headAt
  rw [hz, add_zero, sum_head (fun k => a k * a k) bd hb, div64]
  simp only [e]
  rw [← e0]

/-- The kernel's rotation of a lane is the head's: the tables are zero where nothing is to be added. -/
theorem rot_eq (y c sa sb : Fin 128 → EReal) (C S : Fin 8 → EReal)
    (hc : ∀ l : Fin 128, c l = if h : l.val % 64 < 8 then C ⟨l.val % 64, h⟩ else if h' : l.val % 64 < 16 then C ⟨l.val % 64 - 8, by omega⟩ else 1)
    (ha : ∀ l : Fin 128, sa l = if h : l.val % 64 < 8 then 0 else if h' : l.val % 64 < 16 then S ⟨l.val % 64 - 8, by omega⟩ else 0)
    (hb : ∀ l : Fin 128, sb l = if h : l.val % 64 < 8 then -S ⟨l.val % 64, h⟩ else if h' : l.val % 64 < 16 then 0 else 0)
    (l : Fin 128) (d : Fin 64) (q : ℕ) (hq : q < 2) (hl : l.val = q * 64 + d.val) :
    subRot y c sa sb l = ropeAt (fun d => y ⟨q * 64 + d.val, by omega⟩) C S d := by
  have e : l.val % 64 = d.val := by omega
  unfold subRot ropeAt
  rw [hc, ha, hb]
  simp only [e]
  have e0 : y ⟨q * 64 + d.val, by omega⟩ = y l := congrArg y (Fin.ext hl.symm)
  by_cases h8 : d.val < 8
  · simp only [dif_pos h8]
    rw [mul_zero, add_zero, mul_neg, ← sub_eq_add_neg, e0]
    have e1 : (⟨(l.val + 128 - 120) % 128, Nat.mod_lt _ (by decide)⟩ : Fin 128) = ⟨q * 64 + (d.val + 8), by omega⟩ := Fin.ext (by show (l.val + 128 - 120) % 128 = q * 64 + (d.val + 8); omega)
    rw [e1]
  · simp only [dif_neg h8]
    by_cases h16 : d.val < 16
    · simp only [dif_pos h16]
      have e1 : (⟨(l.val + 128 - 8) % 128, Nat.mod_lt _ (by decide)⟩ : Fin 128) = ⟨q * 64 + (d.val - 8), by omega⟩ := Fin.ext (by show (l.val + 128 - 8) % 128 = q * 64 + (d.val - 8); omega)
      rw [mul_zero, add_zero, e0, e1]
    · simp only [dif_neg h16]
      rw [mul_zero, mul_zero, add_zero, add_zero, mul_one, e0]

/-- A scale in the gains is a scale of the rotated head. -/
theorem rope_scale (a γ : Fin 64 → EReal) (C S : Fin 8 → EReal) (d : Fin 64) :
    ropeAt (headAt a (fun d => γ d * Ideal.ofBits .f32 0x3E000000#32)) C S d = ropeAt (headAt a γ) C S d * Ideal.ofBits .f32 0x3E000000#32 := by
  have hs : (0 : EReal) ≤ Ideal.ofBits .f32 0x3E000000#32 := by rw [eighth]; exact_mod_cast (by norm_num : (0 : ℝ) ≤ 1 / 8)
  have ht : Ideal.ofBits .f32 0x3E000000#32 ≠ ⊤ := by rw [eighth]; exact EReal.coe_ne_top _
  have hh : ∀ d, headAt a (fun d => γ d * Ideal.ofBits .f32 0x3E000000#32) d = headAt a γ d * Ideal.ofBits .f32 0x3E000000#32 := fun d => by
    unfold headAt
    rw [← mul_assoc]
  generalize Ideal.ofBits .f32 0x3E000000#32 = s at hs ht hh
  unfold ropeAt
  simp only [hh]
  split_ifs
  · rw [sub_eq_add_neg, sub_eq_add_neg, EReal.right_distrib_of_nonneg_of_ne_top hs ht, neg_mul, mul_right_comm, mul_right_comm _ s]
  · rw [EReal.right_distrib_of_nonneg_of_ne_top hs ht, mul_right_comm, mul_right_comm _ s]
  · rfl

end Cert.Proof.Proj

end
-- ==== Proof.Proj.Quarters.lean ====
/- The four quarters a point stores, read back as one formula over the whole output block. -/
module

public import proofs.«01_k».proof.Proof.Proj.Pay
public import Idealize.ShloMosaic.Lib.Pipeline.ValueKit
public import Idealize.ShloMosaic.Lib.Pipeline.ReadBack

@[expose] public section

set_option maxRecDepth 16384

noncomputable section

namespace Cert.Proof.Proj

open Cert.Kernel3Ideal Cert.Kernel3Ideal.Gen
open Idealize.ShloMosaic Idealize.ShloMosaic.TcCoe Idealize.SL.Sem

/-- An output block's entry: the quarter's heads normalised and rotated, one lane. -/
def quarter (acc : Fin 512 → EReal) (bd : Fin 128 → Fin 128 → EReal) (cg : Fin 512 → EReal) (c sa sb : Fin 128 → EReal) (n : Fin 512) : EReal :=
  subRot (subNorm (fun k => acc ⟨n.val / 128 * 128 + k.val, by omega⟩) bd (fun k => cg ⟨n.val / 128 * 128 + k.val, by omega⟩)) c sa sb ⟨n.val % 128, Nat.mod_lt _ (by decide)⟩

/-- The quarter at offset `o`, as the block's formula at lane `o + l`. -/
theorem quarter_at (acc : Fin 512 → EReal) (bd : Fin 128 → Fin 128 → EReal) (cg : Fin 512 → EReal) (c sa sb : Fin 128 → EReal) (q : ℕ) (hq : q < 4) (l : Fin 128) (n : Fin 512) (hn : n.val = q * 128 + l.val) :
    quarter acc bd cg c sa sb n = subRot (subNorm (fun k => acc ⟨q * 128 + k.val, by omega⟩) bd (fun k => cg ⟨q * 128 + k.val, by omega⟩)) c sa sb l := by
  have e : n.val / 128 = q := by omega
  have e' : (⟨n.val % 128, Nat.mod_lt _ (by decide)⟩ : Fin 128) = l := Fin.ext (by show n.val % 128 = l.val; omega)
  unfold quarter
  rw [e']
  simp only [e]

/-- A slice of 128 of the columns' gains, lane by lane. -/
theorem gain_at (o : ℕ) (cg : FVec Ideal S1x512 .f32) (inb) (k : Fin 128) (ho : o + 128 ≤ 512) :
    (show FVec Ideal S1x128 .f32 from View.ld (Val := Elt Ideal) (e' := .f32) cg (Rect.unit (s := S1x512) ![0, o] ![1, 128] inb)) (ix2 0 k) = cg (ix2 0 ⟨o + k.val, by omega⟩) := by
  refine congrArg cg ?_
  blk_ext []
  show o + 1 * k.val = o + k.val
  omega

/-- The four stores fill the block with the quarters' entries. -/
theorem canon_out (acc : FVec Ideal S512x512 .f32) (bd : FVec Ideal S128x128 .bf16) (cg : FVec Ideal S1x512 .f32) (c sa sb : FVec Ideal S512x128 .f32) (y : S512x512.Idx) :
    View.canon (Val := Elt Ideal) (s := S512x512) (e := .f32)
      [⟨Rect.unit ![0, 384] ![512, 128] inb_S512x512_S512x128_0_384,
          k0_pay3 (F := Ideal) (k0_pay15 acc (k0_pay4 bd) (View.ld (Val := Elt Ideal) (e' := .f32) cg (Rect.unit (s := S1x512) ![0, 384] ![1, 128] inb_S1x512_S1x128_0_384))) c sa sb⟩,
        ⟨Rect.unit ![0, 256] ![512, 128] inb_S512x512_S512x128_0_256,
          k0_pay14 (F := Ideal) (k0_pay11 acc) (k0_pay12 acc (k0_pay4 bd)) k0_pay13 (View.ld (Val := Elt Ideal) (e' := .f32) cg (Rect.unit (s := S1x512) ![0, 256] ![1, 128] inb_S1x512_S1x128_0_256)) c sa sb⟩,
        ⟨Rect.unit ![0, 128] ![512, 128] inb_S512x512_S512x128_0_128,
          k0_pay10 (F := Ideal) (k0_pay4 bd) (k0_pay6 acc) (k0_pay8 acc) (k0_pay9 acc) (View.ld (Val := Elt Ideal) (e' := .f32) cg (Rect.unit (s := S1x512) ![0, 128] ![1, 128] inb_S1x512_S1x128_0_128)) c sa sb⟩,
        ⟨Rect.unit ![0, 0] ![512, 128] inb_S512x512_S512x128_0_0,
          k0_pay5 (F := Ideal) acc bd (View.ld (Val := Elt Ideal) (e' := .f32) cg (Rect.unit (s := S1x512) ![0, 0] ![1, 128] inb_S1x512_S1x128_0_0)) c sa sb⟩]
      y = quarter (fun n => acc (ix2 (y 0) n)) (fun k l => bd (ix2 k l)) (fun n => cg (ix2 0 n)) (fun k => c (ix2 (y 0) k)) (fun k => sa (ix2 (y 0) k)) (fun k => sb (ix2 (y 0) k)) (y 1) := by
  canon_tiles x h using (View.cover_of_tiledBy _ ![512, 128] (by sl_kernel_rfl) y)
  · idx_vars x
    rw [show y = ix2 (⟨x0.val, x0.isLt⟩ : Fin 512) (⟨384 + x1.val, Nat.add_lt_add_left x1.isLt 384⟩ : Fin 512) by blk_ext []]
    refine (pay3_at _ _ _ _ _ _).trans ((congrArg (fun f => subRot f _ _ _ _) (funext fun k => pay15_at _ _ _ _ _)).trans ?_)
    refine Eq.trans ?_ (quarter_at _ _ _ _ _ _ 3 (by decide) x1 _ rfl).symm
    simp only [gain_at 384 cg _ _ (by decide)]
    rfl
  · idx_vars x
    rw [show y = ix2 (⟨x0.val, x0.isLt⟩ : Fin 512) (⟨256 + x1.val, Nat.add_lt_add_left x1.isLt 256 |>.trans (by decide)⟩ : Fin 512) by blk_ext []]
    refine (pay14_at _ _ _ _ _ _ _ _).trans ?_
    refine Eq.trans ?_ (quarter_at _ _ _ _ _ _ 2 (by decide) x1 _ rfl).symm
    simp only [gain_at 256 cg _ _ (by decide)]
    rfl
  · idx_vars x
    rw [show y = ix2 (⟨x0.val, x0.isLt⟩ : Fin 512) (⟨128 + x1.val, Nat.add_lt_add_left x1.isLt 128 |>.trans (by decide)⟩ : Fin 512) by blk_ext []]
    refine (pay10_at _ _ _ _ _ _ _ _).trans ?_
    refine Eq.trans ?_ (quarter_at _ _ _ _ _ _ 1 (by decide) x1 _ rfl).symm
    simp only [gain_at 128 cg _ _ (by decide)]
    rfl
  · idx_vars x
    rw [show y = ix2 (⟨x0.val, x0.isLt⟩ : Fin 512) (⟨x1.val, x1.isLt.trans (by decide)⟩ : Fin 512) by blk_ext []]
    refine (pay5_at _ _ _ _ _ _ _ _).trans ?_
    refine Eq.trans ?_ (quarter_at _ _ _ _ _ _ 0 (by decide) x1 _ (by show x1.val = 0 * 128 + x1.val; omega)).symm
    simp only [gain_at 0 cg _ _ (by decide)]
    simp only [Nat.zero_mul, Nat.zero_add]
    rfl

end Cert.Proof.Proj

end
-- ==== Proof.Proj.Tables.lean ====
/- What the norm and projection kernel's host code leaves in the arrays its grid reads. -/
module

public import proofs.«01_k».proof.Proof.Gen.Kernel3Ideal.Value
public import Idealize.ShloMosaic.Lib.StableHlo.Run
public import Idealize.ShloMosaic.Lib.Pipeline.ValueKit
public import Idealize.ShloMosaic.Lib.Pointwise

@[expose] public section

set_option maxRecDepth 16384

noncomputable section

namespace Cert.Proof.Proj.Tables

open Cert.Kernel3Ideal Cert.Kernel3Ideal.Gen
open Idealize.ShloMosaic Idealize.ShloMosaic.TcCoe Idealize.SL.Sem Idealize.ShloMosaic.StableHlo

/-- The angles: the position times the frequency. -/
def ang : FVec Ideal S4096x8 .f32 :=
  mulf (broadcastInDim S4096x8 ![0, 1] bcast_S4096x1_S4096x8_0_1 (broadcastInDim S4096x1 ![0] bcast_S4096_S4096x1_0 (sitofp .f32 (iotaInDim S4096 32 0)))) (broadcastInDim S4096x8 ![0, 1] bcast_S1x8_S4096x8_0_1 (broadcastInDim S1x8 ![1] bcast_S8_S1x8_1 (Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32))))))

/-- A table over a head's 64 entries, twice side by side. -/
def tab (a b : FVec Ideal S4096x8 .f32) (z : FVec Ideal S4096x48 .f32) : FVec Ideal S4096x128 .f32 :=
  shapeCast S4096x128 (broadcastInDim S1x4096x2x64 ![0, 1, 2, 3] bcast_S1x4096x1x64_S1x4096x2x64_0_1_2_3 (shapeCast S1x4096x1x64 (concatenate S4096x64 1 [⟨S4096x8, a⟩, ⟨S4096x8, b⟩, ⟨S4096x48, z⟩] concatenates_S4096x8_S4096x8_S4096x48_S4096x64_d1) shapeCasts_S4096x64_S1x4096x1x64)) shapeCasts_S1x4096x2x64_S4096x128

/-- Zeros of the tables' two widths. -/
def zero8 : FVec Ideal S4096x8 .f32 := broadcastInDim S4096x8 ![] bcast_S_S4096x8 (constant S_ .f32 0x00000000#32)
@[inherit_doc zero8] def zero48 : FVec Ideal S4096x48 .f32 := broadcastInDim S4096x48 ![] bcast_S_S4096x48 (constant S_ .f32 0x00000000#32)

/-- The lanes' heads: the lane divided by 64, rounded down. -/
def quot : IVec S128 32 :=
  select (andi (cmpi .ne (signi (iotaInDim S128 32 0)) (broadcastInDim S128 ![] bcast_S_S128 (signi (constantI S_ 32 64#32)))) (cmpi .ne (Host.remsi (iotaInDim S128 32 0) (broadcastInDim S128 ![] bcast_S_S128 (constantI S_ 32 64#32))) (broadcastInDim S128 ![] bcast_S_S128 (constantI S_ 32 0#32)))) (subi (Host.divsi (iotaInDim S128 32 0) (broadcastInDim S128 ![] bcast_S_S128 (constantI S_ 32 64#32))) (broadcastInDim S128 ![] bcast_S_S128 (constantI S_ 32 1#32))) (Host.divsi (iotaInDim S128 32 0) (broadcastInDim S128 ![] bcast_S_S128 (constantI S_ 32 64#32)))

/-- The lanes of one head: one where two lanes' heads agree, zero elsewhere. -/
def same (q : IVec S128 32) : FVec Ideal S128x128 .bf16 :=
  uitofp .bf16 (cmpi .eq (broadcastInDim S128x128 ![0, 1] bcast_S128x1_S128x128_0_1 (broadcastInDim S128x1 ![0] bcast_S128_S128x1_0 q)) (broadcastInDim S128x128 ![0, 1] bcast_S1x128_S128x128_0_1 (broadcastInDim S1x128 ![1] bcast_S128_S1x128_1 q)))

/-- A gain by group and entry, spread over the heads and laid in a line. -/
def line (γ : FVec Ideal S3x64 .f32) : FVec Ideal S3072 .f32 :=
  shapeCast S3072 (shapeCast S3x16x64 (broadcastInDim S1x3x16x1x1x64 ![0, 1, 2, 3, 4, 5] bcast_S1x3x1x1x1x64_S1x3x16x1x1x64_0_1_2_3_4_5 (shapeCast S1x3x1x1x1x64 (broadcastInDim S3x1x64 ![0, 2] bcast_S3x64_S3x1x64_0_2 γ) shapeCasts_S3x1x64_S1x3x1x1x1x64)) shapeCasts_S1x3x16x1x1x64_S3x16x64) shapeCasts_S3x16x64_S3072

/-- The gain of every column: the queries' times the scale, the keys', and ones. -/
def gains (q k : FVec Ideal S3x64 .f32) : FVec Ideal S1x9216 .f32 :=
  broadcastInDim S1x9216 ![1] bcast_S9216_S1x9216_1 (concatenate S9216 0 [⟨S3072, mulf (line q) (broadcastInDim S3072 ![] bcast_S_S3072 (constant S_ .f32 0x3E000000#32))⟩, ⟨S3072, line k⟩, ⟨S3072, broadcastInDim S3072 ![] bcast_S_S3072 (constant S_ .f32 0x3F800000#32)⟩] concatenates_S3072_S3072_S3072_S9216_d0)

variable (m : (ℓ : Loc nD τ sig) → Buf (Elt Ideal) ℓ)

/-- The weights are the argument's. -/
theorem weights (c : Dev nD) : (show FVec Ideal S1024x9216 .bf16 from V m c main_v58) = truncf (F := Ideal) .bf16 (show FVec Ideal S1024x9216 .f32 from m ((c : Thread nD τ).loc main_arg2)) bitsLt_bf16_f32 := by
  show V m c main_v58 = _
  unfold V
  simp only [List.flatten_cons, List.flatten_nil, List.append_nil, List.cons_append, List.nil_append]
  after_results_simp <;> rfl

/-- The cosine table. -/
theorem cosines (c : Dev nD) : (show FVec Ideal S4096x128 .f32 from V m c main_v28) = tab (Host.cos ang) (Host.cos ang) (addf zero48 (broadcastInDim S4096x48 ![] bcast_S_S4096x48 (constant S_ .f32 0x3F800000#32))) := by
  show V m c main_v28 = _
  unfold V
  simp only [List.flatten_cons, List.flatten_nil, List.append_nil, List.cons_append, List.nil_append]
  after_results_simp <;> rfl

/-- The table of the sines from eight lanes below. -/
theorem sines (c : Dev nD) : (show FVec Ideal S4096x128 .f32 from V m c main_v31) = tab zero8 (Host.sin ang) zero48 := by
  show V m c main_v31 = _
  unfold V
  simp only [List.flatten_cons, List.flatten_nil, List.append_nil, List.cons_append, List.nil_append]
  after_results_simp <;> rfl

/-- The table of the sines from eight lanes above, negated. -/
theorem negSines (c : Dev nD) : (show FVec Ideal S4096x128 .f32 from V m c main_v34) = tab (Host.negf (Host.sin ang)) zero8 zero48 := by
  show V m c main_v34 = _
  unfold V
  simp only [List.flatten_cons, List.flatten_nil, List.append_nil, List.cons_append, List.nil_append]
  after_results_simp <;> rfl

/-- The matrix of the heads. -/
theorem heads (c : Dev nD) : (show FVec Ideal S128x128 .bf16 from V m c main_v42) = same quot := by
  show V m c main_v42 = _
  unfold V
  simp only [List.flatten_cons, List.flatten_nil, List.append_nil, List.cons_append, List.nil_append]
  after_results_simp <;> rfl

/-- The columns' gains. -/
theorem colGains (c : Dev nD) : (show FVec Ideal S1x9216 .f32 from V m c main_v57) = gains (m ((c : Thread nD τ).loc main_arg3)) (m ((c : Thread nD τ).loc main_arg4)) := by
  show V m c main_v57 = _
  unfold V
  simp only [List.flatten_cons, List.flatten_nil, List.append_nil, List.cons_append, List.nil_append]
  after_results_simp <;> rfl

/-- A doubled table, lane by lane. -/
theorem tab_at (a b : FVec Ideal S4096x8 .f32) (z : FVec Ideal S4096x48 .f32) (s : Fin 4096) (l : Fin 128) :
    tab a b z (ix2 s l) = if h : l.val % 64 < 8 then a (ix2 s ⟨l.val % 64, h⟩) else if h' : l.val % 64 < 16 then b (ix2 s ⟨l.val % 64 - 8, by omega⟩) else z (ix2 s ⟨l.val % 64 - 16, by omega⟩) := by
  pointwise [tab]
  by_cases h8 : l.val % 64 < 8
  · rw [dif_pos h8, dif_pos h8]
  · rw [dif_neg h8, dif_neg h8]
    by_cases h16 : l.val % 64 < 16
    · rw [dif_pos (by omega), dif_pos h16]
    · rw [dif_neg (by omega), dif_neg h16]
      rfl

/-- The lanes' heads, lane by lane. -/
theorem quot_at : ∀ l : Fin 128, quot (ix1 l) = BitVec.ofNat 32 (l.val / 64) := by
  decide +kernel

/-- The matrix of the heads, entry by entry. -/
theorem same_at (q : IVec S128 32) (l' l : Fin 128) : same q (ix2 l' l) = if q (ix1 l') = q (ix1 l) then (1 : EReal) else 0 := by
  pointwise [same]
  by_cases h : q (ix1 l') = q (ix1 l)
  · rw [if_pos h, h]
    show (((IntOp.cmpi CmpIPredicate.eq (q (ix1 l)) (q (ix1 l))).toNat : ℝ) : EReal) = 1
    simp [IntOp.cmpi]
  · rw [if_neg h]
    show (((IntOp.cmpi CmpIPredicate.eq (q (ix1 l')) (q (ix1 l))).toNat : ℝ) : EReal) = 0
    simp [IntOp.cmpi, h]

/-- The columns' gains, column by column. -/
theorem gains_at (q k : FVec Ideal S3x64 .f32) (n : Fin 9216) :
    gains q k (ix2 0 n) = if h : n.val < 3072 then q (ix2 ⟨n.val / 1024 % 3, by omega⟩ ⟨n.val % 64, by omega⟩) * Ideal.ofBits .f32 0x3E000000#32 else if h' : n.val < 6144 then k (ix2 ⟨n.val / 1024 % 3, by omega⟩ ⟨n.val % 64, by omega⟩) else Ideal.ofBits .f32 0x3F800000#32 := by
  pointwise [gains, line]
  by_cases h : n.val < 3072
  · rw [dif_pos h, dif_pos h]
    rw [show (⟨n.val / 1024, by omega⟩ : Fin 3) = ⟨n.val / 1024 % 3, by omega⟩ from Fin.ext (by show n.val / 1024 = n.val / 1024 % 3; omega)]
  · rw [dif_neg h, dif_neg h]
    by_cases h' : n.val < 6144
    · rw [dif_pos (by omega), dif_pos h']
      rw [show (⟨(n.val - 3072) / 1024, by omega⟩ : Fin 3) = ⟨n.val / 1024 % 3, by omega⟩ from Fin.ext (by show (n.val - 3072) / 1024 = n.val / 1024 % 3; omega),
        show (⟨(n.val - 3072) % 64, by omega⟩ : Fin 64) = ⟨n.val % 64, by omega⟩ from Fin.ext (by show (n.val - 3072) % 64 = n.val % 64; omega)]
    · rw [dif_neg (by omega), dif_neg h']

end Cert.Proof.Proj.Tables

end
-- ==== Proof.Proj.Block.lean ====
/- A block of query and key columns, entry by entry, is the formula of the plain program. -/
module

public import proofs.«01_k».proof.Proof.Proj.Math
public import proofs.«01_k».proof.Proof.Proj.Quarters
public import proofs.«01_k».proof.Proof.Proj.Tables

@[expose] public section

set_option maxRecDepth 16384

noncomputable section

namespace Cert.Proof.Proj

open Cert.Kernel3Ideal Cert.Kernel3Ideal.Gen
open Idealize.ShloMosaic Idealize.ShloMosaic.TcCoe Idealize.SL.Sem

/-- The kernel's angles are the plain program's. -/
theorem ang_eq : Tables.ang = angT := rfl

/-- A block's entry at column `n` of the column tile `j`, where the projected queries and keys are real. -/
theorem block_rot (X : FVec Ideal S32768x1024 .f32) (g : FVec Ideal S1x1024 .f32) (W : FVec Ideal S1024x9216 .f32) (q k : FVec Ideal S3x64 .f32) (R : Fin 32768) (j : ℕ) (hj : j ≤ 11)
    (hreal : ∀ n : Fin 9216, n.val < 6144 → ∃ r : ℝ, projG X g W R n = r)
    (acc : Fin 512 → EReal) (bd : Fin 128 → Fin 128 → EReal) (cg : Fin 512 → EReal) (c sa sb : Fin 128 → EReal)
    (hacc : ∀ n : Fin 512, acc n = projG X g W R ⟨j * 512 + n.val, by omega⟩)
    (hbd : ∀ k l : Fin 128, bd k l = if k.val / 64 = l.val / 64 then 1 else 0)
    (hcg : ∀ n : Fin 512, cg n = Tables.gains q k (ix2 0 ⟨j * 512 + n.val, by omega⟩))
    (hc : ∀ l : Fin 128, c l = if h : l.val % 64 < 8 then cosT (ix2 ⟨R.val % 4096, by omega⟩ ⟨l.val % 64, h⟩) else if h' : l.val % 64 < 16 then cosT (ix2 ⟨R.val % 4096, by omega⟩ ⟨l.val % 64 - 8, by omega⟩) else 1)
    (ha : ∀ l : Fin 128, sa l = if h : l.val % 64 < 8 then 0 else if h' : l.val % 64 < 16 then sinT (ix2 ⟨R.val % 4096, by omega⟩ ⟨l.val % 64 - 8, by omega⟩) else 0)
    (hb : ∀ l : Fin 128, sb l = if h : l.val % 64 < 8 then -sinT (ix2 ⟨R.val % 4096, by omega⟩ ⟨l.val % 64, h⟩) else if h' : l.val % 64 < 16 then 0 else 0)
    (n : Fin 512) :
    quarter acc bd cg c sa sb n
      = outG X g W q k R ⟨(j * 512 + n.val) / 3072, by omega⟩ ⟨(j * 512 + n.val) / 1024 % 3, by omega⟩ ⟨(j * 512 + n.val) / 64 % 16, by omega⟩ ⟨(j * 512 + n.val) % 64, by omega⟩ := by
  have hl : n.val % 128 = n.val % 128 / 64 * 64 + (j * 512 + n.val) % 64 := by omega
  unfold quarter
  rw [rot_eq _ c sa sb (fun k => cosT (ix2 ⟨R.val % 4096, by omega⟩ k)) (fun k => sinT (ix2 ⟨R.val % 4096, by omega⟩ k)) hc ha hb _ ⟨(j * 512 + n.val) % 64, by omega⟩ (n.val % 128 / 64) (by omega) hl]
  have hn : ∀ d : Fin 64, subNorm (fun k => acc ⟨n.val / 128 * 128 + k.val, by omega⟩) bd (fun k => cg ⟨n.val / 128 * 128 + k.val, by omega⟩) ⟨n.val % 128 / 64 * 64 + d.val, by omega⟩
      = headAt (fun d => acc ⟨n.val / 128 * 128 + (n.val % 128 / 64 * 64 + d.val), by omega⟩) (fun d => cg ⟨n.val / 128 * 128 + (n.val % 128 / 64 * 64 + d.val), by omega⟩) d := fun d =>
    norm_eq _ bd _ (fun k => by rw [hacc]; exact hreal _ (by show j * 512 + (n.val / 128 * 128 + k.val) < 6144; omega)) hbd _ d (n.val % 128 / 64) (by omega) rfl
  simp only [hn]
  unfold outG
  by_cases hp : j ≤ 5
  · rw [if_pos (by show (j * 512 + n.val) / 3072 = 0; omega)]
    unfold rotG
    rw [← rope_scale]
    refine congrArg (fun y => ropeAt y _ _ _) (funext fun d => ?_)
    refine congrArg₂ (fun a γ => headAt a γ d) (funext fun k' => (hacc _).trans (congrArg (projG X g W R) (Fin.ext ?_))) (funext fun k' => (hcg _).trans ((Tables.gains_at q k _).trans ?_))
    · show j * 512 + (n.val / 128 * 128 + (n.val % 128 / 64 * 64 + k'.val)) = ((0 * 3 + (j * 512 + n.val) / 1024 % 3) * 16 + (j * 512 + n.val) / 64 % 16) * 64 + k'.val
      omega
    · rw [dif_pos (by show j * 512 + (n.val / 128 * 128 + (n.val % 128 / 64 * 64 + k'.val)) < 3072; omega)]
      refine congrArg (fun x : EReal => x * Ideal.ofBits .f32 0x3E000000#32) (congrArg₂ (fun a b => q (ix2 a b)) (Fin.ext ?_) (Fin.ext ?_))
      · show (j * 512 + (n.val / 128 * 128 + (n.val % 128 / 64 * 64 + k'.val))) / 1024 % 3 = (j * 512 + n.val) / 1024 % 3
        omega
      · show (j * 512 + (n.val / 128 * 128 + (n.val % 128 / 64 * 64 + k'.val))) % 64 = k'.val
        omega
  · rw [if_neg (by show ¬ (j * 512 + n.val) / 3072 = 0; omega), if_pos (by show (j * 512 + n.val) / 3072 = 1; omega)]
    unfold rotG
    refine congrArg (fun y => ropeAt y _ _ _) (funext fun d => ?_)
    refine congrArg₂ (fun a γ => headAt a γ d) (funext fun k' => (hacc _).trans (congrArg (projG X g W R) (Fin.ext ?_))) (funext fun k' => (hcg _).trans ((Tables.gains_at q k _).trans ?_))
    · show j * 512 + (n.val / 128 * 128 + (n.val % 128 / 64 * 64 + k'.val)) = ((1 * 3 + (j * 512 + n.val) / 1024 % 3) * 16 + (j * 512 + n.val) / 64 % 16) * 64 + k'.val
      omega
    · rw [dif_neg (by show ¬ j * 512 + (n.val / 128 * 128 + (n.val % 128 / 64 * 64 + k'.val)) < 3072; omega), dif_pos (by show j * 512 + (n.val / 128 * 128 + (n.val % 128 / 64 * 64 + k'.val)) < 6144; omega)]
      refine congrArg₂ (fun a b => k (ix2 a b)) (Fin.ext ?_) (Fin.ext ?_)
      · show (j * 512 + (n.val / 128 * 128 + (n.val % 128 / 64 * 64 + k'.val))) / 1024 % 3 = (j * 512 + n.val) / 1024 % 3
        omega
      · show (j * 512 + (n.val / 128 * 128 + (n.val % 128 / 64 * 64 + k'.val))) % 64 = k'.val
        omega

/-- Zeros and ones of the tables, entry by entry. -/
theorem zero8_at (s : Fin 4096) (k : Fin 8) : Tables.zero8 (ix2 s k) = (0 : EReal) := by
  pointwise [Tables.zero8]
@[inherit_doc zero8_at] theorem zero48_at (s : Fin 4096) (k : Fin 48) : Tables.zero48 (ix2 s k) = (0 : EReal) := by
  pointwise [Tables.zero48]
@[inherit_doc zero8_at] theorem one48_at (s : Fin 4096) (k : Fin 48) : (addf Tables.zero48 (broadcastInDim S4096x48 ![] bcast_S_S4096x48 (constant S_ .f32 0x3F800000#32)) : FVec Ideal S4096x48 .f32) (ix2 s k) = (1 : EReal) := by
  pointwise [Tables.zero48]

end Cert.Proof.Proj

end
-- ==== Proof.Proj.Step.lean ====
/- What each grid point of the norm and projection kernel leaves in its scratch and its output block. -/
module

public import proofs.«01_k».proof.Proof.Proj.Quarters
public import proofs.«01_k».proof.Proof.Proj.Tables
public import Idealize.ShloMosaic.Lib.Pipeline.ValueKit
public import Idealize.ShloMosaic.Lib.Pipeline.ReadBack

@[expose] public section

set_option maxRecDepth 16384

noncomputable section

namespace Cert.Proof.Proj

open Cert.Kernel3Ideal Cert.Kernel3Ideal.Gen
open Idealize.ShloMosaic Idealize.ShloMosaic.TcCoe Idealize.SL.Sem

variable (m : (ℓ : Loc nD τ sig) → Buf (Elt Ideal) ℓ)

/-- The block each window takes at each point: the tile `t / 18` of the rows, the tile `t % 18` of the columns, the tile's rows within its sequence. -/
theorem idx : ∀ t : Fin cfg0.N, win0_0.index t = ![t.val / 18, 0] ∧ win0_1.index t = ![0, 0] ∧ win0_2.index t = ![0, t.val % 18]
    ∧ win0_3.index t = ![0, t.val % 18] ∧ win0_4.index t = ![t.val / 18 % 8, 0] ∧ win0_5.index t = ![t.val / 18 % 8, 0] ∧ win0_6.index t = ![t.val / 18 % 8, 0]
    ∧ win0_7.index t = ![0, 0] ∧ win0_8.index t = ![t.val / 18, t.val % 18] :=
  (by decide +kernel : ∀ t : Fin grid0.N, _)

/-- There are 64 tiles of rows. -/
theorem tile_lt (t : Fin cfg0.N) : t.val / 18 < 64 := by
  have h := lt_of_lt_of_eq t.isLt (show cfg0.N = 1152 from N_0)
  omega

/-- The normalised rows of a tile. -/
def hnAt (X : FVec Ideal S32768x1024 .f32) (g : FVec Ideal S1x1024 .f32) (i : ℕ) (hi : i < 64) : FVec Ideal S512x1024 .bf16 := fun y =>
  nrmAt (fun k => X (ix2 ⟨i * 512 + (y 0).val, by have h' : (y 0).val < 512 := (y 0).isLt; omega⟩ k)) (fun k => g (ix2 0 k)) (y 1)

/-- Each window's block, entry by entry, off its array. -/
theorem blk0 (c : Dev nD) (t : Fin cfg0.N) (r : Fin 512) (k : Fin 1024) :
    (show FVec Ideal S512x1024 .f32 from iblk m c 0 t) (ix2 r k) = m ((c : Thread nD τ).loc main_arg0) (ix2 ⟨t.val / 18 * 512 + r.val, by have := tile_lt t; omega⟩ k) := by
  blk_ext [iblk, V, idx t]
@[inherit_doc blk0] theorem blk1 (c : Dev nD) (t : Fin cfg0.N) (k : Fin 1024) :
    (show FVec Ideal S1x1024 .f32 from iblk m c 1 t) (ix2 0 k) = m ((c : Thread nD τ).loc main_arg1) (ix2 0 k) := by
  blk_ext [iblk, V, idx t]
@[inherit_doc blk0] theorem blk2 (c : Dev nD) (t : Fin cfg0.N) (k : Fin 1024) (n : Fin 512) :
    (show FVec Ideal S1024x512 .bf16 from iblk m c 2 t) (ix2 k n) = (show FVec Ideal S1024x9216 .bf16 from V m c main_v58) (ix2 k ⟨t.val % 18 * 512 + n.val, by have := Nat.mod_lt t.val (show 0 < 18 by decide); omega⟩) := by
  blk_ext [iblk, idx t]
@[inherit_doc blk0] theorem blk3 (c : Dev nD) (t : Fin cfg0.N) (n : Fin 512) :
    (show FVec Ideal S1x512 .f32 from iblk m c 3 t) (ix2 0 n) = (show FVec Ideal S1x9216 .f32 from V m c main_v57) (ix2 0 ⟨t.val % 18 * 512 + n.val, by have := Nat.mod_lt t.val (show 0 < 18 by decide); omega⟩) := by
  blk_ext [iblk, idx t]
@[inherit_doc blk0] theorem blk4 (c : Dev nD) (t : Fin cfg0.N) (r : Fin 512) (l : Fin 128) :
    (show FVec Ideal S512x128 .f32 from iblk m c 4 t) (ix2 r l) = (show FVec Ideal S4096x128 .f32 from V m c main_v28) (ix2 ⟨t.val / 18 % 8 * 512 + r.val, by omega⟩ l) := by
  blk_ext [iblk, idx t]
@[inherit_doc blk0] theorem blk5 (c : Dev nD) (t : Fin cfg0.N) (r : Fin 512) (l : Fin 128) :
    (show FVec Ideal S512x128 .f32 from iblk m c 5 t) (ix2 r l) = (show FVec Ideal S4096x128 .f32 from V m c main_v31) (ix2 ⟨t.val / 18 % 8 * 512 + r.val, by omega⟩ l) := by
  blk_ext [iblk, idx t]
@[inherit_doc blk0] theorem blk6 (c : Dev nD) (t : Fin cfg0.N) (r : Fin 512) (l : Fin 128) :
    (show FVec Ideal S512x128 .f32 from iblk m c 6 t) (ix2 r l) = (show FVec Ideal S4096x128 .f32 from V m c main_v34) (ix2 ⟨t.val / 18 % 8 * 512 + r.val, by omega⟩ l) := by
  blk_ext [iblk, idx t]
@[inherit_doc blk0] theorem blk7 (c : Dev nD) (t : Fin cfg0.N) (k l : Fin 128) :
    (show FVec Ideal S128x128 .bf16 from iblk m c 7 t) (ix2 k l) = (show FVec Ideal S128x128 .bf16 from V m c main_v42) (ix2 k l) := by
  blk_ext [iblk, idx t]

/-- The payload of the normalised rows is the tile's. -/
theorem hn_pay (c : Dev nD) (t : Fin cfg0.N) :
    k0_pay1 (F := Ideal) (iblk m c 0 t) (iblk m c 1 t) = hnAt (m ((c : Thread nD τ).loc main_arg0)) (m ((c : Thread nD τ).loc main_arg1)) (t.val / 18) (tile_lt t) := by
  funext y
  idx_vars y
  rw [pay1_at]
  simp only [blk0, blk1]
  rfl

/-- The first point of a tile fills the scratch. -/
theorem hn_first (c : Dev nD) (t : Fin cfg0.N) (h0 : t.val % 18 = 0) :
    (outsAt0 m c t.val t.isLt).2 = hnAt (m ((c : Thread nD τ).loc main_arg0)) (m ((c : Thread nD τ).loc main_arg1)) (t.val / 18) (tile_lt t) := by
  rw [outsAt0_A m c t h0 (by omega) (by omega)]
  frame_out
  exact hn_pay m c t

/-- Later points leave it alone. -/
theorem hn_next (c : Dev nD) (t : Fin cfg0.N) (h0 : ¬ t.val % 18 = 0) : (outsAt0 m c t.val t.isLt).2 = (outsAt0 m c (t.val - 1) (by omega)).2 := by
  by_cases h1 : t.val % 18 ≤ 11
  · rw [outsAt0_B m c t h0 h1 (by omega)]; rfl
  · rw [outsAt0_C m c t h0 h1 (by omega)]; rfl

/-- At every point the scratch holds the tile's normalised rows. -/
theorem hn_all (c : Dev nD) : ∀ (j : ℕ) (t : Fin cfg0.N), t.val % 18 = j →
    (outsAt0 m c t.val t.isLt).2 = hnAt (m ((c : Thread nD τ).loc main_arg0)) (m ((c : Thread nD τ).loc main_arg1)) (t.val / 18) (tile_lt t) := by
  intro j
  induction j with
  | zero => exact fun t h => hn_first m c t h
  | succ j ih =>
    intro t h
    rw [hn_next m c t (by omega), ih ⟨t.val - 1, by omega⟩ (by show (t.val - 1) % 18 = j; omega)]
    congr 1
    show (t.val - 1) / 18 = t.val / 18
    omega

/-- The tile's rows projected on the point's columns. -/
def accAt (c : Dev nD) (t : Fin cfg0.N) : FVec Ideal S512x512 .f32 :=
  k0_pay2 (F := Ideal) (hnAt (m ((c : Thread nD τ).loc main_arg0)) (m ((c : Thread nD τ).loc main_arg1)) (t.val / 18) (tile_lt t)) (iblk m c 2 t)

/-- At the query and key columns the output block holds the quarters' entries. -/
theorem out_rot (c : Dev nD) (t : Fin cfg0.N) (h1 : t.val % 18 ≤ 11) (y : S512x512.Idx) :
    (outsAt0 m c t.val t.isLt).1 y
      = quarter (fun n => accAt m c t (ix2 (y 0) n)) (fun k l => (show FVec Ideal S128x128 .bf16 from iblk m c 7 t) (ix2 k l)) (fun n => (show FVec Ideal S1x512 .f32 from iblk m c 3 t) (ix2 0 n))
        (fun k => (show FVec Ideal S512x128 .f32 from iblk m c 4 t) (ix2 (y 0) k)) (fun k => (show FVec Ideal S512x128 .f32 from iblk m c 5 t) (ix2 (y 0) k)) (fun k => (show FVec Ideal S512x128 .f32 from iblk m c 6 t) (ix2 (y 0) k)) (y 1) := by
  by_cases h0 : t.val % 18 = 0
  · rw [outsAt0_A m c t h0 (by omega) (by omega)]
    frame_out
    rw [hn_pay m c t]
    exact canon_out (accAt m c t) _ _ _ _ _ y
  · have e := (hn_next m c t h0).symm.trans (hn_all m c _ t rfl)
    rw [outsAt0_B m c t h0 h1 (by omega)]
    frame_out
    rw [read_unread_whole, e]
    exact canon_out (accAt m c t) _ _ _ _ _ y

/-- At the value columns it holds the projection. -/
theorem out_val (c : Dev nD) (t : Fin cfg0.N) (h1 : 12 ≤ t.val % 18) (y : S512x512.Idx) :
    (outsAt0 m c t.val t.isLt).1 y = accAt m c t y := by
  have e := (hn_next m c t (by omega)).symm.trans (hn_all m c _ t rfl)
  rw [outsAt0_C m c t (by omega) (by omega) h1]
  frame_out
  rw [read_unread_whole, e]
  rfl

end Cert.Proof.Proj

end
-- ==== Proof.Proj.Result.lean ====
/- The norm and projection kernel's result array, where the gain and the query and key weights are real. -/
module

public import proofs.«01_k».proof.Proof.Proj.Block
public import proofs.«01_k».proof.Proof.Proj.Step
public import Idealize.ShloMosaic.Lib.Pipeline.ValueKit

@[expose] public section

set_option maxRecDepth 16384

noncomputable section

namespace Cert.Proof.Proj

open Cert.Kernel3Ideal Cert.Kernel3Ideal.Gen
open Idealize.ShloMosaic Idealize.ShloMosaic.TcCoe Idealize.SL.Sem

variable (m : (ℓ : Loc nD τ sig) → Buf (Elt Ideal) ℓ)

/-- The formula at this kernel's arguments. -/
abbrev result (c : Dev nD) : FVec Ideal S32768x9216 .f32 :=
  refOut (m ((c : Thread nD τ).loc main_arg0)) (m ((c : Thread nD τ).loc main_arg1)) (m ((c : Thread nD τ).loc main_arg2)) (m ((c : Thread nD τ).loc main_arg3)) (m ((c : Thread nD τ).loc main_arg4))

/-- The point's projected entries are the formula's. -/
theorem acc_at (c : Dev nD) (t : Fin cfg0.N) (r n : Fin 512) :
    accAt m c t (ix2 r n) = projG (m ((c : Thread nD τ).loc main_arg0)) (m ((c : Thread nD τ).loc main_arg1)) (m ((c : Thread nD τ).loc main_arg2)) ⟨t.val / 18 * 512 + r.val, by have := tile_lt t; omega⟩ ⟨t.val % 18 * 512 + n.val, by have := Nat.mod_lt t.val (show 0 < 18 by decide); omega⟩ := by
  refine (pay2_at _ _ r n).trans (Finset.sum_congr rfl fun k _ => congrArg₂ (fun a b : EReal => a * b) rfl ?_)
  exact (blk2 m c t k n).trans (congrFun (Tables.weights m c) _)

/-- The cosines' block, entry by entry. -/
theorem cos_at (c : Dev nD) (t : Fin cfg0.N) (r : Fin 512) (R : Fin 32768) (hR : R.val = t.val / 18 * 512 + r.val) (l : Fin 128) :
    (show FVec Ideal S512x128 .f32 from iblk m c 4 t) (ix2 r l) = if h : l.val % 64 < 8 then cosT (ix2 ⟨R.val % 4096, by omega⟩ ⟨l.val % 64, h⟩) else if h' : l.val % 64 < 16 then cosT (ix2 ⟨R.val % 4096, by omega⟩ ⟨l.val % 64 - 8, by omega⟩) else (1 : EReal) := by
  have e : (⟨t.val / 18 % 8 * 512 + r.val, by omega⟩ : Fin 4096) = ⟨R.val % 4096, by omega⟩ := Fin.ext (by show t.val / 18 % 8 * 512 + r.val = R.val % 4096; omega)
  refine (blk4 m c t r l).trans ((congrFun (Tables.cosines m c) _).trans ((Tables.tab_at _ _ _ _ l).trans ?_))
  rw [e]
  exact dite_congr rfl (fun _ => rfl) fun _ => dite_congr rfl (fun _ => rfl) fun _ => one48_at _ _

/-- The sines' block, entry by entry. -/
theorem sin_at (c : Dev nD) (t : Fin cfg0.N) (r : Fin 512) (R : Fin 32768) (hR : R.val = t.val / 18 * 512 + r.val) (l : Fin 128) :
    (show FVec Ideal S512x128 .f32 from iblk m c 5 t) (ix2 r l) = if h : l.val % 64 < 8 then (0 : EReal) else if h' : l.val % 64 < 16 then sinT (ix2 ⟨R.val % 4096, by omega⟩ ⟨l.val % 64 - 8, by omega⟩) else (0 : EReal) := by
  have e : (⟨t.val / 18 % 8 * 512 + r.val, by omega⟩ : Fin 4096) = ⟨R.val % 4096, by omega⟩ := Fin.ext (by show t.val / 18 % 8 * 512 + r.val = R.val % 4096; omega)
  refine (blk5 m c t r l).trans ((congrFun (Tables.sines m c) _).trans ((Tables.tab_at _ _ _ _ l).trans ?_))
  rw [e]
  simp only [zero8_at, zero48_at]
  rfl

/-- The negated sines' block, entry by entry. -/
theorem neg_at (c : Dev nD) (t : Fin cfg0.N) (r : Fin 512) (R : Fin 32768) (hR : R.val = t.val / 18 * 512 + r.val) (l : Fin 128) :
    (show FVec Ideal S512x128 .f32 from iblk m c 6 t) (ix2 r l) = if h : l.val % 64 < 8 then -(show EReal from sinT (ix2 ⟨R.val % 4096, by omega⟩ ⟨l.val % 64, h⟩)) else if h' : l.val % 64 < 16 then (0 : EReal) else (0 : EReal) := by
  have e : (⟨t.val / 18 % 8 * 512 + r.val, by omega⟩ : Fin 4096) = ⟨R.val % 4096, by omega⟩ := Fin.ext (by show t.val / 18 % 8 * 512 + r.val = R.val % 4096; omega)
  refine (blk6 m c t r l).trans ((congrFun (Tables.negSines m c) _).trans ((Tables.tab_at _ _ _ _ l).trans ?_))
  rw [e]
  simp only [zero8_at, zero48_at]
  rfl

/-- The heads' block, entry by entry. -/
theorem heads_at (c : Dev nD) (t : Fin cfg0.N) (k l : Fin 128) :
    (show FVec Ideal S128x128 .bf16 from iblk m c 7 t) (ix2 k l) = if k.val / 64 = l.val / 64 then (1 : EReal) else 0 := by
  refine (blk7 m c t k l).trans ((congrFun (Tables.heads m c) _).trans ((Tables.same_at _ k l).trans ?_))
  rw [Tables.quot_at, Tables.quot_at]
  by_cases h : k.val / 64 = l.val / 64
  · rw [if_pos h, if_pos (by rw [h])]
  · rw [if_neg h, if_neg fun e => h ?_]
    have e' := congrArg BitVec.toNat e
    rw [BitVec.toNat_ofNat, BitVec.toNat_ofNat] at e'
    omega

/-- The kernel's result array is the formula of its arguments, where the projected queries and keys are real. -/
theorem final (c : Dev nD)
    (hreal : ∀ (R : Fin 32768) (n : Fin 9216), n.val < 6144 → ∃ r : ℝ, projG (m ((c : Thread nD τ).loc main_arg0)) (m ((c : Thread nD τ).loc main_arg1)) (m ((c : Thread nD τ).loc main_arg2)) R n = r) :
    (dats m 0 c).arrAt 8 cfg0.N = result m c := by
  refine (dats m 0 c).arrAt_eq_of_covers 8 _ (by decide +kernel) fun t hf y => ?_
  blk_simp
  rw [after0_8]
  idx_vars y
  have hi := tile_lt t
  have hj := Nat.mod_lt t.val (show 0 < 18 by decide)
  have e : ((View.whole main_v59).slice (win0_8.rect t)).emb (ix2 y0 y1) = (ix2 (⟨t.val / 18 * 512 + y0.val, by omega⟩ : Fin 32768) (⟨t.val % 18 * 512 + y1.val, by omega⟩ : Fin 9216) : S32768x9216.Idx) := by
    blk_ext [idx t]
  rw [e]
  refine Eq.trans ?_ (refOut_at _ _ _ _ _ _ _).symm
  by_cases h1 : t.val % 18 ≤ 11
  · refine (out_rot m c t h1 (ix2 y0 y1)).trans ?_
    exact block_rot _ _ _ _ _ ⟨t.val / 18 * 512 + y0.val, by omega⟩ (t.val % 18) h1 (hreal _) _ _ _ _ _ _
      (fun n => acc_at m c t y0 n) (fun k l => heads_at m c t k l) (fun n => (blk3 m c t n).trans (congrFun (Tables.colGains m c) _))
      (fun l => cos_at m c t y0 _ rfl l) (fun l => sin_at m c t y0 _ rfl l) (fun l => neg_at m c t y0 _ rfl l) y1
  · refine (out_val m c t (by omega) (ix2 y0 y1)).trans ((acc_at m c t y0 y1).trans ?_)
    unfold outG
    rw [if_neg (by show ¬ (t.val % 18 * 512 + y1.val) / 3072 = 0; omega), if_neg (by show ¬ (t.val % 18 * 512 + y1.val) / 3072 = 1; omega)]
    refine congrArg (projG _ _ _ _) (Fin.ext ?_)
    show t.val % 18 * 512 + y1.val = ((2 * 3 + (t.val % 18 * 512 + y1.val) / 1024 % 3) * 16 + (t.val % 18 * 512 + y1.val) / 64 % 16) * 64 + (t.val % 18 * 512 + y1.val) % 64
    omega

end Cert.Proof.Proj

end
-- ==== Proof.Proj.Claim.lean ====
/- The norm and projection kernel and its reference leave the same result. -/
module

public import proofs.«01_k».proof.Defs
public import proofs.«01_k».proof.Proof.Gen.Kernel3Ideal.Value
public import proofs.«01_k».proof.Proof.Gen.Reference3Ideal.Run
public import proofs.«01_k».proof.Proof.Proj.Result

@[expose] public section

set_option maxRecDepth 16384

noncomputable section

namespace Cert.Proof.Proj

open Idealize.ShloMosaic Idealize.ShloMosaic.TcCoe Idealize.SL.Sem

/-- What the precondition's function asks of the shapes. -/
instance pre_facts : Cert.Pre_finite_gain_and_weights.Facts where
  shapeCasts_S1x1024_S1024 := by decide +kernel
  bcast_S1024_S1024x1_0 := by decide +kernel
  bcast_S_S1024x1 := by decide +kernel
  slices_S1024x9216_S1024x6144_0_0 := by decide +kernel
  bcast_S_S1024x6144 := by decide +kernel
  bcast_S1024x1_S1024x6144_0_1 := by decide +kernel

/-- The word of plus infinity. -/
theorem pos_inf : (Ideal.ofBits .f32 0x7F800000#32 : EReal) = ⊤ := by simp [Ideal.ofBits, Ideal.ieee]

/-- An entry whose absolute value is below plus infinity is a real number. -/
theorem real_of_abs (x : Ideal .f32) (h : FloatOps.absf x < (⊤ : EReal)) : ∃ r : ℝ, (x : EReal) = r := by
  have h' : max (x : EReal) (-x) < ⊤ := h
  rw [max_lt_iff] at h'
  exact ⟨(x : EReal).toReal, (EReal.coe_toReal (ne_of_lt h'.1) fun e => by rw [e] at h'; simp at h').symm⟩

/-- Two comparisons whose conjunction holds hold. -/
theorem both (p q : Bool) (h : BitVec.ofBool p &&& BitVec.ofBool q = 1#1) : p = true ∧ q = true := by
  revert p q
  decide

/-- The precondition makes the gain and every query and key weight a real number. -/
theorem finite_of (X : FVec Ideal ⟨2, ![32768, 1024]⟩ .f32) (g : FVec Ideal ⟨2, ![1, 1024]⟩ .f32) (W : FVec Ideal ⟨2, ![1024, 9216]⟩ .f32) (q k : FVec Ideal ⟨2, ![3, 64]⟩ .f32)
    (h : Cert.Pre_finite_gain_and_weights.fn (F := Ideal) X g W q k = fun _ => 1#1) (j : Fin 1024) (n : Fin 9216) (hn : n.val < 6144) :
    (∃ r : ℝ, (g (ix2 0 j) : EReal) = r) ∧ ∃ r : ℝ, (W (ix2 j n) : EReal) = r := by
  have e := congrFun h (ix2 j (⟨n.val, hn⟩ : Fin 6144))
  have e' : Cert.Pre_finite_gain_and_weights.fn (F := Ideal) X g W q k (ix2 j (⟨n.val, hn⟩ : Fin 6144))
      = BitVec.ofBool (decide (FloatOps.absf (F := Ideal) (φ := .f32) (g (ix2 0 j)) < Ideal.ofBits .f32 0x7F800000#32)) &&& BitVec.ofBool (decide (FloatOps.absf (F := Ideal) (φ := .f32) (W (ix2 j n)) < Ideal.ofBits .f32 0x7F800000#32)) := by
    pointwise [Cert.Pre_finite_gain_and_weights.fn]
    rfl
  rw [e', pos_inf] at e
  obtain ⟨hg, hw⟩ := both _ _ e
  exact ⟨real_of_abs _ (of_decide_eq_true hg), real_of_abs _ (of_decide_eq_true hw)⟩

/-- Under the precondition the projected queries and keys are real numbers, whatever the rows are. -/
theorem proj_real (X : FVec Ideal ⟨2, ![32768, 1024]⟩ .f32) (g : FVec Ideal ⟨2, ![1, 1024]⟩ .f32) (W : FVec Ideal ⟨2, ![1024, 9216]⟩ .f32) (q k : FVec Ideal ⟨2, ![3, 64]⟩ .f32)
    (h : Cert.Pre_finite_gain_and_weights.fn (F := Ideal) X g W q k = fun _ => 1#1) (R : Fin 32768) (n : Fin 9216) (hn : n.val < 6144) : ∃ r : ℝ, projG X g W R n = r := by
  refine sum_real _ fun j => ?_
  obtain ⟨hg, b, hb⟩ := finite_of X g W q k h j n hn
  obtain ⟨a, ha⟩ := nrm_real (fun k => X (ix2 R k)) (fun k => g (ix2 0 k)) j hg
  exact ⟨a * b, (congrArg₂ (fun x y : EReal => x * y) ha hb).trans (EReal.coe_mul a b).symm⟩

/-- `Cert.algebraic_Kernel3Ideal_Reference3Ideal_pre_finite_gain_and_weights`: over the extended reals the kernel's queries, keys and values and the
    plain ones are equal wherever the gain and the query and key weights are real numbers, whatever the rows, the value weights and the head gains are. -/
theorem algebraic : Cert.algebraic_Kernel3Ideal_Reference3Ideal_pre_finite_gain_and_weights := by
  intro m ρ m' ρ' hpre hag
  refine ⟨fun c => result m c, ?_, ?_⟩
  · exact (θ_run Cert.Kernel3Ideal.defs _ _).mono (fun _ h c => ⟨(h c).1.trans (final m c fun R n hn => proj_real _ _ _ _ _ (hpre c) R n hn), (h c).2⟩) (Cert.Kernel3Ideal.Value.run_blocks (F := Ideal) m ρ)
  · refine (θ_run Cert.Reference3Ideal.defs _ _).mono (fun _ h c => ⟨(h c).1.trans ((reference_eq m' c).trans ?_), (h c).2⟩) (Cert.Reference3Ideal.Value.run (F := Ideal) m' ρ')
    obtain ⟨h0, h1, h2, h3, h4⟩ := hag c
    rw [h0, h1, h2, h3, h4]

end Cert.Proof.Proj

end
-- ==== Proof.Out.Result.lean ====
/- The output projection's result array is the row plus the row's product with the weights, and so is its reference's. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

set_option maxRecDepth 16384

noncomputable section

namespace Cert.Proof.Out

open Cert.Kernel4Ideal Cert.Kernel4Ideal.Gen
open Idealize.ShloMosaic Idealize.ShloMosaic.TcCoe Idealize.SL.Sem

/-- One row's entry: the row itself plus the attention's row through the projection. -/
def outAt (X : FVec Ideal S32768x1024 .f32) (A : FVec Ideal S32768x1024 .bf16) (W : FVec Ideal S1024x1024 .f32) (r : Fin 32768) (j : Fin 1024) : EReal :=
  X (ix2 r j) + ∑ k : Fin 1024, A (ix2 r k) * W (ix2 k j)

/-- The projection as one array. -/
def outG (X : FVec Ideal S32768x1024 .f32) (A : FVec Ideal S32768x1024 .bf16) (W : FVec Ideal S1024x1024 .f32) : FVec Ideal S32768x1024 .f32 :=
  fun y => outAt X A W (y 0) (y 1)

/-- The payload of one tile of 512 rows, one entry. -/
theorem pay1_at (x : FVec Ideal S512x1024 .f32) (a : FVec Ideal S512x1024 .bf16) (w : FVec Ideal S1024x1024 .bf16) (r : Fin 512) (j : Fin 1024) :
    k0_pay1 (F := Ideal) x a w (ix2 r j) = x (ix2 r j) + ∑ k : Fin 1024, a (ix2 r k) * w (ix2 k j) := by
  pointwise [k0_pay1]

variable (m : (ℓ : Loc nD τ sig) → Buf (Elt Ideal) ℓ)

/-- The block each window takes at each point: the tile of rows, and the whole of the weights. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- There are 64 tiles. -/
theorem tile_lt (t : Fin cfg0.N) : t.val < 64 := lt_of_lt_of_eq t.isLt (show cfg0.N = 64 from N_0)

/-- Each window's block, entry by entry, off its array. -/
theorem blk0 (c : Dev nD) (t : Fin cfg0.N) (r : Fin 512) (k : Fin 1024) :
    (show FVec Ideal S512x1024 .f32 from iblk m c 0 t) (ix2 r k) = m ((c : Thread nD τ).loc main_arg0) (ix2 ⟨t.val * 512 + r.val, by have := tile_lt t; omega⟩ k) := by
  blk_ext [iblk, V, idx t]
@[inherit_doc blk0] theorem blk1 (c : Dev nD) (t : Fin cfg0.N) (r : Fin 512) (k : Fin 1024) :
    (show FVec Ideal S512x1024 .bf16 from iblk m c 1 t) (ix2 r k) = m ((c : Thread nD τ).loc main_arg1) (ix2 ⟨t.val * 512 + r.val, by have := tile_lt t; omega⟩ k) := by
  blk_ext [iblk, V, idx t]
@[inherit_doc blk0] theorem blk2 (c : Dev nD) (t : Fin cfg0.N) (k : Fin 1024) (j : Fin 1024) :
    (show FVec Ideal S1024x1024 .bf16 from iblk m c 2 t) (ix2 k j) = m ((c : Thread nD τ).loc main_arg2) (ix2 k j) := by
  blk_ext [iblk, V, idx t]

/-- The formula at this kernel's arguments. -/
abbrev result (c : Dev nD) : FVec Ideal S32768x1024 .f32 :=
  outG (m ((c : Thread nD τ).loc main_arg0)) (m ((c : Thread nD τ).loc main_arg1)) (m ((c : Thread nD τ).loc main_arg2))

/-- The kernel's result array: the formula of its arguments. -/
theorem final (c : Dev nD) : (dats m 0 c).arrAt 3 cfg0.N = result m c := by
  refine (dats m 0 c).arrAt_eq_of_covers 3 _ (by decide +kernel) fun t hf y => ?_
  blk_simp
  rw [after0_3]
  idx_vars y
  have e : ((View.whole main_v1).slice (win0_3.rect t)).emb (ix2 y0 y1) = (ix2 (⟨t.val * 512 + y0.val, by have := tile_lt t; omega⟩ : Fin 32768) y1 : S32768x1024.Idx) := by
    blk_ext [idx t]
  rw [e]
  frame_out
  refine (pay1_at _ _ _ y0 y1).trans ?_
  exact congrArg₂ (· + ·) (blk0 m c t y0 y1) (Finset.sum_congr rfl fun k _ => congrArg₂ (· * ·) (blk1 m c t y0 k) (blk2 m c t k y1))

end Cert.Proof.Out

end
-- ==== Proof.Out.Ref.lean ====
/- The plain output projection, entry by entry. -/
module

public import proofs.«01_k».proof.Proof.Gen.Reference4Ideal.Run
public import proofs.«01_k».proof.Proof.Out.Result
public import Idealize.ShloMosaic.Lib.Pipeline.ValueKit
public import Idealize.ShloMosaic.Lib.Pointwise

@[expose] public section

set_option maxRecDepth 16384

noncomputable section

namespace Cert.Proof.Out

open Cert.Reference4Ideal Cert.Reference4Ideal.Gen
open Idealize.ShloMosaic Idealize.ShloMosaic.TcCoe Idealize.SL.Sem

/-- What the reference's run leaves, as a function of its arguments. -/
def refOut (X : FVec Ideal S32768x1024 .f32) (A : FVec Ideal S32768x1024 .bf16) (W : FVec Ideal S1024x1024 .f32) : FVec Ideal S32768x1024 .f32 :=
  shapeCast _ (addf (shapeCast _ X shapeCasts_S32768x1024_S8x4096x1024) (Host.dotGeneral dot_S8x4096x1024_S1024x1024_S8x4096x1024_2_0_01_1_n_n none (extf .f32 (shapeCast _ A shapeCasts_S32768x1024_S8x4096x1024) bitsLt_bf16_f32) W)) shapeCasts_S8x4096x1024_S32768x1024

/-- The reference's result is the formula. -/
theorem refOut_eq (X : FVec Ideal S32768x1024 .f32) (A : FVec Ideal S32768x1024 .bf16) (W : FVec Ideal S1024x1024 .f32) : refOut X A W = outG X A W := by
  funext y
  idx_vars y
  pointwise [refOut]
  rfl

end Cert.Proof.Out

end
-- ==== Proof.Out.Claim.lean ====
/- The output projection and its reference leave the same result. -/
module

public import proofs.«01_k».proof.Defs
public import proofs.«01_k».proof.Proof.Gen.Kernel4Ideal.Value
public import proofs.«01_k».proof.Proof.Gen.Reference4Ideal.Run
public import proofs.«01_k».proof.Proof.Out.Result
public import proofs.«01_k».proof.Proof.Out.Ref

@[expose] public section

set_option maxRecDepth 16384

noncomputable section

namespace Cert.Proof.Out

open Idealize.ShloMosaic Idealize.ShloMosaic.TcCoe Idealize.SL.Sem

/-- `Cert.algebraic_Kernel4Ideal_Reference4Ideal`: over the extended reals both results are the row plus its product with the weights,
    whatever the arguments are. -/
theorem algebraic : Cert.algebraic_Kernel4Ideal_Reference4Ideal := by
  intro m ρ m' ρ' _ hag
  refine ⟨fun c => result m c, ?_, ?_⟩
  · exact (θ_run Cert.Kernel4Ideal.defs _ _).mono (fun _ h c => ⟨(h c).1.trans (final m c), (h c).2⟩) (Cert.Kernel4Ideal.Value.run_blocks (F := Ideal) m ρ)
  · refine (θ_run Cert.Reference4Ideal.defs _ _).mono (fun _ h c => ⟨(h c).1.trans ((refOut_eq _ _ _).trans ?_), (h c).2⟩) (Cert.Reference4Ideal.Value.run (F := Ideal) m' ρ')
    obtain ⟨h0, h1, h2⟩ := hag c
    rw [h0, h1, h2]

end Cert.Proof.Out

end
-- ==== Proof.lean ====
/- The claims of `Cert.Claim`, put together. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.ReferenceIdeal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import Idealize.ShloMosaic.Adequacy
public import Idealize.ShloMosaic.Init
public import proofs.«01_k».proof.Proof.Frames
public import proofs.«01_k».proof.Proof.Attn.Claim
public import proofs.«01_k».proof.Proof.Ffn.Claim
public import proofs.«01_k».proof.Proof.Proj.Claim
public import proofs.«01_k».proof.Proof.Out.Claim

@[expose] public section

noncomputable section

namespace Cert.Proof

/-- Every claim of the statement, at the facts the generated modules prove. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Attn.pre_facts, Proj.pre_facts,
    Frames.attention, Frames.attention_ideal, fun m ρ _ => Frames.attention_ideal m ρ trivial,
    Frames.attention_plain, fun m ρ _ => Frames.attention_plain m ρ trivial,
    Frames.ffn, Frames.ffn_ideal, Frames.ffn_plain,
    Frames.proj, Frames.proj_ideal, fun m ρ _ => Frames.proj_ideal m ρ trivial,
    Frames.proj_plain, fun m ρ _ => Frames.proj_plain m ρ trivial,
    Frames.out, Frames.out_ideal, Frames.out_plain,
    Frames.attention_preserves, Attn.algebraic, Frames.ffn_preserves, Ffn.algebraic, Frames.proj_preserves, Proj.algebraic, Frames.out_preserves, Out.algebraic⟩

end Cert.Proof

end
